-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v2)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v2) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v4) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0))

def Claim : Prop :=
  ∃ (hKernel : Cert.Kernel.Facts) (hKernelIdeal : Cert.KernelIdeal.Facts) (hReferenceIdeal : Cert.ReferenceIdeal.Facts) (hPack : Cert.Pack.Facts) (hPackIdeal : Cert.PackIdeal.Facts) (hPackReferenceIdeal : Cert.PackReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Pack (hPack := hPack)
    ∧ quiescent_PackIdeal (hPackIdeal := hPackIdeal)
    ∧ quiescent_PackReferenceIdeal (hPackReferenceIdeal := hPackReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Pack_PackIdeal
    ∧ algebraic_PackIdeal_PackReferenceIdeal (hPackIdeal := hPackIdeal) (hPackReferenceIdeal := hPackReferenceIdeal)
-- ==== Pre_in_range.lean ====
abbrev S16384 : Shape := ⟨1, ![16384]⟩
abbrev S253952x128 : Shape := ⟨2, ![253952, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg2 : IVec S16384 32) (main_v12 : IVec S_ 1) (main_v14 : IVec S16384 1) (main_v15 : IVec S16384 32) : IVec S_ 1 :=
  let main_v16 : IVec S16384 1 := cmpi .slt main_arg2 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  main_v19

def fn {F : FTy → Type} [FloatOps F] (main_arg0 : IVec S16384 32) (main_arg1 : IVec S16384 32) (main_arg2 : IVec S16384 32) (main_arg3 : FVec F S16384 .f32) (main_arg4 : IVec S253952x128 32) (main_arg5 : IVec S253952x128 32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg2 main_v13
  let main_c_6 : IVec S_ 32 := constantI S_ 32 1000000#32
  let main_v15 : IVec S16384 32 := broadcastInDim S16384 ![] bcast_S_S16384 main_c_6
  fn_part1 (F := F) main_arg2 main_v12 main_v14 main_v15
-- ==== Kernel.lean ====
abbrev S16384 : Shape := ⟨1, ![16384]⟩
abbrev S253952x128 : Shape := ⟨2, ![253952, 128]⟩
abbrev S_ : Shape := ⟨0, ![]⟩
abbrev S16384x128 : Shape := ⟨2, ![16384, 128]⟩
abbrev S512 : Shape := ⟨1, ![512]⟩
abbrev S512x128 : Shape := ⟨2, ![512, 128]⟩
abbrev S1x16384 : Shape := ⟨2, ![1, 16384]⟩
abbrev S2x2048x128 : Shape := ⟨3, ![2, 2048, 128]⟩
abbrev S2 : Shape := ⟨1, ![2]⟩
abbrev S2x1x2048 : Shape := ⟨3, ![2, 1, 2048]⟩
abbrev S1 : Shape := ⟨1, ![1]⟩
abbrev S1x2048x128 : Shape := ⟨3, ![1, 2048, 128]⟩
abbrev S2048x128 : Shape := ⟨2, ![2048, 128]⟩
abbrev S1x1x2048 : Shape := ⟨3, ![1, 1, 2048]⟩
abbrev S1x2048 : Shape := ⟨2, ![1, 2048]⟩
abbrev S2048 : Shape := ⟨1, ![2048]⟩
abbrev S2048x1 : Shape := ⟨2, ![2048, 1]⟩
abbrev S2048x64 : Shape := ⟨2, ![2048, 64]⟩
abbrev S1x64 : Shape := ⟨2, ![1, 64]⟩

abbrev nBuf : Table → Nat
  | .hbm => 400
  | .local .tc .vmem => 8
  | .local .scVector .vmem => 6
  | _ => 0

abbrev hbmTy0_0 (i : Nat) : BufTy := match i % 128 with
  | 0 => ⟨S16384, .i32⟩
  | 1 => ⟨S16384, .i32⟩
  | 2 => ⟨S16384, .i32⟩
  | 3 => ⟨S16384, .f32⟩
  | 4 => ⟨S253952x128, .i32⟩
  | 5 => ⟨S253952x128, .i32⟩
  | 6 => ⟨S_, .i32⟩
  | 7 => ⟨S_, .i32⟩
  | 8 => ⟨S16384, .i32⟩
  | 9 => ⟨S16384, .i32⟩
  | 10 => ⟨S16384, .i32⟩
  | 11 => ⟨S_, .i32⟩
  | 12 => ⟨S16384, .i32⟩
  | 13 => ⟨S16384, .i1⟩
  | 14 => ⟨S16384, .i32⟩
  | 15 => ⟨S16384, .i32⟩
  | 16 => ⟨S_, .i32⟩
  | 17 => ⟨S16384, .i32⟩
  | 18 => ⟨S16384, .i1⟩
  | 19 => ⟨S16384, .i1⟩
  | 20 => ⟨S_, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i1⟩
  | 41 => ⟨S_, .i32⟩
  | 42 => ⟨S_, .i1⟩
  | 43 => ⟨S16384, .i1⟩
  | 44 => ⟨S16384, .i1⟩
  | 45 => ⟨S16384, .i1⟩
  | 46 => ⟨S16384, .i32⟩
  | 47 => ⟨S16384, .i32⟩
  | 48 => ⟨S16384, .i32⟩
  | 49 => ⟨S16384, .i32⟩
  | 50 => ⟨S_, .i32⟩
  | 51 => ⟨S_, .i32⟩
  | 52 => ⟨S16384, .i32⟩
  | 53 => ⟨S16384, .i32⟩
  | 54 => ⟨S16384, .i32⟩
  | 55 => ⟨S_, .i32⟩
  | 56 => ⟨S16384, .i32⟩
  | 57 => ⟨S16384, .i1⟩
  | 58 => ⟨S16384, .i32⟩
  | 59 => ⟨S16384, .i32⟩
  | 60 => ⟨S_, .i32⟩
  | 61 => ⟨S16384, .i32⟩
  | 62 => ⟨S16384, .i1⟩
  | 63 => ⟨S16384, .i1⟩
  | 64 => ⟨S_, .i32⟩
  | 65 => ⟨S16384, .i32⟩
  | 66 => ⟨S16384, .i32⟩
  | 67 => ⟨S16384, .i32⟩
  | 68 => ⟨S16384x128, .i32⟩
  | 69 => ⟨S_, .i32⟩
  | 70 => ⟨S_, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i1⟩
  | 77 => ⟨S16384, .i32⟩
  | 78 => ⟨S16384, .i32⟩
  | 79 => ⟨S_, .i32⟩
  | 80 => ⟨S16384, .i32⟩
  | 81 => ⟨S16384, .i1⟩
  | 82 => ⟨S16384, .i1⟩
  | 83 => ⟨S_, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S16384, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i1⟩
  | 104 => ⟨S_, .i32⟩
  | 105 => ⟨S_, .i1⟩
  | 106 => ⟨S16384, .i1⟩
  | 107 => ⟨S16384, .i1⟩
  | 108 => ⟨S16384, .i1⟩
  | 109 => ⟨S16384, .i32⟩
  | 110 => ⟨S16384, .i32⟩
  | 111 => ⟨S16384, .i32⟩
  | 112 => ⟨S16384, .i32⟩
  | 113 => ⟨S_, .i32⟩
  | 114 => ⟨S_, .i32⟩
  | 115 => ⟨S16384, .i32⟩
  | 116 => ⟨S16384, .i32⟩
  | 117 => ⟨S16384, .i32⟩
  | 118 => ⟨S_, .i32⟩
  | 119 => ⟨S16384, .i32⟩
  | 120 => ⟨S16384, .i1⟩
  | 121 => ⟨S16384, .i32⟩
  | 122 => ⟨S16384, .i32⟩
  | 123 => ⟨S_, .i32⟩
  | 124 => ⟨S16384, .i32⟩
  | 125 => ⟨S16384, .i1⟩
  | 126 => ⟨S16384, .i1⟩
  | 127 => ⟨S_, .i32⟩
  | _ => ⟨S16384, .i32⟩

abbrev hbmTy0_1 (i : Nat) : BufTy := match i % 128 with
  | 0 => ⟨S16384, .i32⟩
  | 1 => ⟨S16384, .i32⟩
  | 2 => ⟨S16384, .i32⟩
  | 3 => ⟨S16384x128, .i32⟩
  | 4 => ⟨S_, .i32⟩
  | 5 => ⟨S_, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i1⟩
  | 12 => ⟨S16384, .i32⟩
  | 13 => ⟨S16384, .i32⟩
  | 14 => ⟨S_, .i32⟩
  | 15 => ⟨S16384, .i32⟩
  | 16 => ⟨S16384, .i1⟩
  | 17 => ⟨S16384, .i1⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i1⟩
  | 39 => ⟨S_, .i32⟩
  | 40 => ⟨S_, .i1⟩
  | 41 => ⟨S16384, .i1⟩
  | 42 => ⟨S16384, .i1⟩
  | 43 => ⟨S16384, .i1⟩
  | 44 => ⟨S16384, .i32⟩
  | 45 => ⟨S16384, .i32⟩
  | 46 => ⟨S16384, .i32⟩
  | 47 => ⟨S16384, .i32⟩
  | 48 => ⟨S_, .i32⟩
  | 49 => ⟨S_, .i32⟩
  | 50 => ⟨S16384, .i32⟩
  | 51 => ⟨S16384, .i32⟩
  | 52 => ⟨S16384, .i32⟩
  | 53 => ⟨S_, .i32⟩
  | 54 => ⟨S16384, .i32⟩
  | 55 => ⟨S16384, .i1⟩
  | 56 => ⟨S16384, .i32⟩
  | 57 => ⟨S16384, .i32⟩
  | 58 => ⟨S_, .i32⟩
  | 59 => ⟨S16384, .i32⟩
  | 60 => ⟨S16384, .i1⟩
  | 61 => ⟨S16384, .i1⟩
  | 62 => ⟨S_, .i32⟩
  | 63 => ⟨S16384, .i32⟩
  | 64 => ⟨S16384, .i32⟩
  | 65 => ⟨S16384, .i32⟩
  | 66 => ⟨S16384x128, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S16384, .i32⟩
  | 74 => ⟨S16384, .i32⟩
  | 75 => ⟨S_, .i32⟩
  | 76 => ⟨S16384, .i32⟩
  | 77 => ⟨S16384, .i1⟩
  | 78 => ⟨S_, .i32⟩
  | 79 => ⟨S16384, .i32⟩
  | 80 => ⟨S16384, .i1⟩
  | 81 => ⟨S_, .i32⟩
  | 82 => ⟨S_, .i1⟩
  | 83 => ⟨S16384, .i1⟩
  | 84 => ⟨S16384, .i1⟩
  | 85 => ⟨S16384, .i1⟩
  | 86 => ⟨S16384, .i32⟩
  | 87 => ⟨S16384, .i32⟩
  | 88 => ⟨S16384, .i32⟩
  | 89 => ⟨S_, .i32⟩
  | 90 => ⟨S16384, .i32⟩
  | 91 => ⟨S16384, .i32⟩
  | 92 => ⟨S_, .i32⟩
  | 93 => ⟨S_, .i32⟩
  | 94 => ⟨S16384, .i32⟩
  | 95 => ⟨S16384, .i32⟩
  | 96 => ⟨S16384, .i32⟩
  | 97 => ⟨S_, .i32⟩
  | 98 => ⟨S16384, .i32⟩
  | 99 => ⟨S16384, .i1⟩
  | 100 => ⟨S16384, .i32⟩
  | 101 => ⟨S16384, .i32⟩
  | 102 => ⟨S_, .i32⟩
  | 103 => ⟨S16384, .i32⟩
  | 104 => ⟨S16384, .i1⟩
  | 105 => ⟨S16384, .i1⟩
  | 106 => ⟨S_, .i32⟩
  | 107 => ⟨S16384, .i32⟩
  | 108 => ⟨S16384, .i32⟩
  | 109 => ⟨S16384, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S16384, .i32⟩
  | 117 => ⟨S16384, .i32⟩
  | 118 => ⟨S_, .i32⟩
  | 119 => ⟨S16384, .i32⟩
  | 120 => ⟨S16384, .i1⟩
  | 121 => ⟨S_, .i32⟩
  | 122 => ⟨S16384, .i32⟩
  | 123 => ⟨S16384, .i1⟩
  | 124 => ⟨S_, .i32⟩
  | 125 => ⟨S_, .i1⟩
  | 126 => ⟨S16384, .i1⟩
  | 127 => ⟨S16384, .i1⟩
  | _ => ⟨S16384, .i32⟩

abbrev hbmTy0_2 (i : Nat) : BufTy := match i % 128 with
  | 0 => ⟨S16384, .i1⟩
  | 1 => ⟨S16384, .i32⟩
  | 2 => ⟨S16384, .i32⟩
  | 3 => ⟨S16384, .i32⟩
  | 4 => ⟨S16384, .i32⟩
  | 5 => ⟨S1x16384, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S16384, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i1⟩
  | 20 => ⟨S_, .i32⟩
  | 21 => ⟨S_, .i1⟩
  | 22 => ⟨S16384, .i1⟩
  | 23 => ⟨S16384, .i1⟩
  | 24 => ⟨S16384, .i1⟩
  | 25 => ⟨S16384, .i32⟩
  | 26 => ⟨S16384, .i32⟩
  | 27 => ⟨S16384, .i32⟩
  | 28 => ⟨S_, .i32⟩
  | 29 => ⟨S16384, .i32⟩
  | 30 => ⟨S16384, .i32⟩
  | 31 => ⟨S_, .i32⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S16384, .i32⟩
  | 40 => ⟨S16384, .i32⟩
  | 41 => ⟨S_, .i32⟩
  | 42 => ⟨S16384, .i32⟩
  | 43 => ⟨S16384, .i1⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i1⟩
  | 63 => ⟨S_, .i32⟩
  | 64 => ⟨S_, .i1⟩
  | 65 => ⟨S16384, .i1⟩
  | 66 => ⟨S16384, .i1⟩
  | 67 => ⟨S16384, .i1⟩
  | 68 => ⟨S16384, .i32⟩
  | 69 => ⟨S16384, .i32⟩
  | 70 => ⟨S16384, .i32⟩
  | 71 => ⟨S16384, .i32⟩
  | 72 => ⟨S1x16384, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S16384, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i1⟩
  | 87 => ⟨S_, .i32⟩
  | 88 => ⟨S_, .i1⟩
  | 89 => ⟨S16384, .i1⟩
  | 90 => ⟨S16384, .i1⟩
  | 91 => ⟨S16384, .i1⟩
  | 92 => ⟨S16384, .i32⟩
  | 93 => ⟨S16384, .i32⟩
  | 94 => ⟨S16384, .i32⟩
  | 95 => ⟨S_, .i32⟩
  | 96 => ⟨S16384, .i32⟩
  | 97 => ⟨S16384, .i32⟩
  | 98 => ⟨S_, .i32⟩
  | 99 => ⟨S_, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i1⟩
  | 106 => ⟨S16384, .i32⟩
  | 107 => ⟨S16384, .i32⟩
  | 108 => ⟨S_, .i32⟩
  | 109 => ⟨S16384, .i32⟩
  | 110 => ⟨S16384, .i1⟩
  | 111 => ⟨S16384, .i1⟩
  | 112 => ⟨S_, .i32⟩
  | 113 => ⟨S16384, .i32⟩
  | 114 => ⟨S16384, .i32⟩
  | 115 => ⟨S16384, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i1⟩
  | 127 => ⟨S_, .i32⟩
  | _ => ⟨S16384, .i32⟩

abbrev hbmTy0_3 (i : Nat) : BufTy := match i % 128 with
  | 0 => ⟨S16384, .i32⟩
  | 1 => ⟨S16384, .i1⟩
  | 2 => ⟨S_, .i32⟩
  | 3 => ⟨S_, .i1⟩
  | 4 => ⟨S16384, .i1⟩
  | 5 => ⟨S16384, .i1⟩
  | 6 => ⟨S16384, .i1⟩
  | 7 => ⟨S16384, .i32⟩
  | 8 => ⟨S16384, .i32⟩
  | 9 => ⟨S16384, .i32⟩
  | 10 => ⟨S16384, .i32⟩
  | 11 => ⟨S1x16384, .i32⟩
  | 12 => ⟨S1x16384, .f32⟩
  | 13 => ⟨S1x16384, .f32⟩
  | 14 => ⟨S16384, .f32⟩
  | 15 => ⟨S16384, .f32⟩
  | _ => ⟨S16384, .i32⟩

abbrev hbmTy (i : Nat) : BufTy := match i / 128 with
  | 0 => hbmTy0_0 i
  | 1 => hbmTy0_1 i
  | 2 => hbmTy0_2 i
  | 3 => hbmTy0_3 i
  | _ => ⟨S16384, .i32⟩

abbrev bufTy : (tb : Table) → Fin (nBuf tb) → BufTy
  | .hbm, ⟨i, _⟩ => hbmTy i
  | .local .tc .vmem, ⟨0, _⟩ => ⟨S2x2048x128, .i32⟩
  | .local .tc .vmem, ⟨1, _⟩ => ⟨S2x2048x128, .i32⟩
  | .local .tc .vmem, ⟨2, _⟩ => ⟨S2x2048x128, .i32⟩
  | .local .tc .vmem, ⟨3, _⟩ => ⟨S2x1x2048, .i32⟩
  | .local .tc .vmem, ⟨4, _⟩ => ⟨S2x1x2048, .i32⟩
  | .local .tc .vmem, ⟨5, _⟩ => ⟨S2x1x2048, .i32⟩
  | .local .tc .vmem, ⟨6, _⟩ => ⟨S2x1x2048, .f32⟩
  | .local .tc .vmem, ⟨7, _⟩ => ⟨S2x1x2048, .f32⟩
  | .local .scVector .vmem, ⟨0, _⟩ => ⟨S512, .i32⟩
  | .local .scVector .vmem, ⟨1, _⟩ => ⟨S512x128, .i32⟩
  | .local .scVector .vmem, ⟨2, _⟩ => ⟨S512, .i32⟩
  | .local .scVector .vmem, ⟨3, _⟩ => ⟨S512x128, .i32⟩
  | .local .scVector .vmem, ⟨4, _⟩ => ⟨S512, .i32⟩
  | .local .scVector .vmem, ⟨5, _⟩ => ⟨S512x128, .i32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_v1 : Ref sig .tc := ⟨.hbm, 25, rfl⟩
abbrev main_v2 : Ref sig .tc := ⟨.hbm, 26, rfl⟩
abbrev main_c_1 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_c_2 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v5 : Ref sig .tc := ⟨.hbm, 67, rfl⟩
abbrev main_v6 : Ref sig .tc := ⟨.hbm, 68, rfl⟩
abbrev main_c_3 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v7 : Ref sig .tc := ⟨.hbm, 86, rfl⟩
abbrev main_c_4 : Ref sig .tc := ⟨.hbm, 87, rfl⟩
abbrev main_v8 : Ref sig .tc := ⟨.hbm, 88, rfl⟩
abbrev main_v9 : Ref sig .tc := ⟨.hbm, 89, rfl⟩
abbrev main_c_5 : Ref sig .tc := ⟨.hbm, 90, rfl⟩
abbrev main_call4_v0 : Ref sig .tc := ⟨.hbm, 91, rfl⟩
abbrev main_call4_c : Ref sig .tc := ⟨.hbm, 92, rfl⟩
abbrev main_call4_v1 : Ref sig .tc := ⟨.hbm, 93, rfl⟩
abbrev main_call4_c_0 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_c_1 : Ref sig .tc := ⟨.hbm, 98, rfl⟩
abbrev main_call4_v5 : Ref sig .tc := ⟨.hbm, 99, rfl⟩
abbrev main_call4_v6 : Ref sig .tc := ⟨.hbm, 100, rfl⟩
abbrev main_call4_c_2 : Ref sig .tc := ⟨.hbm, 101, rfl⟩
abbrev main_call4_v7 : Ref sig .tc := ⟨.hbm, 102, rfl⟩
abbrev main_call4_v8 : Ref sig .tc := ⟨.hbm, 103, rfl⟩
abbrev main_call4_c_3 : Ref sig .tc := ⟨.hbm, 104, rfl⟩
abbrev main_call4_v9 : Ref sig .tc := ⟨.hbm, 105, rfl⟩
abbrev main_call4_v10 : Ref sig .tc := ⟨.hbm, 106, rfl⟩
abbrev main_call4_v11 : Ref sig .tc := ⟨.hbm, 107, rfl⟩
abbrev main_call4_v12 : Ref sig .tc := ⟨.hbm, 108, rfl⟩
abbrev main_call4_v13 : Ref sig .tc := ⟨.hbm, 109, rfl⟩
abbrev main_call4_v14 : Ref sig .tc := ⟨.hbm, 110, rfl⟩
abbrev main_v10 : Ref sig .tc := ⟨.hbm, 111, rfl⟩
abbrev main_v11 : Ref sig .tc := ⟨.hbm, 112, rfl⟩
abbrev main_c_6 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_v6 : Ref sig .tc := ⟨.hbm, 120, rfl⟩
abbrev main_call5_v7 : Ref sig .tc := ⟨.hbm, 121, rfl⟩
abbrev main_call5_v8 : Ref sig .tc := ⟨.hbm, 122, rfl⟩
abbrev main_call5_c : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_c_0 : Ref sig .tc := ⟨.hbm, 127, rfl⟩
abbrev main_call5_v12 : Ref sig .tc := ⟨.hbm, 128, rfl⟩
abbrev main_call5_v13 : Ref sig .tc := ⟨.hbm, 129, rfl⟩
abbrev main_v12 : Ref sig .tc := ⟨.hbm, 130, rfl⟩
abbrev main_v13 : Ref sig .tc := ⟨.hbm, 131, rfl⟩
abbrev main_c_7 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_v8 : Ref sig .tc := ⟨.hbm, 141, rfl⟩
abbrev main_call6_c : Ref sig .tc := ⟨.hbm, 142, rfl⟩
abbrev main_call6_v9 : Ref sig .tc := ⟨.hbm, 143, rfl⟩
abbrev main_call6_v10 : Ref sig .tc := ⟨.hbm, 144, rfl⟩
abbrev main_call6_v11 : Ref sig .tc := ⟨.hbm, 145, rfl⟩
abbrev main_call6_c_0 : Ref sig .tc := ⟨.hbm, 146, rfl⟩
abbrev main_call6_v12 : Ref sig .tc := ⟨.hbm, 147, rfl⟩
abbrev main_call6_v13 : Ref sig .tc := ⟨.hbm, 148, rfl⟩
abbrev main_v14 : Ref sig .tc := ⟨.hbm, 149, rfl⟩
abbrev main_c_8 : Ref sig .tc := ⟨.hbm, 150, rfl⟩
abbrev main_v15 : Ref sig .tc := ⟨.hbm, 151, rfl⟩
abbrev main_v16 : Ref sig .tc := ⟨.hbm, 152, rfl⟩
abbrev main_c_9 : Ref sig .tc := ⟨.hbm, 153, rfl⟩
abbrev main_call7_v0 : Ref sig .tc := ⟨.hbm, 154, rfl⟩
abbrev main_call7_c : Ref sig .tc := ⟨.hbm, 155, rfl⟩
abbrev main_call7_v1 : Ref sig .tc := ⟨.hbm, 156, rfl⟩
abbrev main_call7_c_0 : Ref sig .tc := ⟨.hbm, 157, rfl⟩
abbrev main_call7_v2 : Ref sig .tc := ⟨.hbm, 158, rfl⟩
abbrev main_call7_v3 : Ref sig .tc := ⟨.hbm, 159, rfl⟩
abbrev main_call7_v4 : Ref sig .tc := ⟨.hbm, 160, rfl⟩
abbrev main_call7_c_1 : Ref sig .tc := ⟨.hbm, 161, rfl⟩
abbrev main_call7_v5 : Ref sig .tc := ⟨.hbm, 162, rfl⟩
abbrev main_call7_v6 : Ref sig .tc := ⟨.hbm, 163, rfl⟩
abbrev main_call7_c_2 : Ref sig .tc := ⟨.hbm, 164, rfl⟩
abbrev main_call7_v7 : Ref sig .tc := ⟨.hbm, 165, rfl⟩
abbrev main_call7_v8 : Ref sig .tc := ⟨.hbm, 166, rfl⟩
abbrev main_call7_c_3 : Ref sig .tc := ⟨.hbm, 167, rfl⟩
abbrev main_call7_v9 : Ref sig .tc := ⟨.hbm, 168, rfl⟩
abbrev main_call7_v10 : Ref sig .tc := ⟨.hbm, 169, rfl⟩
abbrev main_call7_v11 : Ref sig .tc := ⟨.hbm, 170, rfl⟩
abbrev main_call7_v12 : Ref sig .tc := ⟨.hbm, 171, rfl⟩
abbrev main_call7_v13 : Ref sig .tc := ⟨.hbm, 172, rfl⟩
abbrev main_call7_v14 : Ref sig .tc := ⟨.hbm, 173, rfl⟩
abbrev main_v17 : Ref sig .tc := ⟨.hbm, 174, rfl⟩
abbrev main_v18 : Ref sig .tc := ⟨.hbm, 175, rfl⟩
abbrev main_c_10 : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_call8_v3 : Ref sig .tc := ⟨.hbm, 180, rfl⟩
abbrev main_call8_v4 : Ref sig .tc := ⟨.hbm, 181, rfl⟩
abbrev main_call8_v5 : Ref sig .tc := ⟨.hbm, 182, rfl⟩
abbrev main_call8_v6 : Ref sig .tc := ⟨.hbm, 183, rfl⟩
abbrev main_call8_v7 : Ref sig .tc := ⟨.hbm, 184, rfl⟩
abbrev main_call8_v8 : Ref sig .tc := ⟨.hbm, 185, rfl⟩
abbrev main_call8_c : Ref sig .tc := ⟨.hbm, 186, rfl⟩
abbrev main_call8_v9 : Ref sig .tc := ⟨.hbm, 187, rfl⟩
abbrev main_call8_v10 : Ref sig .tc := ⟨.hbm, 188, rfl⟩
abbrev main_call8_v11 : Ref sig .tc := ⟨.hbm, 189, rfl⟩
abbrev main_call8_c_0 : Ref sig .tc := ⟨.hbm, 190, rfl⟩
abbrev main_call8_v12 : Ref sig .tc := ⟨.hbm, 191, rfl⟩
abbrev main_call8_v13 : Ref sig .tc := ⟨.hbm, 192, rfl⟩
abbrev main_v19 : Ref sig .tc := ⟨.hbm, 193, rfl⟩
abbrev main_v20 : Ref sig .tc := ⟨.hbm, 194, rfl⟩
abbrev main_c_11 : Ref sig .tc := ⟨.hbm, 195, rfl⟩
abbrev main_call9_v0 : Ref sig .tc := ⟨.hbm, 196, rfl⟩
abbrev main_call9_c : Ref sig .tc := ⟨.hbm, 197, rfl⟩
abbrev main_call9_v1 : Ref sig .tc := ⟨.hbm, 198, rfl⟩
abbrev main_call9_c_0 : Ref sig .tc := ⟨.hbm, 199, rfl⟩
abbrev main_call9_v2 : Ref sig .tc := ⟨.hbm, 200, rfl⟩
abbrev main_call9_v3 : Ref sig .tc := ⟨.hbm, 201, rfl⟩
abbrev main_call9_v4 : Ref sig .tc := ⟨.hbm, 202, rfl⟩
abbrev main_call9_c_1 : Ref sig .tc := ⟨.hbm, 203, rfl⟩
abbrev main_call9_v5 : Ref sig .tc := ⟨.hbm, 204, rfl⟩
abbrev main_call9_v6 : Ref sig .tc := ⟨.hbm, 205, rfl⟩
abbrev main_call9_c_2 : Ref sig .tc := ⟨.hbm, 206, rfl⟩
abbrev main_call9_v7 : Ref sig .tc := ⟨.hbm, 207, rfl⟩
abbrev main_call9_v8 : Ref sig .tc := ⟨.hbm, 208, rfl⟩
abbrev main_call9_c_3 : Ref sig .tc := ⟨.hbm, 209, rfl⟩
abbrev main_call9_v9 : Ref sig .tc := ⟨.hbm, 210, rfl⟩
abbrev main_call9_v10 : Ref sig .tc := ⟨.hbm, 211, rfl⟩
abbrev main_call9_v11 : Ref sig .tc := ⟨.hbm, 212, rfl⟩
abbrev main_call9_v12 : Ref sig .tc := ⟨.hbm, 213, rfl⟩
abbrev main_call9_v13 : Ref sig .tc := ⟨.hbm, 214, rfl⟩
abbrev main_call9_v14 : Ref sig .tc := ⟨.hbm, 215, rfl⟩
abbrev main_v21 : Ref sig .tc := ⟨.hbm, 216, rfl⟩
abbrev main_c_12 : Ref sig .tc := ⟨.hbm, 217, rfl⟩
abbrev main_v22 : Ref sig .tc := ⟨.hbm, 218, rfl⟩
abbrev main_v23 : Ref sig .tc := ⟨.hbm, 219, rfl⟩
abbrev main_c_13 : Ref sig .tc := ⟨.hbm, 220, rfl⟩
abbrev main_call10_v0 : Ref sig .tc := ⟨.hbm, 221, rfl⟩
abbrev main_call10_v1 : Ref sig .tc := ⟨.hbm, 222, rfl⟩
abbrev main_call10_v2 : Ref sig .tc := ⟨.hbm, 223, rfl⟩
abbrev main_call10_v3 : Ref sig .tc := ⟨.hbm, 224, rfl⟩
abbrev main_call10_v4 : Ref sig .tc := ⟨.hbm, 225, rfl⟩
abbrev main_call10_v5 : Ref sig .tc := ⟨.hbm, 226, rfl⟩
abbrev main_call10_v6 : Ref sig .tc := ⟨.hbm, 227, rfl⟩
abbrev main_call10_v7 : Ref sig .tc := ⟨.hbm, 228, rfl⟩
abbrev main_call10_v8 : Ref sig .tc := ⟨.hbm, 229, rfl⟩
abbrev main_call10_c : Ref sig .tc := ⟨.hbm, 230, rfl⟩
abbrev main_call10_v9 : Ref sig .tc := ⟨.hbm, 231, rfl⟩
abbrev main_call10_v10 : Ref sig .tc := ⟨.hbm, 232, rfl⟩
abbrev main_call10_v11 : Ref sig .tc := ⟨.hbm, 233, rfl⟩
abbrev main_call10_c_0 : Ref sig .tc := ⟨.hbm, 234, rfl⟩
abbrev main_call10_v12 : Ref sig .tc := ⟨.hbm, 235, rfl⟩
abbrev main_call10_v13 : Ref sig .tc := ⟨.hbm, 236, rfl⟩
abbrev main_v24 : Ref sig .tc := ⟨.hbm, 237, rfl⟩
abbrev main_c_14 : Ref sig .tc := ⟨.hbm, 238, rfl⟩
abbrev main_call11_v0 : Ref sig .tc := ⟨.hbm, 239, rfl⟩
abbrev main_call11_c : Ref sig .tc := ⟨.hbm, 240, rfl⟩
abbrev main_call11_v1 : Ref sig .tc := ⟨.hbm, 241, rfl⟩
abbrev main_call11_c_0 : Ref sig .tc := ⟨.hbm, 242, rfl⟩
abbrev main_call11_v2 : Ref sig .tc := ⟨.hbm, 243, rfl⟩
abbrev main_call11_v3 : Ref sig .tc := ⟨.hbm, 244, rfl⟩
abbrev main_call11_v4 : Ref sig .tc := ⟨.hbm, 245, rfl⟩
abbrev main_call11_c_1 : Ref sig .tc := ⟨.hbm, 246, rfl⟩
abbrev main_call11_v5 : Ref sig .tc := ⟨.hbm, 247, rfl⟩
abbrev main_call11_v6 : Ref sig .tc := ⟨.hbm, 248, rfl⟩
abbrev main_call11_c_2 : Ref sig .tc := ⟨.hbm, 249, rfl⟩
abbrev main_call11_v7 : Ref sig .tc := ⟨.hbm, 250, rfl⟩
abbrev main_call11_v8 : Ref sig .tc := ⟨.hbm, 251, rfl⟩
abbrev main_call11_c_3 : Ref sig .tc := ⟨.hbm, 252, rfl⟩
abbrev main_call11_v9 : Ref sig .tc := ⟨.hbm, 253, rfl⟩
abbrev main_call11_v10 : Ref sig .tc := ⟨.hbm, 254, rfl⟩
abbrev main_call11_v11 : Ref sig .tc := ⟨.hbm, 255, rfl⟩
abbrev main_call11_v12 : Ref sig .tc := ⟨.hbm, 256, rfl⟩
abbrev main_call11_v13 : Ref sig .tc := ⟨.hbm, 257, rfl⟩
abbrev main_call11_v14 : Ref sig .tc := ⟨.hbm, 258, rfl⟩
abbrev main_v25 : Ref sig .tc := ⟨.hbm, 259, rfl⟩
abbrev main_v26 : Ref sig .tc := ⟨.hbm, 260, rfl⟩
abbrev main_v27 : Ref sig .tc := ⟨.hbm, 261, rfl⟩
abbrev main_c_15 : Ref sig .tc := ⟨.hbm, 262, rfl⟩
abbrev main_call12_v0 : Ref sig .tc := ⟨.hbm, 263, rfl⟩
abbrev main_call12_c : Ref sig .tc := ⟨.hbm, 264, rfl⟩
abbrev main_call12_v1 : Ref sig .tc := ⟨.hbm, 265, rfl⟩
abbrev main_call12_c_0 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_call12_c_1 : Ref sig .tc := ⟨.hbm, 270, rfl⟩
abbrev main_call12_v5 : Ref sig .tc := ⟨.hbm, 271, rfl⟩
abbrev main_call12_v6 : Ref sig .tc := ⟨.hbm, 272, rfl⟩
abbrev main_call12_c_2 : Ref sig .tc := ⟨.hbm, 273, rfl⟩
abbrev main_call12_v7 : Ref sig .tc := ⟨.hbm, 274, rfl⟩
abbrev main_call12_v8 : Ref sig .tc := ⟨.hbm, 275, rfl⟩
abbrev main_call12_c_3 : Ref sig .tc := ⟨.hbm, 276, rfl⟩
abbrev main_call12_v9 : Ref sig .tc := ⟨.hbm, 277, rfl⟩
abbrev main_call12_v10 : Ref sig .tc := ⟨.hbm, 278, rfl⟩
abbrev main_call12_v11 : Ref sig .tc := ⟨.hbm, 279, rfl⟩
abbrev main_call12_v12 : Ref sig .tc := ⟨.hbm, 280, rfl⟩
abbrev main_call12_v13 : Ref sig .tc := ⟨.hbm, 281, rfl⟩
abbrev main_call12_v14 : Ref sig .tc := ⟨.hbm, 282, rfl⟩
abbrev main_v28 : Ref sig .tc := ⟨.hbm, 283, rfl⟩
abbrev main_c_16 : Ref sig .tc := ⟨.hbm, 284, rfl⟩
abbrev main_v29 : Ref sig .tc := ⟨.hbm, 285, rfl⟩
abbrev main_v30 : Ref sig .tc := ⟨.hbm, 286, rfl⟩
abbrev main_c_17 : Ref sig .tc := ⟨.hbm, 287, rfl⟩
abbrev main_call13_v0 : Ref sig .tc := ⟨.hbm, 288, rfl⟩
abbrev main_call13_v1 : Ref sig .tc := ⟨.hbm, 289, rfl⟩
abbrev main_call13_v2 : Ref sig .tc := ⟨.hbm, 290, rfl⟩
abbrev main_call13_v3 : Ref sig .tc := ⟨.hbm, 291, rfl⟩
abbrev main_call13_v4 : Ref sig .tc := ⟨.hbm, 292, rfl⟩
abbrev main_call13_v5 : Ref sig .tc := ⟨.hbm, 293, rfl⟩
abbrev main_call13_v6 : Ref sig .tc := ⟨.hbm, 294, rfl⟩
abbrev main_call13_v7 : Ref sig .tc := ⟨.hbm, 295, rfl⟩
abbrev main_call13_v8 : Ref sig .tc := ⟨.hbm, 296, rfl⟩
abbrev main_call13_c : Ref sig .tc := ⟨.hbm, 297, rfl⟩
abbrev main_call13_v9 : Ref sig .tc := ⟨.hbm, 298, rfl⟩
abbrev main_call13_v10 : Ref sig .tc := ⟨.hbm, 299, rfl⟩
abbrev main_call13_v11 : Ref sig .tc := ⟨.hbm, 300, rfl⟩
abbrev main_call13_c_0 : Ref sig .tc := ⟨.hbm, 301, rfl⟩
abbrev main_call13_v12 : Ref sig .tc := ⟨.hbm, 302, rfl⟩
abbrev main_call13_v13 : Ref sig .tc := ⟨.hbm, 303, rfl⟩
abbrev main_v31 : Ref sig .tc := ⟨.hbm, 304, rfl⟩
abbrev main_c_18 : Ref sig .tc := ⟨.hbm, 305, rfl⟩
abbrev main_call14_v0 : Ref sig .tc := ⟨.hbm, 306, rfl⟩
abbrev main_call14_c : Ref sig .tc := ⟨.hbm, 307, rfl⟩
abbrev main_call14_v1 : Ref sig .tc := ⟨.hbm, 308, rfl⟩
abbrev main_call14_c_0 : Ref sig .tc := ⟨.hbm, 309, rfl⟩
abbrev main_call14_v2 : Ref sig .tc := ⟨.hbm, 310, rfl⟩
abbrev main_call14_v3 : Ref sig .tc := ⟨.hbm, 311, rfl⟩
abbrev main_call14_v4 : Ref sig .tc := ⟨.hbm, 312, rfl⟩
abbrev main_call14_c_1 : Ref sig .tc := ⟨.hbm, 313, rfl⟩
abbrev main_call14_v5 : Ref sig .tc := ⟨.hbm, 314, rfl⟩
abbrev main_call14_v6 : Ref sig .tc := ⟨.hbm, 315, rfl⟩
abbrev main_call14_c_2 : Ref sig .tc := ⟨.hbm, 316, rfl⟩
abbrev main_call14_v7 : Ref sig .tc := ⟨.hbm, 317, rfl⟩
abbrev main_call14_v8 : Ref sig .tc := ⟨.hbm, 318, rfl⟩
abbrev main_call14_c_3 : Ref sig .tc := ⟨.hbm, 319, rfl⟩
abbrev main_call14_v9 : Ref sig .tc := ⟨.hbm, 320, rfl⟩
abbrev main_call14_v10 : Ref sig .tc := ⟨.hbm, 321, rfl⟩
abbrev main_call14_v11 : Ref sig .tc := ⟨.hbm, 322, rfl⟩
abbrev main_call14_v12 : Ref sig .tc := ⟨.hbm, 323, rfl⟩
abbrev main_call14_v13 : Ref sig .tc := ⟨.hbm, 324, rfl⟩
abbrev main_call14_v14 : Ref sig .tc := ⟨.hbm, 325, rfl⟩
abbrev main_v32 : Ref sig .tc := ⟨.hbm, 326, rfl⟩
abbrev main_v33 : Ref sig .tc := ⟨.hbm, 327, rfl⟩
abbrev main_v34 : Ref sig .tc := ⟨.hbm, 328, rfl⟩
abbrev main_c_19 : Ref sig .tc := ⟨.hbm, 329, rfl⟩
abbrev main_call15_v0 : Ref sig .tc := ⟨.hbm, 330, rfl⟩
abbrev main_call15_c : Ref sig .tc := ⟨.hbm, 331, rfl⟩
abbrev main_call15_v1 : Ref sig .tc := ⟨.hbm, 332, rfl⟩
abbrev main_call15_c_0 : Ref sig .tc := ⟨.hbm, 333, rfl⟩
abbrev main_call15_v2 : Ref sig .tc := ⟨.hbm, 334, rfl⟩
abbrev main_call15_v3 : Ref sig .tc := ⟨.hbm, 335, rfl⟩
abbrev main_call15_v4 : Ref sig .tc := ⟨.hbm, 336, rfl⟩
abbrev main_call15_c_1 : Ref sig .tc := ⟨.hbm, 337, rfl⟩
abbrev main_call15_v5 : Ref sig .tc := ⟨.hbm, 338, rfl⟩
abbrev main_call15_v6 : Ref sig .tc := ⟨.hbm, 339, rfl⟩
abbrev main_call15_c_2 : Ref sig .tc := ⟨.hbm, 340, rfl⟩
abbrev main_call15_v7 : Ref sig .tc := ⟨.hbm, 341, rfl⟩
abbrev main_call15_v8 : Ref sig .tc := ⟨.hbm, 342, rfl⟩
abbrev main_call15_c_3 : Ref sig .tc := ⟨.hbm, 343, rfl⟩
abbrev main_call15_v9 : Ref sig .tc := ⟨.hbm, 344, rfl⟩
abbrev main_call15_v10 : Ref sig .tc := ⟨.hbm, 345, rfl⟩
abbrev main_call15_v11 : Ref sig .tc := ⟨.hbm, 346, rfl⟩
abbrev main_call15_v12 : Ref sig .tc := ⟨.hbm, 347, rfl⟩
abbrev main_call15_v13 : Ref sig .tc := ⟨.hbm, 348, rfl⟩
abbrev main_call15_v14 : Ref sig .tc := ⟨.hbm, 349, rfl⟩
abbrev main_v35 : Ref sig .tc := ⟨.hbm, 350, rfl⟩
abbrev main_c_20 : Ref sig .tc := ⟨.hbm, 351, rfl⟩
abbrev main_v36 : Ref sig .tc := ⟨.hbm, 352, rfl⟩
abbrev main_v37 : Ref sig .tc := ⟨.hbm, 353, rfl⟩
abbrev main_c_21 : Ref sig .tc := ⟨.hbm, 354, rfl⟩
abbrev main_call16_v0 : Ref sig .tc := ⟨.hbm, 355, rfl⟩
abbrev main_call16_v1 : Ref sig .tc := ⟨.hbm, 356, rfl⟩
abbrev main_call16_v2 : Ref sig .tc := ⟨.hbm, 357, rfl⟩
abbrev main_call16_v3 : Ref sig .tc := ⟨.hbm, 358, rfl⟩
abbrev main_call16_v4 : Ref sig .tc := ⟨.hbm, 359, rfl⟩
abbrev main_call16_v5 : Ref sig .tc := ⟨.hbm, 360, rfl⟩
abbrev main_call16_v6 : Ref sig .tc := ⟨.hbm, 361, rfl⟩
abbrev main_call16_v7 : Ref sig .tc := ⟨.hbm, 362, rfl⟩
abbrev main_call16_v8 : Ref sig .tc := ⟨.hbm, 363, rfl⟩
abbrev main_call16_c : Ref sig .tc := ⟨.hbm, 364, rfl⟩
abbrev main_call16_v9 : Ref sig .tc := ⟨.hbm, 365, rfl⟩
abbrev main_call16_v10 : Ref sig .tc := ⟨.hbm, 366, rfl⟩
abbrev main_call16_v11 : Ref sig .tc := ⟨.hbm, 367, rfl⟩
abbrev main_call16_c_0 : Ref sig .tc := ⟨.hbm, 368, rfl⟩
abbrev main_call16_v12 : Ref sig .tc := ⟨.hbm, 369, rfl⟩
abbrev main_call16_v13 : Ref sig .tc := ⟨.hbm, 370, rfl⟩
abbrev main_v38 : Ref sig .tc := ⟨.hbm, 371, rfl⟩
abbrev main_c_22 : Ref sig .tc := ⟨.hbm, 372, rfl⟩
abbrev main_call17_v0 : Ref sig .tc := ⟨.hbm, 373, rfl⟩
abbrev main_call17_c : Ref sig .tc := ⟨.hbm, 374, rfl⟩
abbrev main_call17_v1 : Ref sig .tc := ⟨.hbm, 375, rfl⟩
abbrev main_call17_c_0 : Ref sig .tc := ⟨.hbm, 376, rfl⟩
abbrev main_call17_v2 : Ref sig .tc := ⟨.hbm, 377, rfl⟩
abbrev main_call17_v3 : Ref sig .tc := ⟨.hbm, 378, rfl⟩
abbrev main_call17_v4 : Ref sig .tc := ⟨.hbm, 379, rfl⟩
abbrev main_call17_c_1 : Ref sig .tc := ⟨.hbm, 380, rfl⟩
abbrev main_call17_v5 : Ref sig .tc := ⟨.hbm, 381, rfl⟩
abbrev main_call17_v6 : Ref sig .tc := ⟨.hbm, 382, rfl⟩
abbrev main_call17_c_2 : Ref sig .tc := ⟨.hbm, 383, rfl⟩
abbrev main_call17_v7 : Ref sig .tc := ⟨.hbm, 384, rfl⟩
abbrev main_call17_v8 : Ref sig .tc := ⟨.hbm, 385, rfl⟩
abbrev main_call17_c_3 : Ref sig .tc := ⟨.hbm, 386, rfl⟩
abbrev main_call17_v9 : Ref sig .tc := ⟨.hbm, 387, rfl⟩
abbrev main_call17_v10 : Ref sig .tc := ⟨.hbm, 388, rfl⟩
abbrev main_call17_v11 : Ref sig .tc := ⟨.hbm, 389, rfl⟩
abbrev main_call17_v12 : Ref sig .tc := ⟨.hbm, 390, rfl⟩
abbrev main_call17_v13 : Ref sig .tc := ⟨.hbm, 391, rfl⟩
abbrev main_call17_v14 : Ref sig .tc := ⟨.hbm, 392, rfl⟩
abbrev main_v39 : Ref sig .tc := ⟨.hbm, 393, rfl⟩
abbrev main_v40 : Ref sig .tc := ⟨.hbm, 394, rfl⟩
abbrev main_v41 : Ref sig .tc := ⟨.hbm, 395, rfl⟩
abbrev main_v42_0 : Ref sig .tc := ⟨.hbm, 396, rfl⟩
abbrev main_v42_1 : Ref sig .tc := ⟨.hbm, 397, rfl⟩
abbrev main_v43 : Ref sig .tc := ⟨.hbm, 398, rfl⟩
abbrev main_v44 : Ref sig .tc := ⟨.hbm, 399, rfl⟩
abbrev main_arg4_scv : Ref sig .scVector := ⟨.hbm, 4, rfl⟩
abbrev main_v5_scv : Ref sig .scVector := ⟨.hbm, 67, rfl⟩
abbrev main_v6_scv : Ref sig .scVector := ⟨.hbm, 68, rfl⟩
abbrev main_arg5_scv : Ref sig .scVector := ⟨.hbm, 5, rfl⟩
abbrev main_v12_scv : Ref sig .scVector := ⟨.hbm, 130, rfl⟩
abbrev main_v13_scv : Ref sig .scVector := ⟨.hbm, 131, rfl⟩
abbrev main_v19_scv : Ref sig .scVector := ⟨.hbm, 193, rfl⟩
abbrev main_v20_scv : Ref sig .scVector := ⟨.hbm, 194, rfl⟩
abbrev cc3_scoped0 : Ref sig .tc := ⟨.vmem, 0, rfl⟩
abbrev cc3_scoped2 : Ref sig .tc := ⟨.vmem, 1, rfl⟩
abbrev cc3_scoped4 : Ref sig .tc := ⟨.vmem, 2, rfl⟩
abbrev cc3_scoped6 : Ref sig .tc := ⟨.vmem, 3, rfl⟩
abbrev cc3_scoped8 : Ref sig .tc := ⟨.vmem, 4, rfl⟩
abbrev cc3_scoped10 : Ref sig .tc := ⟨.vmem, 5, rfl⟩
abbrev cc3_scoped12 : Ref sig .tc := ⟨.vmem, 6, rfl⟩
abbrev cc3_scoped14 : Ref sig .tc := ⟨.vmem, 7, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_scratch0 : Ref sig .scVector := ⟨.vmem, 4, rfl⟩
abbrev cc2_scratch1 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev grid3 : Pipeline.Grid := ⟨1, ![2], ![false]⟩

def k3_off1 : Fin 1 → Nat :=
  let c0_i32_17_r0 : BitVec 32 := 0#32
  let c2_i32_r0 : BitVec 32 := 2#32
  let v23_r0 : BitVec 32 := Scalar.remui c0_i32_17_r0 c2_i32_r0
  ![v23_r0.toNat]
def k3_off2 : Fin 3 → Nat :=
  let c0_i32_17_r0 : BitVec 32 := 0#32
  let c2_i32_r0 : BitVec 32 := 2#32
  let v23_r0 : BitVec 32 := Scalar.remui c0_i32_17_r0 c2_i32_r0
  let c0_i32_18_r0 : BitVec 32 := 0#32
  let c0_i32_19_r0 : BitVec 32 := 0#32
  ![v23_r0.toNat, 0, 0]
def k3_off3 (i : grid3.Coords) : Fin 2 → Nat :=
  let c2048_i32_r0 : BitVec 32 := 2048#32
  let c0_i32_r0 : BitVec 32 := 0#32
  let arg0 : BitVec 32 := BitVec.ofNat 32 (i 0).val
  let c4_i32 : BitVec 32 := 4#32
  let v0 : BitVec 32 := Scalar.muli arg0 c4_i32
  let v9_r0 : BitVec 32 := Scalar.addi c0_i32_r0 v0
  let v24_r0 : BitVec 32 := Scalar.muli c2048_i32_r0 v9_r0
  let c0_i32_20_r0 : BitVec 32 := 0#32
  ![v24_r0.toNat, 0]
def k3_off4 : Fin 3 → Nat :=
  let c0_i32_39_r0 : BitVec 32 := 0#32
  let c2_i32_40_r0 : BitVec 32 := 2#32
  let v47_r0 : BitVec 32 := Scalar.remui c0_i32_39_r0 c2_i32_40_r0
  let c0_i32_42_r0 : BitVec 32 := 0#32
  let c0_i32_43_r0 : BitVec 32 := 0#32
  ![v47_r0.toNat, 0, 0]
def k3_off5 (i : grid3.Coords) : Fin 2 → Nat :=
  let c0_i32_44_r0 : BitVec 32 := 0#32
  let c2048_i32_41_r0 : BitVec 32 := 2048#32
  let c0_i32_r0 : BitVec 32 := 0#32
  let arg0 : BitVec 32 := BitVec.ofNat 32 (i 0).val
  let c4_i32 : BitVec 32 := 4#32
  let v0 : BitVec 32 := Scalar.muli arg0 c4_i32
  let v9_r0 : BitVec 32 := Scalar.addi c0_i32_r0 v0
  let v48_r0 : BitVec 32 := Scalar.muli c2048_i32_41_r0 v9_r0
  ![0, v48_r0.toNat]
@[reducible] def k3_t1_loop : Scf.Loop 32 :=
  let c0_i32_74_r0 : BitVec 32 := 0#32
  let c4_i32_75_r0 : BitVec 32 := 4#32
  let v71_r0 : BitVec 32 := Scalar.addi c0_i32_74_r0 c4_i32_75_r0
  let c1_i32_76_r0 : BitVec 32 := 1#32
  ⟨c0_i32_74_r0, v71_r0, c1_i32_76_r0⟩
def k3_off6 (arg10_r0 : BitVec 32) : Fin 1 → Nat :=
  let c2_i32_286_r0 : BitVec 32 := 2#32
  let v514_r0 : BitVec 32 := Scalar.remui arg10_r0 c2_i32_286_r0
  ![v514_r0.toNat]
def k3_cond1 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v125_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_118_r0 : BitVec 32 := 3#32
  let v126_r0 : BitVec 1 := Scalar.cmpi .sge arg9_r0 c3_i32_118_r0
  let true_119_r0 : BitVec 1 := 1#1
  let v127_r0 : BitVec 1 := Scalar.xori v126_r0 true_119_r0
  let v128_r0 : BitVec 1 := Scalar.andi v125_r0 v127_r0
  let true_120_r0 : BitVec 1 := 1#1
  let v129_r0 : BitVec 1 := Scalar.andi v128_r0 true_120_r0
  let v130_r0 : BitVec 32 := Scalar.extui v129_r0
  let c0_i32_121_r0 : BitVec 32 := 0#32
  let v131_r0 : BitVec 1 := Scalar.cmpi .ne v130_r0 c0_i32_121_r0
  v131_r0

def k3_off7 (arg10_r0 : BitVec 32) : Fin 3 → Nat :=
  let c2_i32_286_r0 : BitVec 32 := 2#32
  let v514_r0 : BitVec 32 := Scalar.remui arg10_r0 c2_i32_286_r0
  let c0_i32_288_r0 : BitVec 32 := 0#32
  let c0_i32_289_r0 : BitVec 32 := 0#32
  ![v514_r0.toNat, 0, 0]
def k3_off8 (i : grid3.Coords) (arg26_r0 : BitVec 32) : Fin 2 → Nat :=
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  let c0_i32_290_r0 : BitVec 32 := 0#32
  ![v515_r0.toNat, 0]
def k3_off9 (arg12_r0 : BitVec 32) : Fin 1 → Nat :=
  let c2_i32_286_r0 : BitVec 32 := 2#32
  let v514_r0 : BitVec 32 := Scalar.remui arg12_r0 c2_i32_286_r0
  ![v514_r0.toNat]
def k3_cond2 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v135_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_124_r0 : BitVec 32 := 3#32
  let v136_r0 : BitVec 1 := Scalar.cmpi .sge arg9_r0 c3_i32_124_r0
  let true_125_r0 : BitVec 1 := 1#1
  let v137_r0 : BitVec 1 := Scalar.xori v136_r0 true_125_r0
  let v138_r0 : BitVec 1 := Scalar.andi v135_r0 v137_r0
  let true_126_r0 : BitVec 1 := 1#1
  let v139_r0 : BitVec 1 := Scalar.andi v138_r0 true_126_r0
  let v140_r0 : BitVec 32 := Scalar.extui v139_r0
  let c0_i32_127_r0 : BitVec 32 := 0#32
  let v141_r0 : BitVec 1 := Scalar.cmpi .ne v140_r0 c0_i32_127_r0
  v141_r0

def k3_off10 (arg12_r0 : BitVec 32) : Fin 3 → Nat :=
  let c2_i32_286_r0 : BitVec 32 := 2#32
  let v514_r0 : BitVec 32 := Scalar.remui arg12_r0 c2_i32_286_r0
  let c0_i32_288_r0 : BitVec 32 := 0#32
  let c0_i32_289_r0 : BitVec 32 := 0#32
  ![v514_r0.toNat, 0, 0]
def k3_off11 (i : grid3.Coords) (arg26_r0 : BitVec 32) : Fin 2 → Nat :=
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  let c0_i32_290_r0 : BitVec 32 := 0#32
  ![v515_r0.toNat, 0]
def k3_off12 (arg14_r0 : BitVec 32) : Fin 1 → Nat :=
  let c2_i32_286_r0 : BitVec 32 := 2#32
  let v514_r0 : BitVec 32 := Scalar.remui arg14_r0 c2_i32_286_r0
  ![v514_r0.toNat]
def k3_cond3 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v145_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_130_r0 : BitVec 32 := 3#32
  let v146_r0 : BitVec 1 := Scalar.cmpi .sge arg9_r0 c3_i32_130_r0
  let true_131_r0 : BitVec 1 := 1#1
  let v147_r0 : BitVec 1 := Scalar.xori v146_r0 true_131_r0
  let v148_r0 : BitVec 1 := Scalar.andi v145_r0 v147_r0
  let true_132_r0 : BitVec 1 := 1#1
  let v149_r0 : BitVec 1 := Scalar.andi v148_r0 true_132_r0
  let v150_r0 : BitVec 32 := Scalar.extui v149_r0
  let c0_i32_133_r0 : BitVec 32 := 0#32
  let v151_r0 : BitVec 1 := Scalar.cmpi .ne v150_r0 c0_i32_133_r0
  v151_r0

def k3_off13 (arg14_r0 : BitVec 32) : Fin 3 → Nat :=
  let c2_i32_286_r0 : BitVec 32 := 2#32
  let v514_r0 : BitVec 32 := Scalar.remui arg14_r0 c2_i32_286_r0
  let c0_i32_288_r0 : BitVec 32 := 0#32
  let c0_i32_289_r0 : BitVec 32 := 0#32
  ![v514_r0.toNat, 0, 0]
def k3_off14 (i : grid3.Coords) (arg26_r0 : BitVec 32) : Fin 2 → Nat :=
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  let c0_i32_290_r0 : BitVec 32 := 0#32
  ![v515_r0.toNat, 0]
def k3_off15 (arg16_r0 : BitVec 32) : Fin 1 → Nat :=
  let c2_i32_286_r0 : BitVec 32 := 2#32
  let v514_r0 : BitVec 32 := Scalar.remui arg16_r0 c2_i32_286_r0
  ![v514_r0.toNat]
def k3_cond4 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v155_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_136_r0 : BitVec 32 := 3#32
  let v156_r0 : BitVec 1 := Scalar.cmpi .sge arg9_r0 c3_i32_136_r0
  let true_137_r0 : BitVec 1 := 1#1
  let v157_r0 : BitVec 1 := Scalar.xori v156_r0 true_137_r0
  let v158_r0 : BitVec 1 := Scalar.andi v155_r0 v157_r0
  let true_138_r0 : BitVec 1 := 1#1
  let v159_r0 : BitVec 1 := Scalar.andi v158_r0 true_138_r0
  let v160_r0 : BitVec 32 := Scalar.extui v159_r0
  let c0_i32_139_r0 : BitVec 32 := 0#32
  let v161_r0 : BitVec 1 := Scalar.cmpi .ne v160_r0 c0_i32_139_r0
  v161_r0

def k3_off16 (arg16_r0 : BitVec 32) : Fin 3 → Nat :=
  let c2_i32_286_r0 : BitVec 32 := 2#32
  let v514_r0 : BitVec 32 := Scalar.remui arg16_r0 c2_i32_286_r0
  let c0_i32_288_r0 : BitVec 32 := 0#32
  let c0_i32_289_r0 : BitVec 32 := 0#32
  ![v514_r0.toNat, 0, 0]
def k3_off17 (i : grid3.Coords) (arg26_r0 : BitVec 32) : Fin 2 → Nat :=
  let c0_i32_290_r0 : BitVec 32 := 0#32
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  ![0, v515_r0.toNat]
def k3_off18 (arg18_r0 : BitVec 32) : Fin 1 → Nat :=
  let c2_i32_286_r0 : BitVec 32 := 2#32
  let v514_r0 : BitVec 32 := Scalar.remui arg18_r0 c2_i32_286_r0
  ![v514_r0.toNat]
def k3_cond5 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v165_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_142_r0 : BitVec 32 := 3#32
  let v166_r0 : BitVec 1 := Scalar.cmpi .sge arg9_r0 c3_i32_142_r0
  let true_143_r0 : BitVec 1 := 1#1
  let v167_r0 : BitVec 1 := Scalar.xori v166_r0 true_143_r0
  let v168_r0 : BitVec 1 := Scalar.andi v165_r0 v167_r0
  let true_144_r0 : BitVec 1 := 1#1
  let v169_r0 : BitVec 1 := Scalar.andi v168_r0 true_144_r0
  let v170_r0 : BitVec 32 := Scalar.extui v169_r0
  let c0_i32_145_r0 : BitVec 32 := 0#32
  let v171_r0 : BitVec 1 := Scalar.cmpi .ne v170_r0 c0_i32_145_r0
  v171_r0

def k3_off19 (arg18_r0 : BitVec 32) : Fin 3 → Nat :=
  let c2_i32_286_r0 : BitVec 32 := 2#32
  let v514_r0 : BitVec 32 := Scalar.remui arg18_r0 c2_i32_286_r0
  let c0_i32_288_r0 : BitVec 32 := 0#32
  let c0_i32_289_r0 : BitVec 32 := 0#32
  ![v514_r0.toNat, 0, 0]
def k3_off20 (i : grid3.Coords) (arg26_r0 : BitVec 32) : Fin 2 → Nat :=
  let c0_i32_290_r0 : BitVec 32 := 0#32
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  ![0, v515_r0.toNat]
def k3_off21 (arg20_r0 : BitVec 32) : Fin 1 → Nat :=
  let c2_i32_286_r0 : BitVec 32 := 2#32
  let v514_r0 : BitVec 32 := Scalar.remui arg20_r0 c2_i32_286_r0
  ![v514_r0.toNat]
def k3_cond6 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v175_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_148_r0 : BitVec 32 := 3#32
  let v176_r0 : BitVec 1 := Scalar.cmpi .sge arg9_r0 c3_i32_148_r0
  let true_149_r0 : BitVec 1 := 1#1
  let v177_r0 : BitVec 1 := Scalar.xori v176_r0 true_149_r0
  let v178_r0 : BitVec 1 := Scalar.andi v175_r0 v177_r0
  let true_150_r0 : BitVec 1 := 1#1
  let v179_r0 : BitVec 1 := Scalar.andi v178_r0 true_150_r0
  let v180_r0 : BitVec 32 := Scalar.extui v179_r0
  let c0_i32_151_r0 : BitVec 32 := 0#32
  let v181_r0 : BitVec 1 := Scalar.cmpi .ne v180_r0 c0_i32_151_r0
  v181_r0

def k3_off22 (arg20_r0 : BitVec 32) : Fin 3 → Nat :=
  let c2_i32_286_r0 : BitVec 32 := 2#32
  let v514_r0 : BitVec 32 := Scalar.remui arg20_r0 c2_i32_286_r0
  let c0_i32_288_r0 : BitVec 32 := 0#32
  let c0_i32_289_r0 : BitVec 32 := 0#32
  ![v514_r0.toNat, 0, 0]
def k3_off23 (i : grid3.Coords) (arg26_r0 : BitVec 32) : Fin 2 → Nat :=
  let c0_i32_290_r0 : BitVec 32 := 0#32
  let c2048_i32_287_r0 : BitVec 32 := 2048#32
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let arg0 : BitVec 32 := BitVec.ofNat 32 (i 0).val
  let c4_i32 : BitVec 32 := 4#32
  let v0 : BitVec 32 := Scalar.muli arg0 c4_i32
  let v119_r0 : BitVec 32 := Scalar.addi v118_r0 v0
  let v515_r0 : BitVec 32 := Scalar.muli c2048_i32_287_r0 v119_r0
  ![0, v515_r0.toNat]
def k3_off24 (arg11_r0 : BitVec 32) : Fin 1 → Nat :=
  let c2_i32_287_r0 : BitVec 32 := 2#32
  let v515_r0 : BitVec 32 := Scalar.remui arg11_r0 c2_i32_287_r0
  ![v515_r0.toNat]
def k3_cond7 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v193_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v194_r0 : BitVec 1 := Scalar.ori v193_r0 v107_r0
  let c0_i32_158_r0 : BitVec 32 := 0#32
  let v195_r0 : BitVec 1 := Scalar.cmpi .sge arg9_r0 c0_i32_158_r0
  let v196_r0 : BitVec 1 := Scalar.andi v194_r0 v195_r0
  let v197_r0 : BitVec 32 := Scalar.extui v196_r0
  let c0_i32_159_r0 : BitVec 32 := 0#32
  let v198_r0 : BitVec 1 := Scalar.cmpi .ne v197_r0 c0_i32_159_r0
  v198_r0

def k3_off25 (arg11_r0 : BitVec 32) : Fin 3 → Nat :=
  let c2_i32_287_r0 : BitVec 32 := 2#32
  let v515_r0 : BitVec 32 := Scalar.remui arg11_r0 c2_i32_287_r0
  let c0_i32_288_r0 : BitVec 32 := 0#32
  let c0_i32_289_r0 : BitVec 32 := 0#32
  ![v515_r0.toNat, 0, 0]
def k3_off26 (i : grid3.Coords) (arg26_r0 : BitVec 32) : Fin 2 → Nat :=
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  let c0_i32_290_r0 : BitVec 32 := 0#32
  ![v514_r0.toNat, 0]
def k3_off27 (arg13_r0 : BitVec 32) : Fin 1 → Nat :=
  let c2_i32_287_r0 : BitVec 32 := 2#32
  let v515_r0 : BitVec 32 := Scalar.remui arg13_r0 c2_i32_287_r0
  ![v515_r0.toNat]
def k3_cond8 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v199_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v200_r0 : BitVec 1 := Scalar.ori v199_r0 v107_r0
  let c0_i32_160_r0 : BitVec 32 := 0#32
  let v201_r0 : BitVec 1 := Scalar.cmpi .sge arg9_r0 c0_i32_160_r0
  let v202_r0 : BitVec 1 := Scalar.andi v200_r0 v201_r0
  let v203_r0 : BitVec 32 := Scalar.extui v202_r0
  let c0_i32_161_r0 : BitVec 32 := 0#32
  let v204_r0 : BitVec 1 := Scalar.cmpi .ne v203_r0 c0_i32_161_r0
  v204_r0

def k3_off28 (arg13_r0 : BitVec 32) : Fin 3 → Nat :=
  let c2_i32_287_r0 : BitVec 32 := 2#32
  let v515_r0 : BitVec 32 := Scalar.remui arg13_r0 c2_i32_287_r0
  let c0_i32_288_r0 : BitVec 32 := 0#32
  let c0_i32_289_r0 : BitVec 32 := 0#32
  ![v515_r0.toNat, 0, 0]
def k3_off29 (i : grid3.Coords) (arg26_r0 : BitVec 32) : Fin 2 → Nat :=
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  let c0_i32_290_r0 : BitVec 32 := 0#32
  ![v514_r0.toNat, 0]
def k3_off30 (arg15_r0 : BitVec 32) : Fin 1 → Nat :=
  let c2_i32_287_r0 : BitVec 32 := 2#32
  let v515_r0 : BitVec 32 := Scalar.remui arg15_r0 c2_i32_287_r0
  ![v515_r0.toNat]
def k3_cond9 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v205_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v206_r0 : BitVec 1 := Scalar.ori v205_r0 v107_r0
  let c0_i32_162_r0 : BitVec 32 := 0#32
  let v207_r0 : BitVec 1 := Scalar.cmpi .sge arg9_r0 c0_i32_162_r0
  let v208_r0 : BitVec 1 := Scalar.andi v206_r0 v207_r0
  let v209_r0 : BitVec 32 := Scalar.extui v208_r0
  let c0_i32_163_r0 : BitVec 32 := 0#32
  let v210_r0 : BitVec 1 := Scalar.cmpi .ne v209_r0 c0_i32_163_r0
  v210_r0

def k3_off31 (arg15_r0 : BitVec 32) : Fin 3 → Nat :=
  let c2_i32_287_r0 : BitVec 32 := 2#32
  let v515_r0 : BitVec 32 := Scalar.remui arg15_r0 c2_i32_287_r0
  let c0_i32_288_r0 : BitVec 32 := 0#32
  let c0_i32_289_r0 : BitVec 32 := 0#32
  ![v515_r0.toNat, 0, 0]
def k3_off32 (i : grid3.Coords) (arg26_r0 : BitVec 32) : Fin 2 → Nat :=
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  let c0_i32_290_r0 : BitVec 32 := 0#32
  ![v514_r0.toNat, 0]
def k3_off33 (arg17_r0 : BitVec 32) : Fin 1 → Nat :=
  let c2_i32_287_r0 : BitVec 32 := 2#32
  let v515_r0 : BitVec 32 := Scalar.remui arg17_r0 c2_i32_287_r0
  ![v515_r0.toNat]
def k3_cond10 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v211_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v212_r0 : BitVec 1 := Scalar.ori v211_r0 v107_r0
  let c0_i32_164_r0 : BitVec 32 := 0#32
  let v213_r0 : BitVec 1 := Scalar.cmpi .sge arg9_r0 c0_i32_164_r0
  let v214_r0 : BitVec 1 := Scalar.andi v212_r0 v213_r0
  let v215_r0 : BitVec 32 := Scalar.extui v214_r0
  let c0_i32_165_r0 : BitVec 32 := 0#32
  let v216_r0 : BitVec 1 := Scalar.cmpi .ne v215_r0 c0_i32_165_r0
  v216_r0

def k3_off34 (arg17_r0 : BitVec 32) : Fin 3 → Nat :=
  let c2_i32_287_r0 : BitVec 32 := 2#32
  let v515_r0 : BitVec 32 := Scalar.remui arg17_r0 c2_i32_287_r0
  let c0_i32_288_r0 : BitVec 32 := 0#32
  let c0_i32_289_r0 : BitVec 32 := 0#32
  ![v515_r0.toNat, 0, 0]
def k3_off35 (i : grid3.Coords) (arg26_r0 : BitVec 32) : Fin 2 → Nat :=
  let c0_i32_290_r0 : BitVec 32 := 0#32
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  ![0, v514_r0.toNat]
def k3_off36 (arg19_r0 : BitVec 32) : Fin 1 → Nat :=
  let c2_i32_287_r0 : BitVec 32 := 2#32
  let v515_r0 : BitVec 32 := Scalar.remui arg19_r0 c2_i32_287_r0
  ![v515_r0.toNat]
def k3_cond11 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v217_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v218_r0 : BitVec 1 := Scalar.ori v217_r0 v107_r0
  let c0_i32_166_r0 : BitVec 32 := 0#32
  let v219_r0 : BitVec 1 := Scalar.cmpi .sge arg9_r0 c0_i32_166_r0
  let v220_r0 : BitVec 1 := Scalar.andi v218_r0 v219_r0
  let v221_r0 : BitVec 32 := Scalar.extui v220_r0
  let c0_i32_167_r0 : BitVec 32 := 0#32
  let v222_r0 : BitVec 1 := Scalar.cmpi .ne v221_r0 c0_i32_167_r0
  v222_r0

def k3_off37 (arg19_r0 : BitVec 32) : Fin 3 → Nat :=
  let c2_i32_287_r0 : BitVec 32 := 2#32
  let v515_r0 : BitVec 32 := Scalar.remui arg19_r0 c2_i32_287_r0
  let c0_i32_288_r0 : BitVec 32 := 0#32
  let c0_i32_289_r0 : BitVec 32 := 0#32
  ![v515_r0.toNat, 0, 0]
def k3_off38 (i : grid3.Coords) (arg26_r0 : BitVec 32) : Fin 2 → Nat :=
  let c0_i32_290_r0 : BitVec 32 := 0#32
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  ![0, v514_r0.toNat]
def k3_off39 (arg21_r0 : BitVec 32) : Fin 1 → Nat :=
  let c2_i32_287_r0 : BitVec 32 := 2#32
  let v515_r0 : BitVec 32 := Scalar.remui arg21_r0 c2_i32_287_r0
  ![v515_r0.toNat]
def k3_cond12 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v223_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let v224_r0 : BitVec 1 := Scalar.ori v223_r0 v107_r0
  let c0_i32_168_r0 : BitVec 32 := 0#32
  let v225_r0 : BitVec 1 := Scalar.cmpi .sge arg9_r0 c0_i32_168_r0
  let v226_r0 : BitVec 1 := Scalar.andi v224_r0 v225_r0
  let v227_r0 : BitVec 32 := Scalar.extui v226_r0
  let c0_i32_169_r0 : BitVec 32 := 0#32
  let v228_r0 : BitVec 1 := Scalar.cmpi .ne v227_r0 c0_i32_169_r0
  v228_r0

def k3_off40 (arg21_r0 : BitVec 32) : Fin 3 → Nat :=
  let c2_i32_287_r0 : BitVec 32 := 2#32
  let v515_r0 : BitVec 32 := Scalar.remui arg21_r0 c2_i32_287_r0
  let c0_i32_288_r0 : BitVec 32 := 0#32
  let c0_i32_289_r0 : BitVec 32 := 0#32
  ![v515_r0.toNat, 0, 0]
def k3_off41 (i : grid3.Coords) (arg26_r0 : BitVec 32) : Fin 2 → Nat :=
  let c0_i32_290_r0 : BitVec 32 := 0#32
  let c2048_i32_286_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v514_r0 : BitVec 32 := Scalar.muli c2048_i32_286_r0 v109_r0
  ![0, v514_r0.toNat]
def k3_off42 (arg17_r0 : BitVec 32) : Fin 3 → Nat :=
  let c2_i32_177_r0 : BitVec 32 := 2#32
  let v244_r0 : BitVec 32 := Scalar.remui arg17_r0 c2_i32_177_r0
  let c0_i32_182_r0 : BitVec 32 := 0#32
  let c0_i32_183_r0 : BitVec 32 := 0#32
  ![v244_r0.toNat, 0, 0]

def k3_chk2 (arg17_r0 : BitVec 32) : Prop :=
  (∀ a, (k3_off42 arg17_r0) a + S1x1x2048.size a ≤ S2x1x2048.size a)
theorem k3_off42_inb : ∀ (arg17_r0 : BitVec 32) (k3_hw2 : k3_chk2 arg17_r0), ∀ a, (k3_off42 arg17_r0) a + S1x1x2048.size a ≤ S2x1x2048.size a := fun arg17_r0 k3_hw2 => k3_hw2

def k3_off43 (arg11_r0 : BitVec 32) : Fin 3 → Nat :=
  let c2_i32_174_r0 : BitVec 32 := 2#32
  let v241_r0 : BitVec 32 := Scalar.remui arg11_r0 c2_i32_174_r0
  let v254_r0 : Index := Scalar.indexCast v241_r0
  let c0_185_r0 : Index := 0#32
  let c0_186_r0 : Index := 0#32
  ![v254_r0.toNat, 0, 0]

def k3_chk3 (arg11_r0 : BitVec 32) : Prop :=
  (∀ a, (k3_off43 arg11_r0) a + S1x2048x128.size a ≤ S2x2048x128.size a)
theorem k3_off43_inb : ∀ (arg11_r0 : BitVec 32) (k3_hw3 : k3_chk3 arg11_r0), ∀ a, (k3_off43 arg11_r0) a + S1x2048x128.size a ≤ S2x2048x128.size a := fun arg11_r0 k3_hw3 => k3_hw3

def k3_off44 (arg19_r0 : BitVec 32) : Fin 3 → Nat :=
  let c2_i32_178_r0 : BitVec 32 := 2#32
  let v245_r0 : BitVec 32 := Scalar.remui arg19_r0 c2_i32_178_r0
  let c0_i32_195_r0 : BitVec 32 := 0#32
  let c0_i32_196_r0 : BitVec 32 := 0#32
  ![v245_r0.toNat, 0, 0]

def k3_chk4 (arg19_r0 : BitVec 32) : Prop :=
  (∀ a, (k3_off44 arg19_r0) a + S1x1x2048.size a ≤ S2x1x2048.size a)
theorem k3_off44_inb : ∀ (arg19_r0 : BitVec 32) (k3_hw4 : k3_chk4 arg19_r0), ∀ a, (k3_off44 arg19_r0) a + S1x1x2048.size a ≤ S2x1x2048.size a := fun arg19_r0 k3_hw4 => k3_hw4

def k3_off45 (arg13_r0 : BitVec 32) : Fin 3 → Nat :=
  let c2_i32_175_r0 : BitVec 32 := 2#32
  let v242_r0 : BitVec 32 := Scalar.remui arg13_r0 c2_i32_175_r0
  let v297_r0 : Index := Scalar.indexCast v242_r0
  let c0_199_r0 : Index := 0#32
  let c0_200_r0 : Index := 0#32
  ![v297_r0.toNat, 0, 0]

def k3_chk5 (arg13_r0 : BitVec 32) : Prop :=
  (∀ a, (k3_off45 arg13_r0) a + S1x2048x128.size a ≤ S2x2048x128.size a)
theorem k3_off45_inb : ∀ (arg13_r0 : BitVec 32) (k3_hw5 : k3_chk5 arg13_r0), ∀ a, (k3_off45 arg13_r0) a + S1x2048x128.size a ≤ S2x2048x128.size a := fun arg13_r0 k3_hw5 => k3_hw5

def k3_off46 (arg22_r0 : BitVec 32) : Fin 3 → Nat :=
  let c2_i32_180_r0 : BitVec 32 := 2#32
  let v247_r0 : BitVec 32 := Scalar.remui arg22_r0 c2_i32_180_r0
  let v337_r0 : Index := Scalar.indexCast v247_r0
  let c0_212_r0 : Index := 0#32
  let c0_213_r0 : Index := 0#32
  ![v337_r0.toNat, 0, 0]

def k3_chk6 (arg22_r0 : BitVec 32) : Prop :=
  (∀ a, (k3_off46 arg22_r0) a + S1x1x2048.size a ≤ S2x1x2048.size a)
theorem k3_off46_inb : ∀ (arg22_r0 : BitVec 32) (k3_hw6 : k3_chk6 arg22_r0), ∀ a, (k3_off46 arg22_r0) a + S1x1x2048.size a ≤ S2x1x2048.size a := fun arg22_r0 k3_hw6 => k3_hw6

def k3_off47 (arg21_r0 : BitVec 32) : Fin 3 → Nat :=
  let c2_i32_179_r0 : BitVec 32 := 2#32
  let v246_r0 : BitVec 32 := Scalar.remui arg21_r0 c2_i32_179_r0
  let c0_i32_214_r0 : BitVec 32 := 0#32
  let c0_i32_215_r0 : BitVec 32 := 0#32
  ![v246_r0.toNat, 0, 0]

def k3_chk7 (arg21_r0 : BitVec 32) : Prop :=
  (∀ a, (k3_off47 arg21_r0) a + S1x1x2048.size a ≤ S2x1x2048.size a)
theorem k3_off47_inb : ∀ (arg21_r0 : BitVec 32) (k3_hw7 : k3_chk7 arg21_r0), ∀ a, (k3_off47 arg21_r0) a + S1x1x2048.size a ≤ S2x1x2048.size a := fun arg21_r0 k3_hw7 => k3_hw7

def k3_off48 (arg15_r0 : BitVec 32) : Fin 3 → Nat :=
  let c2_i32_176_r0 : BitVec 32 := 2#32
  let v243_r0 : BitVec 32 := Scalar.remui arg15_r0 c2_i32_176_r0
  let v346_r0 : Index := Scalar.indexCast v243_r0
  let c0_218_r0 : Index := 0#32
  let c0_219_r0 : Index := 0#32
  ![v346_r0.toNat, 0, 0]

def k3_chk8 (arg15_r0 : BitVec 32) : Prop :=
  (∀ a, (k3_off48 arg15_r0) a + S1x2048x128.size a ≤ S2x2048x128.size a)
theorem k3_off48_inb : ∀ (arg15_r0 : BitVec 32) (k3_hw8 : k3_chk8 arg15_r0), ∀ a, (k3_off48 arg15_r0) a + S1x2048x128.size a ≤ S2x2048x128.size a := fun arg15_r0 k3_hw8 => k3_hw8

def k3_off49 (arg24_r0 : BitVec 32) : Fin 3 → Nat :=
  let c2_i32_181_r0 : BitVec 32 := 2#32
  let v248_r0 : BitVec 32 := Scalar.remui arg24_r0 c2_i32_181_r0
  let v386_r0 : Index := Scalar.indexCast v248_r0
  let c0_231_r0 : Index := 0#32
  let c0_232_r0 : Index := 0#32
  ![v386_r0.toNat, 0, 0]

def k3_chk9 (arg24_r0 : BitVec 32) : Prop :=
  (∀ a, (k3_off49 arg24_r0) a + S1x1x2048.size a ≤ S2x1x2048.size a)
theorem k3_off49_inb : ∀ (arg24_r0 : BitVec 32) (k3_hw9 : k3_chk9 arg24_r0), ∀ a, (k3_off49 arg24_r0) a + S1x1x2048.size a ≤ S2x1x2048.size a := fun arg24_r0 k3_hw9 => k3_hw9

def k3_off50 (arg22_r0 : BitVec 32) : Fin 1 → Nat :=
  let c2_i32_286_r0 : BitVec 32 := 2#32
  let v514_r0 : BitVec 32 := Scalar.remui arg22_r0 c2_i32_286_r0
  ![v514_r0.toNat]
def k3_cond21 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v420_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_105_r0 : BitVec 32 := 3#32
  let v108_r0 : BitVec 1 := Scalar.cmpi .eq arg9_r0 c3_i32_105_r0
  let v421_r0 : BitVec 1 := Scalar.ori v420_r0 v108_r0
  let v422_r0 : BitVec 32 := Scalar.extui v421_r0
  let c0_i32_244_r0 : BitVec 32 := 0#32
  let v423_r0 : BitVec 1 := Scalar.cmpi .ne v422_r0 c0_i32_244_r0
  v423_r0

def k3_off51 (i : grid3.Coords) (arg26_r0 : BitVec 32) : Fin 2 → Nat :=
  let c0_i32_288_r0 : BitVec 32 := 0#32
  let c2048_i32_287_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v515_r0 : BitVec 32 := Scalar.muli c2048_i32_287_r0 v109_r0
  ![0, v515_r0.toNat]
def k3_off52 (arg22_r0 : BitVec 32) : Fin 3 → Nat :=
  let c2_i32_286_r0 : BitVec 32 := 2#32
  let v514_r0 : BitVec 32 := Scalar.remui arg22_r0 c2_i32_286_r0
  let c0_i32_289_r0 : BitVec 32 := 0#32
  let c0_i32_290_r0 : BitVec 32 := 0#32
  ![v514_r0.toNat, 0, 0]
def k3_off53 (arg24_r0 : BitVec 32) : Fin 1 → Nat :=
  let c2_i32_286_r0 : BitVec 32 := 2#32
  let v514_r0 : BitVec 32 := Scalar.remui arg24_r0 c2_i32_286_r0
  ![v514_r0.toNat]
def k3_cond22 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_111_r0 : BitVec 1 := 1#1
  let c1_i32_110_r0 : BitVec 32 := 1#32
  let v115_r0 : BitVec 32 := Scalar.addi arg26_r0 c1_i32_110_r0
  let v116_r0 : BitVec 32 := Scalar.select true_111_r0 v115_r0 arg26_r0
  let c4_i32_112_r0 : BitVec 32 := 4#32
  let v117_r0 : BitVec 1 := Scalar.cmpi .eq v116_r0 c4_i32_112_r0
  let c0_i32_113_r0 : BitVec 32 := 0#32
  let v118_r0 : BitVec 32 := Scalar.select v117_r0 c0_i32_113_r0 v116_r0
  let v119_r0 : BitVec 32 := Scalar.addi v118_r0 v0
  let v427_r0 : BitVec 1 := Scalar.cmpi .ne v109_r0 v119_r0
  let c0_i32_74_r0 : BitVec 32 := 0#32
  let c1_i32_76_r0 : BitVec 32 := 1#32
  let arg9_r0 : BitVec 32 := Scf.iv c0_i32_74_r0 c1_i32_76_r0 k3_t1
  let c3_i32_105_r0 : BitVec 32 := 3#32
  let v108_r0 : BitVec 1 := Scalar.cmpi .eq arg9_r0 c3_i32_105_r0
  let v428_r0 : BitVec 1 := Scalar.ori v427_r0 v108_r0
  let v429_r0 : BitVec 32 := Scalar.extui v428_r0
  let c0_i32_247_r0 : BitVec 32 := 0#32
  let v430_r0 : BitVec 1 := Scalar.cmpi .ne v429_r0 c0_i32_247_r0
  v430_r0

def k3_off54 (i : grid3.Coords) (arg26_r0 : BitVec 32) : Fin 2 → Nat :=
  let c0_i32_288_r0 : BitVec 32 := 0#32
  let c2048_i32_287_r0 : BitVec 32 := 2048#32
  let arg0 : BitVec 32 := BitVec.ofNat 32 (i 0).val
  let c4_i32 : BitVec 32 := 4#32
  let v0 : BitVec 32 := Scalar.muli arg0 c4_i32
  let v109_r0 : BitVec 32 := Scalar.addi arg26_r0 v0
  let v515_r0 : BitVec 32 := Scalar.muli c2048_i32_287_r0 v109_r0
  ![0, v515_r0.toNat]
def k3_off55 (arg24_r0 : BitVec 32) : Fin 3 → Nat :=
  let c2_i32_286_r0 : BitVec 32 := 2#32
  let v514_r0 : BitVec 32 := Scalar.remui arg24_r0 c2_i32_286_r0
  let c0_i32_289_r0 : BitVec 32 := 0#32
  let c0_i32_290_r0 : BitVec 32 := 0#32
  ![v514_r0.toNat, 0, 0]
def k3_off56 (arg23_r0 : BitVec 32) : Fin 1 → Nat :=
  let c2_i32_286_r0 : BitVec 32 := 2#32
  let v514_r0 : BitVec 32 := Scalar.remui arg23_r0 c2_i32_286_r0
  ![v514_r0.toNat]
def k3_cond29 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v470_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let true_268_r0 : BitVec 1 := 1#1
  let v471_r0 : BitVec 1 := Scalar.xori v107_r0 true_268_r0
  let v472_r0 : BitVec 1 := Scalar.andi v470_r0 v471_r0
  let v473_r0 : BitVec 32 := Scalar.extui v472_r0
  let c0_i32_269_r0 : BitVec 32 := 0#32
  let v474_r0 : BitVec 1 := Scalar.cmpi .ne v473_r0 c0_i32_269_r0
  v474_r0

def k3_off57 (i : grid3.Coords) (arg26_r0 : BitVec 32) : Fin 2 → Nat :=
  let c0_i32_288_r0 : BitVec 32 := 0#32
  let c2048_i32_287_r0 : BitVec 32 := 2048#32
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let arg0 : BitVec 32 := BitVec.ofNat 32 (i 0).val
  let c4_i32 : BitVec 32 := 4#32
  let v0 : BitVec 32 := Scalar.muli arg0 c4_i32
  let v114_r0 : BitVec 32 := Scalar.addi v113_r0 v0
  let v515_r0 : BitVec 32 := Scalar.muli c2048_i32_287_r0 v114_r0
  ![0, v515_r0.toNat]
def k3_off58 (arg23_r0 : BitVec 32) : Fin 3 → Nat :=
  let c2_i32_286_r0 : BitVec 32 := 2#32
  let v514_r0 : BitVec 32 := Scalar.remui arg23_r0 c2_i32_286_r0
  let c0_i32_289_r0 : BitVec 32 := 0#32
  let c0_i32_290_r0 : BitVec 32 := 0#32
  ![v514_r0.toNat, 0, 0]
def k3_off59 (arg25_r0 : BitVec 32) : Fin 1 → Nat :=
  let c2_i32_286_r0 : BitVec 32 := 2#32
  let v514_r0 : BitVec 32 := Scalar.remui arg25_r0 c2_i32_286_r0
  ![v514_r0.toNat]
def k3_cond30 (i : grid3.Coords) (k3_t1 : Fin k3_t1_loop.trips) (arg26_r0 : BitVec 32) : BitVec 1 :=
  let arg0 : BitVec 32 := BitVec.ofNat 32 (i 0).val
  let c4_i32 : BitVec 32 := 4#32
  let v0 : BitVec 32 := Scalar.muli arg0 c4_i32
  let v109_r0 : BitVec 32 := Scalar.addi arg26_r0 v0
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let v114_r0 : BitVec 32 := Scalar.addi v113_r0 v0
  let v478_r0 : BitVec 1 := Scalar.cmpi .ne v109_r0 v114_r0
  let c0_i32_74_r0 : BitVec 32 := 0#32
  let c1_i32_76_r0 : BitVec 32 := 1#32
  let arg9_r0 : BitVec 32 := Scf.iv c0_i32_74_r0 c1_i32_76_r0 k3_t1
  let c0_i32_104_r0 : BitVec 32 := 0#32
  let v107_r0 : BitVec 1 := Scalar.cmpi .eq arg9_r0 c0_i32_104_r0
  let true_272_r0 : BitVec 1 := 1#1
  let v479_r0 : BitVec 1 := Scalar.xori v107_r0 true_272_r0
  let v480_r0 : BitVec 1 := Scalar.andi v478_r0 v479_r0
  let v481_r0 : BitVec 32 := Scalar.extui v480_r0
  let c0_i32_273_r0 : BitVec 32 := 0#32
  let v482_r0 : BitVec 1 := Scalar.cmpi .ne v481_r0 c0_i32_273_r0
  v482_r0

def k3_off60 (i : grid3.Coords) (arg26_r0 : BitVec 32) : Fin 2 → Nat :=
  let c0_i32_288_r0 : BitVec 32 := 0#32
  let c2048_i32_287_r0 : BitVec 32 := 2048#32
  let true_107_r0 : BitVec 1 := 1#1
  let c1_i32_106_r0 : BitVec 32 := 1#32
  let v110_r0 : BitVec 32 := Scalar.subi arg26_r0 c1_i32_106_r0
  let v111_r0 : BitVec 32 := Scalar.select true_107_r0 v110_r0 arg26_r0
  let c_m1_i32_108_r0 : BitVec 32 := 4294967295#32
  let v112_r0 : BitVec 1 := Scalar.cmpi .eq v111_r0 c_m1_i32_108_r0
  let c3_i32_109_r0 : BitVec 32 := 3#32
  let v113_r0 : BitVec 32 := Scalar.select v112_r0 c3_i32_109_r0 v111_r0
  let arg0 : BitVec 32 := BitVec.ofNat 32 (i 0).val
  let c4_i32 : BitVec 32 := 4#32
  let v0 : BitVec 32 := Scalar.muli arg0 c4_i32
  let v114_r0 : BitVec 32 := Scalar.addi v113_r0 v0
  let v515_r0 : BitVec 32 := Scalar.muli c2048_i32_287_r0 v114_r0
  ![0, v515_r0.toNat]
def k3_off61 (arg25_r0 : BitVec 32) : Fin 3 → Nat :=
  let c2_i32_286_r0 : BitVec 32 := 2#32
  let v514_r0 : BitVec 32 := Scalar.remui arg25_r0 c2_i32_286_r0
  let c0_i32_289_r0 : BitVec 32 := 0#32
  let c0_i32_290_r0 : BitVec 32 := 0#32
  ![v514_r0.toNat, 0, 0]

def k3_chk1_0 (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k3_h1 : k3_cond1 i k3_t1 arg26_r0 = 1#1), ∀ a, (k3_off6 arg10_r0) a + S1.size a ≤ S2.size a) ∧
  (∀ (k3_h1 : k3_cond1 i k3_t1 arg26_r0 = 1#1), ∀ a, (k3_off7 arg10_r0) a + S1x2048x128.size a ≤ S2x2048x128.size a) ∧
  (∀ (k3_h1 : k3_cond1 i k3_t1 arg26_r0 = 1#1), ∀ a, (k3_off8 i arg26_r0) a + S2048x128.size a ≤ S16384x128.size a) ∧
  (∀ (k3_h2 : k3_cond2 i k3_t1 arg26_r0 = 1#1), ∀ a, (k3_off9 arg12_r0) a + S1.size a ≤ S2.size a) ∧
  (∀ (k3_h2 : k3_cond2 i k3_t1 arg26_r0 = 1#1), ∀ a, (k3_off10 arg12_r0) a + S1x2048x128.size a ≤ S2x2048x128.size a) ∧
  (∀ (k3_h2 : k3_cond2 i k3_t1 arg26_r0 = 1#1), ∀ a, (k3_off11 i arg26_r0) a + S2048x128.size a ≤ S16384x128.size a) ∧
  (∀ (k3_h3 : k3_cond3 i k3_t1 arg26_r0 = 1#1), ∀ a, (k3_off12 arg14_r0) a + S1.size a ≤ S2.size a) ∧
  (∀ (k3_h3 : k3_cond3 i k3_t1 arg26_r0 = 1#1), ∀ a, (k3_off13 arg14_r0) a + S1x2048x128.size a ≤ S2x2048x128.size a) ∧
  (∀ (k3_h3 : k3_cond3 i k3_t1 arg26_r0 = 1#1), ∀ a, (k3_off14 i arg26_r0) a + S2048x128.size a ≤ S16384x128.size a) ∧
  (∀ (k3_h4 : k3_cond4 i k3_t1 arg26_r0 = 1#1), ∀ a, (k3_off15 arg16_r0) a + S1.size a ≤ S2.size a) ∧
  (∀ (k3_h4 : k3_cond4 i k3_t1 arg26_r0 = 1#1), ∀ a, (k3_off16 arg16_r0) a + S1x1x2048.size a ≤ S2x1x2048.size a) ∧
  (∀ (k3_h4 : k3_cond4 i k3_t1 arg26_r0 = 1#1), ∀ a, (k3_off17 i arg26_r0) a + S1x2048.size a ≤ S1x16384.size a) ∧
  (∀ (k3_h5 : k3_cond5 i k3_t1 arg26_r0 = 1#1), ∀ a, (k3_off18 arg18_r0) a + S1.size a ≤ S2.size a) ∧
  (∀ (k3_h5 : k3_cond5 i k3_t1 arg26_r0 = 1#1), ∀ a, (k3_off19 arg18_r0) a + S1x1x2048.size a ≤ S2x1x2048.size a) ∧
  (∀ (k3_h5 : k3_cond5 i k3_t1 arg26_r0 = 1#1), ∀ a, (k3_off20 i arg26_r0) a + S1x2048.size a ≤ S1x16384.size a) ∧
  (∀ (k3_h6 : k3_cond6 i k3_t1 arg26_r0 = 1#1), ∀ a, (k3_off21 arg20_r0) a + S1.size a ≤ S2.size a) ∧
  (∀ (k3_h6 : k3_cond6 i k3_t1 arg26_r0 = 1#1), ∀ a, (k3_off22 arg20_r0) a + S1x1x2048.size a ≤ S2x1x2048.size a) ∧
  (∀ (k3_h6 : k3_cond6 i k3_t1 arg26_r0 = 1#1), ∀ a, (k3_off23 i arg26_r0) a + S1x2048.size a ≤ S1x16384.size a) ∧
  (∀ (k3_h7 : k3_cond7 i k3_t1 arg26_r0 = 1#1), ∀ a, (k3_off24 arg11_r0) a + S1.size a ≤ S2.size a) ∧
  (∀ (k3_h7 : k3_cond7 i k3_t1 arg26_r0 = 1#1), ∀ a, (k3_off25 arg11_r0) a + S1x2048x128.size a ≤ S2x2048x128.size a) ∧
  (∀ (k3_h7 : k3_cond7 i k3_t1 arg26_r0 = 1#1), ∀ a, (k3_off26 i arg26_r0) a + S2048x128.size a ≤ S16384x128.size a) ∧
  (∀ (k3_h8 : k3_cond8 i k3_t1 arg26_r0 = 1#1), ∀ a, (k3_off27 arg13_r0) a + S1.size a ≤ S2.size a) ∧
  (∀ (k3_h8 : k3_cond8 i k3_t1 arg26_r0 = 1#1), ∀ a, (k3_off28 arg13_r0) a + S1x2048x128.size a ≤ S2x2048x128.size a) ∧
  (∀ (k3_h8 : k3_cond8 i k3_t1 arg26_r0 = 1#1), ∀ a, (k3_off29 i arg26_r0) a + S2048x128.size a ≤ S16384x128.size a) ∧
  (∀ (k3_h9 : k3_cond9 i k3_t1 arg26_r0 = 1#1), ∀ a, (k3_off30 arg15_r0) a + S1.size a ≤ S2.size a) ∧
  (∀ (k3_h9 : k3_cond9 i k3_t1 arg26_r0 = 1#1), ∀ a, (k3_off31 arg15_r0) a + S1x2048x128.size a ≤ S2x2048x128.size a) ∧
  (∀ (k3_h9 : k3_cond9 i k3_t1 arg26_r0 = 1#1), ∀ a, (k3_off32 i arg26_r0) a + S2048x128.size a ≤ S16384x128.size a) ∧
  (∀ (k3_h10 : k3_cond10 i k3_t1 arg26_r0 = 1#1), ∀ a, (k3_off33 arg17_r0) a + S1.size a ≤ S2.size a) ∧
  (∀ (k3_h10 : k3_cond10 i k3_t1 arg26_r0 = 1#1), ∀ a, (k3_off34 arg17_r0) a + S1x1x2048.size a ≤ S2x1x2048.size a) ∧
  (∀ (k3_h10 : k3_cond10 i k3_t1 arg26_r0 = 1#1), ∀ a, (k3_off35 i arg26_r0) a + S1x2048.size a ≤ S1x16384.size a) ∧
  (∀ (k3_h11 : k3_cond11 i k3_t1 arg26_r0 = 1#1), ∀ a, (k3_off36 arg19_r0) a + S1.size a ≤ S2.size a) ∧
  (∀ (k3_h11 : k3_cond11 i k3_t1 arg26_r0 = 1#1), ∀ a, (k3_off37 arg19_r0) a + S1x1x2048.size a ≤ S2x1x2048.size a)
def k3_chk1_1 (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k3_h11 : k3_cond11 i k3_t1 arg26_r0 = 1#1), ∀ a, (k3_off38 i arg26_r0) a + S1x2048.size a ≤ S1x16384.size a) ∧
  (∀ (k3_h12 : k3_cond12 i k3_t1 arg26_r0 = 1#1), ∀ a, (k3_off39 arg21_r0) a + S1.size a ≤ S2.size a) ∧
  (∀ (k3_h12 : k3_cond12 i k3_t1 arg26_r0 = 1#1), ∀ a, (k3_off40 arg21_r0) a + S1x1x2048.size a ≤ S2x1x2048.size a) ∧
  (∀ (k3_h12 : k3_cond12 i k3_t1 arg26_r0 = 1#1), ∀ a, (k3_off41 i arg26_r0) a + S1x2048.size a ≤ S1x16384.size a) ∧
  (∀ (k3_h21 : k3_cond21 i k3_t1 arg26_r0 = 1#1), ∀ a, (k3_off50 arg22_r0) a + S1.size a ≤ S2.size a) ∧
  (∀ (k3_h21 : k3_cond21 i k3_t1 arg26_r0 = 1#1), ∀ a, (k3_off51 i arg26_r0) a + S1x2048.size a ≤ S1x16384.size a) ∧
  (∀ (k3_h21 : k3_cond21 i k3_t1 arg26_r0 = 1#1), ∀ a, (k3_off52 arg22_r0) a + S1x1x2048.size a ≤ S2x1x2048.size a) ∧
  (∀ (k3_h22 : k3_cond22 i k3_t1 arg26_r0 = 1#1), ∀ a, (k3_off53 arg24_r0) a + S1.size a ≤ S2.size a) ∧
  (∀ (k3_h22 : k3_cond22 i k3_t1 arg26_r0 = 1#1), ∀ a, (k3_off54 i arg26_r0) a + S1x2048.size a ≤ S1x16384.size a) ∧
  (∀ (k3_h22 : k3_cond22 i k3_t1 arg26_r0 = 1#1), ∀ a, (k3_off55 arg24_r0) a + S1x1x2048.size a ≤ S2x1x2048.size a) ∧
  (∀ (k3_h29 : k3_cond29 i k3_t1 arg26_r0 = 1#1), ∀ a, (k3_off56 arg23_r0) a + S1.size a ≤ S2.size a) ∧
  (∀ (k3_h29 : k3_cond29 i k3_t1 arg26_r0 = 1#1), ∀ a, (k3_off57 i arg26_r0) a + S1x2048.size a ≤ S1x16384.size a) ∧
  (∀ (k3_h29 : k3_cond29 i k3_t1 arg26_r0 = 1#1), ∀ a, (k3_off58 arg23_r0) a + S1x1x2048.size a ≤ S2x1x2048.size a) ∧
  (∀ (k3_h30 : k3_cond30 i k3_t1 arg26_r0 = 1#1), ∀ a, (k3_off59 arg25_r0) a + S1.size a ≤ S2.size a) ∧
  (∀ (k3_h30 : k3_cond30 i k3_t1 arg26_r0 = 1#1), ∀ a, (k3_off60 i arg26_r0) a + S1x2048.size a ≤ S1x16384.size a) ∧
  (∀ (k3_h30 : k3_cond30 i k3_t1 arg26_r0 = 1#1), ∀ a, (k3_off61 arg25_r0) a + S1x1x2048.size a ≤ S2x1x2048.size a)
def k3_chk1 (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  k3_chk1_0 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 ∧
  k3_chk1_1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0
theorem k3_off6_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h1 : k3_cond1 i k3_t1 arg26_r0 = 1#1), ∀ a, (k3_off6 arg10_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h1 => k3_hw1.1.1 k3_h1
theorem k3_off7_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h1 : k3_cond1 i k3_t1 arg26_r0 = 1#1), ∀ a, (k3_off7 arg10_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h1 => k3_hw1.1.2.1 k3_h1
theorem k3_off8_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h1 : k3_cond1 i k3_t1 arg26_r0 = 1#1), ∀ a, (k3_off8 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h1 => k3_hw1.1.2.2.1 k3_h1
theorem k3_off9_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h2 : k3_cond2 i k3_t1 arg26_r0 = 1#1), ∀ a, (k3_off9 arg12_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h2 => k3_hw1.1.2.2.2.1 k3_h2
theorem k3_off10_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h2 : k3_cond2 i k3_t1 arg26_r0 = 1#1), ∀ a, (k3_off10 arg12_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h2 => k3_hw1.1.2.2.2.2.1 k3_h2
theorem k3_off11_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h2 : k3_cond2 i k3_t1 arg26_r0 = 1#1), ∀ a, (k3_off11 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h2 => k3_hw1.1.2.2.2.2.2.1 k3_h2
theorem k3_off12_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h3 : k3_cond3 i k3_t1 arg26_r0 = 1#1), ∀ a, (k3_off12 arg14_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h3 => k3_hw1.1.2.2.2.2.2.2.1 k3_h3
theorem k3_off13_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h3 : k3_cond3 i k3_t1 arg26_r0 = 1#1), ∀ a, (k3_off13 arg14_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h3 => k3_hw1.1.2.2.2.2.2.2.2.1 k3_h3
theorem k3_off14_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h3 : k3_cond3 i k3_t1 arg26_r0 = 1#1), ∀ a, (k3_off14 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h3 => k3_hw1.1.2.2.2.2.2.2.2.2.1 k3_h3
theorem k3_off15_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h4 : k3_cond4 i k3_t1 arg26_r0 = 1#1), ∀ a, (k3_off15 arg16_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h4 => k3_hw1.1.2.2.2.2.2.2.2.2.2.1 k3_h4
theorem k3_off16_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h4 : k3_cond4 i k3_t1 arg26_r0 = 1#1), ∀ a, (k3_off16 arg16_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h4 => k3_hw1.1.2.2.2.2.2.2.2.2.2.2.1 k3_h4
theorem k3_off17_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h4 : k3_cond4 i k3_t1 arg26_r0 = 1#1), ∀ a, (k3_off17 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h4 => k3_hw1.1.2.2.2.2.2.2.2.2.2.2.2.1 k3_h4
theorem k3_off18_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h5 : k3_cond5 i k3_t1 arg26_r0 = 1#1), ∀ a, (k3_off18 arg18_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h5 => k3_hw1.1.2.2.2.2.2.2.2.2.2.2.2.2.1 k3_h5
theorem k3_off19_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h5 : k3_cond5 i k3_t1 arg26_r0 = 1#1), ∀ a, (k3_off19 arg18_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h5 => k3_hw1.1.2.2.2.2.2.2.2.2.2.2.2.2.2.1 k3_h5
theorem k3_off20_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h5 : k3_cond5 i k3_t1 arg26_r0 = 1#1), ∀ a, (k3_off20 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h5 => k3_hw1.1.2.2.2.2.2.2.2.2.2.2.2.2.2.2.1 k3_h5
theorem k3_off21_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h6 : k3_cond6 i k3_t1 arg26_r0 = 1#1), ∀ a, (k3_off21 arg20_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h6 => k3_hw1.1.2.2.2.2.2.2.2.2.2.2.2.2.2.2.2.1 k3_h6
theorem k3_off22_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h6 : k3_cond6 i k3_t1 arg26_r0 = 1#1), ∀ a, (k3_off22 arg20_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h6 => k3_hw1.1.2.2.2.2.2.2.2.2.2.2.2.2.2.2.2.2.1 k3_h6
theorem k3_off23_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h6 : k3_cond6 i k3_t1 arg26_r0 = 1#1), ∀ a, (k3_off23 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h6 => k3_hw1.1.2.2.2.2.2.2.2.2.2.2.2.2.2.2.2.2.2.1 k3_h6
theorem k3_off24_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h7 : k3_cond7 i k3_t1 arg26_r0 = 1#1), ∀ a, (k3_off24 arg11_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h7 => k3_hw1.1.2.2.2.2.2.2.2.2.2.2.2.2.2.2.2.2.2.2.1 k3_h7
theorem k3_off25_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h7 : k3_cond7 i k3_t1 arg26_r0 = 1#1), ∀ a, (k3_off25 arg11_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h7 => k3_hw1.1.2.2.2.2.2.2.2.2.2.2.2.2.2.2.2.2.2.2.2.1 k3_h7
theorem k3_off26_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h7 : k3_cond7 i k3_t1 arg26_r0 = 1#1), ∀ a, (k3_off26 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h7 => k3_hw1.1.2.2.2.2.2.2.2.2.2.2.2.2.2.2.2.2.2.2.2.2.1 k3_h7
theorem k3_off27_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h8 : k3_cond8 i k3_t1 arg26_r0 = 1#1), ∀ a, (k3_off27 arg13_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h8 => k3_hw1.1.2.2.2.2.2.2.2.2.2.2.2.2.2.2.2.2.2.2.2.2.2.1 k3_h8
theorem k3_off28_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h8 : k3_cond8 i k3_t1 arg26_r0 = 1#1), ∀ a, (k3_off28 arg13_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h8 => k3_hw1.1.2.2.2.2.2.2.2.2.2.2.2.2.2.2.2.2.2.2.2.2.2.2.1 k3_h8
theorem k3_off29_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h8 : k3_cond8 i k3_t1 arg26_r0 = 1#1), ∀ a, (k3_off29 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h8 => k3_hw1.1.2.2.2.2.2.2.2.2.2.2.2.2.2.2.2.2.2.2.2.2.2.2.2.1 k3_h8
theorem k3_off30_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h9 : k3_cond9 i k3_t1 arg26_r0 = 1#1), ∀ a, (k3_off30 arg15_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h9 => k3_hw1.1.2.2.2.2.2.2.2.2.2.2.2.2.2.2.2.2.2.2.2.2.2.2.2.2.1 k3_h9
theorem k3_off31_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h9 : k3_cond9 i k3_t1 arg26_r0 = 1#1), ∀ a, (k3_off31 arg15_r0) a + S1x2048x128.size a ≤ S2x2048x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h9 => k3_hw1.1.2.2.2.2.2.2.2.2.2.2.2.2.2.2.2.2.2.2.2.2.2.2.2.2.2.1 k3_h9
theorem k3_off32_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h9 : k3_cond9 i k3_t1 arg26_r0 = 1#1), ∀ a, (k3_off32 i arg26_r0) a + S2048x128.size a ≤ S16384x128.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h9 => k3_hw1.1.2.2.2.2.2.2.2.2.2.2.2.2.2.2.2.2.2.2.2.2.2.2.2.2.2.2.1 k3_h9
theorem k3_off33_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h10 : k3_cond10 i k3_t1 arg26_r0 = 1#1), ∀ a, (k3_off33 arg17_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h10 => k3_hw1.1.2.2.2.2.2.2.2.2.2.2.2.2.2.2.2.2.2.2.2.2.2.2.2.2.2.2.2.1 k3_h10
theorem k3_off34_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h10 : k3_cond10 i k3_t1 arg26_r0 = 1#1), ∀ a, (k3_off34 arg17_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h10 => k3_hw1.1.2.2.2.2.2.2.2.2.2.2.2.2.2.2.2.2.2.2.2.2.2.2.2.2.2.2.2.2.1 k3_h10
theorem k3_off35_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h10 : k3_cond10 i k3_t1 arg26_r0 = 1#1), ∀ a, (k3_off35 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h10 => k3_hw1.1.2.2.2.2.2.2.2.2.2.2.2.2.2.2.2.2.2.2.2.2.2.2.2.2.2.2.2.2.2.1 k3_h10
theorem k3_off36_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h11 : k3_cond11 i k3_t1 arg26_r0 = 1#1), ∀ a, (k3_off36 arg19_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h11 => k3_hw1.1.2.2.2.2.2.2.2.2.2.2.2.2.2.2.2.2.2.2.2.2.2.2.2.2.2.2.2.2.2.2.1 k3_h11
theorem k3_off37_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h11 : k3_cond11 i k3_t1 arg26_r0 = 1#1), ∀ a, (k3_off37 arg19_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h11 => k3_hw1.1.2.2.2.2.2.2.2.2.2.2.2.2.2.2.2.2.2.2.2.2.2.2.2.2.2.2.2.2.2.2.2 k3_h11
theorem k3_off38_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h11 : k3_cond11 i k3_t1 arg26_r0 = 1#1), ∀ a, (k3_off38 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h11 => k3_hw1.2.1 k3_h11
theorem k3_off39_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h12 : k3_cond12 i k3_t1 arg26_r0 = 1#1), ∀ a, (k3_off39 arg21_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h12 => k3_hw1.2.2.1 k3_h12
theorem k3_off40_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h12 : k3_cond12 i k3_t1 arg26_r0 = 1#1), ∀ a, (k3_off40 arg21_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h12 => k3_hw1.2.2.2.1 k3_h12
theorem k3_off41_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h12 : k3_cond12 i k3_t1 arg26_r0 = 1#1), ∀ a, (k3_off41 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h12 => k3_hw1.2.2.2.2.1 k3_h12
theorem k3_off50_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h21 : k3_cond21 i k3_t1 arg26_r0 = 1#1), ∀ a, (k3_off50 arg22_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h21 => k3_hw1.2.2.2.2.2.1 k3_h21
theorem k3_off51_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h21 : k3_cond21 i k3_t1 arg26_r0 = 1#1), ∀ a, (k3_off51 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h21 => k3_hw1.2.2.2.2.2.2.1 k3_h21
theorem k3_off52_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h21 : k3_cond21 i k3_t1 arg26_r0 = 1#1), ∀ a, (k3_off52 arg22_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h21 => k3_hw1.2.2.2.2.2.2.2.1 k3_h21
theorem k3_off53_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h22 : k3_cond22 i k3_t1 arg26_r0 = 1#1), ∀ a, (k3_off53 arg24_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h22 => k3_hw1.2.2.2.2.2.2.2.2.1 k3_h22
theorem k3_off54_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h22 : k3_cond22 i k3_t1 arg26_r0 = 1#1), ∀ a, (k3_off54 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h22 => k3_hw1.2.2.2.2.2.2.2.2.2.1 k3_h22
theorem k3_off55_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h22 : k3_cond22 i k3_t1 arg26_r0 = 1#1), ∀ a, (k3_off55 arg24_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h22 => k3_hw1.2.2.2.2.2.2.2.2.2.2.1 k3_h22
theorem k3_off56_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h29 : k3_cond29 i k3_t1 arg26_r0 = 1#1), ∀ a, (k3_off56 arg23_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h29 => k3_hw1.2.2.2.2.2.2.2.2.2.2.2.1 k3_h29
theorem k3_off57_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h29 : k3_cond29 i k3_t1 arg26_r0 = 1#1), ∀ a, (k3_off57 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h29 => k3_hw1.2.2.2.2.2.2.2.2.2.2.2.2.1 k3_h29
theorem k3_off58_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h29 : k3_cond29 i k3_t1 arg26_r0 = 1#1), ∀ a, (k3_off58 arg23_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h29 => k3_hw1.2.2.2.2.2.2.2.2.2.2.2.2.2.1 k3_h29
theorem k3_off59_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h30 : k3_cond30 i k3_t1 arg26_r0 = 1#1), ∀ a, (k3_off59 arg25_r0) a + S1.size a ≤ S2.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h30 => k3_hw1.2.2.2.2.2.2.2.2.2.2.2.2.2.2.1 k3_h30
theorem k3_off60_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h30 : k3_cond30 i k3_t1 arg26_r0 = 1#1), ∀ a, (k3_off60 i arg26_r0) a + S1x2048.size a ≤ S1x16384.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h30 => k3_hw1.2.2.2.2.2.2.2.2.2.2.2.2.2.2.2.1 k3_h30
theorem k3_off61_inb : ∀ (i : grid3.Coords) (k3_t1 : Fin k3_t1_loop.trips) (arg10_r0 : BitVec 32) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k3_hw1 : k3_chk1 i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0), ∀ (k3_h30 : k3_cond30 i k3_t1 arg26_r0 = 1#1), ∀ a, (k3_off61 arg25_r0) a + S1x1x2048.size a ≤ S2x1x2048.size a := fun i k3_t1 arg10_r0 arg11_r0 arg12_r0 arg13_r0 arg14_r0 arg15_r0 arg16_r0 arg17_r0 arg18_r0 arg19_r0 arg20_r0 arg21_r0 arg22_r0 arg23_r0 arg24_r0 arg25_r0 arg26_r0 k3_hw1 k3_h30 => k3_hw1.2.2.2.2.2.2.2.2.2.2.2.2.2.2.2.2 k3_h30

def k3_off62 (v72_13_r0 : BitVec 32) : Fin 1 → Nat :=
  let c2_i32_94_r0 : BitVec 32 := 2#32
  let v93_r0 : BitVec 32 := Scalar.remui v72_13_r0 c2_i32_94_r0
  ![v93_r0.toNat]

def k3_off63 (i : grid3.Coords) (v72_16_r0 : BitVec 32) : Fin 2 → Nat :=
  let c0_i32_96_r0 : BitVec 32 := 0#32
  let c2048_i32_95_r0 : BitVec 32 := 2048#32
  let true_79_r0 : BitVec 1 := 1#1
  let c1_i32_78_r0 : BitVec 32 := 1#32
  let v73_r0 : BitVec 32 := Scalar.subi v72_16_r0 c1_i32_78_r0
  let v74_r0 : BitVec 32 := Scalar.select true_79_r0 v73_r0 v72_16_r0
  let c_m1_i32_80_r0 : BitVec 32 := 4294967295#32
  let v75_r0 : BitVec 1 := Scalar.cmpi .eq v74_r0 c_m1_i32_80_r0
  let c3_i32_81_r0 : BitVec 32 := 3#32
  let v76_r0 : BitVec 32 := Scalar.select v75_r0 c3_i32_81_r0 v74_r0
  let arg0 : BitVec 32 := BitVec.ofNat 32 (i 0).val
  let c4_i32 : BitVec 32 := 4#32
  let v0 : BitVec 32 := Scalar.muli arg0 c4_i32
  let v77_r0 : BitVec 32 := Scalar.addi v76_r0 v0
  let v94_r0 : BitVec 32 := Scalar.muli c2048_i32_95_r0 v77_r0
  ![0, v94_r0.toNat]

def k3_off64 (v72_13_r0 : BitVec 32) : Fin 3 → Nat :=
  let c2_i32_94_r0 : BitVec 32 := 2#32
  let v93_r0 : BitVec 32 := Scalar.remui v72_13_r0 c2_i32_94_r0
  let c0_i32_97_r0 : BitVec 32 := 0#32
  let c0_i32_98_r0 : BitVec 32 := 0#32
  ![v93_r0.toNat, 0, 0]

def k3_chk10 (v72_13_r0 : BitVec 32) : Prop :=
  (∀ a, (k3_off62 v72_13_r0) a + S1.size a ≤ S2.size a) ∧
  (∀ a, (k3_off64 v72_13_r0) a + S1x1x2048.size a ≤ S2x1x2048.size a)
theorem k3_off62_inb : ∀ (v72_13_r0 : BitVec 32) (k3_hw10 : k3_chk10 v72_13_r0), ∀ a, (k3_off62 v72_13_r0) a + S1.size a ≤ S2.size a := fun v72_13_r0 k3_hw10 => k3_hw10.1
theorem k3_off64_inb : ∀ (v72_13_r0 : BitVec 32) (k3_hw10 : k3_chk10 v72_13_r0), ∀ a, (k3_off64 v72_13_r0) a + S1x1x2048.size a ≤ S2x1x2048.size a := fun v72_13_r0 k3_hw10 => k3_hw10.2

def k3_off65 (v72_15_r0 : BitVec 32) : Fin 1 → Nat :=
  let c2_i32_99_r0 : BitVec 32 := 2#32
  let v100_r0 : BitVec 32 := Scalar.remui v72_15_r0 c2_i32_99_r0
  ![v100_r0.toNat]

def k3_off66 (i : grid3.Coords) (v72_16_r0 : BitVec 32) : Fin 2 → Nat :=
  let c0_i32_101_r0 : BitVec 32 := 0#32
  let c2048_i32_100_r0 : BitVec 32 := 2048#32
  let true_79_r0 : BitVec 1 := 1#1
  let c1_i32_78_r0 : BitVec 32 := 1#32
  let v73_r0 : BitVec 32 := Scalar.subi v72_16_r0 c1_i32_78_r0
  let v74_r0 : BitVec 32 := Scalar.select true_79_r0 v73_r0 v72_16_r0
  let c_m1_i32_80_r0 : BitVec 32 := 4294967295#32
  let v75_r0 : BitVec 1 := Scalar.cmpi .eq v74_r0 c_m1_i32_80_r0
  let c3_i32_81_r0 : BitVec 32 := 3#32
  let v76_r0 : BitVec 32 := Scalar.select v75_r0 c3_i32_81_r0 v74_r0
  let arg0 : BitVec 32 := BitVec.ofNat 32 (i 0).val
  let c4_i32 : BitVec 32 := 4#32
  let v0 : BitVec 32 := Scalar.muli arg0 c4_i32
  let v77_r0 : BitVec 32 := Scalar.addi v76_r0 v0
  let v101_r0 : BitVec 32 := Scalar.muli c2048_i32_100_r0 v77_r0
  ![0, v101_r0.toNat]

def k3_chk11 (i : grid3.Coords) (v72_16_r0 : BitVec 32) : Prop :=
  (∀ a, (k3_off63 i v72_16_r0) a + S1x2048.size a ≤ S1x16384.size a) ∧
  (∀ a, (k3_off66 i v72_16_r0) a + S1x2048.size a ≤ S1x16384.size a)
theorem k3_off63_inb : ∀ (i : grid3.Coords) (v72_16_r0 : BitVec 32) (k3_hw11 : k3_chk11 i v72_16_r0), ∀ a, (k3_off63 i v72_16_r0) a + S1x2048.size a ≤ S1x16384.size a := fun i v72_16_r0 k3_hw11 => k3_hw11.1
theorem k3_off66_inb : ∀ (i : grid3.Coords) (v72_16_r0 : BitVec 32) (k3_hw11 : k3_chk11 i v72_16_r0), ∀ a, (k3_off66 i v72_16_r0) a + S1x2048.size a ≤ S1x16384.size a := fun i v72_16_r0 k3_hw11 => k3_hw11.2

def k3_off67 (v72_15_r0 : BitVec 32) : Fin 3 → Nat :=
  let c2_i32_99_r0 : BitVec 32 := 2#32
  let v100_r0 : BitVec 32 := Scalar.remui v72_15_r0 c2_i32_99_r0
  let c0_i32_102_r0 : BitVec 32 := 0#32
  let c0_i32_103_r0 : BitVec 32 := 0#32
  ![v100_r0.toNat, 0, 0]

def k3_chk12 (v72_15_r0 : BitVec 32) : Prop :=
  (∀ a, (k3_off65 v72_15_r0) a + S1.size a ≤ S2.size a) ∧
  (∀ a, (k3_off67 v72_15_r0) a + S1x1x2048.size a ≤ S2x1x2048.size a)
theorem k3_off65_inb : ∀ (v72_15_r0 : BitVec 32) (k3_hw12 : k3_chk12 v72_15_r0), ∀ a, (k3_off65 v72_15_r0) a + S1.size a ≤ S2.size a := fun v72_15_r0 k3_hw12 => k3_hw12.1
theorem k3_off67_inb : ∀ (v72_15_r0 : BitVec 32) (k3_hw12 : k3_chk12 v72_15_r0), ∀ a, (k3_off67 v72_15_r0) a + S1x1x2048.size a ≤ S2x1x2048.size a := fun v72_15_r0 k3_hw12 => k3_hw12.2

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S16384 : Shape := ⟨1, ![16384]⟩
abbrev S253952x128 : Shape := ⟨2, ![253952, 128]⟩
abbrev S_ : Shape := ⟨0, ![]⟩
abbrev S253952x1x128 : Shape := ⟨3, ![253952, 1, 128]⟩
abbrev S253952x2x128 : Shape := ⟨3, ![253952, 2, 128]⟩
abbrev S31x16384x2x64 : Shape := ⟨4, ![31, 16384, 2, 64]⟩
abbrev S31x2x16384x64 : Shape := ⟨4, ![31, 2, 16384, 64]⟩
abbrev S1015808x64 : Shape := ⟨2, ![1015808, 64]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 109
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .f32⟩
  | .hbm, ⟨4, _⟩ => ⟨S253952x128, .i32⟩
  | .hbm, ⟨5, _⟩ => ⟨S253952x128, .i32⟩
  | .hbm, ⟨6, _⟩ => ⟨S_, .i32⟩
  | .hbm, ⟨7, _⟩ => ⟨S253952x128, .i32⟩
  | .hbm, ⟨8, _⟩ => ⟨S253952x128, .i32⟩
  | .hbm, ⟨9, _⟩ => ⟨S253952x128, .f32⟩
  | .hbm, ⟨10, _⟩ => ⟨S_, .i32⟩
  | .hbm, ⟨11, _⟩ => ⟨S253952x128, .i32⟩
  | .hbm, ⟨12, _⟩ => ⟨S253952x128, .i32⟩
  | .hbm, ⟨13, _⟩ => ⟨S253952x128, .f32⟩
  | .hbm, ⟨14, _⟩ => ⟨S253952x1x128, .f32⟩
  | .hbm, ⟨15, _⟩ => ⟨S253952x1x128, .f32⟩
  | .hbm, ⟨16, _⟩ => ⟨S253952x2x128, .f32⟩
  | .hbm, ⟨17, _⟩ => ⟨S31x16384x2x64, .f32⟩
  | .hbm, ⟨18, _⟩ => ⟨S31x2x16384x64, .f32⟩
  | .hbm, ⟨19, _⟩ => ⟨S1015808x64, .f32⟩
  | .hbm, ⟨20, _⟩ => ⟨S_, .i32⟩
  | .hbm, ⟨21, _⟩ => ⟨S253952x128, .i32⟩
  | .hbm, ⟨22, _⟩ => ⟨S253952x128, .i32⟩
  | .hbm, ⟨23, _⟩ => ⟨S253952x128, .f32⟩
  | .hbm, ⟨24, _⟩ => ⟨S_, .i32⟩
  | .hbm, ⟨25, _⟩ => ⟨S253952x128, .i32⟩
  | .hbm, ⟨26, _⟩ => ⟨S253952x128, .i32⟩
  | .hbm, ⟨27, _⟩ => ⟨S253952x128, .f32⟩
  | .hbm, ⟨28, _⟩ => ⟨S253952x1x128, .f32⟩
  | .hbm, ⟨29, _⟩ => ⟨S253952x1x128, .f32⟩
  | .hbm, ⟨30, _⟩ => ⟨S253952x2x128, .f32⟩
  | .hbm, ⟨31, _⟩ => ⟨S31x16384x2x64, .f32⟩
  | .hbm, ⟨32, _⟩ => ⟨S31x2x16384x64, .f32⟩
  | .hbm, ⟨33, _⟩ => ⟨S1015808x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S16384x64, .f32⟩
  | .hbm, ⟨53, _⟩ => ⟨S16384x64, .i1⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S1, .i32⟩
  | .hbm, ⟨66, _⟩ => ⟨S_, .i32⟩
  | .hbm, ⟨67, _⟩ => ⟨S16384x1, .i32⟩
  | .hbm, ⟨68, _⟩ => ⟨S16384x1, .i1⟩
  | .hbm, ⟨69, _⟩ => ⟨S1x1, .i32⟩
  | .hbm, ⟨70, _⟩ => ⟨S16384x1, .i32⟩
  | .hbm, ⟨71, _⟩ => ⟨S16384x1, .i1⟩
  | .hbm, ⟨72, _⟩ => ⟨S16384x1, .i1⟩
  | .hbm, ⟨73, _⟩ => ⟨S_, .i1⟩
  | .hbm, ⟨74, _⟩ => ⟨S16384, .i1⟩
  | .hbm, ⟨75, _⟩ => ⟨S16384x64, .f32⟩
  | .hbm, ⟨76, _⟩ => ⟨S16384x64, .i1⟩
  | .hbm, ⟨77, _⟩ => ⟨S_, .f32⟩
  | .hbm, ⟨78, _⟩ => ⟨S16384x64, .f32⟩
  | .hbm, ⟨79, _⟩ => ⟨S16384x64, .f32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S1, .i32⟩
  | .hbm, ⟨89, _⟩ => ⟨S_, .i32⟩
  | .hbm, ⟨90, _⟩ => ⟨S16384x1, .i32⟩
  | .hbm, ⟨91, _⟩ => ⟨S16384x1, .i1⟩
  | .hbm, ⟨92, _⟩ => ⟨S1x1, .i32⟩
  | .hbm, ⟨93, _⟩ => ⟨S16384x1, .i32⟩
  | .hbm, ⟨94, _⟩ => ⟨S16384x1, .i1⟩
  | .hbm, ⟨95, _⟩ => ⟨S16384x1, .i1⟩
  | .hbm, ⟨96, _⟩ => ⟨S_, .i1⟩
  | .hbm, ⟨97, _⟩ => ⟨S16384, .i1⟩
  | .hbm, ⟨98, _⟩ => ⟨S16384x64, .f32⟩
  | .hbm, ⟨99, _⟩ => ⟨S16384x64, .i1⟩
  | .hbm, ⟨100, _⟩ => ⟨S_, .f32⟩
  | .hbm, ⟨101, _⟩ => ⟨S16384x64, .f32⟩
  | .hbm, ⟨102, _⟩ => ⟨S16384x64, .f32⟩
  | .hbm, ⟨103, _⟩ => ⟨S16384x64, .f32⟩
  | .hbm, ⟨104, _⟩ => ⟨S_, .f32⟩
  | .hbm, ⟨105, _⟩ => ⟨S16384, .f32⟩
  | .hbm, ⟨106, _⟩ => ⟨S16384x64, .f32⟩
  | .hbm, ⟨107, _⟩ => ⟨S_, .f32⟩
  | .hbm, ⟨108, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v24 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v25 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v26 : Ref sig .tc := ⟨.hbm, 102, rfl⟩
abbrev main_v27 : Ref sig .tc := ⟨.hbm, 103, rfl⟩
abbrev main_cst : Ref sig .tc := ⟨.hbm, 104, rfl⟩
abbrev main_v28 : Ref sig .tc := ⟨.hbm, 105, rfl⟩
abbrev main_v29 : Ref sig .tc := ⟨.hbm, 106, rfl⟩
abbrev main_cst_3 : Ref sig .tc := ⟨.hbm, 107, rfl⟩
abbrev main_v30 : Ref sig .tc := ⟨.hbm, 108, rfl⟩

abbrev nD : Nat := 1
abbrev τ : Topo := Topo.v7x

variable {F : FTy → Type} [FloatOps F]
-- ==== Pack.lean ====
abbrev S1000000x64 : Shape := ⟨2, ![1000000, 64]⟩
abbrev S64x1000000 : Shape := ⟨2, ![64, 1000000]⟩
abbrev S_ : Shape := ⟨0, ![]⟩
abbrev S64x1015808 : Shape := ⟨2, ![64, 1015808]⟩
abbrev S507904x128 : Shape := ⟨2, ![507904, 128]⟩
abbrev S2x64x32768 : Shape := ⟨3, ![2, 64, 32768]⟩
abbrev S2 : Shape := ⟨1, ![2]⟩
abbrev S2x16384x128 : Shape := ⟨3, ![2, 16384, 128]⟩
abbrev S1 : Shape := ⟨1, ![1]⟩
abbrev S1x64x32768 : Shape := ⟨3, ![1, 64, 32768]⟩
abbrev S64x32768 : Shape := ⟨2, ![64, 32768]⟩
abbrev S64x64 : Shape := ⟨2, ![64, 64]⟩
abbrev S64x16384 : Shape := ⟨2, ![64, 16384]⟩
abbrev S16384x64 : Shape := ⟨2, ![16384, 64]⟩
abbrev S16384x128 : Shape := ⟨2, ![16384, 128]⟩
abbrev S1x16384x128 : Shape := ⟨3, ![1, 16384, 128]⟩

abbrev nBuf : Space → Nat
  | .hbm => 6
  | .vmem => 2
  | .smem => 0
  | _ => 0

abbrev bufTy : (tb : Table) → Fin (tcTables nBuf tb) → BufTy
  | .hbm, ⟨0, _⟩ => ⟨S1000000x64, .f32⟩
  | .hbm, ⟨1, _⟩ => ⟨S64x1000000, .f32⟩
  | .hbm, ⟨2, _⟩ => ⟨S_, .i32⟩
  | .hbm, ⟨3, _⟩ => ⟨S_, .f32⟩
  | .hbm, ⟨4, _⟩ => ⟨S64x1015808, .f32⟩
  | .hbm, ⟨5, _⟩ => ⟨S507904x128, .bf16⟩
  | .local _ .vmem, ⟨0, _⟩ => ⟨S2x64x32768, .f32⟩
  | .local _ .vmem, ⟨1, _⟩ => ⟨S2x16384x128, .bf16⟩
  | _, _ => ⟨S1000000x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_scoped0 : Ref sig .tc := ⟨.vmem, 0, rfl⟩
abbrev cc0_scoped2 : Ref sig .tc := ⟨.vmem, 1, rfl⟩

abbrev nD : Nat := 1
abbrev τ : Topo := Topo.v7x

variable {F : FTy → Type} [FloatOps F]

abbrev grid0 : Pipeline.Grid := ⟨1, ![2], ![false]⟩

def k0_cond1 (i : grid0.Coords) : BitVec 1 :=
  let c1_i32_3 : BitVec 32 := 1#32
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v7 : BitVec 32 := Scalar.muli c1_i32_3 v1
  let c0_i32_r0 : BitVec 32 := 0#32
  let v10_r0 : BitVec 1 := Scalar.cmpi .sgt v7 c0_i32_r0
  let v11_r0 : BitVec 32 := Scalar.extui v10_r0
  let c0_i32_5_r0 : BitVec 32 := 0#32
  let v12_r0 : BitVec 1 := Scalar.cmpi .ne v11_r0 c0_i32_5_r0
  v12_r0

def k0_cond2 (i : grid0.Coords) : BitVec 1 :=
  let true_21_r0 : BitVec 1 := 1#1
  let c1_i32_6_r0 : BitVec 32 := 1#32
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v13_r0 : BitVec 32 := Scalar.muli c1_i32_6_r0 v1
  let c0_i32_20_r0 : BitVec 32 := 0#32
  let v31_r0 : BitVec 1 := Scalar.cmpi .sgt v13_r0 c0_i32_20_r0
  let v32_r0 : BitVec 1 := Scalar.andi true_21_r0 v31_r0
  let true_22_r0 : BitVec 1 := 1#1
  let v33_r0 : BitVec 1 := Scalar.andi v32_r0 true_22_r0
  let v34_r0 : BitVec 32 := Scalar.extui v33_r0
  let c0_i32_24_r0 : BitVec 32 := 0#32
  let v35_r0 : BitVec 1 := Scalar.cmpi .ne v34_r0 c0_i32_24_r0
  v35_r0

def k0_off1 : Fin 1 → Nat :=
  let c0_i32_23_r0 : BitVec 32 := 0#32
  let c2_i32_r0 : BitVec 32 := 2#32
  let v76_r0 : BitVec 32 := Scalar.remui c0_i32_23_r0 c2_i32_r0
  ![v76_r0.toNat]
def k0_off2 : Fin 3 → Nat :=
  let c0_i32_23_r0 : BitVec 32 := 0#32
  let c2_i32_r0 : BitVec 32 := 2#32
  let v76_r0 : BitVec 32 := Scalar.remui c0_i32_23_r0 c2_i32_r0
  let c0_i32_56_r0 : BitVec 32 := 0#32
  let c0_i32_57_r0 : BitVec 32 := 0#32
  ![v76_r0.toNat, 0, 0]
def k0_off3 (i : grid0.Coords) : Fin 2 → Nat :=
  let c0_i32_58_r0 : BitVec 32 := 0#32
  let c32768_i32_r0 : BitVec 32 := 32768#32
  let c0_i32_9_r0 : BitVec 32 := 0#32
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v16_r0 : BitVec 32 := Scalar.addi c0_i32_9_r0 v6
  let v77_r0 : BitVec 32 := Scalar.muli c32768_i32_r0 v16_r0
  ![0, v77_r0.toNat]
@[reducible] def k0_t1_loop (i : grid0.Coords) : Scf.Loop 32 :=
  let c0_i32_28_r0 : BitVec 32 := 0#32
  let c1_i32_3 : BitVec 32 := 1#32
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let c1_i32_34_r0 : BitVec 32 := 1#32
  ⟨c0_i32_28_r0, v42_r0, c1_i32_34_r0⟩
def k0_off4 (arg4_r0 : BitVec 32) : Fin 1 → Nat :=
  let c2_i32_103_r0 : BitVec 32 := 2#32
  let v183_r0 : BitVec 32 := Scalar.remui arg4_r0 c2_i32_103_r0
  ![v183_r0.toNat]
def k0_cond3 (i : grid0.Coords) (k0_t1 : Fin (k0_t1_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let v89_r0 : BitVec 1 := Scalar.cmpi .eq v88_r0 v1
  let c0_i32_65_r0 : BitVec 32 := 0#32
  let v90_r0 : BitVec 32 := Scalar.select v89_r0 c0_i32_65_r0 v88_r0
  let v91_r0 : BitVec 32 := Scalar.addi v90_r0 v6
  let v97_r0 : BitVec 1 := Scalar.cmpi .ne v80_r0 v91_r0
  let c0_i32_28_r0 : BitVec 32 := 0#32
  let c1_i32_34_r0 : BitVec 32 := 1#32
  let arg3_r0 : BitVec 32 := Scf.iv c0_i32_28_r0 c1_i32_34_r0 k0_t1
  let c1_i32_56_r0 : BitVec 32 := 1#32
  let v76_r0 : BitVec 32 := Scalar.muli c1_i32_56_r0 v1
  let c2_i32_r0 : BitVec 32 := 2#32
  let v98_r0 : BitVec 32 := Scalar.subi v76_r0 c2_i32_r0
  let c1_i32_69_r0 : BitVec 32 := 1#32
  let v99_r0 : BitVec 32 := Scalar.addi v98_r0 c1_i32_69_r0
  let v100_r0 : BitVec 1 := Scalar.cmpi .sge arg3_r0 v99_r0
  let true_70_r0 : BitVec 1 := 1#1
  let v101_r0 : BitVec 1 := Scalar.xori v100_r0 true_70_r0
  let v102_r0 : BitVec 1 := Scalar.andi v97_r0 v101_r0
  let true_71_r0 : BitVec 1 := 1#1
  let v103_r0 : BitVec 1 := Scalar.andi v102_r0 true_71_r0
  let v104_r0 : BitVec 32 := Scalar.extui v103_r0
  let c0_i32_72_r0 : BitVec 32 := 0#32
  let v105_r0 : BitVec 1 := Scalar.cmpi .ne v104_r0 c0_i32_72_r0
  v105_r0

def k0_off5 (arg4_r0 : BitVec 32) : Fin 3 → Nat :=
  let c2_i32_103_r0 : BitVec 32 := 2#32
  let v183_r0 : BitVec 32 := Scalar.remui arg4_r0 c2_i32_103_r0
  let c0_i32_104_r0 : BitVec 32 := 0#32
  let c0_i32_105_r0 : BitVec 32 := 0#32
  ![v183_r0.toNat, 0, 0]
def k0_off6 (i : grid0.Coords) (arg8_r0 : BitVec 32) : Fin 2 → Nat :=
  let c0_i32_106_r0 : BitVec 32 := 0#32
  let c32768_i32_r0 : BitVec 32 := 32768#32
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v89_r0 : BitVec 1 := Scalar.cmpi .eq v88_r0 v1
  let c0_i32_65_r0 : BitVec 32 := 0#32
  let v90_r0 : BitVec 32 := Scalar.select v89_r0 c0_i32_65_r0 v88_r0
  let c1_i32_0 : BitVec 32 := 1#32
  let v2 : BitVec 1 := Scalar.cmpi .slt arg0 c1_i32_0
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v91_r0 : BitVec 32 := Scalar.addi v90_r0 v6
  let v184_r0 : BitVec 32 := Scalar.muli c32768_i32_r0 v91_r0
  ![0, v184_r0.toNat]
def k0_off7 (arg5_r0 : BitVec 32) : Fin 1 → Nat :=
  let c2_i32_103_r0 : BitVec 32 := 2#32
  let v184_r0 : BitVec 32 := Scalar.remui arg5_r0 c2_i32_103_r0
  ![v184_r0.toNat]
def k0_cond4 (i : grid0.Coords) (k0_t1 : Fin (k0_t1_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let c1_i32_62_r0 : BitVec 32 := 1#32
  let v84_r0 : BitVec 32 := Scalar.subi v1 c1_i32_62_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_28_r0 : BitVec 32 := 0#32
  let c1_i32_34_r0 : BitVec 32 := 1#32
  let arg3_r0 : BitVec 32 := Scf.iv c0_i32_28_r0 c1_i32_34_r0 k0_t1
  let c0_i32_57_r0 : BitVec 32 := 0#32
  let v77_r0 : BitVec 1 := Scalar.cmpi .eq arg3_r0 c0_i32_57_r0
  let v116_r0 : BitVec 1 := Scalar.ori v115_r0 v77_r0
  let c0_i32_78_r0 : BitVec 32 := 0#32
  let v117_r0 : BitVec 1 := Scalar.cmpi .sge arg3_r0 c0_i32_78_r0
  let v118_r0 : BitVec 1 := Scalar.andi v116_r0 v117_r0
  let v119_r0 : BitVec 32 := Scalar.extui v118_r0
  let c0_i32_79_r0 : BitVec 32 := 0#32
  let v120_r0 : BitVec 1 := Scalar.cmpi .ne v119_r0 c0_i32_79_r0
  v120_r0

def k0_off8 (arg5_r0 : BitVec 32) : Fin 3 → Nat :=
  let c2_i32_103_r0 : BitVec 32 := 2#32
  let v184_r0 : BitVec 32 := Scalar.remui arg5_r0 c2_i32_103_r0
  let c0_i32_104_r0 : BitVec 32 := 0#32
  let c0_i32_105_r0 : BitVec 32 := 0#32
  ![v184_r0.toNat, 0, 0]
def k0_off9 (i : grid0.Coords) (arg8_r0 : BitVec 32) : Fin 2 → Nat :=
  let c0_i32_106_r0 : BitVec 32 := 0#32
  let c32768_i32_r0 : BitVec 32 := 32768#32
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let v183_r0 : BitVec 32 := Scalar.muli c32768_i32_r0 v80_r0
  ![0, v183_r0.toNat]
def k0_off10 (arg5_r0 : BitVec 32) : Fin 3 → Nat :=
  let c2_i32_82_r0 : BitVec 32 := 2#32
  let v127_r0 : BitVec 32 := Scalar.remui arg5_r0 c2_i32_82_r0
  let v135_r0 : Index := Scalar.indexCast v127_r0
  let c0_r0 : Index := 0#32
  let c0_84_r0 : Index := 0#32
  ![v135_r0.toNat, 0, 0]

def k0_chk2 (i : grid0.Coords) (arg5_r0 : BitVec 32) : Prop :=
  (∀ (k0_h1 : k0_cond1 i = 1#1), ∀ a, (k0_off10 arg5_r0) a + S1x64x32768.size a ≤ S2x64x32768.size a)
theorem k0_off10_inb : ∀ (i : grid0.Coords) (arg5_r0 : BitVec 32) (k0_hw2 : k0_chk2 i arg5_r0), ∀ (k0_h1 : k0_cond1 i = 1#1), ∀ a, (k0_off10 arg5_r0) a + S1x64x32768.size a ≤ S2x64x32768.size a := fun i arg5_r0 k0_hw2 k0_h1 => k0_hw2 k0_h1

def k0_off11 (arg6_r0 : BitVec 32) : Fin 3 → Nat :=
  let c2_i32_83_r0 : BitVec 32 := 2#32
  let v128_r0 : BitVec 32 := Scalar.remui arg6_r0 c2_i32_83_r0
  let v145_r0 : Index := Scalar.indexCast v128_r0
  let c0_86_r0 : Index := 0#32
  let c0_87_r0 : Index := 0#32
  ![v145_r0.toNat, 0, 0]

def k0_chk3 (i : grid0.Coords) (arg6_r0 : BitVec 32) : Prop :=
  (∀ (k0_h1 : k0_cond1 i = 1#1), ∀ a, (k0_off11 arg6_r0) a + S1x16384x128.size a ≤ S2x16384x128.size a) ∧
  (∀ (k0_h1 : k0_cond1 i = 1#1), ∀ (hinb : ∀ a, (k0_off11 arg6_r0) a + S1x16384x128.size a ≤ S2x16384x128.size a), (Rect.unit (s := S2x16384x128) (k0_off11 arg6_r0) S1x16384x128.size hinb).PackedRows (EltTy.packing .bf16))
theorem k0_off11_inb : ∀ (i : grid0.Coords) (arg6_r0 : BitVec 32) (k0_hw3 : k0_chk3 i arg6_r0), ∀ (k0_h1 : k0_cond1 i = 1#1), ∀ a, (k0_off11 arg6_r0) a + S1x16384x128.size a ≤ S2x16384x128.size a := fun i arg6_r0 k0_hw3 k0_h1 => k0_hw3.1 k0_h1
theorem k0_off11_packedbf16 : ∀ (i : grid0.Coords) (arg6_r0 : BitVec 32) (k0_hw3 : k0_chk3 i arg6_r0), ∀ (k0_h1 : k0_cond1 i = 1#1), (Rect.unit (s := S2x16384x128) (k0_off11 arg6_r0) S1x16384x128.size (k0_off11_inb i arg6_r0 k0_hw3 k0_h1)).PackedRows (EltTy.packing .bf16) := fun i arg6_r0 k0_hw3 k0_h1 => k0_hw3.2 k0_h1 (k0_off11_inb i arg6_r0 k0_hw3 k0_h1)

def k0_off12 (arg6_r0 : BitVec 32) : Fin 1 → Nat :=
  let c2_i32_103_r0 : BitVec 32 := 2#32
  let v183_r0 : BitVec 32 := Scalar.remui arg6_r0 c2_i32_103_r0
  ![v183_r0.toNat]
def k0_cond7 (i : grid0.Coords) (k0_t1 : Fin (k0_t1_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let v89_r0 : BitVec 1 := Scalar.cmpi .eq v88_r0 v1
  let c0_i32_65_r0 : BitVec 32 := 0#32
  let v90_r0 : BitVec 32 := Scalar.select v89_r0 c0_i32_65_r0 v88_r0
  let v91_r0 : BitVec 32 := Scalar.addi v90_r0 v6
  let v154_r0 : BitVec 1 := Scalar.cmpi .ne v80_r0 v91_r0
  let c0_i32_28_r0 : BitVec 32 := 0#32
  let c1_i32_34_r0 : BitVec 32 := 1#32
  let arg3_r0 : BitVec 32 := Scf.iv c0_i32_28_r0 c1_i32_34_r0 k0_t1
  let c1_i32_56_r0 : BitVec 32 := 1#32
  let v76_r0 : BitVec 32 := Scalar.muli c1_i32_56_r0 v1
  let c1_i32_58_r0 : BitVec 32 := 1#32
  let v78_r0 : BitVec 32 := Scalar.subi v76_r0 c1_i32_58_r0
  let v79_r0 : BitVec 1 := Scalar.cmpi .eq arg3_r0 v78_r0
  let v155_r0 : BitVec 1 := Scalar.ori v154_r0 v79_r0
  let v156_r0 : BitVec 32 := Scalar.extui v155_r0
  let c0_i32_89_r0 : BitVec 32 := 0#32
  let v157_r0 : BitVec 1 := Scalar.cmpi .ne v156_r0 c0_i32_89_r0
  v157_r0

def k0_off13 (i : grid0.Coords) (arg8_r0 : BitVec 32) : Fin 2 → Nat :=
  let c16384_i32_r0 : BitVec 32 := 16384#32
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let v184_r0 : BitVec 32 := Scalar.muli c16384_i32_r0 v80_r0
  let c0_i32_104_r0 : BitVec 32 := 0#32
  ![v184_r0.toNat, 0]
def k0_off14 (arg6_r0 : BitVec 32) : Fin 3 → Nat :=
  let c2_i32_103_r0 : BitVec 32 := 2#32
  let v183_r0 : BitVec 32 := Scalar.remui arg6_r0 c2_i32_103_r0
  let c0_i32_105_r0 : BitVec 32 := 0#32
  let c0_i32_106_r0 : BitVec 32 := 0#32
  ![v183_r0.toNat, 0, 0]
def k0_off15 (arg7_r0 : BitVec 32) : Fin 1 → Nat :=
  let c2_i32_103_r0 : BitVec 32 := 2#32
  let v183_r0 : BitVec 32 := Scalar.remui arg7_r0 c2_i32_103_r0
  ![v183_r0.toNat]
def k0_cond9 (i : grid0.Coords) (k0_t1 : Fin (k0_t1_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let c1_i32_62_r0 : BitVec 32 := 1#32
  let v84_r0 : BitVec 32 := Scalar.subi v1 c1_i32_62_r0
  let v85_r0 : BitVec 32 := Scalar.select v83_r0 v84_r0 v82_r0
  let v86_r0 : BitVec 32 := Scalar.addi v85_r0 v6
  let v167_r0 : BitVec 1 := Scalar.cmpi .ne v80_r0 v86_r0
  let c0_i32_28_r0 : BitVec 32 := 0#32
  let c1_i32_34_r0 : BitVec 32 := 1#32
  let arg3_r0 : BitVec 32 := Scf.iv c0_i32_28_r0 c1_i32_34_r0 k0_t1
  let c0_i32_57_r0 : BitVec 32 := 0#32
  let v77_r0 : BitVec 1 := Scalar.cmpi .eq arg3_r0 c0_i32_57_r0
  let true_95_r0 : BitVec 1 := 1#1
  let v168_r0 : BitVec 1 := Scalar.xori v77_r0 true_95_r0
  let v169_r0 : BitVec 1 := Scalar.andi v167_r0 v168_r0
  let v170_r0 : BitVec 32 := Scalar.extui v169_r0
  let c0_i32_96_r0 : BitVec 32 := 0#32
  let v171_r0 : BitVec 1 := Scalar.cmpi .ne v170_r0 c0_i32_96_r0
  v171_r0

def k0_off16 (i : grid0.Coords) (arg8_r0 : BitVec 32) : Fin 2 → Nat :=
  let c16384_i32_r0 : BitVec 32 := 16384#32
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let c1_i32_62_r0 : BitVec 32 := 1#32
  let v84_r0 : BitVec 32 := Scalar.subi v1 c1_i32_62_r0
  let v85_r0 : BitVec 32 := Scalar.select v83_r0 v84_r0 v82_r0
  let c1_i32_0 : BitVec 32 := 1#32
  let v2 : BitVec 1 := Scalar.cmpi .slt arg0 c1_i32_0
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v86_r0 : BitVec 32 := Scalar.addi v85_r0 v6
  let v184_r0 : BitVec 32 := Scalar.muli c16384_i32_r0 v86_r0
  let c0_i32_104_r0 : BitVec 32 := 0#32
  ![v184_r0.toNat, 0]
def k0_off17 (arg7_r0 : BitVec 32) : Fin 3 → Nat :=
  let c2_i32_103_r0 : BitVec 32 := 2#32
  let v183_r0 : BitVec 32 := Scalar.remui arg7_r0 c2_i32_103_r0
  let c0_i32_105_r0 : BitVec 32 := 0#32
  let c0_i32_106_r0 : BitVec 32 := 0#32
  ![v183_r0.toNat, 0, 0]

def k0_chk1 (i : grid0.Coords) (k0_t1 : Fin (k0_t1_loop i).trips) (arg4_r0 : BitVec 32) (arg5_r0 : BitVec 32) (arg6_r0 : BitVec 32) (arg7_r0 : BitVec 32) (arg8_r0 : BitVec 32) : Prop :=
  (∀ (k0_h1 : k0_cond1 i = 1#1), ∀ (k0_h3 : k0_cond3 i k0_t1 arg8_r0 = 1#1), ∀ a, (k0_off4 arg4_r0) a + S1.size a ≤ S2.size a) ∧
  (∀ (k0_h1 : k0_cond1 i = 1#1), ∀ (k0_h3 : k0_cond3 i k0_t1 arg8_r0 = 1#1), ∀ a, (k0_off5 arg4_r0) a + S1x64x32768.size a ≤ S2x64x32768.size a) ∧
  (∀ (k0_h1 : k0_cond1 i = 1#1), ∀ (k0_h3 : k0_cond3 i k0_t1 arg8_r0 = 1#1), ∀ a, (k0_off6 i arg8_r0) a + S64x32768.size a ≤ S64x1015808.size a) ∧
  (∀ (k0_h1 : k0_cond1 i = 1#1), ∀ (k0_h4 : k0_cond4 i k0_t1 arg8_r0 = 1#1), ∀ a, (k0_off7 arg5_r0) a + S1.size a ≤ S2.size a) ∧
  (∀ (k0_h1 : k0_cond1 i = 1#1), ∀ (k0_h4 : k0_cond4 i k0_t1 arg8_r0 = 1#1), ∀ a, (k0_off8 arg5_r0) a + S1x64x32768.size a ≤ S2x64x32768.size a) ∧
  (∀ (k0_h1 : k0_cond1 i = 1#1), ∀ (k0_h4 : k0_cond4 i k0_t1 arg8_r0 = 1#1), ∀ a, (k0_off9 i arg8_r0) a + S64x32768.size a ≤ S64x1015808.size a) ∧
  (∀ (k0_h1 : k0_cond1 i = 1#1), ∀ (k0_h7 : k0_cond7 i k0_t1 arg8_r0 = 1#1), ∀ a, (k0_off12 arg6_r0) a + S1.size a ≤ S2.size a) ∧
  (∀ (k0_h1 : k0_cond1 i = 1#1), ∀ (k0_h7 : k0_cond7 i k0_t1 arg8_r0 = 1#1), ∀ a, (k0_off13 i arg8_r0) a + S16384x128.size a ≤ S507904x128.size a) ∧
  (∀ (k0_h1 : k0_cond1 i = 1#1), ∀ (k0_h7 : k0_cond7 i k0_t1 arg8_r0 = 1#1), ∀ a, (k0_off14 arg6_r0) a + S1x16384x128.size a ≤ S2x16384x128.size a) ∧
  (∀ (k0_h1 : k0_cond1 i = 1#1), ∀ (k0_h7 : k0_cond7 i k0_t1 arg8_r0 = 1#1), ∀ (hinb : ∀ a, (k0_off14 arg6_r0) a + S1x16384x128.size a ≤ S2x16384x128.size a), (Rect.unit (s := S2x16384x128) (k0_off14 arg6_r0) S1x16384x128.size hinb).WholeWords (EltTy.packing .bf16)) ∧
  (∀ (k0_h1 : k0_cond1 i = 1#1), ∀ (k0_h7 : k0_cond7 i k0_t1 arg8_r0 = 1#1), ∀ (hinb : ∀ a, (k0_off13 i arg8_r0) a + S16384x128.size a ≤ S507904x128.size a), (Rect.unit (s := S507904x128) (k0_off13 i arg8_r0) S16384x128.size hinb).WholeWords (EltTy.packing .bf16)) ∧
  (∀ (k0_h1 : k0_cond1 i = 1#1), ∀ (k0_h9 : k0_cond9 i k0_t1 arg8_r0 = 1#1), ∀ a, (k0_off15 arg7_r0) a + S1.size a ≤ S2.size a) ∧
  (∀ (k0_h1 : k0_cond1 i = 1#1), ∀ (k0_h9 : k0_cond9 i k0_t1 arg8_r0 = 1#1), ∀ a, (k0_off16 i arg8_r0) a + S16384x128.size a ≤ S507904x128.size a) ∧
  (∀ (k0_h1 : k0_cond1 i = 1#1), ∀ (k0_h9 : k0_cond9 i k0_t1 arg8_r0 = 1#1), ∀ a, (k0_off17 arg7_r0) a + S1x16384x128.size a ≤ S2x16384x128.size a) ∧
  (∀ (k0_h1 : k0_cond1 i = 1#1), ∀ (k0_h9 : k0_cond9 i k0_t1 arg8_r0 = 1#1), ∀ (hinb : ∀ a, (k0_off17 arg7_r0) a + S1x16384x128.size a ≤ S2x16384x128.size a), (Rect.unit (s := S2x16384x128) (k0_off17 arg7_r0) S1x16384x128.size hinb).WholeWords (EltTy.packing .bf16)) ∧
  (∀ (k0_h1 : k0_cond1 i = 1#1), ∀ (k0_h9 : k0_cond9 i k0_t1 arg8_r0 = 1#1), ∀ (hinb : ∀ a, (k0_off16 i arg8_r0) a + S16384x128.size a ≤ S507904x128.size a), (Rect.unit (s := S507904x128) (k0_off16 i arg8_r0) S16384x128.size hinb).WholeWords (EltTy.packing .bf16))
theorem k0_off4_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h3 : k0_cond3 i k0_t1 arg8_r0 = 1#1), ∀ a, (k0_off4 arg4_r0) a + S1.size a ≤ S2.size a := fun i k0_t1 arg4_r0 arg5_r0 arg6_r0 arg7_r0 arg8_r0 k0_hw1 k0_h1 k0_h3 => k0_hw1.1 k0_h1 k0_h3
theorem k0_off5_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h3 : k0_cond3 i k0_t1 arg8_r0 = 1#1), ∀ a, (k0_off5 arg4_r0) a + S1x64x32768.size a ≤ S2x64x32768.size a := fun i k0_t1 arg4_r0 arg5_r0 arg6_r0 arg7_r0 arg8_r0 k0_hw1 k0_h1 k0_h3 => k0_hw1.2.1 k0_h1 k0_h3
theorem k0_off6_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h3 : k0_cond3 i k0_t1 arg8_r0 = 1#1), ∀ a, (k0_off6 i arg8_r0) a + S64x32768.size a ≤ S64x1015808.size a := fun i k0_t1 arg4_r0 arg5_r0 arg6_r0 arg7_r0 arg8_r0 k0_hw1 k0_h1 k0_h3 => k0_hw1.2.2.1 k0_h1 k0_h3
theorem k0_off7_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h4 : k0_cond4 i k0_t1 arg8_r0 = 1#1), ∀ a, (k0_off7 arg5_r0) a + S1.size a ≤ S2.size a := fun i k0_t1 arg4_r0 arg5_r0 arg6_r0 arg7_r0 arg8_r0 k0_hw1 k0_h1 k0_h4 => k0_hw1.2.2.2.1 k0_h1 k0_h4
theorem k0_off8_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h4 : k0_cond4 i k0_t1 arg8_r0 = 1#1), ∀ a, (k0_off8 arg5_r0) a + S1x64x32768.size a ≤ S2x64x32768.size a := fun i k0_t1 arg4_r0 arg5_r0 arg6_r0 arg7_r0 arg8_r0 k0_hw1 k0_h1 k0_h4 => k0_hw1.2.2.2.2.1 k0_h1 k0_h4
theorem k0_off9_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h4 : k0_cond4 i k0_t1 arg8_r0 = 1#1), ∀ a, (k0_off9 i arg8_r0) a + S64x32768.size a ≤ S64x1015808.size a := fun i k0_t1 arg4_r0 arg5_r0 arg6_r0 arg7_r0 arg8_r0 k0_hw1 k0_h1 k0_h4 => k0_hw1.2.2.2.2.2.1 k0_h1 k0_h4
theorem k0_off12_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h7 : k0_cond7 i k0_t1 arg8_r0 = 1#1), ∀ a, (k0_off12 arg6_r0) a + S1.size a ≤ S2.size a := fun i k0_t1 arg4_r0 arg5_r0 arg6_r0 arg7_r0 arg8_r0 k0_hw1 k0_h1 k0_h7 => k0_hw1.2.2.2.2.2.2.1 k0_h1 k0_h7
theorem k0_off13_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h7 : k0_cond7 i k0_t1 arg8_r0 = 1#1), ∀ a, (k0_off13 i arg8_r0) a + S16384x128.size a ≤ S507904x128.size a := fun i k0_t1 arg4_r0 arg5_r0 arg6_r0 arg7_r0 arg8_r0 k0_hw1 k0_h1 k0_h7 => k0_hw1.2.2.2.2.2.2.2.1 k0_h1 k0_h7
theorem k0_off14_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h7 : k0_cond7 i k0_t1 arg8_r0 = 1#1), ∀ a, (k0_off14 arg6_r0) a + S1x16384x128.size a ≤ S2x16384x128.size a := fun i k0_t1 arg4_r0 arg5_r0 arg6_r0 arg7_r0 arg8_r0 k0_hw1 k0_h1 k0_h7 => k0_hw1.2.2.2.2.2.2.2.2.1 k0_h1 k0_h7
theorem k0_off14_wordsbf16 : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h7 : k0_cond7 i k0_t1 arg8_r0 = 1#1), (Rect.unit (s := S2x16384x128) (k0_off14 arg6_r0) S1x16384x128.size (k0_off14_inb i k0_t1 arg4_r0 arg5_r0 arg6_r0 arg7_r0 arg8_r0 k0_hw1 k0_h1 k0_h7)).WholeWords (EltTy.packing .bf16) := fun i k0_t1 arg4_r0 arg5_r0 arg6_r0 arg7_r0 arg8_r0 k0_hw1 k0_h1 k0_h7 => k0_hw1.2.2.2.2.2.2.2.2.2.1 k0_h1 k0_h7 (k0_off14_inb i k0_t1 arg4_r0 arg5_r0 arg6_r0 arg7_r0 arg8_r0 k0_hw1 k0_h1 k0_h7)
theorem k0_off13_wordsbf16 : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h7 : k0_cond7 i k0_t1 arg8_r0 = 1#1), (Rect.unit (s := S507904x128) (k0_off13 i arg8_r0) S16384x128.size (k0_off13_inb i k0_t1 arg4_r0 arg5_r0 arg6_r0 arg7_r0 arg8_r0 k0_hw1 k0_h1 k0_h7)).WholeWords (EltTy.packing .bf16) := fun i k0_t1 arg4_r0 arg5_r0 arg6_r0 arg7_r0 arg8_r0 k0_hw1 k0_h1 k0_h7 => k0_hw1.2.2.2.2.2.2.2.2.2.2.1 k0_h1 k0_h7 (k0_off13_inb i k0_t1 arg4_r0 arg5_r0 arg6_r0 arg7_r0 arg8_r0 k0_hw1 k0_h1 k0_h7)
theorem k0_off15_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h9 : k0_cond9 i k0_t1 arg8_r0 = 1#1), ∀ a, (k0_off15 arg7_r0) a + S1.size a ≤ S2.size a := fun i k0_t1 arg4_r0 arg5_r0 arg6_r0 arg7_r0 arg8_r0 k0_hw1 k0_h1 k0_h9 => k0_hw1.2.2.2.2.2.2.2.2.2.2.2.1 k0_h1 k0_h9
theorem k0_off16_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h9 : k0_cond9 i k0_t1 arg8_r0 = 1#1), ∀ a, (k0_off16 i arg8_r0) a + S16384x128.size a ≤ S507904x128.size a := fun i k0_t1 arg4_r0 arg5_r0 arg6_r0 arg7_r0 arg8_r0 k0_hw1 k0_h1 k0_h9 => k0_hw1.2.2.2.2.2.2.2.2.2.2.2.2.1 k0_h1 k0_h9
theorem k0_off17_inb : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h9 : k0_cond9 i k0_t1 arg8_r0 = 1#1), ∀ a, (k0_off17 arg7_r0) a + S1x16384x128.size a ≤ S2x16384x128.size a := fun i k0_t1 arg4_r0 arg5_r0 arg6_r0 arg7_r0 arg8_r0 k0_hw1 k0_h1 k0_h9 => k0_hw1.2.2.2.2.2.2.2.2.2.2.2.2.2.1 k0_h1 k0_h9
theorem k0_off17_wordsbf16 : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h9 : k0_cond9 i k0_t1 arg8_r0 = 1#1), (Rect.unit (s := S2x16384x128) (k0_off17 arg7_r0) S1x16384x128.size (k0_off17_inb i k0_t1 arg4_r0 arg5_r0 arg6_r0 arg7_r0 arg8_r0 k0_hw1 k0_h1 k0_h9)).WholeWords (EltTy.packing .bf16) := fun i k0_t1 arg4_r0 arg5_r0 arg6_r0 arg7_r0 arg8_r0 k0_hw1 k0_h1 k0_h9 => k0_hw1.2.2.2.2.2.2.2.2.2.2.2.2.2.2.1 k0_h1 k0_h9 (k0_off17_inb i k0_t1 arg4_r0 arg5_r0 arg6_r0 arg7_r0 arg8_r0 k0_hw1 k0_h1 k0_h9)
theorem k0_off16_wordsbf16 : ∀ (i : grid0.Coords) (k0_t1 : Fin (k0_t1_loop i).trips) (arg4_r0 : BitVec 32) (arg5_r0 : BitVec 32) (arg6_r0 : BitVec 32) (arg7_r0 : BitVec 32) (arg8_r0 : BitVec 32) (k0_hw1 : k0_chk1 i k0_t1 arg4_r0 arg5_r0 arg6_r0 arg7_r0 arg8_r0), ∀ (k0_h1 : k0_cond1 i = 1#1), ∀ (k0_h9 : k0_cond9 i k0_t1 arg8_r0 = 1#1), (Rect.unit (s := S507904x128) (k0_off16 i arg8_r0) S16384x128.size (k0_off16_inb i k0_t1 arg4_r0 arg5_r0 arg6_r0 arg7_r0 arg8_r0 k0_hw1 k0_h1 k0_h9)).WholeWords (EltTy.packing .bf16) := fun i k0_t1 arg4_r0 arg5_r0 arg6_r0 arg7_r0 arg8_r0 k0_hw1 k0_h1 k0_h9 => k0_hw1.2.2.2.2.2.2.2.2.2.2.2.2.2.2.2 k0_h1 k0_h9 (k0_off16_inb i k0_t1 arg4_r0 arg5_r0 arg6_r0 arg7_r0 arg8_r0 k0_hw1 k0_h1 k0_h9)

@[reducible] def k0_t2_loop (i : grid0.Coords) : Scf.Loop 32 :=
  let c0_i32_28_r0 : BitVec 32 := 0#32
  let c1_i32_3 : BitVec 32 := 1#32
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let v39_r0 : BitVec 32 := Scalar.addi c0_i32_28_r0 v38_r0
  let c1_i32_35_r0 : BitVec 32 := 1#32
  ⟨v42_r0, v39_r0, c1_i32_35_r0⟩
def k0_off18 (arg4_r0 : BitVec 32) : Fin 1 → Nat :=
  let c2_i32_103_r0 : BitVec 32 := 2#32
  let v183_r0 : BitVec 32 := Scalar.remui arg4_r0 c2_i32_103_r0
  ![v183_r0.toNat]
def k0_cond10 (i : grid0.Coords) (k0_t2 : Fin (k0_t2_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let v89_r0 : BitVec 1 := Scalar.cmpi .eq v88_r0 v1
  let c0_i32_65_r0 : BitVec 32 := 0#32
  let v90_r0 : BitVec 32 := Scalar.select v89_r0 c0_i32_65_r0 v88_r0
  let v91_r0 : BitVec 32 := Scalar.addi v90_r0 v6
  let v97_r0 : BitVec 1 := Scalar.cmpi .ne v80_r0 v91_r0
  let c0_i32_28_r0 : BitVec 32 := 0#32
  let c1_i32_3 : BitVec 32 := 1#32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let c1_i32_35_r0 : BitVec 32 := 1#32
  let arg3_r0 : BitVec 32 := Scf.iv v42_r0 c1_i32_35_r0 k0_t2
  let c1_i32_56_r0 : BitVec 32 := 1#32
  let v76_r0 : BitVec 32 := Scalar.muli c1_i32_56_r0 v1
  let c2_i32_r0 : BitVec 32 := 2#32
  let v98_r0 : BitVec 32 := Scalar.subi v76_r0 c2_i32_r0
  let c1_i32_69_r0 : BitVec 32 := 1#32
  let v99_r0 : BitVec 32 := Scalar.addi v98_r0 c1_i32_69_r0
  let v100_r0 : BitVec 1 := Scalar.cmpi .sge arg3_r0 v99_r0
  let true_70_r0 : BitVec 1 := 1#1
  let v101_r0 : BitVec 1 := Scalar.xori v100_r0 true_70_r0
  let v102_r0 : BitVec 1 := Scalar.andi v97_r0 v101_r0
  let true_71_r0 : BitVec 1 := 1#1
  let v103_r0 : BitVec 1 := Scalar.andi v102_r0 true_71_r0
  let v104_r0 : BitVec 32 := Scalar.extui v103_r0
  let c0_i32_72_r0 : BitVec 32 := 0#32
  let v105_r0 : BitVec 1 := Scalar.cmpi .ne v104_r0 c0_i32_72_r0
  v105_r0

def k0_off19 (arg4_r0 : BitVec 32) : Fin 3 → Nat :=
  let c2_i32_103_r0 : BitVec 32 := 2#32
  let v183_r0 : BitVec 32 := Scalar.remui arg4_r0 c2_i32_103_r0
  let c0_i32_104_r0 : BitVec 32 := 0#32
  let c0_i32_105_r0 : BitVec 32 := 0#32
  ![v183_r0.toNat, 0, 0]
def k0_off20 (i : grid0.Coords) (arg8_r0 : BitVec 32) : Fin 2 → Nat :=
  let c0_i32_106_r0 : BitVec 32 := 0#32
  let c32768_i32_r0 : BitVec 32 := 32768#32
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v89_r0 : BitVec 1 := Scalar.cmpi .eq v88_r0 v1
  let c0_i32_65_r0 : BitVec 32 := 0#32
  let v90_r0 : BitVec 32 := Scalar.select v89_r0 c0_i32_65_r0 v88_r0
  let c1_i32_0 : BitVec 32 := 1#32
  let v2 : BitVec 1 := Scalar.cmpi .slt arg0 c1_i32_0
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v91_r0 : BitVec 32 := Scalar.addi v90_r0 v6
  let v184_r0 : BitVec 32 := Scalar.muli c32768_i32_r0 v91_r0
  ![0, v184_r0.toNat]
def k0_off21 (arg5_r0 : BitVec 32) : Fin 1 → Nat :=
  let c2_i32_103_r0 : BitVec 32 := 2#32
  let v184_r0 : BitVec 32 := Scalar.remui arg5_r0 c2_i32_103_r0
  ![v184_r0.toNat]
def k0_cond11 (i : grid0.Coords) (k0_t2 : Fin (k0_t2_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let c1_i32_62_r0 : BitVec 32 := 1#32
  let v84_r0 : BitVec 32 := Scalar.subi v1 c1_i32_62_r0
  let v85_r0 : BitVec 32 := Scalar.select v83_r0 v84_r0 v82_r0
  let v86_r0 : BitVec 32 := Scalar.addi v85_r0 v6
  let v115_r0 : BitVec 1 := Scalar.cmpi .ne v80_r0 v86_r0
  let c0_i32_28_r0 : BitVec 32 := 0#32
  let c1_i32_3 : BitVec 32 := 1#32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let c1_i32_35_r0 : BitVec 32 := 1#32
  let arg3_r0 : BitVec 32 := Scf.iv v42_r0 c1_i32_35_r0 k0_t2
  let c0_i32_57_r0 : BitVec 32 := 0#32
  let v77_r0 : BitVec 1 := Scalar.cmpi .eq arg3_r0 c0_i32_57_r0
  let v116_r0 : BitVec 1 := Scalar.ori v115_r0 v77_r0
  let c0_i32_78_r0 : BitVec 32 := 0#32
  let v117_r0 : BitVec 1 := Scalar.cmpi .sge arg3_r0 c0_i32_78_r0
  let v118_r0 : BitVec 1 := Scalar.andi v116_r0 v117_r0
  let v119_r0 : BitVec 32 := Scalar.extui v118_r0
  let c0_i32_79_r0 : BitVec 32 := 0#32
  let v120_r0 : BitVec 1 := Scalar.cmpi .ne v119_r0 c0_i32_79_r0
  v120_r0

def k0_off22 (arg5_r0 : BitVec 32) : Fin 3 → Nat :=
  let c2_i32_103_r0 : BitVec 32 := 2#32
  let v184_r0 : BitVec 32 := Scalar.remui arg5_r0 c2_i32_103_r0
  let c0_i32_104_r0 : BitVec 32 := 0#32
  let c0_i32_105_r0 : BitVec 32 := 0#32
  ![v184_r0.toNat, 0, 0]
def k0_off23 (i : grid0.Coords) (arg8_r0 : BitVec 32) : Fin 2 → Nat :=
  let c0_i32_106_r0 : BitVec 32 := 0#32
  let c32768_i32_r0 : BitVec 32 := 32768#32
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let v183_r0 : BitVec 32 := Scalar.muli c32768_i32_r0 v80_r0
  ![0, v183_r0.toNat]
def k0_off24 (arg5_r0 : BitVec 32) : Fin 3 → Nat :=
  let c2_i32_82_r0 : BitVec 32 := 2#32
  let v127_r0 : BitVec 32 := Scalar.remui arg5_r0 c2_i32_82_r0
  let v135_r0 : Index := Scalar.indexCast v127_r0
  let c0_r0 : Index := 0#32
  let c0_84_r0 : Index := 0#32
  ![v135_r0.toNat, 0, 0]

def k0_chk5 (i : grid0.Coords) (k0_t2 : Fin (k0_t2_loop i).trips) (arg5_r0 : BitVec 32) : Prop :=
  (∀ (k0_h1 : k0_cond1 i = 1#1), ∀ a, (k0_off24 arg5_r0) a + S1x64x32768.size a ≤ S2x64x32768.size a)
theorem k0_off24_inb : ∀ (i : grid0.Coords) (k0_t2 : Fin (k0_t2_loop i).trips) (arg5_r0 : BitVec 32) (k0_hw5 : k0_chk5 i k0_t2 arg5_r0), ∀ (k0_h1 : k0_cond1 i = 1#1), ∀ a, (k0_off24 arg5_r0) a + S1x64x32768.size a ≤ S2x64x32768.size a := fun i k0_t2 arg5_r0 k0_hw5 k0_h1 => k0_hw5 k0_h1

def k0_off25 (arg6_r0 : BitVec 32) : Fin 3 → Nat :=
  let c2_i32_83_r0 : BitVec 32 := 2#32
  let v128_r0 : BitVec 32 := Scalar.remui arg6_r0 c2_i32_83_r0
  let v145_r0 : Index := Scalar.indexCast v128_r0
  let c0_86_r0 : Index := 0#32
  let c0_87_r0 : Index := 0#32
  ![v145_r0.toNat, 0, 0]

def k0_chk6 (i : grid0.Coords) (k0_t2 : Fin (k0_t2_loop i).trips) (arg6_r0 : BitVec 32) : Prop :=
  (∀ (k0_h1 : k0_cond1 i = 1#1), ∀ a, (k0_off25 arg6_r0) a + S1x16384x128.size a ≤ S2x16384x128.size a) ∧
  (∀ (k0_h1 : k0_cond1 i = 1#1), ∀ (hinb : ∀ a, (k0_off25 arg6_r0) a + S1x16384x128.size a ≤ S2x16384x128.size a), (Rect.unit (s := S2x16384x128) (k0_off25 arg6_r0) S1x16384x128.size hinb).PackedRows (EltTy.packing .bf16))
theorem k0_off25_inb : ∀ (i : grid0.Coords) (k0_t2 : Fin (k0_t2_loop i).trips) (arg6_r0 : BitVec 32) (k0_hw6 : k0_chk6 i k0_t2 arg6_r0), ∀ (k0_h1 : k0_cond1 i = 1#1), ∀ a, (k0_off25 arg6_r0) a + S1x16384x128.size a ≤ S2x16384x128.size a := fun i k0_t2 arg6_r0 k0_hw6 k0_h1 => k0_hw6.1 k0_h1
theorem k0_off25_packedbf16 : ∀ (i : grid0.Coords) (k0_t2 : Fin (k0_t2_loop i).trips) (arg6_r0 : BitVec 32) (k0_hw6 : k0_chk6 i k0_t2 arg6_r0), ∀ (k0_h1 : k0_cond1 i = 1#1), (Rect.unit (s := S2x16384x128) (k0_off25 arg6_r0) S1x16384x128.size (k0_off25_inb i k0_t2 arg6_r0 k0_hw6 k0_h1)).PackedRows (EltTy.packing .bf16) := fun i k0_t2 arg6_r0 k0_hw6 k0_h1 => k0_hw6.2 k0_h1 (k0_off25_inb i k0_t2 arg6_r0 k0_hw6 k0_h1)

def k0_off26 (arg6_r0 : BitVec 32) : Fin 1 → Nat :=
  let c2_i32_103_r0 : BitVec 32 := 2#32
  let v183_r0 : BitVec 32 := Scalar.remui arg6_r0 c2_i32_103_r0
  ![v183_r0.toNat]
def k0_cond14 (i : grid0.Coords) (k0_t2 : Fin (k0_t2_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_64_r0 : BitVec 1 := 1#1
  let c1_i32_63_r0 : BitVec 32 := 1#32
  let v87_r0 : BitVec 32 := Scalar.addi arg8_r0 c1_i32_63_r0
  let v88_r0 : BitVec 32 := Scalar.select true_64_r0 v87_r0 arg8_r0
  let v89_r0 : BitVec 1 := Scalar.cmpi .eq v88_r0 v1
  let c0_i32_65_r0 : BitVec 32 := 0#32
  let v90_r0 : BitVec 32 := Scalar.select v89_r0 c0_i32_65_r0 v88_r0
  let v91_r0 : BitVec 32 := Scalar.addi v90_r0 v6
  let v154_r0 : BitVec 1 := Scalar.cmpi .ne v80_r0 v91_r0
  let c0_i32_28_r0 : BitVec 32 := 0#32
  let c1_i32_3 : BitVec 32 := 1#32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let c1_i32_35_r0 : BitVec 32 := 1#32
  let arg3_r0 : BitVec 32 := Scf.iv v42_r0 c1_i32_35_r0 k0_t2
  let c1_i32_56_r0 : BitVec 32 := 1#32
  let v76_r0 : BitVec 32 := Scalar.muli c1_i32_56_r0 v1
  let c1_i32_58_r0 : BitVec 32 := 1#32
  let v78_r0 : BitVec 32 := Scalar.subi v76_r0 c1_i32_58_r0
  let v79_r0 : BitVec 1 := Scalar.cmpi .eq arg3_r0 v78_r0
  let v155_r0 : BitVec 1 := Scalar.ori v154_r0 v79_r0
  let v156_r0 : BitVec 32 := Scalar.extui v155_r0
  let c0_i32_89_r0 : BitVec 32 := 0#32
  let v157_r0 : BitVec 1 := Scalar.cmpi .ne v156_r0 c0_i32_89_r0
  v157_r0

def k0_off27 (i : grid0.Coords) (arg8_r0 : BitVec 32) : Fin 2 → Nat :=
  let c16384_i32_r0 : BitVec 32 := 16384#32
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let v184_r0 : BitVec 32 := Scalar.muli c16384_i32_r0 v80_r0
  let c0_i32_104_r0 : BitVec 32 := 0#32
  ![v184_r0.toNat, 0]
def k0_off28 (arg6_r0 : BitVec 32) : Fin 3 → Nat :=
  let c2_i32_103_r0 : BitVec 32 := 2#32
  let v183_r0 : BitVec 32 := Scalar.remui arg6_r0 c2_i32_103_r0
  let c0_i32_105_r0 : BitVec 32 := 0#32
  let c0_i32_106_r0 : BitVec 32 := 0#32
  ![v183_r0.toNat, 0, 0]
def k0_off29 (arg7_r0 : BitVec 32) : Fin 1 → Nat :=
  let c2_i32_103_r0 : BitVec 32 := 2#32
  let v183_r0 : BitVec 32 := Scalar.remui arg7_r0 c2_i32_103_r0
  ![v183_r0.toNat]
def k0_cond16 (i : grid0.Coords) (k0_t2 : Fin (k0_t2_loop i).trips) (arg8_r0 : BitVec 32) : BitVec 1 :=
  let arg0 : BitVec 32 := BitVec.ofNat 32 (i 0).val
  let c1_i32_0 : BitVec 32 := 1#32
  let v2 : BitVec 1 := Scalar.cmpi .slt arg0 c1_i32_0
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v80_r0 : BitVec 32 := Scalar.addi arg8_r0 v6
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let c1_i32_62_r0 : BitVec 32 := 1#32
  let v84_r0 : BitVec 32 := Scalar.subi v1 c1_i32_62_r0
  let v85_r0 : BitVec 32 := Scalar.select v83_r0 v84_r0 v82_r0
  let v86_r0 : BitVec 32 := Scalar.addi v85_r0 v6
  let v167_r0 : BitVec 1 := Scalar.cmpi .ne v80_r0 v86_r0
  let c0_i32_28_r0 : BitVec 32 := 0#32
  let c1_i32_3 : BitVec 32 := 1#32
  let v7 : BitVec 32 := Scalar.muli c1_i32_3 v1
  let v38_r0 : BitVec 32 := Scalar.subi v7 c0_i32_28_r0
  let c1_i32_33_r0 : BitVec 32 := 1#32
  let v40_r0 : BitVec 32 := Scalar.divsi v38_r0 c1_i32_33_r0
  let v41_r0 : BitVec 32 := Scalar.muli v40_r0 c1_i32_33_r0
  let v42_r0 : BitVec 32 := Scalar.addi c0_i32_28_r0 v41_r0
  let c1_i32_35_r0 : BitVec 32 := 1#32
  let arg3_r0 : BitVec 32 := Scf.iv v42_r0 c1_i32_35_r0 k0_t2
  let c0_i32_57_r0 : BitVec 32 := 0#32
  let v77_r0 : BitVec 1 := Scalar.cmpi .eq arg3_r0 c0_i32_57_r0
  let true_95_r0 : BitVec 1 := 1#1
  let v168_r0 : BitVec 1 := Scalar.xori v77_r0 true_95_r0
  let v169_r0 : BitVec 1 := Scalar.andi v167_r0 v168_r0
  let v170_r0 : BitVec 32 := Scalar.extui v169_r0
  let c0_i32_96_r0 : BitVec 32 := 0#32
  let v171_r0 : BitVec 1 := Scalar.cmpi .ne v170_r0 c0_i32_96_r0
  v171_r0

def k0_off30 (i : grid0.Coords) (arg8_r0 : BitVec 32) : Fin 2 → Nat :=
  let c16384_i32_r0 : BitVec 32 := 16384#32
  let true_60_r0 : BitVec 1 := 1#1
  let c1_i32_59_r0 : BitVec 32 := 1#32
  let v81_r0 : BitVec 32 := Scalar.subi arg8_r0 c1_i32_59_r0
  let v82_r0 : BitVec 32 := Scalar.select true_60_r0 v81_r0 arg8_r0
  let c_m1_i32_61_r0 : BitVec 32 := 4294967295#32
  let v83_r0 : BitVec 1 := Scalar.cmpi .eq v82_r0 c_m1_i32_61_r0
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let c1_i32_62_r0 : BitVec 32 := 1#32
  let v84_r0 : BitVec 32 := Scalar.subi v1 c1_i32_62_r0
  let v85_r0 : BitVec 32 := Scalar.select v83_r0 v84_r0 v82_r0
  let c1_i32_0 : BitVec 32 := 1#32
  let v2 : BitVec 1 := Scalar.cmpi .slt arg0 c1_i32_0
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v86_r0 : BitVec 32 := Scalar.addi v85_r0 v6
  let v184_r0 : BitVec 32 := Scalar.muli c16384_i32_r0 v86_r0
  let c0_i32_104_r0 : BitVec 32 := 0#32
  ![v184_r0.toNat, 0]
def k0_off31 (arg7_r0 : BitVec 32) : Fin 3 → Nat :=
  let c2_i32_103_r0 : BitVec 32 := 2#32
  let v183_r0 : BitVec 32 := Scalar.remui arg7_r0 c2_i32_103_r0
  let c0_i32_105_r0 : BitVec 32 := 0#32
  let c0_i32_106_r0 : BitVec 32 := 0#32
  ![v183_r0.toNat, 0, 0]

def k0_chk4 (i : grid0.Coords) (k0_t2 : Fin (k0_t2_loop i).trips) (arg4_r0 : BitVec 32) (arg5_r0 : BitVec 32) (arg6_r0 : BitVec 32) (arg7_r0 : BitVec 32) (arg8_r0 : BitVec 32) : Prop :=
  (∀ (k0_h1 : k0_cond1 i = 1#1), ∀ (k0_h10 : k0_cond10 i k0_t2 arg8_r0 = 1#1), ∀ a, (k0_off18 arg4_r0) a + S1.size a ≤ S2.size a) ∧
  (∀ (k0_h1 : k0_cond1 i = 1#1), ∀ (k0_h10 : k0_cond10 i k0_t2 arg8_r0 = 1#1), ∀ a, (k0_off19 arg4_r0) a + S1x64x32768.size a ≤ S2x64x32768.size a) ∧
  (∀ (k0_h1 : k0_cond1 i = 1#1), ∀ (k0_h10 : k0_cond10 i k0_t2 arg8_r0 = 1#1), ∀ a, (k0_off20 i arg8_r0) a + S64x32768.size a ≤ S64x1015808.size a) ∧
  (∀ (k0_h1 : k0_cond1 i = 1#1), ∀ (k0_h11 : k0_cond11 i k0_t2 arg8_r0 = 1#1), ∀ a, (k0_off21 arg5_r0) a + S1.size a ≤ S2.size a) ∧
  (∀ (k0_h1 : k0_cond1 i = 1#1), ∀ (k0_h11 : k0_cond11 i k0_t2 arg8_r0 = 1#1), ∀ a, (k0_off22 arg5_r0) a + S1x64x32768.size a ≤ S2x64x32768.size a) ∧
  (∀ (k0_h1 : k0_cond1 i = 1#1), ∀ (k0_h11 : k0_cond11 i k0_t2 arg8_r0 = 1#1), ∀ a, (k0_off23 i arg8_r0) a + S64x32768.size a ≤ S64x1015808.size a) ∧
  (∀ (k0_h1 : k0_cond1 i = 1#1), ∀ (k0_h14 : k0_cond14 i k0_t2 arg8_r0 = 1#1), ∀ a, (k0_off26 arg6_r0) a + S1.size a ≤ S2.size a) ∧
  (∀ (k0_h1 : k0_cond1 i = 1#1), ∀ (k0_h14 : k0_cond14 i k0_t2 arg8_r0 = 1#1), ∀ a, (k0_off27 i arg8_r0) a + S16384x128.size a ≤ S507904x128.size a) ∧
  (∀ (k0_h1 : k0_cond1 i = 1#1), ∀ (k0_h14 : k0_cond14 i k0_t2 arg8_r0 = 1#1), ∀ a, (k0_off28 arg6_r0) a + S1x16384x128.size a ≤ S2x16384x128.size a) ∧
  (∀ (k0_h1 : k0_cond1 i = 1#1), ∀ (k0_h14 : k0_cond14 i k0_t2 arg8_r0 = 1#1), ∀ (hinb : ∀ a, (k0_off28 arg6_r0) a + S1x16384x128.size a ≤ S2x16384x128.size a), (Rect.unit (s := S2x16384x128) (k0_off28 arg6_r0) S1x16384x128.size hinb).WholeWords (EltTy.packing .bf16)) ∧
  (∀ (k0_h1 : k0_cond1 i = 1#1), ∀ (k0_h14 : k0_cond14 i k0_t2 arg8_r0 = 1#1), ∀ (hinb : ∀ a, (k0_off27 i arg8_r0) a + S16384x128.size a ≤ S507904x128.size a), (Rect.unit (s := S507904x128) (k0_off27 i arg8_r0) S16384x128.size hinb).WholeWords (EltTy.packing .bf16)) ∧
  (∀ (k0_h1 : k0_cond1 i = 1#1), ∀ (k0_h16 : k0_cond16 i k0_t2 arg8_r0 = 1#1), ∀ a, (k0_off29 arg7_r0) a + S1.size a ≤ S2.size a) ∧
  (∀ (k0_h1 : k0_cond1 i = 1#1), ∀ (k0_h16 : k0_cond16 i k0_t2 arg8_r0 = 1#1), ∀ a, (k0_off30 i arg8_r0) a + S16384x128.size a ≤ S507904x128.size a) ∧
  (∀ (k0_h1 : k0_cond1 i = 1#1), ∀ (k0_h16 : k0_cond16 i k0_t2 arg8_r0 = 1#1), ∀ a, (k0_off31 arg7_r0) a + S1x16384x128.size a ≤ S2x16384x128.size a) ∧
  (∀ (k0_h1 : k0_cond1 i = 1#1), ∀ (k0_h16 : k0_cond16 i k0_t2 arg8_r0 = 1#1), ∀ (hinb : ∀ a, (k0_off31 arg7_r0) a + S1x16384x128.size a ≤ S2x16384x128.size a), (Rect.unit (s := S2x16384x128) (k0_off31 arg7_r0) S1x16384x128.size hinb).WholeWords (EltTy.packing .bf16)) ∧
  (∀ (k0_h1 : k0_cond1 i = 1#1), ∀ (k0_h16 : k0_cond16 i k0_t2 arg8_r0 = 1#1), ∀ (hinb : ∀ a, (k0_off30 i arg8_r0) a + S16384x128.size a ≤ S507904x128.size a), (Rect.unit (s := S507904x128) (k0_off30 i arg8_r0) S16384x128.size hinb).WholeWords (EltTy.packing .bf16))
theorem k0_off18_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h10 : k0_cond10 i k0_t2 arg8_r0 = 1#1), ∀ a, (k0_off18 arg4_r0) a + S1.size a ≤ S2.size a := fun i k0_t2 arg4_r0 arg5_r0 arg6_r0 arg7_r0 arg8_r0 k0_hw4 k0_h1 k0_h10 => k0_hw4.1 k0_h1 k0_h10
theorem k0_off19_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h10 : k0_cond10 i k0_t2 arg8_r0 = 1#1), ∀ a, (k0_off19 arg4_r0) a + S1x64x32768.size a ≤ S2x64x32768.size a := fun i k0_t2 arg4_r0 arg5_r0 arg6_r0 arg7_r0 arg8_r0 k0_hw4 k0_h1 k0_h10 => k0_hw4.2.1 k0_h1 k0_h10
theorem k0_off20_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h10 : k0_cond10 i k0_t2 arg8_r0 = 1#1), ∀ a, (k0_off20 i arg8_r0) a + S64x32768.size a ≤ S64x1015808.size a := fun i k0_t2 arg4_r0 arg5_r0 arg6_r0 arg7_r0 arg8_r0 k0_hw4 k0_h1 k0_h10 => k0_hw4.2.2.1 k0_h1 k0_h10
theorem k0_off21_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h11 : k0_cond11 i k0_t2 arg8_r0 = 1#1), ∀ a, (k0_off21 arg5_r0) a + S1.size a ≤ S2.size a := fun i k0_t2 arg4_r0 arg5_r0 arg6_r0 arg7_r0 arg8_r0 k0_hw4 k0_h1 k0_h11 => k0_hw4.2.2.2.1 k0_h1 k0_h11
theorem k0_off22_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h11 : k0_cond11 i k0_t2 arg8_r0 = 1#1), ∀ a, (k0_off22 arg5_r0) a + S1x64x32768.size a ≤ S2x64x32768.size a := fun i k0_t2 arg4_r0 arg5_r0 arg6_r0 arg7_r0 arg8_r0 k0_hw4 k0_h1 k0_h11 => k0_hw4.2.2.2.2.1 k0_h1 k0_h11
theorem k0_off23_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h11 : k0_cond11 i k0_t2 arg8_r0 = 1#1), ∀ a, (k0_off23 i arg8_r0) a + S64x32768.size a ≤ S64x1015808.size a := fun i k0_t2 arg4_r0 arg5_r0 arg6_r0 arg7_r0 arg8_r0 k0_hw4 k0_h1 k0_h11 => k0_hw4.2.2.2.2.2.1 k0_h1 k0_h11
theorem k0_off26_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h14 : k0_cond14 i k0_t2 arg8_r0 = 1#1), ∀ a, (k0_off26 arg6_r0) a + S1.size a ≤ S2.size a := fun i k0_t2 arg4_r0 arg5_r0 arg6_r0 arg7_r0 arg8_r0 k0_hw4 k0_h1 k0_h14 => k0_hw4.2.2.2.2.2.2.1 k0_h1 k0_h14
theorem k0_off27_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h14 : k0_cond14 i k0_t2 arg8_r0 = 1#1), ∀ a, (k0_off27 i arg8_r0) a + S16384x128.size a ≤ S507904x128.size a := fun i k0_t2 arg4_r0 arg5_r0 arg6_r0 arg7_r0 arg8_r0 k0_hw4 k0_h1 k0_h14 => k0_hw4.2.2.2.2.2.2.2.1 k0_h1 k0_h14
theorem k0_off28_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h14 : k0_cond14 i k0_t2 arg8_r0 = 1#1), ∀ a, (k0_off28 arg6_r0) a + S1x16384x128.size a ≤ S2x16384x128.size a := fun i k0_t2 arg4_r0 arg5_r0 arg6_r0 arg7_r0 arg8_r0 k0_hw4 k0_h1 k0_h14 => k0_hw4.2.2.2.2.2.2.2.2.1 k0_h1 k0_h14
theorem k0_off28_wordsbf16 : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h14 : k0_cond14 i k0_t2 arg8_r0 = 1#1), (Rect.unit (s := S2x16384x128) (k0_off28 arg6_r0) S1x16384x128.size (k0_off28_inb i k0_t2 arg4_r0 arg5_r0 arg6_r0 arg7_r0 arg8_r0 k0_hw4 k0_h1 k0_h14)).WholeWords (EltTy.packing .bf16) := fun i k0_t2 arg4_r0 arg5_r0 arg6_r0 arg7_r0 arg8_r0 k0_hw4 k0_h1 k0_h14 => k0_hw4.2.2.2.2.2.2.2.2.2.1 k0_h1 k0_h14 (k0_off28_inb i k0_t2 arg4_r0 arg5_r0 arg6_r0 arg7_r0 arg8_r0 k0_hw4 k0_h1 k0_h14)
theorem k0_off27_wordsbf16 : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h14 : k0_cond14 i k0_t2 arg8_r0 = 1#1), (Rect.unit (s := S507904x128) (k0_off27 i arg8_r0) S16384x128.size (k0_off27_inb i k0_t2 arg4_r0 arg5_r0 arg6_r0 arg7_r0 arg8_r0 k0_hw4 k0_h1 k0_h14)).WholeWords (EltTy.packing .bf16) := fun i k0_t2 arg4_r0 arg5_r0 arg6_r0 arg7_r0 arg8_r0 k0_hw4 k0_h1 k0_h14 => k0_hw4.2.2.2.2.2.2.2.2.2.2.1 k0_h1 k0_h14 (k0_off27_inb i k0_t2 arg4_r0 arg5_r0 arg6_r0 arg7_r0 arg8_r0 k0_hw4 k0_h1 k0_h14)
theorem k0_off29_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h16 : k0_cond16 i k0_t2 arg8_r0 = 1#1), ∀ a, (k0_off29 arg7_r0) a + S1.size a ≤ S2.size a := fun i k0_t2 arg4_r0 arg5_r0 arg6_r0 arg7_r0 arg8_r0 k0_hw4 k0_h1 k0_h16 => k0_hw4.2.2.2.2.2.2.2.2.2.2.2.1 k0_h1 k0_h16
theorem k0_off30_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h16 : k0_cond16 i k0_t2 arg8_r0 = 1#1), ∀ a, (k0_off30 i arg8_r0) a + S16384x128.size a ≤ S507904x128.size a := fun i k0_t2 arg4_r0 arg5_r0 arg6_r0 arg7_r0 arg8_r0 k0_hw4 k0_h1 k0_h16 => k0_hw4.2.2.2.2.2.2.2.2.2.2.2.2.1 k0_h1 k0_h16
theorem k0_off31_inb : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h16 : k0_cond16 i k0_t2 arg8_r0 = 1#1), ∀ a, (k0_off31 arg7_r0) a + S1x16384x128.size a ≤ S2x16384x128.size a := fun i k0_t2 arg4_r0 arg5_r0 arg6_r0 arg7_r0 arg8_r0 k0_hw4 k0_h1 k0_h16 => k0_hw4.2.2.2.2.2.2.2.2.2.2.2.2.2.1 k0_h1 k0_h16
theorem k0_off31_wordsbf16 : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h16 : k0_cond16 i k0_t2 arg8_r0 = 1#1), (Rect.unit (s := S2x16384x128) (k0_off31 arg7_r0) S1x16384x128.size (k0_off31_inb i k0_t2 arg4_r0 arg5_r0 arg6_r0 arg7_r0 arg8_r0 k0_hw4 k0_h1 k0_h16)).WholeWords (EltTy.packing .bf16) := fun i k0_t2 arg4_r0 arg5_r0 arg6_r0 arg7_r0 arg8_r0 k0_hw4 k0_h1 k0_h16 => k0_hw4.2.2.2.2.2.2.2.2.2.2.2.2.2.2.1 k0_h1 k0_h16 (k0_off31_inb i k0_t2 arg4_r0 arg5_r0 arg6_r0 arg7_r0 arg8_r0 k0_hw4 k0_h1 k0_h16)
theorem k0_off30_wordsbf16 : ∀ (i : grid0.Coords) (k0_t2 : Fin (k0_t2_loop i).trips) (arg4_r0 : BitVec 32) (arg5_r0 : BitVec 32) (arg6_r0 : BitVec 32) (arg7_r0 : BitVec 32) (arg8_r0 : BitVec 32) (k0_hw4 : k0_chk4 i k0_t2 arg4_r0 arg5_r0 arg6_r0 arg7_r0 arg8_r0), ∀ (k0_h1 : k0_cond1 i = 1#1), ∀ (k0_h16 : k0_cond16 i k0_t2 arg8_r0 = 1#1), (Rect.unit (s := S507904x128) (k0_off30 i arg8_r0) S16384x128.size (k0_off30_inb i k0_t2 arg4_r0 arg5_r0 arg6_r0 arg7_r0 arg8_r0 k0_hw4 k0_h1 k0_h16)).WholeWords (EltTy.packing .bf16) := fun i k0_t2 arg4_r0 arg5_r0 arg6_r0 arg7_r0 arg8_r0 k0_hw4 k0_h1 k0_h16 => k0_hw4.2.2.2.2.2.2.2.2.2.2.2.2.2.2.2 k0_h1 k0_h16 (k0_off30_inb i k0_t2 arg4_r0 arg5_r0 arg6_r0 arg7_r0 arg8_r0 k0_hw4 k0_h1 k0_h16)

def k0_cond18 (i : grid0.Coords) : BitVec 1 :=
  let c1_i32_3 : BitVec 32 := 1#32
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let v7 : BitVec 32 := Scalar.muli c1_i32_3 v1
  let c1_i32_40_r0 : BitVec 32 := 1#32
  let v50_r0 : BitVec 32 := Scalar.subi v7 c1_i32_40_r0
  let c1_i32_41_r0 : BitVec 32 := 1#32
  let v51_r0 : BitVec 32 := Scalar.muli c1_i32_41_r0 v1
  let c1_i32_43_r0 : BitVec 32 := 1#32
  let v53_r0 : BitVec 32 := Scalar.subi v51_r0 c1_i32_43_r0
  let v54_r0 : BitVec 1 := Scalar.cmpi .eq v50_r0 v53_r0
  let v74_r0 : BitVec 32 := Scalar.extui v54_r0
  let c0_i32_55_r0 : BitVec 32 := 0#32
  let v75_r0 : BitVec 1 := Scalar.cmpi .ne v74_r0 c0_i32_55_r0
  v75_r0

def k0_off32 (v44_3_r0 : BitVec 32) : Fin 1 → Nat :=
  let c2_i32_r0 : BitVec 32 := 2#32
  let v76_r0 : BitVec 32 := Scalar.remui v44_3_r0 c2_i32_r0
  ![v76_r0.toNat]

def k0_off33 (i : grid0.Coords) (v44_4_r0 : BitVec 32) : Fin 2 → Nat :=
  let c16384_i32_r0 : BitVec 32 := 16384#32
  let true_37_r0 : BitVec 1 := 1#1
  let c1_i32_36_r0 : BitVec 32 := 1#32
  let v45_r0 : BitVec 32 := Scalar.subi v44_4_r0 c1_i32_36_r0
  let v46_r0 : BitVec 32 := Scalar.select true_37_r0 v45_r0 v44_4_r0
  let c_m1_i32_38_r0 : BitVec 32 := 4294967295#32
  let v47_r0 : BitVec 1 := Scalar.cmpi .eq v46_r0 c_m1_i32_38_r0
  let arg0 : BitVec 32 := BitVec.ofNat 32 (i 0).val
  let c1_i32 : BitVec 32 := 1#32
  let v0 : BitVec 1 := Scalar.cmpi .slt arg0 c1_i32
  let c16_i32 : BitVec 32 := 16#32
  let c15_i32 : BitVec 32 := 15#32
  let v1 : BitVec 32 := Scalar.select v0 c16_i32 c15_i32
  let c1_i32_39_r0 : BitVec 32 := 1#32
  let v48_r0 : BitVec 32 := Scalar.subi v1 c1_i32_39_r0
  let v49_r0 : BitVec 32 := Scalar.select v47_r0 v48_r0 v46_r0
  let c1_i32_0 : BitVec 32 := 1#32
  let v2 : BitVec 1 := Scalar.cmpi .slt arg0 c1_i32_0
  let v3 : BitVec 32 := Scalar.muli arg0 v1
  let c15_i32_1 : BitVec 32 := 15#32
  let v4 : BitVec 32 := Scalar.muli arg0 c15_i32_1
  let c1_i32_2 : BitVec 32 := 1#32
  let v5 : BitVec 32 := Scalar.addi v4 c1_i32_2
  let v6 : BitVec 32 := Scalar.select v2 v3 v5
  let v55_r0 : BitVec 32 := Scalar.addi v49_r0 v6
  let v77_r0 : BitVec 32 := Scalar.muli c16384_i32_r0 v55_r0
  let c0_i32_56_r0 : BitVec 32 := 0#32
  ![v77_r0.toNat, 0]

def k0_off34 (v44_3_r0 : BitVec 32) : Fin 3 → Nat :=
  let c2_i32_r0 : BitVec 32 := 2#32
  let v76_r0 : BitVec 32 := Scalar.remui v44_3_r0 c2_i32_r0
  let c0_i32_57_r0 : BitVec 32 := 0#32
  let c0_i32_58_r0 : BitVec 32 := 0#32
  ![v76_r0.toNat, 0, 0]

def k0_chk7 (i : grid0.Coords) (v44_3_r0 : BitVec 32) : Prop :=
  (∀ (k0_h1 : k0_cond1 i = 1#1), ∀ (k0_h18 : k0_cond18 i = 1#1), ∀ a, (k0_off32 v44_3_r0) a + S1.size a ≤ S2.size a) ∧
  (∀ (k0_h1 : k0_cond1 i = 1#1), ∀ (k0_h18 : k0_cond18 i = 1#1), ∀ a, (k0_off34 v44_3_r0) a + S1x16384x128.size a ≤ S2x16384x128.size a) ∧
  (∀ (k0_h1 : k0_cond1 i = 1#1), ∀ (k0_h18 : k0_cond18 i = 1#1), ∀ (hinb : ∀ a, (k0_off34 v44_3_r0) a + S1x16384x128.size a ≤ S2x16384x128.size a), (Rect.unit (s := S2x16384x128) (k0_off34 v44_3_r0) S1x16384x128.size hinb).WholeWords (EltTy.packing .bf16))
theorem k0_off32_inb : ∀ (i : grid0.Coords) (v44_3_r0 : BitVec 32) (k0_hw7 : k0_chk7 i v44_3_r0), ∀ (k0_h1 : k0_cond1 i = 1#1), ∀ (k0_h18 : k0_cond18 i = 1#1), ∀ a, (k0_off32 v44_3_r0) a + S1.size a ≤ S2.size a := fun i v44_3_r0 k0_hw7 k0_h1 k0_h18 => k0_hw7.1 k0_h1 k0_h18
theorem k0_off34_inb : ∀ (i : grid0.Coords) (v44_3_r0 : BitVec 32) (k0_hw7 : k0_chk7 i v44_3_r0), ∀ (k0_h1 : k0_cond1 i = 1#1), ∀ (k0_h18 : k0_cond18 i = 1#1), ∀ a, (k0_off34 v44_3_r0) a + S1x16384x128.size a ≤ S2x16384x128.size a := fun i v44_3_r0 k0_hw7 k0_h1 k0_h18 => k0_hw7.2.1 k0_h1 k0_h18
theorem k0_off34_wordsbf16 : ∀ (i : grid0.Coords) (v44_3_r0 : BitVec 32) (k0_hw7 : k0_chk7 i v44_3_r0), ∀ (k0_h1 : k0_cond1 i = 1#1), ∀ (k0_h18 : k0_cond18 i = 1#1), (Rect.unit (s := S2x16384x128) (k0_off34 v44_3_r0) S1x16384x128.size (k0_off34_inb i v44_3_r0 k0_hw7 k0_h1 k0_h18)).WholeWords (EltTy.packing .bf16) := fun i v44_3_r0 k0_hw7 k0_h1 k0_h18 => k0_hw7.2.2 k0_h1 k0_h18 (k0_off34_inb i v44_3_r0 k0_hw7 k0_h1 k0_h18)

def k0_chk8 (i : grid0.Coords) (v44_4_r0 : BitVec 32) : Prop :=
  (∀ (k0_h1 : k0_cond1 i = 1#1), ∀ (k0_h18 : k0_cond18 i = 1#1), ∀ a, (k0_off33 i v44_4_r0) a + S16384x128.size a ≤ S507904x128.size a) ∧
  (∀ (k0_h1 : k0_cond1 i = 1#1), ∀ (k0_h18 : k0_cond18 i = 1#1), ∀ (hinb : ∀ a, (k0_off33 i v44_4_r0) a + S16384x128.size a ≤ S507904x128.size a), (Rect.unit (s := S507904x128) (k0_off33 i v44_4_r0) S16384x128.size hinb).WholeWords (EltTy.packing .bf16))
theorem k0_off33_inb : ∀ (i : grid0.Coords) (v44_4_r0 : BitVec 32) (k0_hw8 : k0_chk8 i v44_4_r0), ∀ (k0_h1 : k0_cond1 i = 1#1), ∀ (k0_h18 : k0_cond18 i = 1#1), ∀ a, (k0_off33 i v44_4_r0) a + S16384x128.size a ≤ S507904x128.size a := fun i v44_4_r0 k0_hw8 k0_h1 k0_h18 => k0_hw8.1 k0_h1 k0_h18
theorem k0_off33_wordsbf16 : ∀ (i : grid0.Coords) (v44_4_r0 : BitVec 32) (k0_hw8 : k0_chk8 i v44_4_r0), ∀ (k0_h1 : k0_cond1 i = 1#1), ∀ (k0_h18 : k0_cond18 i = 1#1), (Rect.unit (s := S507904x128) (k0_off33 i v44_4_r0) S16384x128.size (k0_off33_inb i v44_4_r0 k0_hw8 k0_h1 k0_h18)).WholeWords (EltTy.packing .bf16) := fun i v44_4_r0 k0_hw8 k0_h1 k0_h18 => k0_hw8.2 k0_h1 k0_h18 (k0_off33_inb i v44_4_r0 k0_hw8 k0_h1 k0_h18)
-- ==== PackReferenceIdeal.lean ====
abbrev S1000000x64 : Shape := ⟨2, ![1000000, 64]⟩
abbrev S_ : Shape := ⟨0, ![]⟩
abbrev S1015808x64 : Shape := ⟨2, ![1015808, 64]⟩
abbrev S31x2x16384x64 : Shape := ⟨4, ![31, 2, 16384, 64]⟩
abbrev S31x16384x2x64 : Shape := ⟨4, ![31, 16384, 2, 64]⟩
abbrev S507904x128 : Shape := ⟨2, ![507904, 128]⟩

abbrev nBuf : Space → Nat
  | .hbm => 8
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S_, .i32⟩
  | .hbm, ⟨2, _⟩ => ⟨S_, .f32⟩
  | .hbm, ⟨3, _⟩ => ⟨S1015808x64, .f32⟩
  | .hbm, ⟨4, _⟩ => ⟨S1015808x64, .bf16⟩
  | .hbm, ⟨5, _⟩ => ⟨S31x2x16384x64, .bf16⟩
  | .hbm, ⟨6, _⟩ => ⟨S31x16384x2x64, .bf16⟩
  | .hbm, ⟨7, _⟩ => ⟨S507904x128, .bf16⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Names.lean ====
/-
  The dots kernel's rings: the blocks of its arrays in HBM, the slots of its buffers, the slots' semaphores, each under one
  name; the kernel's printed offsets in closed form at the words the loop carries (`wd`), its conditions decided by the
  trip, its checks discharged.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic
public import Idealize.ShloMosaic.Lib.Pipeline.Kit

@[expose] public section

noncomputable section

namespace Cert.Proof.Dots

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

/-! ## Names -/

abbrev rSlotOff (s : Fin 2) : Fin 3 → Nat := ![s.val, 0, 0]
theorem rSlot_inb : ∀ s : Fin 2, ∀ a, rSlotOff s a + S1x2048x128.size a ≤ S2x2048x128.size a := by decide
theorem wSlot_inb : ∀ s : Fin 2, ∀ a, rSlotOff s a + S1x1x2048.size a ≤ S2x1x2048.size a := by decide
abbrev celOff (s : Fin 2) : Fin 1 → Nat := ![s.val]
theorem cel_inb : ∀ s : Fin 2, ∀ a, celOff s a + S1.size a ≤ S2.size a := by decide
abbrev rBlkOff (b : Fin 8) : Fin 2 → Nat := ![2048 * b.val, 0]
theorem rBlk_inb : ∀ b : Fin 8, ∀ a, rBlkOff b a + S2048x128.size a ≤ S16384x128.size a := by decide
abbrev wBlkOff (b : Fin 8) : Fin 2 → Nat := ![0, 2048 * b.val]
theorem wBlk_inb : ∀ b : Fin 8, ∀ a, wBlkOff b a + S1x2048.size a ≤ S1x16384.size a := by decide

instance (s : Fin 2) : ClosedOff (rSlotOff s) := ⟨rSlotOff s, rfl⟩
instance (b : Fin 8) : ClosedOff (rBlkOff b) := ⟨rBlkOff b, rfl⟩
instance (b : Fin 8) : ClosedOff (wBlkOff b) := ⟨wBlkOff b, rfl⟩

/-- Slot `s` of a buffer of rows. -/
def rSlot (M : Memref sig .tc .vmem S2x2048x128 .i32) (s : Fin 2) : Memref sig .tc .vmem S2048x128 .i32 :=
  (M.slice (Rect.unit (s := S2x2048x128) (rSlotOff s) S1x2048x128.size (rSlot_inb s)) (fun _ => rfl)).squeeze S2048x128 squeezes_S1x2048x128_S2048x128
/-- Slot `s` of a buffer of lanes. -/
def wSlot {e : EltTy} (M : Memref sig .tc .vmem S2x1x2048 e) (s : Fin 2) : Memref sig .tc .vmem S1x2048 e :=
  (M.slice (Rect.unit (s := S2x1x2048) (rSlotOff s) S1x1x2048.size (wSlot_inb s)) (fun _ => rfl)).squeeze S1x2048 squeezes_S1x1x2048_S1x2048
/-- Slot `s`'s semaphore. -/
def cel (C : DmaSems sig S2) (s : Fin 2) : DmaSems sig S_ := (C.slice (Rect.unit (s := S2) (celOff s) S1.size (cel_inb s))).squeeze S_ squeezes_S1_S_
/-- Block `b` of an array of rows. -/
def rBlk (A : Memref sig .tc .hbm S16384x128 .i32) (b : Fin 8) : Memref sig .tc .hbm S2048x128 .i32 :=
  A.slice (Rect.unit (s := S16384x128) (rBlkOff b) S2048x128.size (rBlk_inb b)) (fun _ => rfl)
/-- Block `b` of an array of lanes. -/
def wBlk {e : EltTy} (A : Memref sig .tc .hbm S1x16384 e) (b : Fin 8) : Memref sig .tc .hbm S1x2048 e :=
  A.slice (Rect.unit (s := S1x16384) (wBlkOff b) S1x2048.size (wBlk_inb b)) (fun _ => rfl)

theorem rSlot_congr (M : Memref sig .tc .vmem S2x2048x128 .i32) {off : Fin 3 → Nat} {s : Fin 2} (e : off = rSlotOff s) (hh hs) :
    (M.slice (Rect.unit (s := S2x2048x128) off S1x2048x128.size hh) hs).squeeze S2048x128 squeezes_S1x2048x128_S2048x128 = rSlot M s :=
  congrArg (fun N : Memref sig .tc .vmem S1x2048x128 .i32 => N.squeeze S2048x128 squeezes_S1x2048x128_S2048x128) (Memref.slice_unit_congr _ e _ _ _ _)
theorem wSlot_congr {el : EltTy} (M : Memref sig .tc .vmem S2x1x2048 el) {off : Fin 3 → Nat} {s : Fin 2} (e : off = rSlotOff s) (hh hs) :
    (M.slice (Rect.unit (s := S2x1x2048) off S1x1x2048.size hh) hs).squeeze S1x2048 squeezes_S1x1x2048_S1x2048 = wSlot M s :=
  congrArg (fun N : Memref sig .tc .vmem S1x1x2048 el => N.squeeze S1x2048 squeezes_S1x1x2048_S1x2048) (Memref.slice_unit_congr _ e _ _ _ _)
theorem cel_congr (C : DmaSems sig S2) {off : Fin 1 → Nat} {s : Fin 2} (e : off = celOff s) (hh) :
    (C.slice (Rect.unit (s := S2) off S1.size hh)).squeeze S_ squeezes_S1_S_ = cel C s :=
  congrArg (fun A : DmaSems sig S1 => A.squeeze S_ squeezes_S1_S_) (SemArray.slice_unit_congr _ e _ _)
theorem rBlk_congr (A : Memref sig .tc .hbm S16384x128 .i32) {off : Fin 2 → Nat} {b : Fin 8} (e : off = rBlkOff b) (hh hs) :
    A.slice (Rect.unit (s := S16384x128) off S2048x128.size hh) hs = rBlk A b := by subst e; rfl
theorem wBlk_congr {el : EltTy} (A : Memref sig .tc .hbm S1x16384 el) {off : Fin 2 → Nat} {b : Fin 8} (e : off = wBlkOff b) (hh hs) :
    A.slice (Rect.unit (s := S1x16384) off S1x2048.size hh) hs = wBlk A b := by subst e; rfl

/-- The loop's trips. -/
abbrev Trip : Type := Fin k3_t1_loop.trips
theorem trips_eq : k3_t1_loop.trips = 4 := by decide
theorem trip_lt (k : Trip) : k.val < 4 := trips_eq ▸ k.isLt

/-- A count as the loop carries it. -/
abbrev wd (n : ℕ) : BitVec 32 := BitVec.ofNat 32 n

/-- The block of the arrays that trip `n` of the loop at grid point `i` works on. -/
def bno (i : grid3.Coords) (n : ℕ) : Fin 8 := Fin.ofNat 8 (4 * (i 0).val + n)

/-! ## The printed offsets at the carried words -/

theorem cel_words : ∀ n : Fin 5, k3_off6 (wd n.val) = celOff (Ring.sl 2 n.val) := by decide +kernel
theorem rSlot_words : ∀ n : Fin 5, k3_off7 (wd n.val) = rSlotOff (Ring.sl 2 n.val) := by decide +kernel
theorem rBlk_next : ∀ (i : grid3.Coords) (k : Trip), k.val < 3 → k3_off8 i (wd k.val) = rBlkOff (bno i (k.val + 1)) := by decide +kernel
theorem wBlk_next : ∀ (i : grid3.Coords) (k : Trip), k.val < 3 → k3_off17 i (wd k.val) = wBlkOff (bno i (k.val + 1)) := by decide +kernel
theorem rBlk_here : ∀ (i : grid3.Coords) (k : Trip), k3_off26 i (wd k.val) = rBlkOff (bno i k.val) := by decide +kernel
theorem wBlk_here : ∀ (i : grid3.Coords) (k : Trip), k3_off35 i (wd k.val) = wBlkOff (bno i k.val) := by decide +kernel
theorem wBlk_prev : ∀ (i : grid3.Coords) (k : Trip), 1 ≤ k.val → k3_off57 i (wd k.val) = wBlkOff (bno i (k.val - 1)) := by decide +kernel
theorem wBlk_last : ∀ (i : grid3.Coords), k3_off63 i (wd 0) = wBlkOff (bno i 3) := by decide +kernel
theorem rBlk_first : ∀ (i : grid3.Coords), k3_off3 i = rBlkOff (bno i 0) := by decide +kernel
theorem wBlk_first : ∀ (i : grid3.Coords), k3_off5 i = wBlkOff (bno i 0) := by decide +kernel

/-! ## The canonical names -/

@[sl_canon] theorem celN6 (C : DmaSems sig S2) (k : Trip) (hh) : (C.slice (Rect.unit (s := S2) (k3_off6 (wd (k.val + 1))) S1.size hh)).squeeze S_ squeezes_S1_S_ = cel C (Ring.sl 2 (k.val + 1)) :=
  cel_congr C (cel_words ⟨(k.val + 1), by have := trip_lt k; omega⟩) _
@[sl_canon] theorem celN9 (C : DmaSems sig S2) (k : Trip) (hh) : (C.slice (Rect.unit (s := S2) (k3_off9 (wd (k.val + 1))) S1.size hh)).squeeze S_ squeezes_S1_S_ = cel C (Ring.sl 2 (k.val + 1)) :=
  cel_congr C (cel_words ⟨(k.val + 1), by have := trip_lt k; omega⟩) _
@[sl_canon] theorem celN12 (C : DmaSems sig S2) (k : Trip) (hh) : (C.slice (Rect.unit (s := S2) (k3_off12 (wd (k.val + 1))) S1.size hh)).squeeze S_ squeezes_S1_S_ = cel C (Ring.sl 2 (k.val + 1)) :=
  cel_congr C (cel_words ⟨(k.val + 1), by have := trip_lt k; omega⟩) _
@[sl_canon] theorem celN15 (C : DmaSems sig S2) (k : Trip) (hh) : (C.slice (Rect.unit (s := S2) (k3_off15 (wd (k.val + 1))) S1.size hh)).squeeze S_ squeezes_S1_S_ = cel C (Ring.sl 2 (k.val + 1)) :=
  cel_congr C (cel_words ⟨(k.val + 1), by have := trip_lt k; omega⟩) _
@[sl_canon] theorem celN18 (C : DmaSems sig S2) (k : Trip) (hh) : (C.slice (Rect.unit (s := S2) (k3_off18 (wd (k.val + 1))) S1.size hh)).squeeze S_ squeezes_S1_S_ = cel C (Ring.sl 2 (k.val + 1)) :=
  cel_congr C (cel_words ⟨(k.val + 1), by have := trip_lt k; omega⟩) _
@[sl_canon] theorem celN21 (C : DmaSems sig S2) (k : Trip) (hh) : (C.slice (Rect.unit (s := S2) (k3_off21 (wd (k.val + 1))) S1.size hh)).squeeze S_ squeezes_S1_S_ = cel C (Ring.sl 2 (k.val + 1)) :=
  cel_congr C (cel_words ⟨(k.val + 1), by have := trip_lt k; omega⟩) _
@[sl_canon] theorem rSlotN7 (M : Memref sig .tc .vmem S2x2048x128 .i32) (k : Trip) (hh hs) :
    (M.slice (Rect.unit (s := S2x2048x128) (k3_off7 (wd (k.val + 1))) S1x2048x128.size hh) hs).squeeze S2048x128 squeezes_S1x2048x128_S2048x128 = rSlot M (Ring.sl 2 (k.val + 1)) :=
  rSlot_congr M (rSlot_words ⟨(k.val + 1), by have := trip_lt k; omega⟩) _ _
@[sl_canon] theorem rSlotN10 (M : Memref sig .tc .vmem S2x2048x128 .i32) (k : Trip) (hh hs) :
    (M.slice (Rect.unit (s := S2x2048x128) (k3_off10 (wd (k.val + 1))) S1x2048x128.size hh) hs).squeeze S2048x128 squeezes_S1x2048x128_S2048x128 = rSlot M (Ring.sl 2 (k.val + 1)) :=
  rSlot_congr M (rSlot_words ⟨(k.val + 1), by have := trip_lt k; omega⟩) _ _
@[sl_canon] theorem rSlotN13 (M : Memref sig .tc .vmem S2x2048x128 .i32) (k : Trip) (hh hs) :
    (M.slice (Rect.unit (s := S2x2048x128) (k3_off13 (wd (k.val + 1))) S1x2048x128.size hh) hs).squeeze S2048x128 squeezes_S1x2048x128_S2048x128 = rSlot M (Ring.sl 2 (k.val + 1)) :=
  rSlot_congr M (rSlot_words ⟨(k.val + 1), by have := trip_lt k; omega⟩) _ _
@[sl_canon] theorem wSlotN16 {e : EltTy} (M : Memref sig .tc .vmem S2x1x2048 e) (k : Trip) (hh hs) :
    (M.slice (Rect.unit (s := S2x1x2048) (k3_off16 (wd (k.val + 1))) S1x1x2048.size hh) hs).squeeze S1x2048 squeezes_S1x1x2048_S1x2048 = wSlot M (Ring.sl 2 (k.val + 1)) :=
  wSlot_congr M (rSlot_words ⟨(k.val + 1), by have := trip_lt k; omega⟩) _ _
@[sl_canon] theorem wSlotN19 {e : EltTy} (M : Memref sig .tc .vmem S2x1x2048 e) (k : Trip) (hh hs) :
    (M.slice (Rect.unit (s := S2x1x2048) (k3_off19 (wd (k.val + 1))) S1x1x2048.size hh) hs).squeeze S1x2048 squeezes_S1x1x2048_S1x2048 = wSlot M (Ring.sl 2 (k.val + 1)) :=
  wSlot_congr M (rSlot_words ⟨(k.val + 1), by have := trip_lt k; omega⟩) _ _
@[sl_canon] theorem wSlotN22 {e : EltTy} (M : Memref sig .tc .vmem S2x1x2048 e) (k : Trip) (hh hs) :
    (M.slice (Rect.unit (s := S2x1x2048) (k3_off22 (wd (k.val + 1))) S1x1x2048.size hh) hs).squeeze S1x2048 squeezes_S1x1x2048_S1x2048 = wSlot M (Ring.sl 2 (k.val + 1)) :=
  wSlot_congr M (rSlot_words ⟨(k.val + 1), by have := trip_lt k; omega⟩) _ _
@[sl_canon] theorem rBlkN8 (A : Memref sig .tc .hbm S16384x128 .i32) (i : grid3.Coords) (k : Trip) (h : k.val < 3) (hh hs) :
    A.slice (Rect.unit (s := S16384x128) (k3_off8 i (wd k.val)) S2048x128.size hh) hs = rBlk A (bno i (k.val + 1)) := rBlk_congr A (rBlk_next i k h) _ _
@[sl_canon] theorem rBlkN11 (A : Memref sig .tc .hbm S16384x128 .i32) (i : grid3.Coords) (k : Trip) (h : k.val < 3) (hh hs) :
    A.slice (Rect.unit (s := S16384x128) (k3_off11 i (wd k.val)) S2048x128.size hh) hs = rBlk A (bno i (k.val + 1)) := rBlk_congr A (rBlk_next i k h) _ _
@[sl_canon] theorem rBlkN14 (A : Memref sig .tc .hbm S16384x128 .i32) (i : grid3.Coords) (k : Trip) (h : k.val < 3) (hh hs) :
    A.slice (Rect.unit (s := S16384x128) (k3_off14 i (wd k.val)) S2048x128.size hh) hs = rBlk A (bno i (k.val + 1)) := rBlk_congr A (rBlk_next i k h) _ _
@[sl_canon] theorem wBlkN17 {e : EltTy} (A : Memref sig .tc .hbm S1x16384 e) (i : grid3.Coords) (k : Trip) (h : k.val < 3) (hh hs) :
    A.slice (Rect.unit (s := S1x16384) (k3_off17 i (wd k.val)) S1x2048.size hh) hs = wBlk A (bno i (k.val + 1)) := wBlk_congr A (wBlk_next i k h) _ _
@[sl_canon] theorem wBlkN20 {e : EltTy} (A : Memref sig .tc .hbm S1x16384 e) (i : grid3.Coords) (k : Trip) (h : k.val < 3) (hh hs) :
    A.slice (Rect.unit (s := S1x16384) (k3_off20 i (wd k.val)) S1x2048.size hh) hs = wBlk A (bno i (k.val + 1)) := wBlk_congr A (wBlk_next i k h) _ _
@[sl_canon] theorem wBlkN23 {e : EltTy} (A : Memref sig .tc .hbm S1x16384 e) (i : grid3.Coords) (k : Trip) (h : k.val < 3) (hh hs) :
    A.slice (Rect.unit (s := S1x16384) (k3_off23 i (wd k.val)) S1x2048.size hh) hs = wBlk A (bno i (k.val + 1)) := wBlk_congr A (wBlk_next i k h) _ _
@[sl_canon] theorem celN24 (C : DmaSems sig S2) (k : Trip) (hh) : (C.slice (Rect.unit (s := S2) (k3_off24 (wd k.val)) S1.size hh)).squeeze S_ squeezes_S1_S_ = cel C (Ring.sl 2 k.val) :=
  cel_congr C (cel_words ⟨k.val, by have := trip_lt k; omega⟩) _
@[sl_canon] theorem celN27 (C : DmaSems sig S2) (k : Trip) (hh) : (C.slice (Rect.unit (s := S2) (k3_off27 (wd k.val)) S1.size hh)).squeeze S_ squeezes_S1_S_ = cel C (Ring.sl 2 k.val) :=
  cel_congr C (cel_words ⟨k.val, by have := trip_lt k; omega⟩) _
@[sl_canon] theorem celN30 (C : DmaSems sig S2) (k : Trip) (hh) : (C.slice (Rect.unit (s := S2) (k3_off30 (wd k.val)) S1.size hh)).squeeze S_ squeezes_S1_S_ = cel C (Ring.sl 2 k.val) :=
  cel_congr C (cel_words ⟨k.val, by have := trip_lt k; omega⟩) _
@[sl_canon] theorem celN33 (C : DmaSems sig S2) (k : Trip) (hh) : (C.slice (Rect.unit (s := S2) (k3_off33 (wd k.val)) S1.size hh)).squeeze S_ squeezes_S1_S_ = cel C (Ring.sl 2 k.val) :=
  cel_congr C (cel_words ⟨k.val, by have := trip_lt k; omega⟩) _
@[sl_canon] theorem celN36 (C : DmaSems sig S2) (k : Trip) (hh) : (C.slice (Rect.unit (s := S2) (k3_off36 (wd k.val)) S1.size hh)).squeeze S_ squeezes_S1_S_ = cel C (Ring.sl 2 k.val) :=
  cel_congr C (cel_words ⟨k.val, by have := trip_lt k; omega⟩) _
@[sl_canon] theorem celN39 (C : DmaSems sig S2) (k : Trip) (hh) : (C.slice (Rect.unit (s := S2) (k3_off39 (wd k.val)) S1.size hh)).squeeze S_ squeezes_S1_S_ = cel C (Ring.sl 2 k.val) :=
  cel_congr C (cel_words ⟨k.val, by have := trip_lt k; omega⟩) _
@[sl_canon] theorem celN50 (C : DmaSems sig S2) (k : Trip) (hh) : (C.slice (Rect.unit (s := S2) (k3_off50 (wd k.val)) S1.size hh)).squeeze S_ squeezes_S1_S_ = cel C (Ring.sl 2 k.val) :=
  cel_congr C (cel_words ⟨k.val, by have := trip_lt k; omega⟩) _
@[sl_canon] theorem celN53 (C : DmaSems sig S2) (k : Trip) (hh) : (C.slice (Rect.unit (s := S2) (k3_off53 (wd k.val)) S1.size hh)).squeeze S_ squeezes_S1_S_ = cel C (Ring.sl 2 k.val) :=
  cel_congr C (cel_words ⟨k.val, by have := trip_lt k; omega⟩) _
@[sl_canon] theorem rSlotN25 (M : Memref sig .tc .vmem S2x2048x128 .i32) (k : Trip) (hh hs) :
    (M.slice (Rect.unit (s := S2x2048x128) (k3_off25 (wd k.val)) S1x2048x128.size hh) hs).squeeze S2048x128 squeezes_S1x2048x128_S2048x128 = rSlot M (Ring.sl 2 k.val) :=
  rSlot_congr M (rSlot_words ⟨k.val, by have := trip_lt k; omega⟩) _ _
@[sl_canon] theorem rSlotN28 (M : Memref sig .tc .vmem S2x2048x128 .i32) (k : Trip) (hh hs) :
    (M.slice (Rect.unit (s := S2x2048x128) (k3_off28 (wd k.val)) S1x2048x128.size hh) hs).squeeze S2048x128 squeezes_S1x2048x128_S2048x128 = rSlot M (Ring.sl 2 k.val) :=
  rSlot_congr M (rSlot_words ⟨k.val, by have := trip_lt k; omega⟩) _ _
@[sl_canon] theorem rSlotN31 (M : Memref sig .tc .vmem S2x2048x128 .i32) (k : Trip) (hh hs) :
    (M.slice (Rect.unit (s := S2x2048x128) (k3_off31 (wd k.val)) S1x2048x128.size hh) hs).squeeze S2048x128 squeezes_S1x2048x128_S2048x128 = rSlot M (Ring.sl 2 k.val) :=
  rSlot_congr M (rSlot_words ⟨k.val, by have := trip_lt k; omega⟩) _ _
@[sl_canon] theorem wSlotN34 {e : EltTy} (M : Memref sig .tc .vmem S2x1x2048 e) (k : Trip) (hh hs) :
    (M.slice (Rect.unit (s := S2x1x2048) (k3_off34 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN37 {e : EltTy} (M : Memref sig .tc .vmem S2x1x2048 e) (k : Trip) (hh hs) :
    (M.slice (Rect.unit (s := S2x1x2048) (k3_off37 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN40 {e : EltTy} (M : Memref sig .tc .vmem S2x1x2048 e) (k : Trip) (hh hs) :
    (M.slice (Rect.unit (s := S2x1x2048) (k3_off40 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN42 {e : EltTy} (M : Memref sig .tc .vmem S2x1x2048 e) (k : Trip) (hh hs) :
    (M.slice (Rect.unit (s := S2x1x2048) (k3_off42 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN44 {e : EltTy} (M : Memref sig .tc .vmem S2x1x2048 e) (k : Trip) (hh hs) :
    (M.slice (Rect.unit (s := S2x1x2048) (k3_off44 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN47 {e : EltTy} (M : Memref sig .tc .vmem S2x1x2048 e) (k : Trip) (hh hs) :
    (M.slice (Rect.unit (s := S2x1x2048) (k3_off47 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN52 {e : EltTy} (M : Memref sig .tc .vmem S2x1x2048 e) (k : Trip) (hh hs) :
    (M.slice (Rect.unit (s := S2x1x2048) (k3_off52 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem wSlotN55 {e : EltTy} (M : Memref sig .tc .vmem S2x1x2048 e) (k : Trip) (hh hs) :
    (M.slice (Rect.unit (s := S2x1x2048) (k3_off55 (wd k.val)) S1x1x2048.size hh) hs).squeeze S1x2048 squeezes_S1x1x2048_S1x2048 = wSlot M (Ring.sl 2 k.val) :=
  wSlot_congr M (rSlot_words ⟨k.val, by have := trip_lt k; omega⟩) _ _
@[sl_canon] theorem rBlkN26 (A : Memref sig .tc .hbm S16384x128 .i32) (i : grid3.Coords) (k : Trip) (hh hs) :
    A.slice (Rect.unit (s := S16384x128) (k3_off26 i (wd k.val)) S2048x128.size hh) hs = rBlk A (bno i k.val) := rBlk_congr A (rBlk_here i k) _ _
@[sl_canon] theorem rBlkN29 (A : Memref sig .tc .hbm S16384x128 .i32) (i : grid3.Coords) (k : Trip) (hh hs) :
    A.slice (Rect.unit (s := S16384x128) (k3_off29 i (wd k.val)) S2048x128.size hh) hs = rBlk A (bno i k.val) := rBlk_congr A (rBlk_here i k) _ _
@[sl_canon] theorem rBlkN32 (A : Memref sig .tc .hbm S16384x128 .i32) (i : grid3.Coords) (k : Trip) (hh hs) :
    A.slice (Rect.unit (s := S16384x128) (k3_off32 i (wd k.val)) S2048x128.size hh) hs = rBlk A (bno i k.val) := rBlk_congr A (rBlk_here i k) _ _
@[sl_canon] theorem wBlkN35 {e : EltTy} (A : Memref sig .tc .hbm S1x16384 e) (i : grid3.Coords) (k : Trip) (hh hs) :
    A.slice (Rect.unit (s := S1x16384) (k3_off35 i (wd k.val)) S1x2048.size hh) hs = wBlk A (bno i k.val) := wBlk_congr A (wBlk_here i k) _ _
@[sl_canon] theorem wBlkN38 {e : EltTy} (A : Memref sig .tc .hbm S1x16384 e) (i : grid3.Coords) (k : Trip) (hh hs) :
    A.slice (Rect.unit (s := S1x16384) (k3_off38 i (wd k.val)) S1x2048.size hh) hs = wBlk A (bno i k.val) := wBlk_congr A (wBlk_here i k) _ _
@[sl_canon] theorem wBlkN41 {e : EltTy} (A : Memref sig .tc .hbm S1x16384 e) (i : grid3.Coords) (k : Trip) (hh hs) :
    A.slice (Rect.unit (s := S1x16384) (k3_off41 i (wd k.val)) S1x2048.size hh) hs = wBlk A (bno i k.val) := wBlk_congr A (wBlk_here i k) _ _
@[sl_canon] theorem wBlkN51 {e : EltTy} (A : Memref sig .tc .hbm S1x16384 e) (i : grid3.Coords) (k : Trip) (hh hs) :
    A.slice (Rect.unit (s := S1x16384) (k3_off51 i (wd k.val)) S1x2048.size hh) hs = wBlk A (bno i k.val) := wBlk_congr A (wBlk_here i k) _ _
@[sl_canon] theorem wBlkN54 {e : EltTy} (A : Memref sig .tc .hbm S1x16384 e) (i : grid3.Coords) (k : Trip) (hh hs) :
    A.slice (Rect.unit (s := S1x16384) (k3_off54 i (wd k.val)) S1x2048.size hh) hs = wBlk A (bno i k.val) := wBlk_congr A (wBlk_here i k) _ _
@[sl_canon] theorem celN56 (C : DmaSems sig S2) (k : Trip) (hh) : (C.slice (Rect.unit (s := S2) (k3_off56 (wd (k.val - 1))) S1.size hh)).squeeze S_ squeezes_S1_S_ = cel C (Ring.sl 2 (k.val - 1)) :=
  cel_congr C (cel_words ⟨(k.val - 1), by have := trip_lt k; omega⟩) _
@[sl_canon] theorem celN59 (C : DmaSems sig S2) (k : Trip) (hh) : (C.slice (Rect.unit (s := S2) (k3_off59 (wd (k.val - 1))) S1.size hh)).squeeze S_ squeezes_S1_S_ = cel C (Ring.sl 2 (k.val - 1)) :=
  cel_congr C (cel_words ⟨(k.val - 1), by have := trip_lt k; omega⟩) _
@[sl_canon] theorem wSlotN58 {e : EltTy} (M : Memref sig .tc .vmem S2x1x2048 e) (k : Trip) (hh hs) :
    (M.slice (Rect.unit (s := S2x1x2048) (k3_off58 (wd (k.val - 1))) S1x1x2048.size hh) hs).squeeze S1x2048 squeezes_S1x1x2048_S1x2048 = wSlot M (Ring.sl 2 (k.val - 1)) :=
  wSlot_congr M (rSlot_words ⟨(k.val - 1), by have := trip_lt k; omega⟩) _ _
@[sl_canon] theorem wSlotN61 {e : EltTy} (M : Memref sig .tc .vmem S2x1x2048 e) (k : Trip) (hh hs) :
    (M.slice (Rect.unit (s := S2x1x2048) (k3_off61 (wd (k.val - 1))) S1x1x2048.size hh) hs).squeeze S1x2048 squeezes_S1x1x2048_S1x2048 = wSlot M (Ring.sl 2 (k.val - 1)) :=
  wSlot_congr M (rSlot_words ⟨(k.val - 1), by have := trip_lt k; omega⟩) _ _
@[sl_canon] theorem wBlkN57 {e : EltTy} (A : Memref sig .tc .hbm S1x16384 e) (i : grid3.Coords) (k : Trip) (h : 1 ≤ k.val) (hh hs) :
    A.slice (Rect.unit (s := S1x16384) (k3_off57 i (wd k.val)) S1x2048.size hh) hs = wBlk A (bno i (k.val - 1)) := wBlk_congr A (wBlk_prev i k h) _ _
@[sl_canon] theorem wBlkN60 {e : EltTy} (A : Memref sig .tc .hbm S1x16384 e) (i : grid3.Coords) (k : Trip) (h : 1 ≤ k.val) (hh hs) :
    A.slice (Rect.unit (s := S1x16384) (k3_off60 i (wd k.val)) S1x2048.size hh) hs = wBlk A (bno i (k.val - 1)) := wBlk_congr A (wBlk_prev i k h) _ _

/-- The prologue's slots and cells are slot 0's, the epilogue's slot 1's. -/
@[sl_canon] theorem celF (C : DmaSems sig S2) (hh) : (C.slice (Rect.unit (s := S2) k3_off1 S1.size hh)).squeeze S_ squeezes_S1_S_ = cel C 0 := cel_congr C (by decide +kernel) _
@[sl_canon] theorem rSlotF (M : Memref sig .tc .vmem S2x2048x128 .i32) (hh hs) :
    (M.slice (Rect.unit (s := S2x2048x128) k3_off2 S1x2048x128.size hh) hs).squeeze S2048x128 squeezes_S1x2048x128_S2048x128 = rSlot M 0 := rSlot_congr M (by decide +kernel) _ _
@[sl_canon] theorem wSlotF {e : EltTy} (M : Memref sig .tc .vmem S2x1x2048 e) (hh hs) :
    (M.slice (Rect.unit (s := S2x1x2048) k3_off4 S1x1x2048.size hh) hs).squeeze S1x2048 squeezes_S1x1x2048_S1x2048 = wSlot M 0 := wSlot_congr M (by decide +kernel) _ _
@[sl_canon] theorem rBlkF (A : Memref sig .tc .hbm S16384x128 .i32) (i : grid3.Coords) (hh hs) :
    A.slice (Rect.unit (s := S16384x128) (k3_off3 i) S2048x128.size hh) hs = rBlk A (bno i 0) := rBlk_congr A (rBlk_first i) _ _
@[sl_canon] theorem wBlkF {e : EltTy} (A : Memref sig .tc .hbm S1x16384 e) (i : grid3.Coords) (hh hs) :
    A.slice (Rect.unit (s := S1x16384) (k3_off5 i) S1x2048.size hh) hs = wBlk A (bno i 0) := wBlk_congr A (wBlk_first i) _ _
@[sl_canon] theorem celE62 (C : DmaSems sig S2) (hh) : (C.slice (Rect.unit (s := S2) (k3_off62 (wd 3)) S1.size hh)).squeeze S_ squeezes_S1_S_ = cel C 1 := cel_congr C (by decide +kernel) _
@[sl_canon] theorem celE65 (C : DmaSems sig S2) (hh) : (C.slice (Rect.unit (s := S2) (k3_off65 (wd 3)) S1.size hh)).squeeze S_ squeezes_S1_S_ = cel C 1 := cel_congr C (by decide +kernel) _
@[sl_canon] theorem wSlotE64 {e : EltTy} (M : Memref sig .tc .vmem S2x1x2048 e) (hh hs) :
    (M.slice (Rect.unit (s := S2x1x2048) (k3_off64 (wd 3)) S1x1x2048.size hh) hs).squeeze S1x2048 squeezes_S1x1x2048_S1x2048 = wSlot M 1 := wSlot_congr M (by decide +kernel) _ _
@[sl_canon] theorem wSlotE67 {e : EltTy} (M : Memref sig .tc .vmem S2x1x2048 e) (hh hs) :
    (M.slice (Rect.unit (s := S2x1x2048) (k3_off67 (wd 3)) S1x1x2048.size hh) hs).squeeze S1x2048 squeezes_S1x1x2048_S1x2048 = wSlot M 1 := wSlot_congr M (by decide +kernel) _ _
@[sl_canon] theorem wBlkE63 {e : EltTy} (A : Memref sig .tc .hbm S1x16384 e) (i : grid3.Coords) (hh hs) :
    A.slice (Rect.unit (s := S1x16384) (k3_off63 i (wd 0)) S1x2048.size hh) hs = wBlk A (bno i 3) := wBlk_congr A (wBlk_last i) _ _
@[sl_canon] theorem wBlkE66 {e : EltTy} (A : Memref sig .tc .hbm S1x16384 e) (i : grid3.Coords) (hh hs) :
    A.slice (Rect.unit (s := S1x16384) (k3_off66 i (wd 0)) S1x2048.size hh) hs = wBlk A (bno i 3) := wBlk_congr A (wBlk_last i) _ _

/-! ## The accesses through the whole buffers, in closed form -/

theorem off43_eq (k : Trip) : k3_off43 (wd k.val) = rSlotOff (Ring.sl 2 k.val) := rSlot_words ⟨k.val, by have := trip_lt k; omega⟩
instance (k : Trip) : ClosedOff (k3_off43 (wd k.val)) := ⟨rSlotOff (Ring.sl 2 k.val), off43_eq k⟩
theorem off45_eq (k : Trip) : k3_off45 (wd k.val) = rSlotOff (Ring.sl 2 k.val) := rSlot_words ⟨k.val, by have := trip_lt k; omega⟩
instance (k : Trip) : ClosedOff (k3_off45 (wd k.val)) := ⟨rSlotOff (Ring.sl 2 k.val), off45_eq k⟩
theorem off48_eq (k : Trip) : k3_off48 (wd k.val) = rSlotOff (Ring.sl 2 k.val) := rSlot_words ⟨k.val, by have := trip_lt k; omega⟩
instance (k : Trip) : ClosedOff (k3_off48 (wd k.val)) := ⟨rSlotOff (Ring.sl 2 k.val), off48_eq k⟩
theorem off46_eq (k : Trip) : k3_off46 (wd k.val) = rSlotOff (Ring.sl 2 k.val) := rSlot_words ⟨k.val, by have := trip_lt k; omega⟩
instance (k : Trip) : ClosedOff (k3_off46 (wd k.val)) := ⟨rSlotOff (Ring.sl 2 k.val), off46_eq k⟩
theorem off49_eq (k : Trip) : k3_off49 (wd k.val) = rSlotOff (Ring.sl 2 k.val) := rSlot_words ⟨k.val, by have := trip_lt k; omega⟩
instance (k : Trip) : ClosedOff (k3_off49 (wd k.val)) := ⟨rSlotOff (Ring.sl 2 k.val), off49_eq k⟩

/-! ## The conditions, by trip -/

theorem cond1_pos : ∀ (i : grid3.Coords) (k : Trip), k.val < 3 → k3_cond1 i k (wd k.val) = 1#1 := by decide +kernel
theorem cond1_neg : ∀ (i : grid3.Coords) (k : Trip), ¬k.val < 3 → ¬k3_cond1 i k (wd k.val) = 1#1 := by decide +kernel
theorem cond2_pos : ∀ (i : grid3.Coords) (k : Trip), k.val < 3 → k3_cond2 i k (wd k.val) = 1#1 := by decide +kernel
theorem cond2_neg : ∀ (i : grid3.Coords) (k : Trip), ¬k.val < 3 → ¬k3_cond2 i k (wd k.val) = 1#1 := by decide +kernel
theorem cond3_pos : ∀ (i : grid3.Coords) (k : Trip), k.val < 3 → k3_cond3 i k (wd k.val) = 1#1 := by decide +kernel
theorem cond3_neg : ∀ (i : grid3.Coords) (k : Trip), ¬k.val < 3 → ¬k3_cond3 i k (wd k.val) = 1#1 := by decide +kernel
theorem cond4_pos : ∀ (i : grid3.Coords) (k : Trip), k.val < 3 → k3_cond4 i k (wd k.val) = 1#1 := by decide +kernel
theorem cond4_neg : ∀ (i : grid3.Coords) (k : Trip), ¬k.val < 3 → ¬k3_cond4 i k (wd k.val) = 1#1 := by decide +kernel
theorem cond5_pos : ∀ (i : grid3.Coords) (k : Trip), k.val < 3 → k3_cond5 i k (wd k.val) = 1#1 := by decide +kernel
theorem cond5_neg : ∀ (i : grid3.Coords) (k : Trip), ¬k.val < 3 → ¬k3_cond5 i k (wd k.val) = 1#1 := by decide +kernel
theorem cond6_pos : ∀ (i : grid3.Coords) (k : Trip), k.val < 3 → k3_cond6 i k (wd k.val) = 1#1 := by decide +kernel
theorem cond6_neg : ∀ (i : grid3.Coords) (k : Trip), ¬k.val < 3 → ¬k3_cond6 i k (wd k.val) = 1#1 := by decide +kernel
theorem cond7_pos : ∀ (i : grid3.Coords) (k : Trip), k3_cond7 i k (wd k.val) = 1#1 := by decide +kernel
theorem cond8_pos : ∀ (i : grid3.Coords) (k : Trip), k3_cond8 i k (wd k.val) = 1#1 := by decide +kernel
theorem cond9_pos : ∀ (i : grid3.Coords) (k : Trip), k3_cond9 i k (wd k.val) = 1#1 := by decide +kernel
theorem cond10_pos : ∀ (i : grid3.Coords) (k : Trip), k3_cond10 i k (wd k.val) = 1#1 := by decide +kernel
theorem cond11_pos : ∀ (i : grid3.Coords) (k : Trip), k3_cond11 i k (wd k.val) = 1#1 := by decide +kernel
theorem cond12_pos : ∀ (i : grid3.Coords) (k : Trip), k3_cond12 i k (wd k.val) = 1#1 := by decide +kernel
theorem cond21_pos : ∀ (i : grid3.Coords) (k : Trip), k3_cond21 i k (wd k.val) = 1#1 := by decide +kernel
theorem cond22_pos : ∀ (i : grid3.Coords) (k : Trip), k3_cond22 i k (wd k.val) = 1#1 := by decide +kernel
theorem cond29_pos : ∀ (i : grid3.Coords) (k : Trip), 1 ≤ k.val → k3_cond29 i k (wd k.val) = 1#1 := by decide +kernel
theorem cond29_neg : ∀ (i : grid3.Coords) (k : Trip), ¬1 ≤ k.val → ¬k3_cond29 i k (wd k.val) = 1#1 := by decide +kernel
theorem cond30_pos : ∀ (i : grid3.Coords) (k : Trip), 1 ≤ k.val → k3_cond30 i k (wd k.val) = 1#1 := by decide +kernel
theorem cond30_neg : ∀ (i : grid3.Coords) (k : Trip), ¬1 ≤ k.val → ¬k3_cond30 i k (wd k.val) = 1#1 := by decide +kernel

/-! ## The checks -/

theorem chk1 : ∀ (i : grid3.Coords) (k : Trip), k3_chk1 i k (wd (k.val + 1)) (wd k.val) (wd (k.val + 1)) (wd k.val) (wd (k.val + 1)) (wd k.val) (wd (k.val + 1)) (wd k.val) (wd (k.val + 1)) (wd k.val) (wd (k.val + 1)) (wd k.val) (wd k.val) (wd (k.val - 1)) (wd k.val) (wd (k.val - 1)) (wd k.val) := by decide +kernel
theorem chk2 : ∀ k : Trip, k3_chk2 (wd k.val) := by decide +kernel
theorem chk3 : ∀ k : Trip, k3_chk3 (wd k.val) := by decide +kernel
theorem chk4 : ∀ k : Trip, k3_chk4 (wd k.val) := by decide +kernel
theorem chk5 : ∀ k : Trip, k3_chk5 (wd k.val) := by decide +kernel
theorem chk6 : ∀ k : Trip, k3_chk6 (wd k.val) := by decide +kernel
theorem chk7 : ∀ k : Trip, k3_chk7 (wd k.val) := by decide +kernel
theorem chk8 : ∀ k : Trip, k3_chk8 (wd k.val) := by decide +kernel
theorem chk9 : ∀ k : Trip, k3_chk9 (wd k.val) := by decide +kernel
theorem chk10 : k3_chk10 (wd 3) := by decide +kernel
theorem chk11 : ∀ i : grid3.Coords, k3_chk11 i (wd 0) := by decide +kernel
theorem chk12 : k3_chk12 (wd 3) := by decide +kernel

end Cert.Proof.Dots
-- ==== Proof.Trip.lean ====
/-
  The dots kernel's loop, one trip: block `n + 1` of the six inputs goes out, block `n` is waited for, its dot products are
  stored and copied out, the copy of block `n - 1`'s is waited for.
-/
module

public import proofs.«01_k».proof.Proof.Names
public import Idealize.ShloMosaic.Lib.SparseCore.Quiescent
public import Idealize.ShloMosaic.Lib.Pipeline.Kit
public import Idealize.ShloMosaic.Lib.Pipeline.Value
public import Idealize.ShloMosaic.Lib.VecWindow
public import Idealize.ShloMosaic.Lib.ViewIndex

@[expose] public section

noncomputable section

namespace Cert.Proof.Dots

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the calls' handshakes, the pipeline's rounds, the transfers' counters -/

abbrev UH : Type := URounds (GSem nD τ sig) ℕ
abbrev UU : Type := UH × (UR sig nD τ × Counters)
local notation "𝕄" => MT nD τ sig (HIx 3) (Elt F) ℕ UU ℕ
abbrev 𝒱₀ : Variants := Variants.none

/-! ## The arrays and the buffers -/

abbrev aU : Memref sig .tc .hbm S16384x128 .i32 := Memref.whole main_v6
abbrev aI : Memref sig .tc .hbm S16384x128 .i32 := Memref.whole main_v13
abbrev aJ : Memref sig .tc .hbm S16384x128 .i32 := Memref.whole main_v20
abbrev sU : Memref sig .tc .hbm S1x16384 .i32 := Memref.whole main_v27
abbrev sI : Memref sig .tc .hbm S1x16384 .i32 := Memref.whole main_v34
abbrev sJ : Memref sig .tc .hbm S1x16384 .i32 := Memref.whole main_v41
abbrev oI : Memref sig .tc .hbm S1x16384 .f32 := Memref.whole main_v42_0
abbrev oJ : Memref sig .tc .hbm S1x16384 .f32 := Memref.whole main_v42_1
abbrev mU : Memref sig .tc .vmem S2x2048x128 .i32 := Memref.whole cc3_scoped0
abbrev mI : Memref sig .tc .vmem S2x2048x128 .i32 := Memref.whole cc3_scoped2
abbrev mJ : Memref sig .tc .vmem S2x2048x128 .i32 := Memref.whole cc3_scoped4
abbrev nU : Memref sig .tc .vmem S2x1x2048 .i32 := Memref.whole cc3_scoped6
abbrev nI : Memref sig .tc .vmem S2x1x2048 .i32 := Memref.whole cc3_scoped8
abbrev nJ : Memref sig .tc .vmem S2x1x2048 .i32 := Memref.whole cc3_scoped10
abbrev pI : Memref sig .tc .vmem S2x1x2048 .f32 := Memref.whole cc3_scoped12
abbrev pJ : Memref sig .tc .vmem S2x1x2048 .f32 := Memref.whole cc3_scoped14

/-! ## The pieces -/

section Pieces
variable (c : Dev nD)

/-- A memref's elements held at contents `f`. -/
abbrev held {sp : Space} {S : Shape} {e : EltTy} (M : Memref sig .tc sp S e) (f : Buf (Elt F) (M.view.loc (c : Thread nD τ))) : sProp 𝕄 :=
  M.view.loc (c : Thread nD τ) ↦[M.view.set]{fullShare} f
/-- A semaphore at zero. -/
abbrev zero (C : DmaSems sig S_) : sProp 𝕄 := semVal ((c : Thread nD τ), SemLoc.dma C.sem) 0
/-- What a copy of `M` carries. -/
abbrev pay {sp : Space} {S : Shape} {e : EltTy} (M : Memref sig .tc sp S e) (X : Buf (Elt F) (M.view.loc (c : Thread nD τ))) : S.Idx → Elt F e :=
  ReadAs.same.apply (M.view.read (Elt F) X)
/-- What it leaves in `D` over `f`. -/
abbrev landed {sp sp' : Space} {S : Shape} {e : EltTy} (D : Memref sig .tc sp S e) (M : Memref sig .tc sp' S e)
    (f : Buf (Elt F) (D.view.loc (c : Thread nD τ))) (X : Buf (Elt F) (M.view.loc (c : Thread nD τ))) : Buf (Elt F) (D.view.loc (c : Thread nD τ)) :=
  D.view.writes (Elt F) f [⟨Rect.whole S, pay c M X⟩]
/-- A copy of `M` into `D` in flight on `C`, `n` units of it. -/
abbrev flight {sp sp' : Space} {S : Shape} {e : EltTy} (D : Memref sig .tc sp S e) (M : Memref sig .tc sp' S e) (C : DmaSems sig S_) (n : ℕ)
    (f : Buf (Elt F) (D.view.loc (c : Thread nD τ))) (X : Buf (Elt F) (M.view.loc (c : Thread nD τ))) : sProp 𝕄 :=
  Transfers.Flight countersEmb (c : Thread nD τ) (SemLoc.dma C.sem) (default : HIx 3) n iprop(held c D (landed c D M f X) ∗ held c M X)

end Pieces

/-! ## What a trip computes -/

/-- The rows a block's words pick, as numbers: the left or the right half of the row by the word's parity, the low or the
    high sixteen bits of each entry by its second bit. -/
def vals (rows : IVec S2048x128 32) (words : IVec S1x2048 32) : FVec F S2048x64 .f32 :=
  have w : IVec S2048x1 32 := shapeCast S2048x1 (shapeCast S2048 words shapeCasts_S1x2048_S2048) shapeCasts_S2048_S2048x1
  have d : BitVec 32 := Scalar.select (Scalar.cmpi .eq 2#32 0#32) 1#32 2#32
  have r : IVec S2048x1 32 := remsi w (broadcast S2048x1 d)
  have nz : IVec S2048x1 1 := cmpi .ne r (broadcast S2048x1 0#32)
  have ng : IVec S2048x1 1 := xori (cmpi .slt r (broadcast S2048x1 0#32))
    (broadcastTo S2048x1 (broadcast S2048x1 (Scalar.cmpi .slt d 0#32)) broadcasts_S2048x1_S2048x1)
  have fix : IVec S2048x1 32 := select (andi ng nz) (addi r (broadcast S2048x1 d)) r
  have odd : IVec S2048x1 1 := cmpi .eq fix (broadcast S2048x1 1#32)
  have half : IVec S2048x64 32 := select (broadcastTo S2048x64 (shapeCast S2048x1 odd shapeCasts_S2048x1_S2048x1) broadcasts_S2048x1_S2048x64)
    (extractStridedSlice S2048x64 ![0, 64] rows slices_S2048x128_o0_64_S2048x64)
    (extractStridedSlice S2048x64 ![0, 0] rows slices_S2048x128_o0_0_S2048x64)
  have low : FVec F S2048x64 .f32 := bitcastToFloat .f32 (shli half (broadcast S2048x64 16#32))
  have high : FVec F S2048x64 .f32 := bitcastToFloat .f32 (andi half (broadcast S2048x64 4294901760#32))
  have hi : IVec S2048x1 1 := cmpi .sge w (broadcast S2048x1 2#32)
  select (broadcastTo S2048x64 (shapeCast S2048x1 hi shapeCasts_S2048x1_S2048x1) broadcasts_S2048x1_S2048x64) high low

/-- The products of two blocks of rows, summed along each row by a product with ones. -/
def sums (u e : FVec F S2048x64 .f32) : FVec F S1x2048 .f32 :=
  matmul dot_S1x64_S2048x64_S1x2048_1_1_0_0_n_n none (broadcast S1x64 (Scalar.ofBits .bf16 0x3F80#16))
    (truncf .bf16 (mulf u e) bitsLt_bf16_f32) (constant S1x2048 .f32 0x00000000#32)

section Values
variable (c : Dev nD)

/-- A slot of lanes after a store through its buffer at the slot's offset reads what was stored. -/
theorem pay_stored (M : Memref sig .tc .vmem S2x1x2048 .f32) {off : Fin 3 → Nat} {s : Fin 2} (h : off = rSlotOff s) (inb)
    (g : (M.access (Rect.unit (s := S2x1x2048) off S1x1x2048.size inb)).ty.Contents (Elt F)) (x : FVec F S1x2048 .f32) :
    View.read (Elt F) (wSlot M s).view ((M.access (Rect.unit (s := S2x1x2048) off S1x1x2048.size inb)).write (Elt F) g
      (shapeCast S1x1x2048 x shapeCasts_S1x2048_S1x1x2048) Finset.univ) = x := by
  subst h
  funext j
  have h1 := congrFun (Memref.read_slice_write M inb rfl (wSlot_inb s) g (shapeCast S1x1x2048 x shapeCasts_S1x2048_S1x1x2048))
    (Shape.reshapeEquiv squeezes_S1x1x2048_S1x2048.numel_eq j)
  refine Eq.trans h1 ?_
  exact congrFun (shapeCast_shapeCast x shapeCasts_S1x2048_S1x1x2048 squeezes_S1x1x2048_S1x2048.numel_eq.symm) j

/-- A load of a slot of rows through its buffer, after a copy has landed in the slot, is what the copy carried. -/
theorem rows_loaded (M : Memref sig .tc .vmem S2x2048x128 .i32) {off : Fin 3 → Nat} {s : Fin 2} (h : off = rSlotOff s) (inb)
    (f : (rSlot M s).view.ty.Contents (Elt F)) (p : S2048x128.Idx → Elt F .i32) :
    shapeCast S2048x128 (View.readAt (Elt F) M.view (Rect.unit (s := S2x2048x128) off S1x2048x128.size inb).toLoadRect
      ((rSlot M s).view.writes (Elt F) f [⟨Rect.whole S2048x128, p⟩])) shapeCasts_S1x2048x128_S2048x128 = p := by
  subst h
  exact View.read_writes_whole (rSlot M s).view f p

/-- A load of a slot of words, after a copy has landed in it, is what the copy carried. -/
theorem words_loaded (M : Memref sig .tc .vmem S1x2048 .i32) (p : S1x2048.Idx → Elt F .i32) :
    M.view.readCov [⟨Rect.whole S1x2048, p⟩] (Rect.unit (s := S1x2048) ![0, 0] S1x2048.size inb_S1x2048_S1x2048_0_0).toLoadRect = p := by
  refine (View.readAt_writes_of_cover M.view M.view.junk _ _ (fun j => ⟨_, List.mem_singleton.mpr rfl, ?_⟩)).symm.trans ?_
  · rw [Rect.set_whole]; exact Finset.mem_univ _
  · funext y
    rw [View.readAt_apply, View.read_writes_whole]
    exact congrArg p (Rect.emb_unit_full _ y)

end Values

section Trip
variable (c : Dev nD)

/-- The values and the sums of the blocks of two pairs of arrays. -/
abbrev rowsOf (A : Memref sig .tc .hbm S16384x128 .i32) (X : Buf (Elt F) (A.view.loc (c : Thread nD τ))) (S : Memref sig .tc .hbm S1x16384 .i32)
    (Y : Buf (Elt F) (S.view.loc (c : Thread nD τ))) (b : Fin 8) : FVec F S2048x64 .f32 :=
  vals (pay c (rBlk A b) X) (pay c (wBlk S b) Y)
abbrev dotOf (A A' : Memref sig .tc .hbm S16384x128 .i32) (S S' : Memref sig .tc .hbm S1x16384 .i32)
    (X : Buf (Elt F) (A.view.loc (c : Thread nD τ))) (X' : Buf (Elt F) (A'.view.loc (c : Thread nD τ)))
    (Y : Buf (Elt F) (S.view.loc (c : Thread nD τ))) (Y' : Buf (Elt F) (S'.view.loc (c : Thread nD τ))) (b : Fin 8) : FVec F S1x2048 .f32 :=
  sums (rowsOf c A X S Y b) (rowsOf c A' X' S' Y' b)

/-- What a trip stores in the first output's slot and in the second's, from the words and rows it loads. -/
def storeI (w : Vec F S1x2048 .i32) (r : Vec F S1x2048x128 .i32) (w' : Vec F S1x2048 .i32) (r' : Vec F S1x2048x128 .i32) : FVec F S1x1x2048 .f32 :=
  k3_pay13 (k3_pay6 (k3_pay3 w r) (k3_pay4 w r) (k3_pay5 w)) k3_pay7 (k3_pay10 w' r') (k3_pay11 w' r') (k3_pay12 w')
def storeJ (w : Vec F S1x2048 .i32) (r : Vec F S1x2048x128 .i32) (w' : Vec F S1x2048 .i32) (r' : Vec F S1x2048x128 .i32) : FVec F S1x1x2048 .f32 :=
  k3_pay17 (k3_pay6 (k3_pay3 w r) (k3_pay4 w r) (k3_pay5 w)) k3_pay7 (k3_pay14 w') (k3_pay15 w' r') (k3_pay16 w' r')

theorem storeI_eq (w : Vec F S1x2048 .i32) (r : Vec F S1x2048x128 .i32) (w' : Vec F S1x2048 .i32) (r' : Vec F S1x2048x128 .i32) :
    storeI w r w' r' = shapeCast S1x1x2048 (sums (vals (shapeCast S2048x128 r shapeCasts_S1x2048x128_S2048x128) w)
      (vals (shapeCast S2048x128 r' shapeCasts_S1x2048x128_S2048x128) w')) shapeCasts_S1x2048_S1x1x2048 := by
  dsimp only [storeI, k3_pay13, k3_pay12, k3_pay11, k3_pay10, k3_pay9, k3_pay8, k3_pay7, k3_pay6, k3_pay5, k3_pay4, k3_pay3, k3_pay2, k3_pay1, sums, vals]
theorem storeJ_eq (w : Vec F S1x2048 .i32) (r : Vec F S1x2048x128 .i32) (w' : Vec F S1x2048 .i32) (r' : Vec F S1x2048x128 .i32) :
    storeJ w r w' r' = shapeCast S1x1x2048 (sums (vals (shapeCast S2048x128 r shapeCasts_S1x2048x128_S2048x128) w)
      (vals (shapeCast S2048x128 r' shapeCasts_S1x2048x128_S2048x128) w')) shapeCasts_S1x2048_S1x1x2048 := by
  dsimp only [storeJ, k3_pay17, k3_pay16, k3_pay15, k3_pay14, k3_pay7, k3_pay6, k3_pay5, k3_pay4, k3_pay3, k3_pay2, k3_pay1, sums, vals]

/-- What trip `k` stores, as the run states it, is the sums of block `k`'s products. -/
theorem stored_eq (st : Vec F S1x2048 .i32 → Vec F S1x2048x128 .i32 → Vec F S1x2048 .i32 → Vec F S1x2048x128 .i32 → FVec F S1x1x2048 .f32)
    (hst : ∀ w r w' r', st w r w' r' = shapeCast S1x1x2048 (sums (vals (shapeCast S2048x128 r shapeCasts_S1x2048x128_S2048x128) w)
      (vals (shapeCast S2048x128 r' shapeCasts_S1x2048x128_S2048x128) w')) shapeCasts_S1x2048_S1x1x2048)
    (P : Memref sig .tc .vmem S2x1x2048 .f32) (M M' : Memref sig .tc .vmem S2x2048x128 .i32) (N N' : Memref sig .tc .vmem S1x2048 .i32)
    {off off1 off2 : Fin 3 → Nat} {s : Fin 2} (h : off = rSlotOff s) (h1 : off1 = rSlotOff s) (h2 : off2 = rSlotOff s) (inb inb1 inb2)
    (g : (P.access (Rect.unit (s := S2x1x2048) off S1x1x2048.size inb)).ty.Contents (Elt F)) (f1 : (rSlot M s).view.ty.Contents (Elt F))
    (f2 : (rSlot M' s).view.ty.Contents (Elt F)) (p p' : S2048x128.Idx → Elt F .i32) (q q' : S1x2048.Idx → Elt F .i32) :
    View.read (Elt F) (wSlot P s).view ((P.access (Rect.unit (s := S2x1x2048) off S1x1x2048.size inb)).write (Elt F) g
      (st (N.view.readCov [⟨Rect.whole S1x2048, q⟩] (Rect.unit (s := S1x2048) ![0, 0] S1x2048.size inb_S1x2048_S1x2048_0_0).toLoadRect)
        (View.readAt (Elt F) M.view (Rect.unit (s := S2x2048x128) off1 S1x2048x128.size inb1).toLoadRect
          ((rSlot M s).view.writes (Elt F) f1 [⟨Rect.whole S2048x128, p⟩]))
        (N'.view.readCov [⟨Rect.whole S1x2048, q'⟩] (Rect.unit (s := S1x2048) ![0, 0] S1x2048.size inb_S1x2048_S1x2048_0_0).toLoadRect)
        (View.readAt (Elt F) M'.view (Rect.unit (s := S2x2048x128) off2 S1x2048x128.size inb2).toLoadRect
          ((rSlot M' s).view.writes (Elt F) f2 [⟨Rect.whole S2048x128, p'⟩]))) Finset.univ) = sums (vals p q) (vals p' q') := by
  rw [hst, pay_stored P h, rows_loaded M h1, rows_loaded M' h2, words_loaded, words_loaded]

/-! ## The pieces by the trip -/

variable (i : grid3.Coords)

abbrev rFlight (M : Memref sig .tc .vmem S2x2048x128 .i32) (A : Memref sig .tc .hbm S16384x128 .i32) (C : DmaSems sig S2)
    (X : Buf (Elt F) (A.view.loc (c : Thread nD τ))) (k : ℕ) : sProp 𝕄 :=
  iprop(∃ f, flight c (rSlot M (Ring.sl 2 k)) (rBlk A (bno i k)) (cel C (Ring.sl 2 k)) 32768 f X)
abbrev wFlight (M : Memref sig .tc .vmem S2x1x2048 .i32) (A : Memref sig .tc .hbm S1x16384 .i32) (C : DmaSems sig S2)
    (X : Buf (Elt F) (A.view.loc (c : Thread nD τ))) (k : ℕ) : sProp 𝕄 :=
  iprop(∃ f, flight c (wSlot M (Ring.sl 2 k)) (wBlk A (bno i k)) (cel C (Ring.sl 2 k)) 256 f X)
/-- Block `k` of an output on its way home, the slot it is copied from at `d`. -/
abbrev oFlight (P : Memref sig .tc .vmem S2x1x2048 .f32) (A : Memref sig .tc .hbm S1x16384 .f32) (C : DmaSems sig S2)
    (Z : Buf (Elt F) (A.view.loc (c : Thread nD τ))) (d : Fin 8 → FVec F S1x2048 .f32) (k : ℕ) : sProp 𝕄 :=
  iprop(∃ g, ⌜pay c (wSlot P (Ring.sl 2 k)) g = d (bno i k)⌝
    ∗ flight c (wBlk A (bno i k)) (wSlot P (Ring.sl 2 k)) (cel C (Ring.sl 2 k)) 256 Z g)
abbrev rFree (M : Memref sig .tc .vmem S2x2048x128 .i32) (C : DmaSems sig S2) (k : ℕ) : sProp 𝕄 :=
  iprop((∃ f, held (F := F) c (rSlot M (Ring.sl 2 k)) f) ∗ zero (F := F) c (cel C (Ring.sl 2 k)))
abbrev wFree {e : EltTy} (M : Memref sig .tc .vmem S2x1x2048 e) (C : DmaSems sig S2) (k : ℕ) : sProp 𝕄 :=
  iprop((∃ f, held (F := F) c (wSlot M (Ring.sl 2 k)) f) ∗ zero (F := F) c (cel C (Ring.sl 2 k)))
abbrev rHome (A : Memref sig .tc .hbm S16384x128 .i32) (X : Buf (Elt F) (A.view.loc (c : Thread nD τ))) (k : ℕ) : sProp 𝕄 :=
  held c (rBlk A (bno i k)) X
abbrev wHome {e : EltTy} (A : Memref sig .tc .hbm S1x16384 e) (X : Buf (Elt F) (A.view.loc (c : Thread nD τ))) (k : ℕ) : sProp 𝕄 :=
  held c (wBlk A (bno i k)) X

/-- A landed output block is the block of any contents that agree with what landed. -/
theorem landed_home (P : Memref sig .tc .vmem S2x1x2048 .f32) (A : Memref sig .tc .hbm S1x16384 .f32) (b : Fin 8) (s : Fin 2)
    (Z O : Buf (Elt F) (A.view.loc (c : Thread nD τ))) (g) (d : FVec F S1x2048 .f32) (hg : pay c (wSlot P s) g = d)
    (hO : (wBlk A b).view.read (Elt F) O = d) :
    held c (wBlk A b) (landed c (wBlk A b) (wSlot P s) Z g) ⊢ held (F := F) c (wBlk A b) O := by
  refine Entails.of_eq (pointsTo_congr fun j hj => ?_)
  obtain ⟨x, -, rfl⟩ := Finset.mem_map.mp hj
  refine View.eq_of_read_eq ?_
  have := View.read_writes_whole (wBlk A b).view Z (pay c (wSlot P s) g)
  exact (congrFun this x).trans ((congrFun hg x).trans (congrFun hO x).symm)

/-- The loop's words before trip `k`. -/
abbrev accAt (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (wd (min (k + 1) 4), wd k, wd (min (k + 1) 4), wd k, wd (min (k + 1) 4), wd k, wd (min (k + 1) 4), wd k, wd (min (k + 1) 4), wd k, wd (min (k + 1) 4), wd k,
    wd k, wd (k - 1), wd k, wd (k - 1), wd (k % 4))

theorem accAt_trip (k : Trip) : accAt k.val = (wd (k.val + 1), wd k.val, wd (k.val + 1), wd k.val, wd (k.val + 1), wd k.val, wd (k.val + 1), wd k.val, wd (k.val + 1), wd k.val, wd (k.val + 1), wd k.val,
    wd k.val, wd (k.val - 1), wd k.val, wd (k.val - 1), wd k.val) := by
  have := trip_lt k
  simp only [accAt, Nat.min_eq_left (show k.val + 1 ≤ 4 by omega), Nat.mod_eq_of_lt this]

abbrev v0w : BitVec 32 := Scalar.muli (BitVec.ofNat 32 (i 0).val) 4#32

/-- The loop's region on the kernel's arrays, buffers and semaphores. -/
abbrev tripG (v9 v30 v38 v46 v54 v62 : BitVec 32) (k : Trip) (acc) :=
  k3_t1_body (F := F) i aU (Memref.isWhole_whole _) aI (Memref.isWhole_whole _) aJ (Memref.isWhole_whole _) sU (Memref.isWhole_whole _) sI (Memref.isWhole_whole _) sJ (Memref.isWhole_whole _)
    oI (Memref.isWhole_whole _) oJ (Memref.isWhole_whole _) mU (Memref.isWhole_whole _) cc3_scoped1 mI (Memref.isWhole_whole _) cc3_scoped3 mJ (Memref.isWhole_whole _) cc3_scoped5
    nU (Memref.isWhole_whole _) cc3_scoped7 nI (Memref.isWhole_whole _) cc3_scoped9 nJ (Memref.isWhole_whole _) cc3_scoped11 pI (Memref.isWhole_whole _) cc3_scoped13 pJ (Memref.isWhole_whole _) cc3_scoped15
    (v0w i) v9 v30 v38 v46 v54 v62 k acc

variable
  (XU : Buf (Elt F) (aU.view.loc (c : Thread nD τ))) (XI : Buf (Elt F) (aI.view.loc (c : Thread nD τ))) (XJ : Buf (Elt F) (aJ.view.loc (c : Thread nD τ)))
  (YU : Buf (Elt F) (sU.view.loc (c : Thread nD τ))) (YI : Buf (Elt F) (sI.view.loc (c : Thread nD τ))) (YJ : Buf (Elt F) (sJ.view.loc (c : Thread nD τ)))
  (ZI : Buf (Elt F) (oI.view.loc (c : Thread nD τ))) (ZJ : Buf (Elt F) (oJ.view.loc (c : Thread nD τ)))

abbrev dI : Fin 8 → FVec F S1x2048 .f32 := dotOf c aU aI sU sI XU XI YU YI
abbrev dJ : Fin 8 → FVec F S1x2048 .f32 := dotOf c aU aJ sU sJ XU XJ YU YJ

/-- The six inputs' blocks `k` in flight; their slots `k` free; their blocks `k` at home. -/
abbrev insFlight (k : ℕ) : sProp 𝕄 :=
  iprop(rFlight c i mU aU cc3_scoped1 XU k ∗ rFlight c i mI aI cc3_scoped3 XI k ∗ rFlight c i mJ aJ cc3_scoped5 XJ k
    ∗ wFlight c i nU sU cc3_scoped7 YU k ∗ wFlight c i nI sI cc3_scoped9 YI k ∗ wFlight c i nJ sJ cc3_scoped11 YJ k)
abbrev insFree (k : ℕ) : sProp 𝕄 :=
  iprop(rFree (F := F) c mU cc3_scoped1 k ∗ rFree (F := F) c mI cc3_scoped3 k ∗ rFree (F := F) c mJ cc3_scoped5 k
    ∗ wFree (F := F) c nU cc3_scoped7 k ∗ wFree (F := F) c nI cc3_scoped9 k ∗ wFree (F := F) c nJ cc3_scoped11 k)
abbrev insHome (k : ℕ) : sProp 𝕄 :=
  iprop(rHome c i aU XU k ∗ rHome c i aI XI k ∗ rHome c i aJ XJ k ∗ wHome c i sU YU k ∗ wHome c i sI YI k ∗ wHome c i sJ YJ k)
/-- The two outputs' blocks `k` in flight; their slots `k` free; their blocks `k` at home. -/
abbrev outsFlight (k : ℕ) : sProp 𝕄 :=
  iprop(oFlight c i pI oI cc3_scoped13 ZI (dI c XU XI YU YI) k ∗ oFlight c i pJ oJ cc3_scoped15 ZJ (dJ c XU XJ YU YJ) k)
abbrev outsFree (k : ℕ) : sProp 𝕄 :=
  iprop(wFree (F := F) c pI cc3_scoped13 k ∗ wFree (F := F) c pJ cc3_scoped15 k)
abbrev outsHome (WI : Buf (Elt F) (oI.view.loc (c : Thread nD τ))) (WJ : Buf (Elt F) (oJ.view.loc (c : Thread nD τ))) (k : ℕ) : sProp 𝕄 :=
  iprop(wHome c i oI WI k ∗ wHome c i oJ WJ k)

variable (OI : Buf (Elt F) (oI.view.loc (c : Thread nD τ))) (OJ : Buf (Elt F) (oJ.view.loc (c : Thread nD τ)))

set_option maxHeartbeats 1000000 in
/-- The first trip. -/
theorem trip_first (v9 v30 v38 v46 v54 v62 : BitVec 32) (k : Trip) (h1 : k.val < 1) (Q) :
    iprop((∃ W, owes (c : Thread nD τ) 0 W) ∗ insFlight c i XU XI XJ YU YI YJ k ∗ insFree (F := F) c (k.val + 1) ∗ insHome c i XU XI XJ YU YI YJ (k.val + 1) ∗ outsFree (F := F) c k ∗ outsHome c i ZI ZJ k
      ∗ (∀ r, (⌜r = accAt (k.val + 1)⌝ ∗ (∃ W, owes (c : Thread nD τ) 0 W) ∗ insFlight c i XU XI XJ YU YI YJ (k.val + 1) ∗ insFree (F := F) c k ∗ insHome c i XU XI XJ YU YI YJ k ∗ outsFlight c i XU XI XJ YU YI YJ ZI ZJ k) -∗ Q r))
      ⊢ wp frame (wpE (defs₀ (F := F)) 𝒱₀ (c : Thread nD τ) none) Set.univ (tripG i v9 v30 v38 v46 v54 v62 k (accAt k.val)) Q := by
  rw [accAt_trip]
  have c1 := cond1_pos i k (by omega)
  have c2 := cond2_pos i k (by omega)
  have c3 := cond3_pos i k (by omega)
  have c4 := cond4_pos i k (by omega)
  have c5 := cond5_pos i k (by omega)
  have c6 := cond6_pos i k (by omega)
  have c7 := cond7_pos i k
  have c8 := cond8_pos i k
  have c9 := cond9_pos i k
  have c10 := cond10_pos i k
  have c11 := cond11_pos i k
  have c12 := cond12_pos i k
  have c21 := cond21_pos i k
  have c22 := cond22_pos i k
  have c29 := cond29_neg i k (by omega)
  have c30 := cond30_neg i k (by omega)
  have q1 := chk1 i k
  have q2 := chk2 k
  have q3 := chk3 k
  have q4 := chk4 k
  have q5 := chk5 k
  have q6 := chk6 k
  have q7 := chk7 k
  have q8 := chk8 k
  have q9 := chk9 k
  iintro ⟨⟨%W, HW⟩, ⟨⟨%f1, A1⟩, ⟨%f2, A2⟩, ⟨%f3, A3⟩, ⟨%f4, A4⟩, ⟨%f5, A5⟩, ⟨%f6, A6⟩⟩, ⟨⟨⟨%g1, B1⟩, C1⟩, ⟨⟨%g2, B2⟩, C2⟩, ⟨⟨%g3, B3⟩, C3⟩, ⟨⟨%g4, B4⟩, C4⟩, ⟨⟨%g5, B5⟩, C5⟩, ⟨⟨%g6, B6⟩, C6⟩⟩, ⟨D1, D2, D3, D4, D5, D6⟩, ⟨⟨⟨%g7, B7⟩, C7⟩, ⟨⟨%g8, B8⟩, C8⟩⟩, ⟨D7, D8⟩, Hk⟩
  dsimp only [tripG]
  sl_unfold [k3_t1_body]
  sl_exec
  have ek : ∀ (i : grid3.Coords) (k : Trip), k.val < 1 → (trip_first.sl.v134_r0 i k, trip_first.sl.v489_r0 i k, trip_first.sl.v426_r0 i k, trip_first.sl.v477_r0 i k, trip_first.sl.v118_r0 k)
      = (wd (min (k.val + 2) 4), wd (k.val + 1), wd (k.val + 1), wd k.val, wd ((k.val + 1) % 4)) := by decide +kernel
  have ek' := ek i k h1
  simp only [Prod.mk.injEq] at ek'
  obtain ⟨k1, k2, k3, k4, k5⟩ := ek'
  have eI : pay c (wSlot pI (Ring.sl 2 k.val)) (trip_first.sl.B7_w1 c i XU XI YU YI k q3 q5 q6 g7) = dI c XU XI YU YI (bno i k.val) :=
    stored_eq storeI storeI_eq pI mU mI (wSlot nU (Ring.sl 2 k.val)) (wSlot nI (Ring.sl 2 k.val)) (off46_eq k) (off43_eq k) (off45_eq k) _ _ _ _ _ _ _ _ _ _
  have eJ : pay c (wSlot pJ (Ring.sl 2 k.val)) (trip_first.sl.B8_w2 c i XU XJ YU YJ k q3 q8 q9 g8) = dJ c XU XJ YU YJ (bno i k.val) :=
    stored_eq storeJ storeJ_eq pJ mU mJ (wSlot nU (Ring.sl 2 k.val)) (wSlot nJ (Ring.sl 2 k.val)) (off49_eq k) (off43_eq k) (off48_eq k) _ _ _ _ _ _ _ _ _ _
  sl_step
  iapply Hk
  isplitr
  · ipureintro
    simp only [accAt, k1, k2, k3, k4, k5, Nat.add_sub_cancel]
  isplitl [HW]; · iexists _; iexact HW
  isplitl [C1 C2 C3 C4 C5 C6]
  · isplitl [C1]
    · iexists _; iexact C1
    isplitl [C2]
    · iexists _; iexact C2
    isplitl [C3]
    · iexists _; iexact C3
    isplitl [C4]
    · iexists _; iexact C4
    isplitl [C5]
    · iexists _; iexact C5
    iexists _; iexact C6
  isplitl [A1_dst A2_dst A3_dst A4_dst A5_dst A6_dst A1 A2 A3 A4 A5 A6]
  · isplitl [A1_dst A1]
    · isplitl [A1_dst]
      · iexists _; iexact A1_dst
      iexact A1
    isplitl [A2_dst A2]
    · isplitl [A2_dst]
      · iexists _; iexact A2_dst
      iexact A2
    isplitl [A3_dst A3]
    · isplitl [A3_dst]
      · iexists _; iexact A3_dst
      iexact A3
    isplitl [A4_dst A4]
    · isplitl [A4_dst]
      · iexists _; iexact A4_dst
      iexact A4
    isplitl [A5_dst A5]
    · isplitl [A5_dst]
      · iexists _; iexact A5_dst
      iexact A5
    isplitl [A6_dst]
    · iexists _; iexact A6_dst
    iexact A6
  isplitl [A1_src A2_src A3_src A4_src A5_src A6_src]
  · isplitl [A1_src]
    · iexact A1_src
    isplitl [A2_src]
    · iexact A2_src
    isplitl [A3_src]
    · iexact A3_src
    isplitl [A4_src]
    · iexact A4_src
    isplitl [A5_src]
    · iexact A5_src
    iexact A6_src
  isplitl [C7]
  · iexists _; isplitr
    · ipureintro; exact eI
    iexact C7
  iexists _; isplitr
  · ipureintro; exact eJ
  iexact C8

set_option maxHeartbeats 1000000 in
/-- A trip between the first and the last. -/
theorem trip_mid (v9 v30 v38 v46 v54 v62 : BitVec 32) (k : Trip) (hOI : ∀ b, (wBlk oI b).view.read (Elt F) OI = dI c XU XI YU YI b) (hOJ : ∀ b, (wBlk oJ b).view.read (Elt F) OJ = dJ c XU XJ YU YJ b) (h1 : 1 ≤ k.val) (h3 : k.val < 3) (Q) :
    iprop((∃ W, owes (c : Thread nD τ) 0 W) ∗ insFlight c i XU XI XJ YU YI YJ k ∗ insFree (F := F) c (k.val + 1) ∗ insHome c i XU XI XJ YU YI YJ (k.val + 1) ∗ outsFlight c i XU XI XJ YU YI YJ ZI ZJ (k.val - 1) ∗ outsFree (F := F) c k ∗ outsHome c i ZI ZJ k
      ∗ (∀ r, (⌜r = accAt (k.val + 1)⌝ ∗ (∃ W, owes (c : Thread nD τ) 0 W) ∗ insFlight c i XU XI XJ YU YI YJ (k.val + 1) ∗ insFree (F := F) c k ∗ insHome c i XU XI XJ YU YI YJ k ∗ outsFlight c i XU XI XJ YU YI YJ ZI ZJ k ∗ outsFree (F := F) c (k.val - 1) ∗ outsHome c i OI OJ (k.val - 1)) -∗ Q r))
      ⊢ wp frame (wpE (defs₀ (F := F)) 𝒱₀ (c : Thread nD τ) none) Set.univ (tripG i v9 v30 v38 v46 v54 v62 k (accAt k.val)) Q := by
  rw [accAt_trip]
  have c1 := cond1_pos i k h3
  have c2 := cond2_pos i k h3
  have c3 := cond3_pos i k h3
  have c4 := cond4_pos i k h3
  have c5 := cond5_pos i k h3
  have c6 := cond6_pos i k h3
  have c7 := cond7_pos i k
  have c8 := cond8_pos i k
  have c9 := cond9_pos i k
  have c10 := cond10_pos i k
  have c11 := cond11_pos i k
  have c12 := cond12_pos i k
  have c21 := cond21_pos i k
  have c22 := cond22_pos i k
  have c29 := cond29_pos i k h1
  have c30 := cond30_pos i k h1
  have q1 := chk1 i k
  have q2 := chk2 k
  have q3 := chk3 k
  have q4 := chk4 k
  have q5 := chk5 k
  have q6 := chk6 k
  have q7 := chk7 k
  have q8 := chk8 k
  have q9 := chk9 k
  iintro ⟨⟨%W, HW⟩, ⟨⟨%f1, A1⟩, ⟨%f2, A2⟩, ⟨%f3, A3⟩, ⟨%f4, A4⟩, ⟨%f5, A5⟩, ⟨%f6, A6⟩⟩, ⟨⟨⟨%g1, B1⟩, C1⟩, ⟨⟨%g2, B2⟩, C2⟩, ⟨⟨%g3, B3⟩, C3⟩, ⟨⟨%g4, B4⟩, C4⟩, ⟨⟨%g5, B5⟩, C5⟩, ⟨⟨%g6, B6⟩, C6⟩⟩, ⟨D1, D2, D3, D4, D5, D6⟩, ⟨⟨%f7, %e7, A7⟩, ⟨%f8, %e8, A8⟩⟩, ⟨⟨⟨%g7, B7⟩, C7⟩, ⟨⟨%g8, B8⟩, C8⟩⟩, ⟨D7, D8⟩, Hk⟩
  dsimp only [tripG]
  sl_unfold [k3_t1_body]
  sl_exec
  have ek : ∀ (i : grid3.Coords) (k : Trip), (trip_mid.sl.v134_r0 i k, trip_mid.sl.v489_r0 i k, trip_mid.sl.v426_r0 i k, trip_mid.sl.v477_r0 i k, trip_mid.sl.v118_r0 k)
      = (wd (min (k.val + 2) 4), wd (k.val + 1), wd (k.val + 1), wd k.val, wd ((k.val + 1) % 4)) := by decide +kernel
  have ek' := ek i k
  simp only [Prod.mk.injEq] at ek'
  obtain ⟨k1, k2, k3, k4, k5⟩ := ek'
  have eI : pay c (wSlot pI (Ring.sl 2 k.val)) (trip_mid.sl.B7_w1 c i XU XI YU YI k q3 q5 q6 g7) = dI c XU XI YU YI (bno i k.val) :=
    stored_eq storeI storeI_eq pI mU mI (wSlot nU (Ring.sl 2 k.val)) (wSlot nI (Ring.sl 2 k.val)) (off46_eq k) (off43_eq k) (off45_eq k) _ _ _ _ _ _ _ _ _ _
  have eJ : pay c (wSlot pJ (Ring.sl 2 k.val)) (trip_mid.sl.B8_w2 c i XU XJ YU YJ k q3 q8 q9 g8) = dJ c XU XJ YU YJ (bno i k.val) :=
    stored_eq storeJ storeJ_eq pJ mU mJ (wSlot nU (Ring.sl 2 k.val)) (wSlot nJ (Ring.sl 2 k.val)) (off49_eq k) (off43_eq k) (off48_eq k) _ _ _ _ _ _ _ _ _ _
  sl_step
  iapply Hk
  isplitr
  · ipureintro
    simp only [accAt, k1, k2, k3, k4, k5, Nat.add_sub_cancel]
  isplitl [HW]; · iexists _; iexact HW
  isplitl [C1 C2 C3 C4 C5 C6]
  · isplitl [C1]
    · iexists _; iexact C1
    isplitl [C2]
    · iexists _; iexact C2
    isplitl [C3]
    · iexists _; iexact C3
    isplitl [C4]
    · iexists _; iexact C4
    isplitl [C5]
    · iexists _; iexact C5
    iexists _; iexact C6
  isplitl [A1_dst A2_dst A3_dst A4_dst A5_dst A6_dst A1 A2 A3 A4 A5 A6]
  · isplitl [A1_dst A1]
    · isplitl [A1_dst]
      · iexists _; iexact A1_dst
      iexact A1
    isplitl [A2_dst A2]
    · isplitl [A2_dst]
      · iexists _; iexact A2_dst
      iexact A2
    isplitl [A3_dst A3]
    · isplitl [A3_dst]
      · iexists _; iexact A3_dst
      iexact A3
    isplitl [A4_dst A4]
    · isplitl [A4_dst]
      · iexists _; iexact A4_dst
      iexact A4
    isplitl [A5_dst A5]
    · isplitl [A5_dst]
      · iexists _; iexact A5_dst
      iexact A5
    isplitl [A6_dst]
    · iexists _; iexact A6_dst
    iexact A6
  isplitl [A1_src A2_src A3_src A4_src A5_src A6_src]
  · isplitl [A1_src]
    · iexact A1_src
    isplitl [A2_src]
    · iexact A2_src
    isplitl [A3_src]
    · iexact A3_src
    isplitl [A4_src]
    · iexact A4_src
    isplitl [A5_src]
    · iexact A5_src
    iexact A6_src
  isplitl [C7 C8]
  · isplitl [C7]
    · iexists _; isplitr
      · ipureintro; exact eI
      iexact C7
    iexists _; isplitr
    · ipureintro; exact eJ
    iexact C8
  isplitl [A7_src A8_src A7 A8]
  · isplitl [A7_src A7]
    · isplitl [A7_src]
      · iexists _; iexact A7_src
      iexact A7
    isplitl [A8_src]
    · iexists _; iexact A8_src
    iexact A8
  isplitl [A7_dst]
  · iapply (landed_home c pI oI (bno i (k.val - 1)) _ ZI OI _ _ e7 (hOI _)); iexact A7_dst
  iapply (landed_home c pJ oJ (bno i (k.val - 1)) _ ZJ OJ _ _ e8 (hOJ _)); iexact A8_dst

set_option maxHeartbeats 1000000 in
/-- The last trip. -/
theorem trip_last (v9 v30 v38 v46 v54 v62 : BitVec 32) (k : Trip) (hOI : ∀ b, (wBlk oI b).view.read (Elt F) OI = dI c XU XI YU YI b) (hOJ : ∀ b, (wBlk oJ b).view.read (Elt F) OJ = dJ c XU XJ YU YJ b) (h3 : ¬ k.val < 3) (Q) :
    iprop((∃ W, owes (c : Thread nD τ) 0 W) ∗ insFlight c i XU XI XJ YU YI YJ k ∗ outsFlight c i XU XI XJ YU YI YJ ZI ZJ (k.val - 1) ∗ outsFree (F := F) c k ∗ outsHome c i ZI ZJ k
      ∗ (∀ r, (⌜r = accAt (k.val + 1)⌝ ∗ (∃ W, owes (c : Thread nD τ) 0 W) ∗ insFree (F := F) c k ∗ insHome c i XU XI XJ YU YI YJ k ∗ outsFlight c i XU XI XJ YU YI YJ ZI ZJ k ∗ outsFree (F := F) c (k.val - 1) ∗ outsHome c i OI OJ (k.val - 1)) -∗ Q r))
      ⊢ wp frame (wpE (defs₀ (F := F)) 𝒱₀ (c : Thread nD τ) none) Set.univ (tripG i v9 v30 v38 v46 v54 v62 k (accAt k.val)) Q := by
  rw [accAt_trip]
  have c1 := cond1_neg i k h3
  have c2 := cond2_neg i k h3
  have c3 := cond3_neg i k h3
  have c4 := cond4_neg i k h3
  have c5 := cond5_neg i k h3
  have c6 := cond6_neg i k h3
  have c7 := cond7_pos i k
  have c8 := cond8_pos i k
  have c9 := cond9_pos i k
  have c10 := cond10_pos i k
  have c11 := cond11_pos i k
  have c12 := cond12_pos i k
  have c21 := cond21_pos i k
  have c22 := cond22_pos i k
  have c29 := cond29_pos i k (by omega)
  have c30 := cond30_pos i k (by omega)
  have q1 := chk1 i k
  have q2 := chk2 k
  have q3 := chk3 k
  have q4 := chk4 k
  have q5 := chk5 k
  have q6 := chk6 k
  have q7 := chk7 k
  have q8 := chk8 k
  have q9 := chk9 k
  iintro ⟨⟨%W, HW⟩, ⟨⟨%f1, A1⟩, ⟨%f2, A2⟩, ⟨%f3, A3⟩, ⟨%f4, A4⟩, ⟨%f5, A5⟩, ⟨%f6, A6⟩⟩, ⟨⟨%f7, %e7, A7⟩, ⟨%f8, %e8, A8⟩⟩, ⟨⟨⟨%g7, B7⟩, C7⟩, ⟨⟨%g8, B8⟩, C8⟩⟩, ⟨D7, D8⟩, Hk⟩
  dsimp only [tripG]
  sl_unfold [k3_t1_body]
  sl_exec
  have ek : ∀ (i : grid3.Coords) (k : Trip), (trip_last.sl.v134_r0 i k, trip_last.sl.v489_r0 i k, trip_last.sl.v426_r0 i k, trip_last.sl.v477_r0 i k, trip_last.sl.v118_r0 k)
      = (wd (min (k.val + 2) 4), wd (k.val + 1), wd (k.val + 1), wd k.val, wd ((k.val + 1) % 4)) := by decide +kernel
  have ek' := ek i k
  simp only [Prod.mk.injEq] at ek'
  obtain ⟨k1, k2, k3, k4, k5⟩ := ek'
  have eI : pay c (wSlot pI (Ring.sl 2 k.val)) (trip_last.sl.B7_w1 c i XU XI YU YI k q3 q5 q6 g7) = dI c XU XI YU YI (bno i k.val) :=
    stored_eq storeI storeI_eq pI mU mI (wSlot nU (Ring.sl 2 k.val)) (wSlot nI (Ring.sl 2 k.val)) (off46_eq k) (off43_eq k) (off45_eq k) _ _ _ _ _ _ _ _ _ _
  have eJ : pay c (wSlot pJ (Ring.sl 2 k.val)) (trip_last.sl.B8_w2 c i XU XJ YU YJ k q3 q8 q9 g8) = dJ c XU XJ YU YJ (bno i k.val) :=
    stored_eq storeJ storeJ_eq pJ mU mJ (wSlot nU (Ring.sl 2 k.val)) (wSlot nJ (Ring.sl 2 k.val)) (off49_eq k) (off43_eq k) (off48_eq k) _ _ _ _ _ _ _ _ _ _
  sl_step
  iapply Hk
  isplitr
  · ipureintro
    simp only [accAt, k1, k2, k3, k4, k5, Nat.add_sub_cancel]
  isplitl [HW]; · iexists _; iexact HW
  isplitl [A1_dst A2_dst A3_dst A4_dst A5_dst A6_dst A1 A2 A3 A4 A5 A6]
  · isplitl [A1_dst A1]
    · isplitl [A1_dst]
      · iexists _; iexact A1_dst
      iexact A1
    isplitl [A2_dst A2]
    · isplitl [A2_dst]
      · iexists _; iexact A2_dst
      iexact A2
    isplitl [A3_dst A3]
    · isplitl [A3_dst]
      · iexists _; iexact A3_dst
      iexact A3
    isplitl [A4_dst A4]
    · isplitl [A4_dst]
      · iexists _; iexact A4_dst
      iexact A4
    isplitl [A5_dst A5]
    · isplitl [A5_dst]
      · iexists _; iexact A5_dst
      iexact A5
    isplitl [A6_dst]
    · iexists _; iexact A6_dst
    iexact A6
  isplitl [A1_src A2_src A3_src A4_src A5_src A6_src]
  · isplitl [A1_src]
    · iexact A1_src
    isplitl [A2_src]
    · iexact A2_src
    isplitl [A3_src]
    · iexact A3_src
    isplitl [A4_src]
    · iexact A4_src
    isplitl [A5_src]
    · iexact A5_src
    iexact A6_src
  isplitl [C7 C8]
  · isplitl [C7]
    · iexists _; isplitr
      · ipureintro; exact eI
      iexact C7
    iexists _; isplitr
    · ipureintro; exact eJ
    iexact C8
  isplitl [A7_src A8_src A7 A8]
  · isplitl [A7_src A7]
    · isplitl [A7_src]
      · iexists _; iexact A7_src
      iexact A7
    isplitl [A8_src]
    · iexists _; iexact A8_src
    iexact A8
  isplitl [A7_dst]
  · iapply (landed_home c pI oI (bno i (k.val - 1)) _ ZI OI _ _ e7 (hOI _)); iexact A7_dst
  iapply (landed_home c pJ oJ (bno i (k.val - 1)) _ ZJ OJ _ _ e8 (hOJ _)); iexact A8_dst

end Trip

end Cert.Proof.Dots
-- ==== Proof.Loop.lean ====
/-
  The dots kernel's loop: before trip `k` block `k` of the inputs is in flight, block `k - 1` of the outputs on its way home,
  every other block at home; one trip takes that from `k` to `k + 1`.
-/
module

public import proofs.«01_k».proof.Proof.Trip

@[expose] public section

noncomputable section

namespace Cert.Proof.Dots

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

section Loop
variable (c : Dev nD) (i : grid3.Coords)
  (XU : Buf (Elt F) (aU.view.loc (c : Thread nD τ))) (XI : Buf (Elt F) (aI.view.loc (c : Thread nD τ))) (XJ : Buf (Elt F) (aJ.view.loc (c : Thread nD τ)))
  (YU : Buf (Elt F) (sU.view.loc (c : Thread nD τ))) (YI : Buf (Elt F) (sI.view.loc (c : Thread nD τ))) (YJ : Buf (Elt F) (sJ.view.loc (c : Thread nD τ)))
  (ZI : Buf (Elt F) (oI.view.loc (c : Thread nD τ))) (ZJ : Buf (Elt F) (oJ.view.loc (c : Thread nD τ)))
  (OI : Buf (Elt F) (oI.view.loc (c : Thread nD τ))) (OJ : Buf (Elt F) (oJ.view.loc (c : Thread nD τ)))

/-- The blocks but the one at `k`. -/
abbrev others (k : ℕ) : Finset (Fin 4) := Finset.univ.filter fun b => b.val ≠ k

theorem others_out {k k' : ℕ} (h : k < 4) (hk : k ≠ k') {Φ : Fin 4 → sProp 𝕄} :
    bigSep (others k') Φ = iprop(Φ ⟨k, h⟩ ∗ bigSep ((others k').erase ⟨k, h⟩) Φ) :=
  bigSep_erase (by simp [others, hk])
theorem others_swap {k k' : ℕ} (h' : k' < 4) : (others k).erase ⟨k', h'⟩ = (others k').filter fun b => b.val ≠ k := by
  ext b; simp only [others, Finset.mem_erase, Finset.mem_filter, Finset.mem_univ, true_and, ne_eq, Fin.ext_iff]
theorem insFree_add (c : Dev nD) (k : ℕ) : insFree (F := F) c (k + 2) = insFree c k := by unfold insFree rFree wFree; rw [Ring.sl_add 2 k]
theorem outsFree_add (c : Dev nD) (k : ℕ) : outsFree (F := F) c (k + 2) = outsFree c k := by unfold outsFree wFree; rw [Ring.sl_add 2 k]
theorem others_back (Φ : Fin 4 → sProp 𝕄) {k k' : ℕ} (h : k < 4) (h' : k' < 4) (hk : k ≠ k') :
    iprop(Φ ⟨k, h⟩ ∗ bigSep ((others k).erase ⟨k', h'⟩) Φ) ⊢ bigSep (others k') Φ := by
  rw [others_out h hk, others_swap h, others_swap h']
  have e : ((others k).filter fun b => b.val ≠ k') = (others k').filter fun b => b.val ≠ k := by
    ext b; simp only [others, Finset.mem_filter, Finset.mem_univ, true_and]; exact and_comm
  rw [e]
theorem others_last (Φ : Fin 4 → sProp 𝕄) {k k' : ℕ} (h : k < 4) (h' : 4 ≤ k') : iprop(Φ ⟨k, h⟩ ∗ bigSep (others k) Φ) ⊢ bigSep (others k') Φ := by
  rw [others_out h (k' := k') (by omega), others_swap h]
  have e : ((others k).filter fun b => b.val ≠ k') = others k := by
    ext b; have := b.isLt; simp only [others, Finset.mem_filter, Finset.mem_univ, true_and]; omega
  rw [e]
theorem others_ge {k : ℕ} (h : 4 ≤ k) : others k = Finset.univ := by
  ext b; have := b.isLt; simp only [others, Finset.mem_filter, Finset.mem_univ, true_and, iff_true]; omega

/-- Block `b` of an output before trip `k`: done or not. -/
abbrev outsAt (k : ℕ) (b : Fin 4) : sProp 𝕄 :=
  outsHome c i (if b.val + 1 < k then OI else ZI) (if b.val + 1 < k then OJ else ZJ) b.val

/-- What the loop holds before trip `k`. -/
def loopAt (k : ℕ) (acc : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = accAt k⌝ ∗ (∃ W, owes (c : Thread nD τ) 0 W)
    ∗ (if k < 4 then insFlight c i XU XI XJ YU YI YJ k else insFree (F := F) c k) ∗ insFree (F := F) c (k + 1)
    ∗ bigSep (others k) (fun b => insHome c i XU XI XJ YU YI YJ b.val)
    ∗ (if 1 ≤ k then outsFlight c i XU XI XJ YU YI YJ ZI ZJ (k - 1) else outsFree (F := F) c (k + 1)) ∗ outsFree (F := F) c k
    ∗ bigSep (Finset.univ.filter fun b : Fin 4 => b.val + 1 ≠ k) (outsAt c i ZI ZJ OI OJ k))

variable (hOI : ∀ b, (wBlk oI b).view.read (Elt F) OI = dI c XU XI YU YI b) (hOJ : ∀ b, (wBlk oJ b).view.read (Elt F) OJ = dJ c XU XJ YU YJ b)

/-- The outputs at home, block `k` out of them; block `k - 1` put back. -/
abbrev behind (k : ℕ) : Finset (Fin 4) := Finset.univ.filter fun b => b.val + 1 ≠ k
abbrev apart (k : ℕ) : Finset (Fin 4) := Finset.univ.filter fun b => b.val + 1 ≠ k ∧ b.val ≠ k
theorem behind_out {k : ℕ} (h : k < 4) :
    bigSep (behind k) (outsAt c i ZI ZJ OI OJ k) = iprop(outsHome (F := F) c i ZI ZJ k ∗ bigSep (apart k) (outsAt c i ZI ZJ OI OJ k)) := by
  rw [bigSep_erase (i := ⟨k, h⟩) (by simp [behind])]
  have e : (behind k).erase ⟨k, h⟩ = apart k := by
    ext b; simp only [behind, apart, Finset.mem_erase, Finset.mem_filter, Finset.mem_univ, true_and, ne_eq, Fin.ext_iff]; exact and_comm
  rw [e]
  simp only [outsAt, show ¬ k + 1 < k by omega, if_false]
  rfl
theorem apart_succ {k : ℕ} : bigSep (apart k) (outsAt (F := F) c i ZI ZJ OI OJ k) = bigSep (apart k) (outsAt c i ZI ZJ OI OJ (k + 1)) :=
  bigSep_congr fun b hb => by
    have hb' : b.val + 1 ≠ k ∧ b.val ≠ k := by simpa [apart] using hb
    have : (b.val + 1 < k) ↔ (b.val + 1 < k + 1) := by omega
    simp only [outsAt, this]
theorem behind_in {k : ℕ} (h : k < 4) (h1 : 1 ≤ k) :
    iprop(outsHome (F := F) c i OI OJ (k - 1) ∗ bigSep (apart k) (outsAt c i ZI ZJ OI OJ k)) = bigSep (behind (k + 1)) (outsAt c i ZI ZJ OI OJ (k + 1)) := by
  rw [apart_succ, bigSep_erase (i := ⟨k - 1, by omega⟩) (s := behind (k + 1)) (by simp [behind]; omega)]
  have e : (behind (k + 1)).erase ⟨k - 1, by omega⟩ = apart k := by
    ext b; simp only [behind, apart, Finset.mem_erase, Finset.mem_filter, Finset.mem_univ, true_and, ne_eq, Fin.ext_iff]; omega
  rw [e]
  simp only [outsAt, show k - 1 + 1 < k + 1 by omega, if_true]
  rfl
theorem behind_one {k : ℕ} (h : k < 1) : bigSep (apart k) (outsAt (F := F) c i ZI ZJ OI OJ k) ⊢ bigSep (behind (k + 1)) (outsAt c i ZI ZJ OI OJ (k + 1)) := by
  rw [apart_succ]
  have e : behind (k + 1) = apart k := by
    ext b; simp only [behind, apart, Finset.mem_filter, Finset.mem_univ, true_and]; omega
  rw [e]

include hOI hOJ in
/-- One trip. -/
theorem loop_step (v9 v30 v38 v46 v54 v62 : BitVec 32) (k : Trip) (acc) :
    loopAt c i XU XI XJ YU YI YJ ZI ZJ OI OJ k.val acc
      ⊢ wp frame (wpE (defs₀ (F := F)) 𝒱₀ (c : Thread nD τ) none) Set.univ (tripG i v9 v30 v38 v46 v54 v62 k acc) (loopAt c i XU XI XJ YU YI YJ ZI ZJ OI OJ (k.val + 1)) := by
  have hk := trip_lt k
  have s2 : insFree (F := F) c (k.val + 1 + 1) = insFree c k.val := insFree_add c k.val
  unfold loopAt
  rw [if_pos hk]
  rw [behind_out c i ZI ZJ OI OJ hk]
  rcases Nat.lt_or_ge k.val 1 with h1 | h1
  · -- the first
    rw [if_neg (show ¬ 1 ≤ k.val by omega)]
    iintro ⟨%e, HW, HI, HN, HH, HO, HF, ⟨HZ, HB⟩⟩
    subst e
    ihave HH := (Entails.of_eq (others_out (show k.val + 1 < 4 by omega) (show k.val + 1 ≠ k.val by omega))) $$ HH
    icases HH with ⟨HC, HH⟩
    iapply (trip_first c i XU XI XJ YU YI YJ ZI ZJ v9 v30 v38 v46 v54 v62 k h1)
    isplitl [HW]; · iexact HW
    isplitl [HI]; · iexact HI
    isplitl [HN]; · iexact HN
    isplitl [HC]; · iexact HC
    isplitl [HF]; · iexact HF
    isplitl [HZ]; · iexact HZ
    iintro %r ⟨%er, HW, HI', HN', HC', HO'⟩
    irw [if_pos (show k.val + 1 < 4 by omega), if_pos (show 1 ≤ k.val + 1 by omega), Nat.add_sub_cancel]
    isplitr; · ipureintro; exact er
    isplitl [HW]; · iexact HW
    isplitl [HI']; · iexact HI'
    isplitl [HN']; · irw [s2]; iexact HN'
    isplitl [HC' HH]
    · iapply (others_back (fun b => insHome c i XU XI XJ YU YI YJ b.val) hk (show k.val + 1 < 4 by omega) (show k.val ≠ k.val + 1 by omega))
      isplitl [HC']; · iexact HC'
      iexact HH
    isplitl [HO']; · iexact HO'
    isplitl [HO]; · iexact HO
    iapply (behind_one c i ZI ZJ OI OJ h1); iexact HB
  have s0 : outsFree (F := F) c (k.val + 1) = outsFree c (k.val - 1) :=
    (congrArg (outsFree (F := F) c) (show k.val + 1 = k.val - 1 + 2 by omega)).trans (outsFree_add c _)
  rw [if_pos h1]
  by_cases h3 : k.val < 3
  · iintro ⟨%e, HW, HI, HN, HH, HO, HF, ⟨HZ, HB⟩⟩
    subst e
    ihave HH := (Entails.of_eq (others_out (show k.val + 1 < 4 by omega) (show k.val + 1 ≠ k.val by omega))) $$ HH
    icases HH with ⟨HC, HH⟩
    iapply (trip_mid c i XU XI XJ YU YI YJ ZI ZJ OI OJ v9 v30 v38 v46 v54 v62 k hOI hOJ h1 h3)
    isplitl [HW]; · iexact HW
    isplitl [HI]; · iexact HI
    isplitl [HN]; · iexact HN
    isplitl [HC]; · iexact HC
    isplitl [HO]; · iexact HO
    isplitl [HF]; · iexact HF
    isplitl [HZ]; · iexact HZ
    iintro %r ⟨%er, HW, HI', HN', HC', HO', HF', HZ'⟩
    irw [if_pos (show k.val + 1 < 4 by omega), if_pos (show 1 ≤ k.val + 1 by omega), Nat.add_sub_cancel]
    isplitr; · ipureintro; exact er
    isplitl [HW]; · iexact HW
    isplitl [HI']; · iexact HI'
    isplitl [HN']; · irw [s2]; iexact HN'
    isplitl [HC' HH]
    · iapply (others_back (fun b => insHome c i XU XI XJ YU YI YJ b.val) hk (show k.val + 1 < 4 by omega) (show k.val ≠ k.val + 1 by omega))
      isplitl [HC']; · iexact HC'
      iexact HH
    isplitl [HO']; · iexact HO'
    isplitl [HF']; · irw [s0]; iexact HF'
    iapply (Entails.of_eq (behind_in c i ZI ZJ OI OJ hk h1))
    isplitl [HZ']; · iexact HZ'
    iexact HB
  · iintro ⟨%e, HW, HI, HN, HH, HO, HF, ⟨HZ, HB⟩⟩
    subst e
    iapply (trip_last c i XU XI XJ YU YI YJ ZI ZJ OI OJ v9 v30 v38 v46 v54 v62 k hOI hOJ h3)
    isplitl [HW]; · iexact HW
    isplitl [HI]; · iexact HI
    isplitl [HO]; · iexact HO
    isplitl [HF]; · iexact HF
    isplitl [HZ]; · iexact HZ
    iintro %r ⟨%er, HW, HN', HC', HO', HF', HZ'⟩
    irw [if_neg (show ¬ k.val + 1 < 4 by omega), if_pos (show 1 ≤ k.val + 1 by omega), Nat.add_sub_cancel]
    isplitr; · ipureintro; exact er
    isplitl [HW]; · iexact HW
    isplitl [HN]; · iexact HN
    isplitl [HN']; · irw [s2]; iexact HN'
    isplitl [HC' HH]
    · iapply (others_last (fun b => insHome c i XU XI XJ YU YI YJ b.val) hk (show 4 ≤ k.val + 1 by omega))
      isplitl [HC']; · iexact HC'
      iexact HH
    isplitl [HO']; · iexact HO'
    isplitl [HF']; · irw [s0]; iexact HF'
    iapply (Entails.of_eq (behind_in c i ZI ZJ OI OJ hk h1))
    isplitl [HZ']; · iexact HZ'
    iexact HB

end Loop

end Cert.Proof.Dots
-- ==== Proof.Body.lean ====
/-
  The dots kernel at one grid point: the first blocks issued, the four trips, the last outputs awaited.
-/
module

public import proofs.«01_k».proof.Proof.Loop

@[expose] public section

noncomputable section

namespace Cert.Proof.Dots

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

section Body
variable (c : Dev nD) (i : grid3.Coords)
  (XU : Buf (Elt F) (aU.view.loc (c : Thread nD τ))) (XI : Buf (Elt F) (aI.view.loc (c : Thread nD τ))) (XJ : Buf (Elt F) (aJ.view.loc (c : Thread nD τ)))
  (YU : Buf (Elt F) (sU.view.loc (c : Thread nD τ))) (YI : Buf (Elt F) (sI.view.loc (c : Thread nD τ))) (YJ : Buf (Elt F) (sJ.view.loc (c : Thread nD τ)))
  (ZI : Buf (Elt F) (oI.view.loc (c : Thread nD τ))) (ZJ : Buf (Elt F) (oJ.view.loc (c : Thread nD τ)))
  (OI : Buf (Elt F) (oI.view.loc (c : Thread nD τ))) (OJ : Buf (Elt F) (oJ.view.loc (c : Thread nD τ)))

/-- The kernel on its arrays, buffers and semaphores. -/
abbrev bodyG : Prog (TpuEff nD τ sig (Elt F) Λ₀ .tc) PUnit :=
  cc3_k i aU (Memref.isWhole_whole _) aI (Memref.isWhole_whole _) aJ (Memref.isWhole_whole _) sU (Memref.isWhole_whole _) sI (Memref.isWhole_whole _) sJ (Memref.isWhole_whole _)
    oI (Memref.isWhole_whole _) oJ (Memref.isWhole_whole _) mU (Memref.isWhole_whole _) cc3_scoped1 mI (Memref.isWhole_whole _) cc3_scoped3 mJ (Memref.isWhole_whole _) cc3_scoped5
    nU (Memref.isWhole_whole _) cc3_scoped7 nI (Memref.isWhole_whole _) cc3_scoped9 nJ (Memref.isWhole_whole _) cc3_scoped11 pI (Memref.isWhole_whole _) cc3_scoped13 pJ (Memref.isWhole_whole _) cc3_scoped15

/-- The buffers and semaphores at rest, the inputs' four blocks and the outputs' four at contents `WI`, `WJ`. -/
def rest (WI : Buf (Elt F) (oI.view.loc (c : Thread nD τ))) (WJ : Buf (Elt F) (oJ.view.loc (c : Thread nD τ))) : sProp 𝕄 :=
  iprop((∃ W, owes (c : Thread nD τ) 0 W) ∗ insFree (F := F) c 0 ∗ insFree (F := F) c 1 ∗ outsFree (F := F) c 0 ∗ outsFree (F := F) c 1
    ∗ bigSep Finset.univ (fun b : Fin 4 => insHome c i XU XI XJ YU YI YJ b.val) ∗ bigSep Finset.univ (fun b : Fin 4 => outsHome c i WI WJ b.val))

variable (hOI : ∀ b, (wBlk oI b).view.read (Elt F) OI = dI c XU XI YU YI b) (hOJ : ∀ b, (wBlk oJ b).view.read (Elt F) OJ = dJ c XU XJ YU YJ b)

theorem ins_first : bigSep Finset.univ (fun b : Fin 4 => insHome (F := F) c i XU XI XJ YU YI YJ b.val)
    = iprop(insHome c i XU XI XJ YU YI YJ 0 ∗ bigSep (others 0) (fun b : Fin 4 => insHome c i XU XI XJ YU YI YJ b.val)) := by
  rw [bigSep_univ_split (0 : Fin 4)]
  have e : (Finset.univ.erase (0 : Fin 4)) = others 0 := by decide
  rw [e]; rfl

theorem chk_last : ∀ i : grid3.Coords, k3_chk11 i (wd 0) := by decide +kernel

/-- After the last trip. -/
theorem loopAt_end (acc) : loopAt c i XU XI XJ YU YI YJ ZI ZJ OI OJ k3_t1_loop.trips acc
    ⊢ iprop(⌜acc = (wd 4, wd 4, wd 4, wd 4, wd 4, wd 4, wd 4, wd 4, wd 4, wd 4, wd 4, wd 4, wd 4, wd 3, wd 4, wd 3, wd 0)⌝ ∗ (∃ W, owes (c : Thread nD τ) 0 W)
      ∗ insFree (F := F) c 0 ∗ insFree (F := F) c 1 ∗ bigSep Finset.univ (fun b : Fin 4 => insHome c i XU XI XJ YU YI YJ b.val)
      ∗ ((∃ g, ⌜pay c (wSlot pI 1) g = dI c XU XI YU YI (bno i 3)⌝ ∗ flight c (wBlk oI (bno i 3)) (wSlot pI 1) (cel cc3_scoped13 1) 256 ZI g)
        ∗ (∃ g, ⌜pay c (wSlot pJ 1) g = dJ c XU XJ YU YJ (bno i 3)⌝ ∗ flight c (wBlk oJ (bno i 3)) (wSlot pJ 1) (cel cc3_scoped15 1) 256 ZJ g))
      ∗ outsFree (F := F) c 0 ∗ bigSep (behind 4) (fun b : Fin 4 => outsHome c i OI OJ b.val)) := by
  rw [trips_eq]
  unfold loopAt
  rw [if_neg (show ¬ 4 < 4 by omega), if_pos (show 1 ≤ 4 by omega), others_ge (le_refl 4), insFree_add c 2, insFree_add c 0, insFree_add c 3, insFree_add c 1, outsFree_add c 2, outsFree_add c 0]
  have e : bigSep (Finset.univ.filter fun b : Fin 4 => b.val + 1 ≠ 4) (outsAt (F := F) c i ZI ZJ OI OJ 4) = bigSep (behind 4) (fun b : Fin 4 => outsHome c i OI OJ b.val) :=
    bigSep_congr fun b hb => by
      have hb' : b.val + 1 ≠ 4 := by simpa [behind] using hb
      have : b.val + 1 < 4 := by omega
      simp only [outsAt, this, if_true]
  rw [e]
  exact .rfl
theorem outs_last (WI : Buf (Elt F) (oI.view.loc (c : Thread nD τ))) (WJ : Buf (Elt F) (oJ.view.loc (c : Thread nD τ))) :
    bigSep Finset.univ (fun b : Fin 4 => outsHome (F := F) c i WI WJ b.val)
      = iprop(outsHome c i WI WJ 3 ∗ bigSep (behind 4) (fun b : Fin 4 => outsHome c i WI WJ b.val)) := by
  rw [bigSep_univ_split (3 : Fin 4)]
  have e : (Finset.univ.erase (3 : Fin 4)) = behind 4 := by decide
  rw [e]; rfl
theorem outs_first (WI : Buf (Elt F) (oI.view.loc (c : Thread nD τ))) (WJ : Buf (Elt F) (oJ.view.loc (c : Thread nD τ))) :
    bigSep Finset.univ (fun b : Fin 4 => outsHome (F := F) c i ZI ZJ b.val) ⊢ bigSep (behind 0) (outsAt c i ZI ZJ WI WJ 0) := by
  have e : behind 0 = Finset.univ := by decide
  rw [e]
  exact Entails.of_eq (bigSep_congr fun b _ => by simp only [outsAt, Nat.not_lt_zero, if_false])

include hOI hOJ in
/-- The kernel at a grid point. -/
theorem body_run (Q : PUnit → sProp 𝕄) :
    iprop(rest c i XU XI XJ YU YI YJ ZI ZJ ∗ (rest c i XU XI XJ YU YI YJ OI OJ -∗ Q ⟨⟩))
      ⊢ wp frame (wpE (defs₀ (F := F)) 𝒱₀ (c : Thread nD τ) none) Set.univ (bodyG i) Q := by
  unfold rest
  rw [ins_first]
  iintro ⟨⟨HW, ⟨⟨⟨%f1, Hd1⟩, Hc1⟩, ⟨⟨%f2, Hd2⟩, Hc2⟩, ⟨⟨%f3, Hd3⟩, Hc3⟩, ⟨⟨%f4, Hd4⟩, Hc4⟩, ⟨⟨%f5, Hd5⟩, Hc5⟩, ⟨⟨%f6, Hd6⟩, Hc6⟩⟩, HN, HF, HF', ⟨⟨Hh1, Hh2, Hh3, Hh4, Hh5, Hh6⟩, HH⟩, HO⟩, Hk⟩
  icases HW with ⟨%W, HW⟩
  sl_exec
  iapply (Scf.wp_for_bind Idealize.ShloMosaic.frame (wpE (defs₀ (F := F)) 𝒱₀ (c : Thread nD τ) none) Set.univ _ _ _ _ _ _
    (loopAt c i XU XI XJ YU YI YJ ZI ZJ OI OJ) (fun k acc => loop_step c i XU XI XJ YU YI YJ ZI ZJ OI OJ hOI hOJ _ _ _ _ _ _ k acc)) $$ [HW Hc1 Hc2 Hc3 Hc4 Hc5 Hc6 HN HF HF' HH HO]
  · unfold loopAt
    irw [if_pos (show 0 < 4 by omega), if_neg (show ¬ 1 ≤ 0 by omega)]
    isplitr; · ipureintro; rfl
    isplitl [HW]; · iexists _; iexact HW
    isplitl [Hc1 Hc2 Hc3 Hc4 Hc5 Hc6]
    · isplitl [Hc1]; · iexists _; iexact Hc1
      isplitl [Hc2]; · iexists _; iexact Hc2
      isplitl [Hc3]; · iexists _; iexact Hc3
      isplitl [Hc4]; · iexists _; iexact Hc4
      isplitl [Hc5]; · iexists _; iexact Hc5
      iexists _; iexact Hc6
    isplitl [HN]; · iexact HN
    isplitl [HH]; · iexact HH
    isplitl [HF']; · iexact HF'
    isplitl [HF]; · iexact HF
    iapply (outs_first c i ZI ZJ OI OJ); iexact HO
  iintro %acc HL
  ihave HL := (loopAt_end c i XU XI XJ YU YI YJ ZI ZJ OI OJ acc) $$ HL
  icases HL with ⟨%ea, ⟨%W', HW⟩, HN, HN', HH, ⟨⟨%g1, %e1, Hf1⟩, ⟨%g2, %e2, Hf2⟩⟩, HF, HO⟩
  subst ea
  have c10 : k3_chk10 (wd 3) := by decide +kernel
  have c11 : k3_chk11 i (wd 0) := chk_last i
  have c12 : k3_chk12 (wd 3) := by decide +kernel
  sl_exec
  sl_step
  iapply Hk
  isplitl [HW]; · iexists _; iexact HW
  isplitl [HN]; · iexact HN
  isplitl [HN']; · iexact HN'
  isplitl [HF]; · iexact HF
  isplitl [Hf1_src Hf1 Hf2_src Hf2]
  · isplitl [Hf1_src Hf1]
    · isplitl [Hf1_src]; · iexists _; iexact Hf1_src
      iexact Hf1
    isplitl [Hf2_src]; · iexists _; iexact Hf2_src
    iexact Hf2
  isplitl [HH]; · iapply (Entails.of_eq (ins_first c i XU XI XJ YU YI YJ)); iexact HH
  iapply (Entails.of_eq (outs_last c i OI OJ).symm)
  isplitl [Hf1_dst Hf2_dst]
  · isplitl [Hf1_dst]
    · iapply (landed_home c pI oI (bno i 3) 1 ZI OI g1 _ e1 (hOI _)); iexact Hf1_dst
    iapply (landed_home c pJ oJ (bno i 3) 1 ZJ OJ g2 _ e2 (hOJ _)); iexact Hf2_dst
  iexact HO
end Body
end Cert.Proof.Dots
-- ==== Proof.Gather.lean ====
/-
  One vector subcore's task of a row gather, over any arrays and scratch: its 512 row numbers fetched, those rows of the
  table gathered into the row scratch, the rows written to its slab of the output.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.SparseCore.FromWhole

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)

variable {F : FTy → Type} [FloatOps F]

local notation "𝕄" => MT nD τ sig (HIx 3) (Elt F) ℕ UU ℕ

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The table's rows, as the gather counts them. -/
abbrev nRows : ℕ := S253952x128.size gathers_S253952x128_S512x128.axis

section Tile
variable (d : Dev nD) (L : grid0.Coords)
  (tM : Memref sig .scVector .hbm S253952x128 .i32) (ht : tM.IsWhole) (xM : Memref sig .scVector .hbm S16384 .i32) (hx : xM.IsWhole)
  (oM : Memref sig .scVector .hbm S16384x128 .i32) (ho : oM.IsWhole) (sM : Memref sig .scVector .vmem S512 .i32) (hs : sM.IsWhole)
  (rM : Memref sig .scVector .vmem S512x128 .i32) (hr : rM.IsWhole) (cG cA cB : DmaSems sig S_)

/-- The task's slab of the row numbers and of the output; the table as the gather names it. -/
abbrev xSlab : Memref sig .scVector .hbm S512 .i32 := xM.slice (Rect.unit (s := S16384) (k0_off1 L) S512.size (k0_off1_inb L)) (fun _ => rfl)
abbrev oSlab : Memref sig .scVector .hbm S512x128 .i32 := oM.slice (Rect.unit (s := S16384x128) (k0_off2 L) S512x128.size (k0_off2_inb L)) (fun _ => rfl)
abbrev tAll : Memref sig .scVector .hbm S253952x128 .i32 :=
  tM.slice (Rect.unit (s := S253952x128) ![0, 0] S253952x128.size inb_S253952x128_S253952x128_0_0) (fun _ => rfl)

abbrev task : Prog (TpuEff nD τ sig (Elt F) Λ₀ (.scVector (cV L) (jV L))) PUnit :=
  cc0_k (F := F) L tM ht xM hx oM ho sM hs rM hr cG cA cB

/-- The row of the table that row number `x` of a list names. -/
abbrev picked (tab : S253952x128.Idx → BitVec 32) (idx : S512.Idx → BitVec 32) (hin : ∀ x, (idx x).toNat < nRows) : S512x128.Idx → BitVec 32 :=
  SparseCore.gatherPayload (F := F) (e := .i32) gathers_S253952x128_S512x128 tab (SparseCore.rows (F := F) idx (o := S512x128.size gathers_S253952x128_S512x128.axis') (z := nRows) rfl hin)

variable (q : PosShare TreeShare) (tab : Buf (Elt F) (tM.view.loc (thr d L))) (idx : Buf (Elt F) (xM.view.loc (thr d L)))
  (out out' : Buf (Elt F) (oM.view.loc (thr d L)))

/-- What the task takes and gives back, but for the slab of the output. -/
def kit : sProp 𝕄 :=
  iprop(((xSlab L xM).view.loc (thr d L) ↦[(xSlab L xM).view.set]{fullShare} idx) ∗ (tM.view.loc (thr d L) ↦{q} tab)
    ∗ (∃ f, sM.view.loc (thr d L) ↦{fullShare} f) ∗ (∃ f, rM.view.loc (thr d L) ↦{fullShare} f)
    ∗ semVal (thr d L, SemLoc.dma cG.sem) 0 ∗ semVal (thr d L, SemLoc.dma cA.sem) 0 ∗ semVal (thr d L, SemLoc.dma cB.sem) 0)

theorem numel_rows : 0 < S512x128.numel := by simp [Shape.numel, Fin.prod_univ_two]

theorem tAll_read : (tAll tM).view.read (Elt F) tab = tM.view.read (Elt F) tab := by
  funext x
  have e : (Rect.unit (s := S253952x128) ![0, 0] S253952x128.size inb_S253952x128_S253952x128_0_0).emb x = x := by
    funext a
    refine Fin.ext ?_
    match a with
    | 0 => exact (Nat.zero_add _).trans (Nat.one_mul _)
    | 1 => exact (Nat.zero_add _).trans (Nat.one_mul _)
  show tM.view.read (Elt F) tab ((Rect.unit (s := S253952x128) ![0, 0] S253952x128.size inb_S253952x128_S253952x128_0_0).emb x) = _
  rw [e]

theorem picked_eq {idx' idx : S512.Idx → BitVec 32} (e : idx' = idx) (hn : S512.numel = S512x128.size gathers_S253952x128_S512x128.axis') (hin' hin) :
    SparseCore.gatherPayload (F := F) (e := .i32) gathers_S253952x128_S512x128 ((tAll tM).view.read (Elt F) tab) (SparseCore.rows (F := F) idx' (o := S512x128.size gathers_S253952x128_S512x128.axis') (z := nRows) hn hin')
      = picked (F := F) (tM.view.read (Elt F) tab) idx hin := by
  subst e; rw [tAll_read]

theorem slab_congr (pay : S512x128.Idx → BitVec 32) (h : (oSlab L oM).view.read (Elt F) out' = pay) :
    ((oSlab L oM).view.loc (thr d L) ↦[(oSlab L oM).view.set]{fullShare} (oSlab L oM).view.write (Elt F) out pay Finset.univ : sProp 𝕄)
      ⊢ (oSlab L oM).view.loc (thr d L) ↦[(oSlab L oM).view.set]{fullShare} out' := by
  refine Entails.of_eq (pointsTo_congr fun j hj => ?_)
  obtain ⟨x, -, rfl⟩ := Finset.mem_map.mp hj
  refine View.eq_of_read_eq ?_
  exact (congrFun (View.read_write_univ (v := (oSlab L oM).view) out pay) x).trans (congrFun h x).symm

/-- The task. -/
theorem task_run (hin : ∀ x, ((xSlab L xM).view.read (Elt F) idx x).toNat < nRows)
    (hout : (oSlab L oM).view.read (Elt F) out' = picked (F := F) (tM.view.read (Elt F) tab) ((xSlab L xM).view.read (Elt F) idx) hin)
    (hN : ∑ j, (rM.slice (S512x128.rowRect gathers_S253952x128_S512x128.axis' j) (S512x128.stride_rowRect gathers_S253952x128_S512x128.axis' j)).view.dmaCredit
      = rM.view.dmaCredit)
    (O : CellTallies nD τ sig (HIx 3)) (W : Waits sig (HIx 3)) :
    iprop(Transfers.MayWaits (thr d L) (default : HIx 3) O ∗ kit d L tM xM sM rM cG cA cB q tab idx
        ∗ ((oSlab L oM).view.loc (thr d L) ↦[(oSlab L oM).view.set]{fullShare} out) ∗ owes (thr d L) O W)
      ⊢ wp frame (wpE (defs₀ (F := F)) 𝒱₀ (thr d L) none) Set.univ (task L tM ht xM hx oM ho sM hs rM hr cG cA cB)
          fun _ => iprop(kit d L tM xM sM rM cG cA cB q tab idx
            ∗ ((oSlab L oM).view.loc (thr d L) ↦[(oSlab L oM).view.set]{fullShare} out')
            ∗ ∃ W', ⌜∀ p ∈ W', p ∈ W ∨ p.2 = none⌝ ∗ owes (thr d L) O W') := by
  unfold task kit
  iintro ⟨#Hmw, ⟨Hx, Ht, ⟨%fs, Hs⟩, ⟨%fr, Hr⟩, HG, HA, HB⟩, Ho, HO⟩
  sl_exec
  have hfs : sM.view.read (Elt F) (View.write (Elt F) sM.view fs (task_run.sl.dma0 d L xM idx) Finset.univ) = (xSlab L xM).view.read (Elt F) idx :=
    View.read_write_univ _ _
  have hin' : ∀ x, (sM.view.read (Elt F) (View.write (Elt F) sM.view fs (task_run.sl.dma0 d L xM idx) Finset.univ) x).toNat < nRows := by
    rw [hfs]; exact hin
  iapply (SparseCore.wp_gatherFromWhole countersEmb 𝒱₀ (thr d L) none (hg := gathers_S253952x128_S512x128) (default : HIx 3)
      rM.view.dmaCredit hN numel_rows hin') $$ [Ht Hr Hs HG]
  · isplitl [Ht]; · iexact Ht
    isplitl [Hr]; · iexact Hr
    isplitl [Hs]; · iexact Hs
    iexact HG
  iintro Hfl
  sl_exec
  iapply (Transfers.wp_waitLocalO countersEmb 𝒱₀ (thr d L) none (default : HIx 3) (rfl : rM.view.dmaCredit = _)) $$ [Hfl HO]
  · isplitl [Hfl]; · iexact Hfl
    isplitl [HO]; · iexact HO
    iapply (Transfers.MayWaits.elim (SemLoc.dma cG.sem)) $$ Hmw
  iintro ⟨⟨Hr, Ht, Hs⟩, HG, HO⟩
  ihave Hr := (Entails.of_eq (congrArg (fun I => (rM.view.loc (thr d L) ↦[I]{fullShare} _ : sProp 𝕄)) hr.set_eq_univ.symm)) $$ Hr
  irw [wp_ret]
  imodintro
  beta_reduce
  simp only [Prog.bind_lift]
  iapply (Transfers.wp_dmaLocal countersEmb 𝒱₀ (thr d L) none (default : HIx 3) (oSlab L oM).view.dmaCredit rfl (View.dmaCredit_pos _ numel_rows) (Finset.Subset.refl _)) $$ [Hr Ho HB]
  · isplitl [Hr]; · iexact Hr
    isplitl [Ho]; · iexact Ho
    iexact HB
  iintro Hfl
  iapply (Transfers.wp_waitLocalO countersEmb 𝒱₀ (thr d L) none (default : HIx 3) (rfl : (oSlab L oM).view.dmaCredit = _)) $$ [Hfl HO]
  · isplitl [Hfl]; · iexact Hfl
    isplitl [HO]; · iexact HO
    iapply (Transfers.MayWaits.elim (SemLoc.dma cB.sem)) $$ Hmw
  iintro ⟨⟨Ho, Hr⟩, HB, HO⟩
  ihave Hr := (Entails.of_eq (congrArg (fun I => (rM.view.loc (thr d L) ↦[I]{fullShare} _ : sProp 𝕄)) hr.set_eq_univ)) $$ Hr
  sl_step
  isplitl [Hx Ht Hs Hr HG HA HB]
  · isplitl [Hx]; · iexact Hx
    isplitl [Ht]; · iexact Ht
    isplitl [Hs]; · iexists _; iexact Hs
    isplitl [Hr]; · iexists _; iexact Hr
    isplitl [HG]; · iexact HG
    isplitl [HA]; · iexact HA
    iexact HB
  isplitl [Ho]
  · ihave Ho := (slab_congr d L oM out out' _ (hout.trans ((View.read_write_univ (v := rM.view) fr _).trans
      (picked_eq d L tM tab hfs rfl hin' hin)).symm)) $$ Ho
    iexact Ho
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp
end Tile

theorem nRows_eq : nRows = 253952 := rfl
theorem cc1_eq : @cc1_k = @cc0_k := rfl
theorem cc2_eq : @cc2_k = @cc0_k := rfl
end Cert.Proof.Rows
-- ==== Proof.Calls.lean ====
/-
  The three row gathers as calls: what each takes of its arrays and gives back, cut among the thirty-two tasks; each
  task's obligation, from the one task's run.
-/
module

public import proofs.«01_k».proof.Proof.Gather

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)

variable {F : FTy → Type}

local notation "𝕄" => MT nD τ sig (HIx 3) (Elt F) ℕ UU ℕ

/-! ## The program as the launch sees it -/

abbrev ΛP : Labels := Pipeline.Sig Λ₀ (Fin 1) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 3) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tasks and their slabs -/

abbrev Task : Type := Fin 2 × Fin 16

/-- The task's place in the grid. -/
def co (p : Task) : grid0.Coords := fun | 0 => p.1 | 1 => p.2 | ⟨_ + 2, h⟩ => absurd h (Nat.not_lt.2 (Nat.le_add_left _ _))

abbrev xCut (p : Task) : Rect S16384 := Rect.unit (s := S16384) (k0_off1 (co p)) S512.size (k0_off1_inb (co p))
abbrev oCut (p : Task) : Rect S16384x128 := Rect.unit (s := S16384x128) (k0_off2 (co p)) S512x128.size (k0_off2_inb (co p))

theorem mem_xCut (p : Task) (j : S16384.Idx) : j ∈ (xCut p).set ↔ (j 0).val / 512 = 2 * p.2.val + p.1.val := by
  have h1 := p.1.isLt
  rw [Rect.mem_set_unit, k0_off1_eq]
  constructor
  · intro h
    have h := h 0
    have : 1024 * p.2.val + 512 * p.1.val ≤ (j 0).val ∧ (j 0).val < 1024 * p.2.val + 512 * p.1.val + 512 := h
    omega
  · intro h a
    match a with
    | 0 =>
      show 1024 * p.2.val + 512 * p.1.val ≤ (j 0).val ∧ (j 0).val < 1024 * p.2.val + 512 * p.1.val + 512
      omega

theorem mem_oCut (p : Task) (j : S16384x128.Idx) : j ∈ (oCut p).set ↔ (j 0).val / 512 = 2 * p.2.val + p.1.val := by
  have h1 := p.1.isLt
  rw [Rect.mem_set_unit, k0_off2_eq]
  constructor
  · intro h
    have h := h 0
    have : 1024 * p.2.val + 512 * p.1.val ≤ (j 0).val ∧ (j 0).val < 1024 * p.2.val + 512 * p.1.val + 512 := h
    omega
  · intro h a
    match a with
    | 0 =>
      show 1024 * p.2.val + 512 * p.1.val ≤ (j 0).val ∧ (j 0).val < 1024 * p.2.val + 512 * p.1.val + 512
      omega
    | 1 =>
      have := (j 1).isLt
      exact ⟨Nat.zero_le _, by simpa using this⟩

/-- The task a row belongs to. -/
def owner (n : Fin 16384) : Task := (⟨n.val / 512 % 2, by omega⟩, ⟨n.val / 1024, by omega⟩)

theorem owner_eq (n : Fin 16384) (p : Task) : n.val / 512 = 2 * p.2.val + p.1.val ↔ p = owner n := by
  have h1 := p.1.isLt
  constructor
  · intro h
    refine Prod.ext (Fin.ext ?_) (Fin.ext ?_)
    · show p.1.val = n.val / 512 % 2
      omega
    · show p.2.val = n.val / 1024
      omega
  · rintro rfl
    show n.val / 512 = 2 * (n.val / 1024) + n.val / 512 % 2
    omega

/-- A buffer cut by an owner of every element is held whole exactly when every owner's part is. -/
theorem cut_eq {ℓ : Loc nD τ sig} (I : Task → Finset (Idx ℓ)) (own : Idx ℓ → Task) (h : ∀ p j, j ∈ I p ↔ p = own j) (f : Buf (Elt F) ℓ) :
    (ℓ ↦{fullShare} f : sProp 𝕄) = bigSep Finset.univ fun p : Task => ℓ ↦[I p]{fullShare} f := by
  have hc : (Finset.univ : Finset Task).biUnion I = Finset.univ :=
    Finset.eq_univ_iff_forall.mpr fun j => Finset.mem_biUnion.mpr ⟨own j, Finset.mem_univ _, (h _ j).mpr rfl⟩
  rw [← pointsTo_biUnion Finset.univ I fun p _ p' _ ne => Finset.disjoint_left.mpr fun j hj hj' => ne (((h p j).mp hj).trans ((h p' j).mp hj').symm), hc]

/-- The share of the table a task reads at. -/
def part (p : Task) : PosShare TreeShare := piece (piece fullShare 1 p.1) 15 p.2

theorem parts_eq {ℓ : Loc nD τ sig} (f : Buf (Elt F) ℓ) :
    (ℓ ↦{fullShare} f : sProp 𝕄) = bigSep Finset.univ fun p : Task => ℓ ↦{part p} f := by
  rw [bigSep_univ_prod, pointsTo_pieces Finset.univ f 1 fullShare]
  exact bigSep_congr fun c _ => pointsTo_pieces Finset.univ f 15 _

/-- A task's part of a call's three arrays, and all the tasks' parts. -/
abbrev portion (tℓ xℓ oℓ : Loc nD τ sig) (IX : Task → Finset (Idx xℓ)) (IO : Task → Finset (Idx oℓ))
    (tab : Buf (Elt F) tℓ) (idx : Buf (Elt F) xℓ) (out : Buf (Elt F) oℓ) (p : Task) : sProp 𝕄 :=
  iprop((xℓ ↦[IX p]{fullShare} idx) ∗ (tℓ ↦{part p} tab) ∗ (oℓ ↦[IO p]{fullShare} out))

theorem portions_eq {tℓ xℓ oℓ : Loc nD τ sig} {IX : Task → Finset (Idx xℓ)} {IO : Task → Finset (Idx oℓ)}
    (nx : Idx xℓ → Task) (no : Idx oℓ → Task) (hX : ∀ p j, j ∈ IX p ↔ p = nx j) (hO : ∀ p j, j ∈ IO p ↔ p = no j)
    (tab : Buf (Elt F) tℓ) (idx : Buf (Elt F) xℓ) (out : Buf (Elt F) oℓ) :
    (bigSep Finset.univ fun c : Fin 2 => bigSep Finset.univ fun i : Fin 16 => portion tℓ xℓ oℓ IX IO tab idx out (c, i) : sProp 𝕄)
      = iprop((xℓ ↦{fullShare} idx) ∗ (tℓ ↦{fullShare} tab) ∗ (oℓ ↦{fullShare} out)) := by
  rw [cut_eq IX nx hX idx, parts_eq tab, cut_eq IO no hO out, ← bigSep_sep', ← bigSep_sep', ← bigSep_univ_prod]

/-! ## The rows gathered -/

/-- Row `j` of the output is the table's row that row number `j` names. -/
def gathered (tab : S253952x128.Idx → BitVec 32) (idx : S16384.Idx → BitVec 32) : S16384x128.Idx → BitVec 32 := fun j =>
  tab (fun | 0 => Fin.ofNat 253952 (idx (fun | 0 => j 0)).toNat | 1 => j 1)

theorem gathered_slab (tab : S253952x128.Idx → BitVec 32) (idx : S16384.Idx → BitVec 32) (p : Task)
    (hin : ∀ x, (idx ((xCut p).emb x)).toNat < nRows) (x : S512x128.Idx) :
    gathered tab idx ((oCut p).emb x) = picked (F := F) tab (fun y => idx ((xCut p).emb y)) hin x := by
  have e0 : ∀ y : S512.Idx, ((xCut p).emb y 0).val = 1024 * p.2.val + 512 * p.1.val + (y 0).val := fun y => by
    show k0_off1 (co p) 0 + 1 * (y 0).val = _
    rw [k0_off1_eq, Nat.one_mul]; rfl
  have f0 : ((oCut p).emb x 0).val = 1024 * p.2.val + 512 * p.1.val + (x 0).val := by
    show k0_off2 (co p) 0 + 1 * (x 0).val = _
    rw [k0_off2_eq, Nat.one_mul]; rfl
  have f1 : ((oCut p).emb x 1).val = (x 1).val := by
    show k0_off2 (co p) 1 + 1 * (x 1).val = _
    rw [k0_off2_eq, Nat.one_mul]; exact Nat.zero_add _
  have ey : ∀ y : S512.Idx, (y 0).val = (x 0).val → (xCut p).emb y = (fun | 0 => (oCut p).emb x 0 : S16384.Idx) := fun y h => by
    funext a
    match a with
    | 0 => exact Fin.ext ((e0 y).trans ((congrArg _ h).trans f0.symm))
  show tab _ = tab _
  congr 1
  funext a
  match a with
  | 0 =>
    refine Fin.ext ?_
    have h := Shape.Gathers.idx_axis gathers_S253952x128_S512x128
      (SparseCore.rows (F := F) (fun y => idx ((xCut p).emb y)) (o := S512x128.size gathers_S253952x128_S512x128.axis') (z := nRows) rfl hin) x
    refine Eq.trans ?_ (congrArg Fin.val h).symm
    have hy : ((S512.rowMajor.symm ((x gathers_S253952x128_S512x128.axis').cast (rfl : S512.numel = S512.numel))) 0).val = (x 0).val := by
      rw [← Shape.rowMajor_val_one (d := ![512]), Equiv.apply_symm_apply]; rfl
    show (idx (fun | 0 => (oCut p).emb x 0)).toNat % 253952 = (idx ((xCut p).emb (S512.rowMajor.symm _))).toNat
    rw [← ey _ hy]
    exact Nat.mod_eq_of_lt (hin _)
  | 1 =>
    refine Fin.ext (f1.trans ?_)
    exact (Shape.Gathers.idx_of_ne gathers_S253952x128_S512x128 _ x 1 (by decide)).symm

/-! ## A task's own buffers and semaphores -/

/-- What a vector subcore owns besides two of its buffers. -/
def spareBufs (d : Dev nD) (L : grid0.Coords) (b0 b1 : Ref sig .scVector) : sProp 𝕄 :=
  bigSep (((ownRefs (τ := τ) (.scVector (cV L) (jV L))).erase ((Proc.scVector (cV L) (jV L)).devRef b0)).erase ((Proc.scVector (cV L) (jV L)).devRef b1))
    fun b => iprop(∃ f, ((d, b) : Loc nD τ sig) ↦{fullShare} f)

theorem bufs_two (d : Dev nD) (L : grid0.Coords) (b0 b1 : Ref sig .scVector) (ne : b1 ≠ b0)
    (h0 : ((Proc.scVector (cV L) (jV L)).devRef b0).owner = .proc (.scVector (cV L) (jV L))) (h1 : ((Proc.scVector (cV L) (jV L)).devRef b1).owner = .proc (.scVector (cV L) (jV L))) :
    (scopedBufs (thr d L) : sProp 𝕄)
      = iprop((∃ f, (thr d L).loc b0 ↦{fullShare} f) ∗ (∃ f, (thr d L).loc b1 ↦{fullShare} f) ∗ spareBufs d L b0 b1) := by
  rw [(K (F := F)).scopedBufs_V facts d (cV L) (jV L)]
  unfold SparseCore.Cfg.ownBufs
  refine (SparseCore.bigSep_erase' (SparseCore.Cfg.mem_ownRefs_of_owner (p := Proc.scVector (cV L) (jV L)) h0)).trans ?_
  rw [SparseCore.bigSep_erase' (Finset.mem_erase.mpr ⟨fun e => ne (Proc.devRef_injective _ e), SparseCore.Cfg.mem_ownRefs_of_owner (p := Proc.scVector (cV L) (jV L)) h1⟩)]
  rfl

/-- What a vector subcore owns besides three of its semaphores. -/
def spareSems (d : Dev nD) (L : grid0.Coords) (g a b : SemLoc sig) : sProp 𝕄 :=
  bigSep ((((ownCells (thr d L)).erase (thr d L, g)).erase (thr d L, a)).erase (thr d L, b)) fun x => semVal x 0

theorem sems_three (d : Dev nD) (L : grid0.Coords) (g a b : SemLoc sig) (hga : a ≠ g) (hgb : b ≠ g) (hab : b ≠ a)
    (hg : g.isScoped .scVector = true) (ha : a.isScoped .scVector = true) (hb : b.isScoped .scVector = true) :
    (scopedSems0 (thr d L) : sProp 𝕄)
      = iprop(semVal (thr d L, g) 0 ∗ semVal (thr d L, a) 0 ∗ semVal (thr d L, b) 0 ∗ spareSems d L g a b) := by
  rw [SparseCore.Cfg.scopedSems0_V (Val := Elt F) d (cV L) (jV L)]
  unfold SparseCore.Cfg.ownSems0
  have n {x y : SemLoc sig} (h : x ≠ y) : ((thr d L, x) : GSem nD τ sig) ≠ (thr d L, y) := fun e => h (Prod.ext_iff.mp e).2
  have m {x : SemLoc sig} (h : x.isScoped .scVector = true) : ((thr d L, x) : GSem nD τ sig) ∈ ownCells (thr d L) := mem_ownCells.mpr ⟨rfl, h⟩
  rw [SparseCore.bigSep_erase' (m hg), SparseCore.bigSep_erase' (Finset.mem_erase.mpr ⟨n hga, m ha⟩),
    SparseCore.bigSep_erase' (Finset.mem_erase.mpr ⟨n hab, Finset.mem_erase.mpr ⟨n hgb, m hb⟩⟩)]
  rfl

variable [FloatOps F]

/-! ## The obligation of a task -/

section Obl
variable (d : Dev nD) (L : grid0.Coords)
  (tM : Memref sig .scVector .hbm S253952x128 .i32) (ht : tM.IsWhole) (xM : Memref sig .scVector .hbm S16384 .i32) (hx : xM.IsWhole)
  (oM : Memref sig .scVector .hbm S16384x128 .i32) (ho : oM.IsWhole) (sM : Memref sig .scVector .vmem S512 .i32) (hs : sM.IsWhole)
  (rM : Memref sig .scVector .vmem S512x128 .i32) (hr : rM.IsWhole) (cG cA cB : DmaSems sig S_)
  (q : PosShare TreeShare) (tab : Buf (Elt F) (tM.view.loc (thr d L))) (idx : Buf (Elt F) (xM.view.loc (thr d L)))
  (out out' : Buf (Elt F) (oM.view.loc (thr d L)))

theorem task_obl {GO TD RB RS : sProp 𝕄} {j : Fin 3} (O : CellTallies nD τ sig (HIx 3)) (W : Waits sig (HIx 3)) (hO : ∀ g, O g none = 0)
    (hgo : GO = iprop(((xSlab L xM).view.loc (thr d L) ↦[(xSlab L xM).view.set]{fullShare} idx) ∗ (tM.view.loc (thr d L) ↦{q} tab)
      ∗ ((oSlab L oM).view.loc (thr d L) ↦[(oSlab L oM).view.set]{fullShare} out)))
    (htd : TD = iprop(((xSlab L xM).view.loc (thr d L) ↦[(xSlab L xM).view.set]{fullShare} idx) ∗ (tM.view.loc (thr d L) ↦{q} tab)
      ∗ ((oSlab L oM).view.loc (thr d L) ↦[(oSlab L oM).view.set]{fullShare} out')))
    (hB : (scopedBufs (thr d L) : sProp 𝕄) = iprop((∃ f, sM.view.loc (thr d L) ↦{fullShare} f) ∗ (∃ f, rM.view.loc (thr d L) ↦{fullShare} f) ∗ RB))
    (hS : (scopedSems0 (thr d L) : sProp 𝕄) = iprop(semVal (thr d L, SemLoc.dma cG.sem) 0 ∗ semVal (thr d L, SemLoc.dma cA.sem) 0
      ∗ semVal (thr d L, SemLoc.dma cB.sem) 0 ∗ RS))
    (hin : ∀ x, ((xSlab L xM).view.read (Elt F) idx x).toNat < nRows)
    (hout : (oSlab L oM).view.read (Elt F) out' = picked (F := F) (tM.view.read (Elt F) tab) ((xSlab L xM).view.read (Elt F) idx) hin)
    (hN : ∑ j, (rM.slice (S512x128.rowRect gathers_S253952x128_S512x128.axis' j) (S512x128.stride_rowRect gathers_S253952x128_S512x128.axis' j)).view.dmaCredit
      = rM.view.dmaCredit) :
    iprop(levAts (K (F := F)).L (K (F := F)).lev ∗ emp ∗ GO ∗ scopedBufs (thr d L) ∗ scopedSems0 (thr d L) ∗ owes (thr d L) O W)
      ⊢ wp frame (wpE (defs₀ (F := F)) 𝒱₀ (thr d L) none) Set.univ (task L tM ht xM hx oM ho sM hs rM hr cG cA cB)
          fun _ => iprop(TD ∗ scopedBufs (thr d L) ∗ scopedSems0 (thr d L)
            ∗ ∃ W', ⌜∀ p ∈ W', p ∈ W ∨ p.2 = none ∨ p.2 = some j⌝ ∗ owes (thr d L) O W') := by
  rw [hgo, htd, hB, hS]
  iintro ⟨#Hlv, -, ⟨Hx, Ht, Ho⟩, ⟨Hs, Hr, HRB⟩, ⟨HG, HA, HB, HRS⟩, HO⟩
  ihave Hmw := (show levAts (K (F := F)).L (K (F := F)).lev ⊢ Transfers.MayWaits (thr d L) (default : HIx 3) O from
    (K (F := F)).mayWaits_none (thr := thr d L) hO) $$ Hlv
  iapply (wp_wand_r frame (wpE (defs₀ (F := F)) 𝒱₀ (thr d L) none) Set.univ) $$ [HRB HRS Hx Ht Ho Hs Hr HG HA HB HO Hmw]
  isplitr [HRB HRS]
  · iapply (task_run d L tM ht xM hx oM ho sM hs rM hr cG cA cB q tab idx out out' hin hout hN O W)
    unfold kit
    isplitl [Hmw]; · iexact Hmw
    isplitr [Ho HO]
    · isplitl [Hx]; · iexact Hx
      isplitl [Ht]; · iexact Ht
      isplitl [Hs]; · iexact Hs
      isplitl [Hr]; · iexact Hr
      isplitl [HG]; · iexact HG
      isplitl [HA]; · iexact HA
      iexact HB
    isplitl [Ho]; · iexact Ho
    iexact HO
  unfold kit
  iintro %u ⟨⟨Hx, Ht, Hs, Hr, HG, HA, HB⟩, Ho, %W', %hW', HO⟩
  isplitl [Hx Ht Ho]
  · isplitl [Hx]; · iexact Hx
    isplitl [Ht]; · iexact Ht
    iexact Ho
  isplitl [Hs Hr HRB]
  · isplitl [Hs]; · iexact Hs
    isplitl [Hr]; · iexact Hr
    iexact HRB
  isplitl [HG HA HB HRS]
  · isplitl [HG]; · iexact HG
    isplitl [HA]; · iexact HA
    isplitl [HB]; · iexact HB
    iexact HRS
  iexists W'; isplitr
  · ipureintro; exact fun p hp => (hW' p hp).imp_right Or.inl
  · iexact HO

end Obl

end Cert.Proof.Rows
-- ==== Proof.Pays.lean ====
/-
  What each of the three gathers' handshakes carries, and the tasks' obligations.
-/
module

public import proofs.«01_k».proof.Proof.Calls

@[expose] public section

noncomputable section

namespace Cert.Proof.Rows

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)

variable {F : FTy → Type}

local notation "𝕄" => MT nD τ sig (HIx 3) (Elt F) ℕ UU ℕ

/-- An array of @main, where the TensorCore holds it. -/
abbrev here (d : Dev nD) (b : Ref sig .tc) : Loc nD τ sig := (SparseCore.T d).loc b

variable (m : (ℓ : Loc nD τ sig) → Buf (Elt F) ℓ) (X : Fin 3 → Dev nD → S16384.Idx → BitVec 32)

/-! ## What the handshakes carry -/

abbrev por0 (d : Dev nD) (out : S16384x128.Idx → BitVec 32) (p : Task) : sProp 𝕄 :=
  portion (here d main_arg4) (here d main_v5) (here d main_v6) (fun p => (xCut p).set) (fun p => (oCut p).set) (m _) (X 0 d) out p
abbrev por1 (d : Dev nD) (out : S16384x128.Idx → BitVec 32) (p : Task) : sProp 𝕄 :=
  portion (here d main_arg5) (here d main_v12) (here d main_v13) (fun p => (xCut p).set) (fun p => (oCut p).set) (m _) (X 1 d) out p
abbrev por2 (d : Dev nD) (out : S16384x128.Idx → BitVec 32) (p : Task) : sProp 𝕄 :=
  portion (here d main_arg5) (here d main_v19) (here d main_v20) (fun p => (xCut p).set) (fun p => (oCut p).set) (m _) (X 2 d) out p

/-- The rows each call leaves in its output. -/
abbrev G0 (d : Dev nD) : S16384x128.Idx → BitVec 32 := gathered (m (here d main_arg4)) (X 0 d)
abbrev G1 (d : Dev nD) : S16384x128.Idx → BitVec 32 := gathered (m (here d main_arg5)) (X 1 d)
abbrev G2 (d : Dev nD) : S16384x128.Idx → BitVec 32 := gathered (m (here d main_arg5)) (X 2 d)

theorem cores (q : Fin 3) : (K (F := F)).nCore q = 2 := by match q with | 0 => rfl | 1 => rfl | 2 => rfl
theorem subs (q : Fin 3) : (K (F := F)).nSub q = 16 := by match q with | 0 => rfl | 1 => rfl | 2 => rfl

/-- A task's part before its call, and after. -/
def before (q : Fin 3) (d : Dev nD) (p : Task) : sProp 𝕄 :=
  match q with
  | 0 => por0 m X d (m (here d main_v6)) p
  | 1 => por1 m X d (m (here d main_v13)) p
  | 2 => por2 m X d (m (here d main_v20)) p
def after (q : Fin 3) (d : Dev nD) (p : Task) : sProp 𝕄 :=
  match q with
  | 0 => por0 m X d (G0 m X d) p
  | 1 => por1 m X d (G1 m X d) p
  | 2 => por2 m X d (G2 m X d) p

def P : (K (F := F)).Pay (nD := nD) (Val := Elt F) (Name := ℕ) (U := UU) where
  st := fun q d c => bigSep Finset.univ fun i : Fin ((K (F := F)).nSub q) => before m X q d (Fin.cast (cores q) c, Fin.cast (subs q) i)
  dn := fun q d c => bigSep Finset.univ fun i : Fin ((K (F := F)).nSub q) => after m X q d (Fin.cast (cores q) c, Fin.cast (subs q) i)
  go := fun q d c i => before m X q d (Fin.cast (cores q) c, Fin.cast (subs q) i)
  td := fun q d c i => after m X q d (Fin.cast (cores q) c, Fin.cast (subs q) i)
  x := fun _ _ => iprop(emp)

instance before_storable (q : Fin 3) (d : Dev nD) (p : Task) : BI.Storable (upEmb : UEmb _ 𝕄) (before m X q d p) :=
  match q with
  | 0 => (inferInstance : BI.Storable (upEmb : UEmb _ 𝕄) (por0 m X d (m (here d main_v6)) p))
  | 1 => (inferInstance : BI.Storable (upEmb : UEmb _ 𝕄) (por1 m X d (m (here d main_v13)) p))
  | 2 => (inferInstance : BI.Storable (upEmb : UEmb _ 𝕄) (por2 m X d (m (here d main_v20)) p))
instance after_storable (q : Fin 3) (d : Dev nD) (p : Task) : BI.Storable (upEmb : UEmb _ 𝕄) (after m X q d p) :=
  match q with
  | 0 => (inferInstance : BI.Storable (upEmb : UEmb _ 𝕄) (por0 m X d (G0 m X d) p))
  | 1 => (inferInstance : BI.Storable (upEmb : UEmb _ 𝕄) (por1 m X d (G1 m X d) p))
  | 2 => (inferInstance : BI.Storable (upEmb : UEmb _ 𝕄) (por2 m X d (G2 m X d) p))

instance P_storable : (P (F := F) m X).IsStorable where
  st q d c := (inferInstance : BI.Storable (upEmb : UEmb _ 𝕄) (bigSep Finset.univ fun i : Fin ((K (F := F)).nSub q) => before m X q d (Fin.cast (cores q) c, Fin.cast (subs q) i)))
  dn q d c := (inferInstance : BI.Storable (upEmb : UEmb _ 𝕄) (bigSep Finset.univ fun i : Fin ((K (F := F)).nSub q) => after m X q d (Fin.cast (cores q) c, Fin.cast (subs q) i)))
  go q d c i := before_storable m X q d _
  td q d c i := after_storable m X q d _

theorem vecSplit (q : Fin 3) : (K (F := F)).VecSplit' (P m X) q := by
  intro d c
  show (bigSep Finset.univ fun i : Fin ((K (F := F)).nSub q) => before m X q d (Fin.cast (cores q) c, Fin.cast (subs q) i))
    ⊢ |={Set.univ}=> iprop((bigSep Finset.univ fun i : Fin ((K (F := F)).nSub q) => before m X q d (Fin.cast (cores q) c, Fin.cast (subs q) i))
      ∗ ((bigSep Finset.univ fun i : Fin ((K (F := F)).nSub q) => after m X q d (Fin.cast (cores q) c, Fin.cast (subs q) i))
        -∗ (bigSep Finset.univ fun i : Fin ((K (F := F)).nSub q) => after m X q d (Fin.cast (cores q) c, Fin.cast (subs q) i))))
  iintro H; imodintro
  isplitl [H]; · iexact H
  iintro H; iexact H

/-- All the tasks' parts of a call's arrays, as the launch hands them out and takes them back. -/
theorem given (q : Fin 3) (d : Dev nD) (Φ : Task → sProp 𝕄) :
    (bigSep Finset.univ fun c : Fin ((K (F := F)).nCore q) => bigSep Finset.univ fun i : Fin ((K (F := F)).nSub q) => Φ (Fin.cast (cores q) c, Fin.cast (subs q) i))
      = bigSep Finset.univ fun c : Fin 2 => bigSep Finset.univ fun i : Fin 16 => Φ (c, i) := by
  match q with
  | 0 => rfl
  | 1 => rfl
  | 2 => rfl

theorem mem_x (p : Task) (j : S16384.Idx) : j ∈ (xCut p).set ↔ p = owner (j 0) := (mem_xCut p j).trans (owner_eq (j 0) p)
theorem mem_o (p : Task) (j : S16384x128.Idx) : j ∈ (oCut p).set ↔ p = owner (j 0) := (mem_oCut p j).trans (owner_eq (j 0) p)

theorem st0 (d : Dev nD) : (bigSep Finset.univ fun c : Fin ((K (F := F)).nCore 0) => (P m X).st 0 d c)
    = iprop((here d main_v5 ↦{fullShare} X 0 d) ∗ (here d main_arg4 ↦{fullShare} m (here d main_arg4)) ∗ (here d main_v6 ↦{fullShare} m (here d main_v6))) :=
  (given 0 d (before m X 0 d)).trans (portions_eq (tℓ := here d main_arg4) (xℓ := here d main_v5) (oℓ := here d main_v6) (IX := fun p => (xCut p).set) (IO := fun p => (oCut p).set)
    (fun j : S16384.Idx => owner (j 0)) (fun j : S16384x128.Idx => owner (j 0)) mem_x mem_o _ _ _)
theorem dn0 (d : Dev nD) : (bigSep Finset.univ fun c : Fin ((K (F := F)).nCore 0) => (P m X).dn 0 d c)
    = iprop((here d main_v5 ↦{fullShare} X 0 d) ∗ (here d main_arg4 ↦{fullShare} m (here d main_arg4)) ∗ (here d main_v6 ↦{fullShare} G0 m X d)) :=
  (given 0 d (after m X 0 d)).trans (portions_eq (tℓ := here d main_arg4) (xℓ := here d main_v5) (oℓ := here d main_v6) (IX := fun p => (xCut p).set) (IO := fun p => (oCut p).set)
    (fun j : S16384.Idx => owner (j 0)) (fun j : S16384x128.Idx => owner (j 0)) mem_x mem_o _ _ _)
theorem st1 (d : Dev nD) : (bigSep Finset.univ fun c : Fin ((K (F := F)).nCore 1) => (P m X).st 1 d c)
    = iprop((here d main_v12 ↦{fullShare} X 1 d) ∗ (here d main_arg5 ↦{fullShare} m (here d main_arg5)) ∗ (here d main_v13 ↦{fullShare} m (here d main_v13))) :=
  (given 1 d (before m X 1 d)).trans (portions_eq (tℓ := here d main_arg5) (xℓ := here d main_v12) (oℓ := here d main_v13) (IX := fun p => (xCut p).set) (IO := fun p => (oCut p).set)
    (fun j : S16384.Idx => owner (j 0)) (fun j : S16384x128.Idx => owner (j 0)) mem_x mem_o _ _ _)
theorem dn1 (d : Dev nD) : (bigSep Finset.univ fun c : Fin ((K (F := F)).nCore 1) => (P m X).dn 1 d c)
    = iprop((here d main_v12 ↦{fullShare} X 1 d) ∗ (here d main_arg5 ↦{fullShare} m (here d main_arg5)) ∗ (here d main_v13 ↦{fullShare} G1 m X d)) :=
  (given 1 d (after m X 1 d)).trans (portions_eq (tℓ := here d main_arg5) (xℓ := here d main_v12) (oℓ := here d main_v13) (IX := fun p => (xCut p).set) (IO := fun p => (oCut p).set)
    (fun j : S16384.Idx => owner (j 0)) (fun j : S16384x128.Idx => owner (j 0)) mem_x mem_o _ _ _)
theorem st2 (d : Dev nD) : (bigSep Finset.univ fun c : Fin ((K (F := F)).nCore 2) => (P m X).st 2 d c)
    = iprop((here d main_v19 ↦{fullShare} X 2 d) ∗ (here d main_arg5 ↦{fullShare} m (here d main_arg5)) ∗ (here d main_v20 ↦{fullShare} m (here d main_v20))) :=
  (given 2 d (before m X 2 d)).trans (portions_eq (tℓ := here d main_arg5) (xℓ := here d main_v19) (oℓ := here d main_v20) (IX := fun p => (xCut p).set) (IO := fun p => (oCut p).set)
    (fun j : S16384.Idx => owner (j 0)) (fun j : S16384x128.Idx => owner (j 0)) mem_x mem_o _ _ _)
theorem dn2 (d : Dev nD) : (bigSep Finset.univ fun c : Fin ((K (F := F)).nCore 2) => (P m X).dn 2 d c)
    = iprop((here d main_v19 ↦{fullShare} X 2 d) ∗ (here d main_arg5 ↦{fullShare} m (here d main_arg5)) ∗ (here d main_v20 ↦{fullShare} G2 m X d)) :=
  (given 2 d (after m X 2 d)).trans (portions_eq (tℓ := here d main_arg5) (xℓ := here d main_v19) (oℓ := here d main_v20) (IX := fun p => (xCut p).set) (IO := fun p => (oCut p).set)
    (fun j : S16384.Idx => owner (j 0)) (fun j : S16384x128.Idx => owner (j 0)) mem_x mem_o _ _ _)

variable [FloatOps F]

/-! ## The tasks' obligations -/

/-- Every row number is a row of the table. -/
def InRows : Prop := ∀ q d j, (X q d j).toNat < nRows

theorem slab_in (hX : InRows X) (q : Fin 3) (d : Dev nD) (p : Task) (x : S512.Idx) : (X q d ((xCut p).emb x)).toNat < nRows := hX q d _

theorem obl0 (hX : InRows X) (d : Dev nD) (p : Task) (O : CellTallies nD τ sig (HIx 3)) (W : Waits sig (HIx 3)) (hO : ∀ g, O g none = 0) :
    iprop(levAts (K (F := F)).L (K (F := F)).lev ∗ emp ∗ before m X 0 d p ∗ scopedBufs (thr d (co p)) ∗ scopedSems0 (thr d (co p)) ∗ owes (thr d (co p)) O W)
      ⊢ wp frame (wpE (defs₀ (F := F)) 𝒱₀ (thr d (co p)) none) Set.univ
          (task (co p) (Memref.whole main_arg4_scv) (Memref.isWhole_whole _) (Memref.whole main_v5_scv) (Memref.isWhole_whole _) (Memref.whole main_v6_scv) (Memref.isWhole_whole _)
            (Memref.whole cc0_scratch0) (Memref.isWhole_whole _) (Memref.whole cc0_scratch1) (Memref.isWhole_whole _) cc0_scratch2 cc0_scoped0 cc0_scoped1)
          fun _ => iprop(after m X 0 d p ∗ scopedBufs (thr d (co p)) ∗ scopedSems0 (thr d (co p))
            ∗ ∃ W', ⌜∀ p ∈ W', p ∈ W ∨ p.2 = none ∨ p.2 = some 0⌝ ∗ owes (thr d (co p)) O W') := by
  have ex : (xSlab (co p) (Memref.whole main_v5_scv)).view.set = (xCut p).set := View.set_slice_whole _ _
  have eo : (oSlab (co p) (Memref.whole main_v6_scv)).view.set = (oCut p).set := View.set_slice_whole _ _
  have rx : (xSlab (co p) (Memref.whole main_v5_scv)).view.read (Elt F) (X 0 d) = fun x => X 0 d ((xCut p).emb x) :=
    funext fun x => (View.read_apply _ _).trans (cast_eq _ _)
  have ro : (oSlab (co p) (Memref.whole main_v6_scv)).view.read (Elt F) (G0 m X d) = fun x => G0 m X d ((oCut p).emb x) :=
    funext fun x => (View.read_apply _ _).trans (cast_eq _ _)
  have rt : (Memref.whole main_arg4_scv).view.read (Elt F) (m (here d main_arg4)) = m (here d main_arg4) := View.read_whole _ _
  have hin : ∀ x, ((xSlab (co p) (Memref.whole main_v5_scv)).view.read (Elt F) (X 0 d) x).toNat < nRows := by
    rw [rx]; exact slab_in X hX 0 d p
  refine task_obl d (co p) _ (Memref.isWhole_whole _) _ (Memref.isWhole_whole _) _ (Memref.isWhole_whole _) _ (Memref.isWhole_whole _) _ (Memref.isWhole_whole _) _ _ _
    (part p) (m (here d main_arg4)) (X 0 d) (m (here d main_v6)) (G0 m X d) O W hO ?_ ?_
    (bufs_two d (co p) cc0_scratch0 cc0_scratch1 (by decide) rfl rfl)
    (sems_three d (co p) (SemLoc.dma cc0_scratch2.sem) (SemLoc.dma cc0_scoped0.sem) (SemLoc.dma cc0_scoped1.sem) (by decide) (by decide) (by decide) (by decide) (by decide) (by decide))
    hin ?_ (by decide)
  · rw [ex, eo]; rfl
  · rw [ex, eo]; rfl
  · rw [ro]
    funext x
    refine (gathered_slab (F := F) (m (here d main_arg4)) (X 0 d) p (slab_in X hX 0 d p) x).trans ?_
    congr 1

theorem obl1 (hX : InRows X) (d : Dev nD) (p : Task) (O : CellTallies nD τ sig (HIx 3)) (W : Waits sig (HIx 3)) (hO : ∀ g, O g none = 0) :
    iprop(levAts (K (F := F)).L (K (F := F)).lev ∗ emp ∗ before m X 1 d p ∗ scopedBufs (thr d (co p)) ∗ scopedSems0 (thr d (co p)) ∗ owes (thr d (co p)) O W)
      ⊢ wp frame (wpE (defs₀ (F := F)) 𝒱₀ (thr d (co p)) none) Set.univ
          (task (co p) (Memref.whole main_arg5_scv) (Memref.isWhole_whole _) (Memref.whole main_v12_scv) (Memref.isWhole_whole _) (Memref.whole main_v13_scv) (Memref.isWhole_whole _)
            (Memref.whole cc1_scratch0) (Memref.isWhole_whole _) (Memref.whole cc1_scratch1) (Memref.isWhole_whole _) cc1_scratch2 cc1_scoped0 cc1_scoped1)
          fun _ => iprop(after m X 1 d p ∗ scopedBufs (thr d (co p)) ∗ scopedSems0 (thr d (co p))
            ∗ ∃ W', ⌜∀ p ∈ W', p ∈ W ∨ p.2 = none ∨ p.2 = some 1⌝ ∗ owes (thr d (co p)) O W') := by
  have ex : (xSlab (co p) (Memref.whole main_v12_scv)).view.set = (xCut p).set := View.set_slice_whole _ _
  have eo : (oSlab (co p) (Memref.whole main_v13_scv)).view.set = (oCut p).set := View.set_slice_whole _ _
  have rx : (xSlab (co p) (Memref.whole main_v12_scv)).view.read (Elt F) (X 1 d) = fun x => X 1 d ((xCut p).emb x) :=
    funext fun x => (View.read_apply _ _).trans (cast_eq _ _)
  have ro : (oSlab (co p) (Memref.whole main_v13_scv)).view.read (Elt F) (G1 m X d) = fun x => G1 m X d ((oCut p).emb x) :=
    funext fun x => (View.read_apply _ _).trans (cast_eq _ _)
  have rt : (Memref.whole main_arg5_scv).view.read (Elt F) (m (here d main_arg5)) = m (here d main_arg5) := View.read_whole _ _
  have hin : ∀ x, ((xSlab (co p) (Memref.whole main_v12_scv)).view.read (Elt F) (X 1 d) x).toNat < nRows := by
    rw [rx]; exact slab_in X hX 1 d p
  refine task_obl d (co p) _ (Memref.isWhole_whole _) _ (Memref.isWhole_whole _) _ (Memref.isWhole_whole _) _ (Memref.isWhole_whole _) _ (Memref.isWhole_whole _) _ _ _
    (part p) (m (here d main_arg5)) (X 1 d) (m (here d main_v13)) (G1 m X d) O W hO ?_ ?_
    (bufs_two d (co p) cc1_scratch0 cc1_scratch1 (by decide) rfl rfl)
    (sems_three d (co p) (SemLoc.dma cc1_scratch2.sem) (SemLoc.dma cc1_scoped0.sem) (SemLoc.dma cc1_scoped1.sem) (by decide) (by decide) (by decide) (by decide) (by decide) (by decide))
    hin ?_ (by decide)
  · rw [ex, eo]; rfl
  · rw [ex, eo]; rfl
  · rw [ro]
    funext x
    refine (gathered_slab (F := F) (m (here d main_arg5)) (X 1 d) p (slab_in X hX 1 d p) x).trans ?_
    congr 1

theorem obl2 (hX : InRows X) (d : Dev nD) (p : Task) (O : CellTallies nD τ sig (HIx 3)) (W : Waits sig (HIx 3)) (hO : ∀ g, O g none = 0) :
    iprop(levAts (K (F := F)).L (K (F := F)).lev ∗ emp ∗ before m X 2 d p ∗ scopedBufs (thr d (co p)) ∗ scopedSems0 (thr d (co p)) ∗ owes (thr d (co p)) O W)
      ⊢ wp frame (wpE (defs₀ (F := F)) 𝒱₀ (thr d (co p)) none) Set.univ
          (task (co p) (Memref.whole main_arg5_scv) (Memref.isWhole_whole _) (Memref.whole main_v19_scv) (Memref.isWhole_whole _) (Memref.whole main_v20_scv) (Memref.isWhole_whole _)
            (Memref.whole cc2_scratch0) (Memref.isWhole_whole _) (Memref.whole cc2_scratch1) (Memref.isWhole_whole _) cc2_scratch2 cc2_scoped0 cc2_scoped1)
          fun _ => iprop(after m X 2 d p ∗ scopedBufs (thr d (co p)) ∗ scopedSems0 (thr d (co p))
            ∗ ∃ W', ⌜∀ p ∈ W', p ∈ W ∨ p.2 = none ∨ p.2 = some 2⌝ ∗ owes (thr d (co p)) O W') := by
  have ex : (xSlab (co p) (Memref.whole main_v19_scv)).view.set = (xCut p).set := View.set_slice_whole _ _
  have eo : (oSlab (co p) (Memref.whole main_v20_scv)).view.set = (oCut p).set := View.set_slice_whole _ _
  have rx : (xSlab (co p) (Memref.whole main_v19_scv)).view.read (Elt F) (X 2 d) = fun x => X 2 d ((xCut p).emb x) :=
    funext fun x => (View.read_apply _ _).trans (cast_eq _ _)
  have ro : (oSlab (co p) (Memref.whole main_v20_scv)).view.read (Elt F) (G2 m X d) = fun x => G2 m X d ((oCut p).emb x) :=
    funext fun x => (View.read_apply _ _).trans (cast_eq _ _)
  have rt : (Memref.whole main_arg5_scv).view.read (Elt F) (m (here d main_arg5)) = m (here d main_arg5) := View.read_whole _ _
  have hin : ∀ x, ((xSlab (co p) (Memref.whole main_v19_scv)).view.read (Elt F) (X 2 d) x).toNat < nRows := by
    rw [rx]; exact slab_in X hX 2 d p
  refine task_obl d (co p) _ (Memref.isWhole_whole _) _ (Memref.isWhole_whole _) _ (Memref.isWhole_whole _) _ (Memref.isWhole_whole _) _ (Memref.isWhole_whole _) _ _ _
    (part p) (m (here d main_arg5)) (X 2 d) (m (here d main_v20)) (G2 m X d) O W hO ?_ ?_
    (bufs_two d (co p) cc2_scratch0 cc2_scratch1 (by decide) rfl rfl)
    (sems_three d (co p) (SemLoc.dma cc2_scratch2.sem) (SemLoc.dma cc2_scoped0.sem) (SemLoc.dma cc2_scoped1.sem) (by decide) (by decide) (by decide) (by decide) (by decide) (by decide))
    hin ?_ (by decide)
  · rw [ex, eo]; rfl
  · rw [ex, eo]; rfl
  · rw [ro]
    funext x
    refine (gathered_slab (F := F) (m (here d main_arg5)) (X 2 d) p (slab_in X hX 2 d p) x).trans ?_
    congr 1

theorem defs₀_tile0 (p : Task) :
    defs₀ (F := F) (.scVector (cV (co p)) (jV (co p))) 0 ()
      = task (co p) (Memref.whole main_arg4_scv) (Memref.isWhole_whole _) (Memref.whole main_v5_scv) (Memref.isWhole_whole _) (Memref.whole main_v6_scv) (Memref.isWhole_whole _)
            (Memref.whole cc0_scratch0) (Memref.isWhole_whole _) (Memref.whole cc0_scratch1) (Memref.isWhole_whole _) cc0_scratch2 cc0_scoped0 cc0_scoped1 := by
  refine (show _ = SparseCore.onTile hcore0 hsub0 (fun c s => cc0_k (F := F) (co (c, s)) (Memref.whole main_arg4_scv) (Memref.isWhole_whole _) (Memref.whole main_v5_scv)
    (Memref.isWhole_whole _) (Memref.whole main_v6_scv) (Memref.isWhole_whole _) (Memref.whole cc0_scratch0) (Memref.isWhole_whole _) (Memref.whole cc0_scratch1)
    (Memref.isWhole_whole _) cc0_scratch2 cc0_scoped0 cc0_scoped1) ⟨⟩ (cV (co p)) (jV (co p)) from rfl).trans ?_
  have h : (cV (co p)).val < grid0.bound 0 ∧ (jV (co p)).val < grid0.bound 1 := ⟨p.1.isLt, p.2.isLt⟩
  simp only [SparseCore.onTile, h, and_self, ↓reduceDIte]
  rfl

theorem tileObl0 (hX : InRows X) : (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have h := obl0 m X hX d (Fin.cast (cores 0) c, Fin.cast (subs 0) i) O W hO
  rw [← defs₀_tile0] at h
  refine h.trans (wp_mono frame _ _ fun _ => ?_)
  exact .rfl

theorem defs₀_tile1 (p : Task) :
    defs₀ (F := F) (.scVector (cV (co p)) (jV (co p))) 1 ()
      = task (co p) (Memref.whole main_arg5_scv) (Memref.isWhole_whole _) (Memref.whole main_v12_scv) (Memref.isWhole_whole _) (Memref.whole main_v13_scv) (Memref.isWhole_whole _)
            (Memref.whole cc1_scratch0) (Memref.isWhole_whole _) (Memref.whole cc1_scratch1) (Memref.isWhole_whole _) cc1_scratch2 cc1_scoped0 cc1_scoped1 := by
  refine (show _ = SparseCore.onTile hcore1 hsub1 (fun c s => cc1_k (F := F) (co (c, s)) (Memref.whole main_arg5_scv) (Memref.isWhole_whole _) (Memref.whole main_v12_scv)
    (Memref.isWhole_whole _) (Memref.whole main_v13_scv) (Memref.isWhole_whole _) (Memref.whole cc1_scratch0) (Memref.isWhole_whole _) (Memref.whole cc1_scratch1)
    (Memref.isWhole_whole _) cc1_scratch2 cc1_scoped0 cc1_scoped1) ⟨⟩ (cV (co p)) (jV (co p)) from rfl).trans ?_
  have h : (cV (co p)).val < grid1.bound 0 ∧ (jV (co p)).val < grid1.bound 1 := ⟨p.1.isLt, p.2.isLt⟩
  simp only [SparseCore.onTile, h, and_self, ↓reduceDIte]
  rfl

theorem tileObl1 (hX : InRows X) : (K (F := F)).TileObl (D (F := F)) 𝒱 (P m X) v₀ 1 := by
  intro d c i O W hO _ _
  simp only [show (P m X).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have h := obl1 m X hX d (Fin.cast (cores 1) c, Fin.cast (subs 1) i) O W hO
  rw [← defs₀_tile1] at h
  refine h.trans (wp_mono frame _ _ fun _ => ?_)
  exact .rfl

theorem defs₀_tile2 (p : Task) :
    defs₀ (F := F) (.scVector (cV (co p)) (jV (co p))) 2 ()
      = task (co p) (Memref.whole main_arg5_scv) (Memref.isWhole_whole _) (Memref.whole main_v19_scv) (Memref.isWhole_whole _) (Memref.whole main_v20_scv) (Memref.isWhole_whole _)
            (Memref.whole cc2_scratch0) (Memref.isWhole_whole _) (Memref.whole cc2_scratch1) (Memref.isWhole_whole _) cc2_scratch2 cc2_scoped0 cc2_scoped1 := by
  refine (show _ = SparseCore.onTile hcore2 hsub2 (fun c s => cc2_k (F := F) (co (c, s)) (Memref.whole main_arg5_scv) (Memref.isWhole_whole _) (Memref.whole main_v19_scv)
    (Memref.isWhole_whole _) (Memref.whole main_v20_scv) (Memref.isWhole_whole _) (Memref.whole cc2_scratch0) (Memref.isWhole_whole _) (Memref.whole cc2_scratch1)
    (Memref.isWhole_whole _) cc2_scratch2 cc2_scoped0 cc2_scoped1) ⟨⟩ (cV (co p)) (jV (co p)) from rfl).trans ?_
  have h : (cV (co p)).val < grid2.bound 0 ∧ (jV (co p)).val < grid2.bound 1 := ⟨p.1.isLt, p.2.isLt⟩
  simp only [SparseCore.onTile, h, and_self, ↓reduceDIte]
  rfl

theorem tileObl2 (hX : InRows X) : (K (F := F)).TileObl (D (F := F)) 𝒱 (P m X) v₀ 2 := by
  intro d c i O W hO _ _
  simp only [show (P m X).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have h := obl2 m X hX d (Fin.cast (cores 2) c, Fin.cast (subs 2) i) O W hO
  rw [← defs₀_tile2] at h
  refine h.trans (wp_mono frame _ _ fun _ => ?_)
  exact .rfl

theorem tileObl (hX : InRows X) (q : Fin 3) : (K (F := F)).TileObl (D (F := F)) 𝒱 (P m X) v₀ q :=
  match q with
  | 0 => tileObl0 m X hX
  | 1 => tileObl1 m X hX
  | 2 => tileObl2 m X hX

end Cert.Proof.Rows
-- ==== Proof.Host.lean ====
/-
  The host lines of @main: what each computes, and what each leaves.
-/
module

public import proofs.«01_k».proof.Proof.Pays
public import Idealize.ShloMosaic.Lib.StableHlo.Run
public import Idealize.ShloMosaic.Lib.StableHlo.RunRead

@[expose] public section

noncomputable section

namespace Cert.Proof.Host

open Cert.KernelIdeal Cert.KernelIdeal.Gen
open Idealize.ShloMosaic Idealize.ShloMosaic.StableHlo
open Idealize.SL Idealize.SL.Sem

variable {F : FTy → Type} [FloatOps F]

/-! ## The two integer functions -/

abbrev I := IVec S16384 32
abbrev I₀ := IVec S_ 32
abbrev spread : I₀ → I := broadcastInDim S16384 ![] bcast_S_S16384

/-- Division rounding down, as the host's function writes it. -/
def fdiv (x : I) (k : I₀) : I :=
  select (andi (cmpi .ne (signi x) (spread (signi k))) (cmpi .ne (Host.remsi x (spread k)) (spread (constantI S_ 32 0#32))))
    (subi (Host.divsi x (spread k)) (spread (constantI S_ 32 1#32))) (Host.divsi x (spread k))

/-- The remainder of that division, as the host's function writes it. -/
def frem (x : I) (k : I₀) : I :=
  let k' : I₀ := select (cmpi .eq k (constantI S_ 32 0#32)) (constantI S_ 32 1#32) k
  let r : I := Host.remsi x (spread k')
  select (andi (cmpi .ne (cmpi .slt r (spread (constantI S_ 32 0#32)))
      (broadcastInDim S16384 ![] bcast_S_S16384 (cmpi .slt k' (constantI S_ 32 0#32)))) (cmpi .ne r (spread (constantI S_ 32 0#32))))
    (addi r (spread k')) r

/-- A table row's number among the packed rows. -/
def rowNo (x : I) : I :=
  fdiv (addi (muli (fdiv x (constantI S_ 32 32768#32)) (spread (constantI S_ 32 16384#32))) (frem x (constantI S_ 32 16384#32)))
    (constantI S_ 32 2#32)

/-- Which of the four rows of a packed row it is. -/
def slotNo (x : I) : IVec S1x16384 32 :=
  broadcastInDim S1x16384 ![1] bcast_S16384_S1x16384_1
    (addi (muli (spread (constantI S_ 32 2#32)) (frem x (constantI S_ 32 2#32)))
      (frem (fdiv x (constantI S_ 32 16384#32)) (constantI S_ 32 2#32)))

/-! ## Reading a typed reference -/

variable {T Ta Tb Tc Ty : BufTy}

/-- What a typed reference's buffer holds. -/
def rd (t : TRef sig T) (V : Valuation τ sig (Elt F)) : T.Contents (Elt F) := t.ofBuf (V (Proc.devRef .tc t.ref))

theorem rd_nullary (y : TRef sig Ty) (v : Ty.Contents (Elt F)) (V : Valuation τ sig (Elt F)) : rd y ((TRef.nullary y v).result V) = v := by
  unfold rd; rw [nullary_result, TRef.ofBuf_toBuf]
theorem rd_unary (a : TRef sig Ta) (y : TRef sig Ty) (f : Ta.Contents (Elt F) → Ty.Contents (Elt F)) (V : Valuation τ sig (Elt F)) :
    rd y ((TRef.unary a y f).result V) = f (rd a V) := by
  unfold rd; rw [unary_result, TRef.ofBuf_toBuf]
theorem rd_binary (a : TRef sig Ta) (b : TRef sig Tb) (y : TRef sig Ty) (f : Ta.Contents (Elt F) → Tb.Contents (Elt F) → Ty.Contents (Elt F))
    (V : Valuation τ sig (Elt F)) : rd y ((TRef.binary a b y f).result V) = f (rd a V) (rd b V) := by
  unfold rd; rw [binary_result, TRef.ofBuf_toBuf]
theorem rd_ternary (c : TRef sig Tc) (a : TRef sig Ta) (b : TRef sig Tb) (y : TRef sig Ty)
    (f : Tc.Contents (Elt F) → Ta.Contents (Elt F) → Tb.Contents (Elt F) → Ty.Contents (Elt F)) (V : Valuation τ sig (Elt F)) :
    rd y ((TRef.ternary c a b y f).result V) = f (rd c V) (rd a V) (rd b V) := by
  unfold rd; rw [ternary_result, TRef.ofBuf_toBuf]

theorem rd_result_ne (z : TRef sig T) (y : Ref sig .tc) (op : HloOp τ sig (Elt F)) (hw : op.writes = {Proc.devRef .tc y}) (h : ¬ z.ref = y)
    (V : Valuation τ sig (Elt F)) : rd z (op.result V) = rd z V := by
  unfold rd; rw [result_of_writes_ne op V y z.ref hw h]
theorem rd_nullary_ne (z : TRef sig T) (y : TRef sig Ty) (v : Ty.Contents (Elt F)) (V : Valuation τ sig (Elt F)) (h : ¬ z.ref = y.ref) :
    rd z ((TRef.nullary y v).result V) = rd z V := rd_result_ne z y.ref _ rfl h V
theorem rd_unary_ne (z : TRef sig T) (a : TRef sig Ta) (y : TRef sig Ty) (f : Ta.Contents (Elt F) → Ty.Contents (Elt F)) (V : Valuation τ sig (Elt F))
    (h : ¬ z.ref = y.ref) : rd z ((TRef.unary a y f).result V) = rd z V := rd_result_ne z y.ref _ rfl h V
theorem rd_binary_ne (z : TRef sig T) (a : TRef sig Ta) (b : TRef sig Tb) (y : TRef sig Ty)
    (f : Ta.Contents (Elt F) → Tb.Contents (Elt F) → Ty.Contents (Elt F)) (V : Valuation τ sig (Elt F)) (h : ¬ z.ref = y.ref) :
    rd z ((TRef.binary a b y f).result V) = rd z V := rd_result_ne z y.ref _ rfl h V
theorem rd_ternary_ne (z : TRef sig T) (c : TRef sig Tc) (a : TRef sig Ta) (b : TRef sig Tb) (y : TRef sig Ty)
    (f : Tc.Contents (Elt F) → Ta.Contents (Elt F) → Tb.Contents (Elt F) → Ty.Contents (Elt F)) (V : Valuation τ sig (Elt F))
    (h : ¬ z.ref = y.ref) : rd z ((TRef.ternary c a b y f).result V) = rd z V := rd_result_ne z y.ref _ rfl h V

/-! ## The lines -/

abbrev Op (F : FTy → Type) := HloOp τ sig (Elt F)
abbrev A := TRef sig ⟨S16384, .i32⟩
abbrev A₀ := TRef sig ⟨S_, .i32⟩

def divOps (a : A) (k : A₀) (φ : fn_floor_divide.Bufs) : List (Op F) :=
  [TRef.unary k φ.v0 id, TRef.unary φ.v0 φ.v1 (broadcastInDim S16384 ![] bcast_S_S16384), TRef.binary a φ.v1 φ.v2 Host.divsi,
   TRef.unary a φ.v3 signi, TRef.unary φ.v0 φ.v4 signi, TRef.unary φ.v4 φ.v5 (broadcastInDim S16384 ![] bcast_S_S16384),
   TRef.binary φ.v3 φ.v5 φ.v6 (cmpi .ne), TRef.unary φ.v0 φ.v7 (broadcastInDim S16384 ![] bcast_S_S16384),
   TRef.binary a φ.v7 φ.v8 Host.remsi, TRef.nullary φ.c (constantI S_ 32 0#32),
   TRef.unary φ.c φ.v9 (broadcastInDim S16384 ![] bcast_S_S16384), TRef.binary φ.v8 φ.v9 φ.v10 (cmpi .ne),
   TRef.binary φ.v6 φ.v10 φ.v11 andi, TRef.nullary φ.c_0 (constantI S_ 32 1#32),
   TRef.unary φ.c_0 φ.v12 (broadcastInDim S16384 ![] bcast_S_S16384), TRef.binary φ.v2 φ.v12 φ.v13 subi,
   TRef.ternary φ.v11 φ.v13 φ.v2 φ.call0.v0 select]

def remOps (a : A) (k : A₀) (φ : fn_remainder.Bufs) : List (Op F) :=
  [TRef.unary k φ.v0 id, TRef.nullary φ.c (constantI S_ 32 0#32), TRef.binary φ.v0 φ.c φ.v1 (cmpi .eq),
   TRef.nullary φ.c_0 (constantI S_ 32 1#32), TRef.ternary φ.v1 φ.c_0 φ.v0 φ.call0.v0 select,
   TRef.unary φ.call0.v0 φ.v3 (broadcastInDim S16384 ![] bcast_S_S16384), TRef.binary a φ.v3 φ.v4 Host.remsi,
   TRef.nullary φ.c_1 (constantI S_ 32 0#32), TRef.unary φ.c_1 φ.v5 (broadcastInDim S16384 ![] bcast_S_S16384),
   TRef.binary φ.v4 φ.v5 φ.v6 (cmpi .ne), TRef.nullary φ.c_2 (constantI S_ 32 0#32),
   TRef.unary φ.c_2 φ.v7 (broadcastInDim S16384 ![] bcast_S_S16384), TRef.binary φ.v4 φ.v7 φ.v8 (cmpi .slt),
   TRef.nullary φ.c_3 (constantI S_ 32 0#32), TRef.binary φ.call0.v0 φ.c_3 φ.v9 (cmpi .slt),
   TRef.unary φ.v9 φ.v10 (broadcastInDim S16384 ![] bcast_S_S16384), TRef.binary φ.v8 φ.v10 φ.v11 (cmpi .ne),
   TRef.binary φ.v11 φ.v6 φ.v12 andi, TRef.unary φ.call0.v0 φ.v13 (broadcastInDim S16384 ![] bcast_S_S16384),
   TRef.binary φ.v4 φ.v13 φ.v14 addi, TRef.ternary φ.v12 φ.v14 φ.v4 φ.v15 select]

abbrev asDiv (φ : fn_floor_divide_1.Bufs) : fn_floor_divide.Bufs :=
  ⟨φ.v0, φ.v1, φ.v2, φ.v3, φ.v4, φ.v5, φ.v6, φ.v7, φ.v8, φ.c, φ.v9, φ.v10, φ.v11, φ.c_0, φ.v12, φ.v13, φ.call0⟩
abbrev asRem (φ : fn_remainder_2.Bufs) : fn_remainder.Bufs :=
  ⟨φ.v0, φ.c, φ.v1, φ.c_0, φ.call0, φ.v3, φ.v4, φ.c_1, φ.v5, φ.v6, φ.c_2, φ.v7, φ.v8, φ.c_3, φ.v9, φ.v10, φ.v11, φ.v12, φ.v13, φ.v14, φ.v15⟩

theorem div_eq (a : A) (k : A₀) (φ : fn_floor_divide.Bufs) : fn_floor_divide.body (F := F) a k φ = seq (divOps a k φ) := rfl
theorem div1_eq (a : A) (k : A₀) (φ : fn_floor_divide_1.Bufs) : fn_floor_divide_1.body (F := F) a k φ = seq (divOps a k (asDiv φ)) := rfl
theorem rem_eq (a : A) (k : A₀) (φ : fn_remainder.Bufs) : fn_remainder.body (F := F) a k φ = seq (remOps a k φ) := rfl
theorem rem2_eq (a : A) (k : A₀) (φ : fn_remainder_2.Bufs) : fn_remainder_2.body (F := F) a k φ = seq (remOps a k (asRem φ)) := rfl

/-- The references a division's line writes, in order, and those of a remainder's. -/
def divRefs (φ : fn_floor_divide.Bufs) : List (Ref sig .tc) :=
  [φ.v0.ref, φ.v1.ref, φ.v2.ref, φ.v3.ref, φ.v4.ref, φ.v5.ref, φ.v6.ref, φ.v7.ref, φ.v8.ref, φ.c.ref, φ.v9.ref, φ.v10.ref, φ.v11.ref,
   φ.c_0.ref, φ.v12.ref, φ.v13.ref, φ.call0.v0.ref]
def remRefs (φ : fn_remainder.Bufs) : List (Ref sig .tc) :=
  [φ.v0.ref, φ.c.ref, φ.v1.ref, φ.c_0.ref, φ.call0.v0.ref, φ.v3.ref, φ.v4.ref, φ.c_1.ref, φ.v5.ref, φ.v6.ref, φ.c_2.ref, φ.v7.ref, φ.v8.ref,
   φ.c_3.ref, φ.v9.ref, φ.v10.ref, φ.v11.ref, φ.v12.ref, φ.v13.ref, φ.v14.ref, φ.v15.ref]

theorem div_val (a : A) (k : A₀) (φ : fn_floor_divide.Bufs) (h : (a.ref :: k.ref :: divRefs φ).Nodup) (V : Valuation τ sig (Elt F)) :
    rd φ.call0.v0 (after (divOps a k φ) V) = fdiv (rd a V) (rd k V) := by
  simp only [divRefs, List.nodup_cons, List.mem_cons, List.not_mem_nil, or_false, not_or] at h
  unfold divOps
  simp only [after_cons, after_nil, rd_nullary, rd_unary, rd_binary, rd_ternary, rd_nullary_ne, rd_unary_ne, rd_binary_ne, rd_ternary_ne, h,
    not_false_eq_true]
  rfl

theorem rem_val (a : A) (k : A₀) (φ : fn_remainder.Bufs) (h : (a.ref :: k.ref :: remRefs φ).Nodup) (V : Valuation τ sig (Elt F)) :
    rd φ.v15 (after (remOps a k φ) V) = frem (rd a V) (rd k V) := by
  simp only [remRefs, List.nodup_cons, List.mem_cons, List.not_mem_nil, or_false, not_or] at h
  unfold remOps
  simp only [after_cons, after_nil, rd_nullary, rd_unary, rd_binary, rd_ternary, rd_nullary_ne, rd_unary_ne, rd_binary_ne, rd_ternary_ne, h,
    not_false_eq_true]
  rfl

theorem div_writes (a : A) (k : A₀) (φ : fn_floor_divide.Bufs) : (divOps (F := F) a k φ).map HloOp.writes = (divRefs φ).map fun r => {Proc.devRef .tc r} := rfl
theorem rem_writes (a : A) (k : A₀) (φ : fn_remainder.Bufs) : (remOps (F := F) a k φ).map HloOp.writes = (remRefs φ).map fun r => {Proc.devRef .tc r} := rfl

/-- What a line leaves at a reference that it does not write. -/
theorem rd_after {ops : List (Op F)} (W : List (Ref sig .tc)) (hW : ops.map HloOp.writes = W.map fun r => {Proc.devRef .tc r})
    (z : TRef sig T) (h : z.ref ∉ W) (V : Valuation τ sig (Elt F)) : rd z (after ops V) = rd z V := by
  unfold rd; rw [after_of_writes_sub ops V (forall_writes_sub_of_map hW) h]

theorem rd_div (a : A) (k : A₀) (φ : fn_floor_divide.Bufs) (z : TRef sig T) (h : z.ref ∉ divRefs φ) (V : Valuation τ sig (Elt F)) :
    rd z (after (divOps a k φ) V) = rd z V := rd_after _ (div_writes a k φ) z h V
theorem rd_rem (a : A) (k : A₀) (φ : fn_remainder.Bufs) (z : TRef sig T) (h : z.ref ∉ remRefs φ) (V : Valuation τ sig (Elt F)) :
    rd z (after (remOps a k φ) V) = rd z V := rd_after _ (rem_writes a k φ) z h V

/-! ## A gather's row numbers -/

/-- The line that computes them, over its references. -/
def rowOps (a : A) (k : A₀) (φ : fn_floor_divide.Bufs) (c : A₀) (v w : A) (k' : A₀) (φ' : fn_remainder.Bufs) (x : A) (k'' : A₀)
    (φ'' : fn_floor_divide.Bufs) : List (Op F) :=
  (TRef.nullary k (constantI S_ 32 32768#32) :: divOps a k φ)
  ++ (TRef.nullary c (constantI S_ 32 16384#32) :: TRef.unary c v (broadcastInDim S16384 ![] bcast_S_S16384)
    :: TRef.binary φ.call0.v0 v w muli :: TRef.nullary k' (constantI S_ 32 16384#32) :: remOps a k' φ')
  ++ (TRef.binary w φ'.v15 x addi :: TRef.nullary k'' (constantI S_ 32 2#32) :: divOps x k'' φ'')

def rowRefs (k : A₀) (φ : fn_floor_divide.Bufs) (c : A₀) (v w : A) (k' : A₀) (φ' : fn_remainder.Bufs) (x : A) (k'' : A₀)
    (φ'' : fn_floor_divide.Bufs) : List (Ref sig .tc) :=
  (k.ref :: divRefs φ) ++ (c.ref :: v.ref :: w.ref :: k'.ref :: remRefs φ') ++ (x.ref :: k''.ref :: divRefs φ'')

theorem row_writes (a : A) (k : A₀) (φ : fn_floor_divide.Bufs) (c : A₀) (v w : A) (k' : A₀) (φ' : fn_remainder.Bufs) (x : A) (k'' : A₀)
    (φ'' : fn_floor_divide.Bufs) : (rowOps (F := F) a k φ c v w k' φ' x k'' φ'').map HloOp.writes
      = (rowRefs k φ c v w k' φ' x k'' φ'').map fun r => {Proc.devRef .tc r} := rfl

/-- The references that the line keeps apart. -/
def RowOk (a : A) (k : A₀) (φ : fn_floor_divide.Bufs) (c : A₀) (v w : A) (k' : A₀) (φ' : fn_remainder.Bufs) (x : A) (k'' : A₀)
    (φ'' : fn_floor_divide.Bufs) : Prop :=
    ((a.ref :: k.ref :: divRefs φ).Nodup ∧ (a.ref :: k'.ref :: remRefs φ').Nodup ∧ (x.ref :: k''.ref :: divRefs φ'').Nodup)
      ∧ (¬ a.ref = k.ref ∧ a.ref ∉ divRefs φ) ∧ (¬ a.ref = c.ref ∧ ¬ a.ref = v.ref ∧ ¬ a.ref = w.ref ∧ ¬ a.ref = k'.ref)
      ∧ (¬ φ.call0.v0.ref = c.ref ∧ ¬ φ.call0.v0.ref = v.ref) ∧ (¬ w.ref = k'.ref ∧ w.ref ∉ remRefs φ') ∧ ¬ x.ref = k''.ref

theorem row_val (a : A) (k : A₀) (φ : fn_floor_divide.Bufs) (c : A₀) (v w : A) (k' : A₀) (φ' : fn_remainder.Bufs) (x : A) (k'' : A₀)
    (φ'' : fn_floor_divide.Bufs)
    (h : RowOk a k φ c v w k' φ' x k'' φ'')
    (V : Valuation τ sig (Elt F)) :
    rd φ''.call0.v0 (after (rowOps a k φ c v w k' φ' x k'' φ'') V) = rowNo (rd a V) := by
  unfold RowOk at h
  obtain ⟨⟨n, n', n''⟩, h⟩ := h
  unfold rowOps rowNo
  simp only [after_append, after_cons, after_nil, div_val _ _ _ n, rem_val _ _ _ n', div_val _ _ _ n'', rd_div, rd_rem,
    rd_nullary, rd_unary, rd_binary, rd_nullary_ne, rd_unary_ne, rd_binary_ne, h, not_false_eq_true]

/-! ## A gather's slots -/

def slotOps (a : A) (k : A₀) (φ : fn_remainder.Bufs) (c : A₀) (v w : A) (k' : A₀) (φ' : fn_floor_divide.Bufs) (k'' : A₀)
    (φ'' : fn_remainder.Bufs) (x : A) (y : TRef sig ⟨S1x16384, .i32⟩) : List (Op F) :=
  (TRef.nullary k (constantI S_ 32 2#32) :: remOps a k φ)
  ++ (TRef.nullary c (constantI S_ 32 2#32) :: TRef.unary c v (broadcastInDim S16384 ![] bcast_S_S16384)
    :: TRef.binary v φ.v15 w muli :: TRef.nullary k' (constantI S_ 32 16384#32) :: divOps a k' φ')
  ++ (TRef.nullary k'' (constantI S_ 32 2#32) :: remOps φ'.call0.v0 k'' φ'')
  ++ [TRef.binary w φ''.v15 x addi, TRef.unary x y (broadcastInDim S1x16384 ![1] bcast_S16384_S1x16384_1)]

def slotRefs (k : A₀) (φ : fn_remainder.Bufs) (c : A₀) (v w : A) (k' : A₀) (φ' : fn_floor_divide.Bufs) (k'' : A₀)
    (φ'' : fn_remainder.Bufs) (x : A) (y : TRef sig ⟨S1x16384, .i32⟩) : List (Ref sig .tc) :=
  (k.ref :: remRefs φ) ++ (c.ref :: v.ref :: w.ref :: k'.ref :: divRefs φ') ++ (k''.ref :: remRefs φ'') ++ [x.ref, y.ref]

theorem slot_writes (a : A) (k : A₀) (φ : fn_remainder.Bufs) (c : A₀) (v w : A) (k' : A₀) (φ' : fn_floor_divide.Bufs) (k'' : A₀)
    (φ'' : fn_remainder.Bufs) (x : A) (y : TRef sig ⟨S1x16384, .i32⟩) : (slotOps (F := F) a k φ c v w k' φ' k'' φ'' x y).map HloOp.writes
      = (slotRefs k φ c v w k' φ' k'' φ'' x y).map fun r => {Proc.devRef .tc r} := rfl

def SlotOk (a : A) (k : A₀) (φ : fn_remainder.Bufs) (c : A₀) (v w : A) (k' : A₀) (φ' : fn_floor_divide.Bufs) (k'' : A₀)
    (φ'' : fn_remainder.Bufs) : Prop :=
    ((a.ref :: k.ref :: remRefs φ).Nodup ∧ (a.ref :: k'.ref :: divRefs φ').Nodup ∧ (φ'.call0.v0.ref :: k''.ref :: remRefs φ'').Nodup)
      ∧ (¬ a.ref = k.ref ∧ a.ref ∉ remRefs φ) ∧ (¬ a.ref = c.ref ∧ ¬ a.ref = v.ref ∧ ¬ a.ref = w.ref ∧ ¬ a.ref = k'.ref)
      ∧ (¬ φ.v15.ref = c.ref ∧ ¬ φ.v15.ref = v.ref) ∧ (¬ w.ref = k'.ref ∧ w.ref ∉ divRefs φ' ∧ ¬ w.ref = k''.ref ∧ w.ref ∉ remRefs φ'')
      ∧ ¬ φ'.call0.v0.ref = k''.ref

theorem slot_val (a : A) (k : A₀) (φ : fn_remainder.Bufs) (c : A₀) (v w : A) (k' : A₀) (φ' : fn_floor_divide.Bufs) (k'' : A₀)
    (φ'' : fn_remainder.Bufs) (x : A) (y : TRef sig ⟨S1x16384, .i32⟩)
    (h : SlotOk a k φ c v w k' φ' k'' φ'')
    (V : Valuation τ sig (Elt F)) :
    rd y (after (slotOps a k φ c v w k' φ' k'' φ'' x y) V) = slotNo (rd a V) := by
  unfold SlotOk at h
  obtain ⟨⟨n, n', n''⟩, h⟩ := h
  unfold slotOps slotNo
  simp only [after_append, after_cons, after_nil, rem_val _ _ _ n, div_val _ _ _ n', rem_val _ _ _ n'', rd_div, rd_rem,
    rd_nullary, rd_unary, rd_binary, rd_nullary_ne, rd_unary_ne, rd_binary_ne, h, not_false_eq_true]

/-! ## @main's lines -/

def ops0 : List (Op F) := rowOps (.of main_arg0) (.of main_c) main_call0 (.of main_c_0) (.of main_v1) (.of main_v2) (.of main_c_1) main_call1
  (.of main_v4) (.of main_c_2) (asDiv main_call2)
def ops1 : List (Op F) := rowOps (.of main_arg1) (.of main_c_3) main_call3 (.of main_c_4) (.of main_v8) (.of main_v9) (.of main_c_5) main_call4
  (.of main_v11) (.of main_c_6) (asDiv main_call5)
def ops2 : List (Op F) := rowOps (.of main_arg2) (.of main_c_7) main_call6 (.of main_c_8) (.of main_v15) (.of main_v16) (.of main_c_9) main_call7
  (.of main_v18) (.of main_c_10) (asDiv main_call8)
def opsU : List (Op F) := slotOps (.of main_arg0) (.of main_c_11) main_call9 (.of main_c_12) (.of main_v22) (.of main_v23) (.of main_c_13) main_call10
  (.of main_c_14) (asRem main_call11) (.of main_v26) (.of main_v27)
def opsI : List (Op F) := slotOps (.of main_arg1) (.of main_c_15) main_call12 (.of main_c_16) (.of main_v29) (.of main_v30) (.of main_c_17) main_call13
  (.of main_c_18) (asRem main_call14) (.of main_v33) (.of main_v34)
def opsJ : List (Op F) := slotOps (.of main_arg2) (.of main_c_19) main_call15 (.of main_c_20) (.of main_v36) (.of main_v37) (.of main_c_21) main_call16
  (.of main_c_22) (asRem main_call17) (.of main_v40) (.of main_v41)
def ops3 : List (Op F) := opsU ++ (opsI ++ opsJ)
def opsEnd : List (Op F) :=
  [StableHlo.reshape main_v42_0 main_v43 (rfl : (.f32 : EltTy) = .f32) shapeCasts_S1x16384_S16384,
   StableHlo.reshape main_v42_1 main_v44 (rfl : (.f32 : EltTy) = .f32) shapeCasts_S1x16384_S16384]

theorem main_eq (d : Dev nD) : main (F := F) d
    = (seq ops0 >>= fun _ => (sc (F := F)).run d 0 >>= fun _ => seq ops1 >>= fun _ => (sc (F := F)).run d 1 >>= fun _ => seq ops2 >>= fun _ =>
        (sc (F := F)).run d 2 >>= fun _ => seq ops3 >>= fun _ => Prog.lift (.customCall (SparseCore.inner (Pipeline.entry 0)) ()) >>= fun _ =>
        seq opsEnd >>= fun _ => pure ⟨⟩) := by
  unfold main main_part0 main_part1 ops0 ops1 ops2 ops3 opsU opsI opsJ opsEnd rowOps slotOps
  simp only [div_eq, rem_eq, div1_eq, rem2_eq, seq_append, seq, bind_assoc, pure_bind, List.cons_append]
  rfl

theorem ok0 : RowOk (.of main_arg0) (.of main_c) main_call0 (.of main_c_0) (.of main_v1) (.of main_v2) (.of main_c_1) main_call1 (.of main_v4) (.of main_c_2) (asDiv main_call2) := by
  unfold RowOk; decide +kernel
theorem val0 (V : Valuation τ sig (Elt F)) : rd (.of main_v5) (after ops0 V) = rowNo (rd (.of main_arg0 : A) V) :=
  row_val (F := F) (.of main_arg0) (.of main_c) main_call0 (.of main_c_0) (.of main_v1) (.of main_v2) (.of main_c_1) main_call1 (.of main_v4) (.of main_c_2) (asDiv main_call2) ok0 V

theorem ok1 : RowOk (.of main_arg1) (.of main_c_3) main_call3 (.of main_c_4) (.of main_v8) (.of main_v9) (.of main_c_5) main_call4 (.of main_v11) (.of main_c_6) (asDiv main_call5) := by
  unfold RowOk; decide +kernel
theorem val1 (V : Valuation τ sig (Elt F)) : rd (.of main_v12) (after ops1 V) = rowNo (rd (.of main_arg1 : A) V) :=
  row_val (F := F) (.of main_arg1) (.of main_c_3) main_call3 (.of main_c_4) (.of main_v8) (.of main_v9) (.of main_c_5) main_call4 (.of main_v11) (.of main_c_6) (asDiv main_call5) ok1 V

theorem ok2 : RowOk (.of main_arg2) (.of main_c_7) main_call6 (.of main_c_8) (.of main_v15) (.of main_v16) (.of main_c_9) main_call7 (.of main_v18) (.of main_c_10) (asDiv main_call8) := by
  unfold RowOk; decide +kernel
theorem val2 (V : Valuation τ sig (Elt F)) : rd (.of main_v19) (after ops2 V) = rowNo (rd (.of main_arg2 : A) V) :=
  row_val (F := F) (.of main_arg2) (.of main_c_7) main_call6 (.of main_c_8) (.of main_v15) (.of main_v16) (.of main_c_9) main_call7 (.of main_v18) (.of main_c_10) (asDiv main_call8) ok2 V

theorem okU : SlotOk (.of main_arg0) (.of main_c_11) main_call9 (.of main_c_12) (.of main_v22) (.of main_v23) (.of main_c_13) main_call10 (.of main_c_14) (asRem main_call11) := by
  unfold SlotOk; decide +kernel
theorem valU (V : Valuation τ sig (Elt F)) : rd (.of main_v27) (after opsU V) = slotNo (rd (.of main_arg0 : A) V) :=
  slot_val (F := F) (.of main_arg0) (.of main_c_11) main_call9 (.of main_c_12) (.of main_v22) (.of main_v23) (.of main_c_13) main_call10 (.of main_c_14) (asRem main_call11) (.of main_v26) (.of main_v27) okU V

theorem okI : SlotOk (.of main_arg1) (.of main_c_15) main_call12 (.of main_c_16) (.of main_v29) (.of main_v30) (.of main_c_17) main_call13 (.of main_c_18) (asRem main_call14) := by
  unfold SlotOk; decide +kernel
theorem valI (V : Valuation τ sig (Elt F)) : rd (.of main_v34) (after opsI V) = slotNo (rd (.of main_arg1 : A) V) :=
  slot_val (F := F) (.of main_arg1) (.of main_c_15) main_call12 (.of main_c_16) (.of main_v29) (.of main_v30) (.of main_c_17) main_call13 (.of main_c_18) (asRem main_call14) (.of main_v33) (.of main_v34) okI V

theorem okJ : SlotOk (.of main_arg2) (.of main_c_19) main_call15 (.of main_c_20) (.of main_v36) (.of main_v37) (.of main_c_21) main_call16 (.of main_c_22) (asRem main_call17) := by
  unfold SlotOk; decide +kernel
theorem valJ (V : Valuation τ sig (Elt F)) : rd (.of main_v41) (after opsJ V) = slotNo (rd (.of main_arg2 : A) V) :=
  slot_val (F := F) (.of main_arg2) (.of main_c_19) main_call15 (.of main_c_20) (.of main_v36) (.of main_v37) (.of main_c_21) main_call16 (.of main_c_22) (asRem main_call17) (.of main_v40) (.of main_v41) okJ V

end Cert.Proof.Host
-- ==== Proof.Blocks.lean ====
/-
  The dots kernel's arrays block by block and its buffers slot by slot.
-/
module

public import proofs.«01_k».proof.Proof.Body
public import Idealize.ShloMosaic.Lib.SparseCore.Stream

@[expose] public section

noncomputable section

namespace Cert.Proof.Dots

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## The pieces cut out of a memref -/

section Cut
variable {sp : Space} {S : Shape} {e : EltTy} {B : Type} [Fintype B] [DecidableEq B]

theorem cut_disjoint (M : Memref sig .tc sp S e) (r : B → Rect S) (hd : ∀ b b', b ≠ b' → Disjoint (r b).set (r b').set) (b b' : B) (h : b ≠ b') :
    Disjoint (M.view.slice (r b)).set (M.view.slice (r b')).set := by
  rw [View.set_slice, View.set_slice]
  exact (Finset.disjoint_map _).mpr (hd b b' h)

theorem cut_cover (M : Memref sig .tc sp S e) (r : B → Rect S) (hc : Finset.univ.biUnion (fun b => (r b).set) = Finset.univ) :
    (Finset.univ.biUnion fun b => (M.view.slice (r b)).set) = M.view.set := by
  ext j
  simp only [View.set_slice, Finset.mem_biUnion, Finset.mem_univ, true_and]
  constructor
  · rintro ⟨b, hb⟩
    obtain ⟨x, -, rfl⟩ := Finset.mem_map.mp hb
    exact Finset.mem_map_of_mem _ (Finset.mem_univ x)
  · intro hj
    obtain ⟨x, -, rfl⟩ := Finset.mem_map.mp hj
    obtain ⟨b, -, hb⟩ := Finset.mem_biUnion.mp (hc.symm ▸ Finset.mem_univ x : x ∈ Finset.univ.biUnion fun b => (r b).set)
    exact ⟨b, Finset.mem_map_of_mem _ hb⟩

end Cut

variable (c : Dev nD)

/-! ## An array's eight blocks -/

abbrev rRect (b : Fin 8) : Rect S16384x128 := Rect.unit (s := S16384x128) (rBlkOff b) S2048x128.size (rBlk_inb b)
theorem rRect_disjoint (b b' : Fin 8) (h : b ≠ b') : Disjoint (rRect b).set (rRect b').set :=
  Ring.lead_disjoint (s := S16384x128) 0 2048 rBlkOff S2048x128.size rBlk_inb (fun _ => rfl) rfl b b' h
theorem rRect_cover : (Finset.univ.biUnion fun b => (rRect b).set) = Finset.univ :=
  Ring.lead_cover (s := S16384x128) 0 2048 rBlkOff S2048x128.size rBlk_inb (fun _ => rfl) (by decide) rfl (by decide) rfl
theorem rBlk_set (A : Memref sig .tc .hbm S16384x128 .i32) (b : Fin 8) : (rBlk A b).view.set = (A.view.slice (rRect b)).set := rfl
theorem rBlk_disjoint (A : Memref sig .tc .hbm S16384x128 .i32) (b b' : Fin 8) (h : b ≠ b') : Disjoint (rBlk A b).view.set (rBlk A b').view.set := by
  rw [rBlk_set, rBlk_set]
  exact cut_disjoint A rRect rRect_disjoint b b' h
theorem rBlk_cover (A : Memref sig .tc .hbm S16384x128 .i32) : (Finset.univ.biUnion fun b => (rBlk A b).view.set) = A.view.set := by
  simp only [rBlk_set]
  exact cut_cover A rRect rRect_cover
theorem rBlks_eq (A : Memref sig .tc .hbm S16384x128 .i32) (X : Buf (Elt F) (A.view.loc (c : Thread nD τ))) :
    held (F := F) c A X = bigSep Finset.univ fun b : Fin 8 => held (F := F) c (rBlk A b) X :=
  Ring.pointsTo_sub_blocks (ℓ := A.view.loc (c : Thread nD τ)) (fun b : Fin 8 => (rBlk A b).view.set) (rBlk_disjoint A) A.view.set (rBlk_cover A) X

abbrev wRect (b : Fin 8) : Rect S1x16384 := Rect.unit (s := S1x16384) (wBlkOff b) S1x2048.size (wBlk_inb b)
theorem wRect_disjoint (b b' : Fin 8) (h : b ≠ b') : Disjoint (wRect b).set (wRect b').set :=
  Ring.lead_disjoint (s := S1x16384) 1 2048 wBlkOff S1x2048.size wBlk_inb (fun _ => rfl) rfl b b' h
theorem wRect_cover : (Finset.univ.biUnion fun b => (wRect b).set) = Finset.univ :=
  Ring.lead_cover (s := S1x16384) 1 2048 wBlkOff S1x2048.size wBlk_inb (fun _ => rfl) (by decide) rfl (by decide) rfl
theorem wBlk_set {e : EltTy} (A : Memref sig .tc .hbm S1x16384 e) (b : Fin 8) : (wBlk A b).view.set = (A.view.slice (wRect b)).set := rfl
theorem wBlk_disjoint {e : EltTy} (A : Memref sig .tc .hbm S1x16384 e) (b b' : Fin 8) (h : b ≠ b') : Disjoint (wBlk A b).view.set (wBlk A b').view.set := by
  rw [wBlk_set, wBlk_set]
  exact cut_disjoint A wRect wRect_disjoint b b' h
theorem wBlk_cover {e : EltTy} (A : Memref sig .tc .hbm S1x16384 e) : (Finset.univ.biUnion fun b => (wBlk A b).view.set) = A.view.set := by
  simp only [wBlk_set]
  exact cut_cover A wRect wRect_cover
theorem wBlks_eq {e : EltTy} (A : Memref sig .tc .hbm S1x16384 e) (X : Buf (Elt F) (A.view.loc (c : Thread nD τ))) :
    held (F := F) c A X = bigSep Finset.univ fun b : Fin 8 => held (F := F) c (wBlk A b) X :=
  Ring.pointsTo_sub_blocks (ℓ := A.view.loc (c : Thread nD τ)) (fun b : Fin 8 => (wBlk A b).view.set) (wBlk_disjoint A) A.view.set (wBlk_cover A) X

/-- Eight of a kind are the two grid points' four each. -/
theorem halves_eq (Φ : Fin 8 → sProp 𝕄) :
    bigSep Finset.univ Φ = iprop((bigSep Finset.univ fun b : Fin 4 => Φ (bno (grid3.coords t3_0) b.val)) ∗ (bigSep Finset.univ fun b : Fin 4 => Φ (bno (grid3.coords t3_1) b.val))) := by
  rw [bigSep_univ_equiv (finProdFinEquiv : Fin 2 × Fin 4 ≃ Fin (2 * 4)) Φ, bigSep_univ_prod, bigSep_fin_two]
  refine congrArg₂ _ (bigSep_congr fun b _ => ?_) (bigSep_congr fun b _ => ?_)
  · exact congrArg Φ ((by decide +kernel : ∀ b : Fin 4, (finProdFinEquiv ((0 : Fin 2), b) : Fin (2 * 4)) = bno (grid3.coords t3_0) b.val) b)
  · exact congrArg Φ ((by decide +kernel : ∀ b : Fin 4, (finProdFinEquiv ((1 : Fin 2), b) : Fin (2 * 4)) = bno (grid3.coords t3_1) b.val) b)

variable
  (XU : Buf (Elt F) (aU.view.loc (c : Thread nD τ))) (XI : Buf (Elt F) (aI.view.loc (c : Thread nD τ))) (XJ : Buf (Elt F) (aJ.view.loc (c : Thread nD τ)))
  (YU : Buf (Elt F) (sU.view.loc (c : Thread nD τ))) (YI : Buf (Elt F) (sI.view.loc (c : Thread nD τ))) (YJ : Buf (Elt F) (sJ.view.loc (c : Thread nD τ)))
  (WI : Buf (Elt F) (oI.view.loc (c : Thread nD τ))) (WJ : Buf (Elt F) (oJ.view.loc (c : Thread nD τ)))

/-- The inputs' blocks of grid point `t`; the outputs'. -/
abbrev insOf (t : Fin grid3.N) : sProp 𝕄 :=
  bigSep Finset.univ fun b : Fin 4 => insHome (F := F) c (grid3.coords t) XU XI XJ YU YI YJ b.val
abbrev outsOf (t : Fin grid3.N) : sProp 𝕄 :=
  bigSep Finset.univ fun b : Fin 4 => outsHome (F := F) c (grid3.coords t) WI WJ b.val

theorem ins_halves :
    iprop(held (F := F) c aU XU ∗ held (F := F) c aI XI ∗ held (F := F) c aJ XJ ∗ held (F := F) c sU YU ∗ held (F := F) c sI YI ∗ held (F := F) c sJ YJ)
      = iprop(insOf c XU XI XJ YU YI YJ t3_0 ∗ insOf c XU XI XJ YU YI YJ t3_1) := by
  rw [rBlks_eq c aU, rBlks_eq c aI, rBlks_eq c aJ, wBlks_eq c sU, wBlks_eq c sI, wBlks_eq c sJ, ← bigSep_sep', ← bigSep_sep', ← bigSep_sep', ← bigSep_sep', ← bigSep_sep']
  exact halves_eq _

theorem outs_halves :
    iprop(held (F := F) c oI WI ∗ held (F := F) c oJ WJ) = iprop(outsOf c WI WJ t3_0 ∗ outsOf c WI WJ t3_1) := by
  rw [wBlks_eq c oI, wBlks_eq c oJ, ← bigSep_sep']
  exact halves_eq _

/-! ## A buffer's two slots -/

theorem rSlot_set (M : Memref sig .tc .vmem S2x2048x128 .i32) (s : Fin 2) :
    (rSlot M s).view.set = (M.view.slice (Rect.unit (s := S2x2048x128) (rSlotOff s) S1x2048x128.size (rSlot_inb s))).set := View.set_reshape _ _
theorem wSlot_set {e : EltTy} (M : Memref sig .tc .vmem S2x1x2048 e) (s : Fin 2) :
    (wSlot M s).view.set = (M.view.slice (Rect.unit (s := S2x1x2048) (rSlotOff s) S1x1x2048.size (wSlot_inb s))).set := View.set_reshape _ _

abbrev rPart (b : Fin 2) : Rect S2x2048x128 := Rect.unit (s := S2x2048x128) (rSlotOff b) S1x2048x128.size (rSlot_inb b)
theorem rPart_disjoint (b b' : Fin 2) (h : b ≠ b') : Disjoint (rPart b).set (rPart b').set :=
  Ring.lead_disjoint (s := S2x2048x128) 0 1 rSlotOff S1x2048x128.size rSlot_inb (fun s => (one_mul s.val).symm) rfl b b' h
theorem rPart_cover : (Finset.univ.biUnion fun b => (rPart b).set) = Finset.univ :=
  Ring.lead_cover (s := S2x2048x128) 0 1 rSlotOff S1x2048x128.size rSlot_inb (fun s => (one_mul s.val).symm) (by decide) rfl (by decide) rfl
theorem rSlot_disjoint (M : Memref sig .tc .vmem S2x2048x128 .i32) (s s' : Fin 2) (h : s ≠ s') : Disjoint (rSlot M s).view.set (rSlot M s').view.set := by
  rw [rSlot_set, rSlot_set]
  exact cut_disjoint M rPart rPart_disjoint s s' h
theorem rSlot_cover (M : Memref sig .tc .vmem S2x2048x128 .i32) : (Finset.univ.biUnion fun s : Fin 2 => (rSlot M s).view.set) = M.view.set := by
  simp only [rSlot_set]
  exact cut_cover M rPart rPart_cover
theorem rSlots_split (M : Memref sig .tc .vmem S2x2048x128 .i32) (f : Buf (Elt F) (M.view.loc (c : Thread nD τ))) :
    held (F := F) c M f ⊢ iprop((∃ f, held (F := F) c (rSlot M 0) f) ∗ (∃ f, held (F := F) c (rSlot M 1) f)) := by
  refine (Entails.of_eq ((Ring.pointsTo_sub_blocks (ℓ := M.view.loc (c : Thread nD τ)) (fun s : Fin 2 => (rSlot M s).view.set) (rSlot_disjoint M) M.view.set (rSlot_cover M) f).trans (bigSep_fin_two _))).trans ?_
  exact BI.sep_mono (BI.Laws.exists_intro_trans (Ψ := fun f => held (F := F) c (rSlot M 0) f) f .rfl) (BI.Laws.exists_intro_trans (Ψ := fun f => held (F := F) c (rSlot M 1) f) f .rfl)
theorem rSlots_join (M : Memref sig .tc .vmem S2x2048x128 .i32) :
    iprop((∃ f, held (F := F) c (rSlot M 0) f) ∗ (∃ f, held (F := F) c (rSlot M 1) f)) ⊢ (iprop(∃ f, held (F := F) c M f) : sProp 𝕄) :=
  (Entails.of_eq (bigSep_fin_two fun s : Fin 2 => iprop(∃ f, held (F := F) c (rSlot M s) f)).symm).trans
    (Ring.pointsTo_sub_blocks_join_exists (ℓ := M.view.loc (c : Thread nD τ)) (fun s : Fin 2 => (rSlot M s).view.set) (rSlot_disjoint M) M.view.set (rSlot_cover M) fun _ => Classical.arbitrary _)

abbrev wPart (b : Fin 2) : Rect S2x1x2048 := Rect.unit (s := S2x1x2048) (rSlotOff b) S1x1x2048.size (wSlot_inb b)
theorem wPart_disjoint (b b' : Fin 2) (h : b ≠ b') : Disjoint (wPart b).set (wPart b').set :=
  Ring.lead_disjoint (s := S2x1x2048) 0 1 rSlotOff S1x1x2048.size wSlot_inb (fun s => (one_mul s.val).symm) rfl b b' h
theorem wPart_cover : (Finset.univ.biUnion fun b => (wPart b).set) = Finset.univ :=
  Ring.lead_cover (s := S2x1x2048) 0 1 rSlotOff S1x1x2048.size wSlot_inb (fun s => (one_mul s.val).symm) (by decide) rfl (by decide) rfl
theorem wSlot_disjoint {e : EltTy} (M : Memref sig .tc .vmem S2x1x2048 e) (s s' : Fin 2) (h : s ≠ s') : Disjoint (wSlot M s).view.set (wSlot M s').view.set := by
  rw [wSlot_set, wSlot_set]
  exact cut_disjoint M wPart wPart_disjoint s s' h
theorem wSlot_cover {e : EltTy} (M : Memref sig .tc .vmem S2x1x2048 e) : (Finset.univ.biUnion fun s : Fin 2 => (wSlot M s).view.set) = M.view.set := by
  simp only [wSlot_set]
  exact cut_cover M wPart wPart_cover
theorem wSlots_split {e : EltTy} (M : Memref sig .tc .vmem S2x1x2048 e) (f : Buf (Elt F) (M.view.loc (c : Thread nD τ))) :
    held (F := F) c M f ⊢ iprop((∃ f, held (F := F) c (wSlot M 0) f) ∗ (∃ f, held (F := F) c (wSlot M 1) f)) := by
  refine (Entails.of_eq ((Ring.pointsTo_sub_blocks (ℓ := M.view.loc (c : Thread nD τ)) (fun s : Fin 2 => (wSlot M s).view.set) (wSlot_disjoint M) M.view.set (wSlot_cover M) f).trans (bigSep_fin_two _))).trans ?_
  exact BI.sep_mono (BI.Laws.exists_intro_trans (Ψ := fun f => held (F := F) c (wSlot M 0) f) f .rfl) (BI.Laws.exists_intro_trans (Ψ := fun f => held (F := F) c (wSlot M 1) f) f .rfl)
theorem wSlots_join {e : EltTy} (M : Memref sig .tc .vmem S2x1x2048 e) :
    iprop((∃ f, held (F := F) c (wSlot M 0) f) ∗ (∃ f, held (F := F) c (wSlot M 1) f)) ⊢ (iprop(∃ f, held (F := F) c M f) : sProp 𝕄) :=
  (Entails.of_eq (bigSep_fin_two fun s : Fin 2 => iprop(∃ f, held (F := F) c (wSlot M s) f)).symm).trans
    (Ring.pointsTo_sub_blocks_join_exists (ℓ := M.view.loc (c : Thread nD τ)) (fun s : Fin 2 => (wSlot M s).view.set) (wSlot_disjoint M) M.view.set (wSlot_cover M) fun _ => Classical.arbitrary _)

/-! ## The kernel's sixteen semaphores, and its buffers and semaphores at rest -/

/-- The kernel's arrays of semaphores. -/
def cells : Fin 8 → DmaSems sig S2 := ![cc3_scoped1, cc3_scoped3, cc3_scoped5, cc3_scoped7, cc3_scoped9, cc3_scoped11, cc3_scoped13, cc3_scoped15]
def ownSem (k : Fin 2 × Fin 8) : SemLoc sig := .dma (cel (cells k.2) k.1).sem

/-- Slot `s`'s semaphores at zero. -/
abbrev zeros (s : Fin 2) : sProp 𝕄 :=
  iprop(zero (F := F) c (cel cc3_scoped1 s) ∗ zero (F := F) c (cel cc3_scoped3 s) ∗ zero (F := F) c (cel cc3_scoped5 s) ∗ zero (F := F) c (cel cc3_scoped7 s)
    ∗ zero (F := F) c (cel cc3_scoped9 s) ∗ zero (F := F) c (cel cc3_scoped11 s) ∗ zero (F := F) c (cel cc3_scoped13 s) ∗ zero (F := F) c (cel cc3_scoped15 s))

theorem ownSems_eq : (Pipeline.ownSems0 (Ix := HIx 3) (Val := Elt F) (Name := ℕ) (U := UU) (Lvl := ℕ) (τ := τ) ownSem c : sProp 𝕄) = iprop(zeros (F := F) c 0 ∗ zeros (F := F) c 1) := by
  have h : ∀ s : Fin 2, (bigSep Finset.univ fun k : Fin 8 => (semVal ((c : Thread nD τ), ownSem (s, k)) 0 : sProp 𝕄)) = zeros (F := F) c s := by
    intro s
    iterate 7 rw [bigSep_univ_succ]
    rw [bigSep_univ_of_subsingleton 0]
    rfl
  unfold Pipeline.ownSems0
  rw [bigSep_univ_prod, bigSep_fin_two, h, h]
  rfl

/-- The buffers' slots and the semaphores at rest. -/
def idle : sProp 𝕄 :=
  iprop(insFree (F := F) c 0 ∗ insFree (F := F) c 1 ∗ outsFree (F := F) c 0 ∗ outsFree (F := F) c 1)

theorem sl0 : Ring.sl 2 0 = (0 : Fin 2) := rfl
theorem sl1 : Ring.sl 2 1 = (1 : Fin 2) := rfl

theorem idle_intro : iprop((∃ f, held (F := F) c mU f) ∗ (∃ f, held (F := F) c mI f) ∗ (∃ f, held (F := F) c mJ f) ∗ (∃ f, held (F := F) c nU f) ∗ (∃ f, held (F := F) c nI f) ∗ (∃ f, held (F := F) c nJ f)
      ∗ (∃ f, held (F := F) c pI f) ∗ (∃ f, held (F := F) c pJ f) ∗ zeros c 0 ∗ zeros c 1) ⊢ idle (F := F) c := by
  unfold idle
  simp only [insFree, outsFree, rFree, wFree, sl0, sl1]
  iintro ⟨⟨%f1, H1⟩, ⟨%f2, H2⟩, ⟨%f3, H3⟩, ⟨%f4, H4⟩, ⟨%f5, H5⟩, ⟨%f6, H6⟩, ⟨%f7, H7⟩, ⟨%f8, H8⟩, ⟨Z1, Z2, Z3, Z4, Z5, Z6, Z7, Z8⟩, ⟨W1, W2, W3, W4, W5, W6, W7, W8⟩⟩
  ihave H1 := (rSlots_split c mU f1) $$ H1
  ihave H2 := (rSlots_split c mI f2) $$ H2
  ihave H3 := (rSlots_split c mJ f3) $$ H3
  ihave H4 := (wSlots_split c nU f4) $$ H4
  ihave H5 := (wSlots_split c nI f5) $$ H5
  ihave H6 := (wSlots_split c nJ f6) $$ H6
  ihave H7 := (wSlots_split c pI f7) $$ H7
  ihave H8 := (wSlots_split c pJ f8) $$ H8
  icases H1 with ⟨H1, G1⟩
  icases H2 with ⟨H2, G2⟩
  icases H3 with ⟨H3, G3⟩
  icases H4 with ⟨H4, G4⟩
  icases H5 with ⟨H5, G5⟩
  icases H6 with ⟨H6, G6⟩
  icases H7 with ⟨H7, G7⟩
  icases H8 with ⟨H8, G8⟩
  iframe

theorem idle_elim : idle (F := F) c ⊢ iprop((∃ f, held (F := F) c mU f) ∗ (∃ f, held (F := F) c mI f) ∗ (∃ f, held (F := F) c mJ f) ∗ (∃ f, held (F := F) c nU f) ∗ (∃ f, held (F := F) c nI f) ∗ (∃ f, held (F := F) c nJ f)
      ∗ (∃ f, held (F := F) c pI f) ∗ (∃ f, held (F := F) c pJ f) ∗ zeros c 0 ∗ zeros c 1) := by
  unfold idle
  simp only [insFree, outsFree, rFree, wFree, sl0, sl1]
  iintro ⟨⟨⟨H1, Z1⟩, ⟨H2, Z2⟩, ⟨H3, Z3⟩, ⟨H4, Z4⟩, ⟨H5, Z5⟩, ⟨H6, Z6⟩⟩, ⟨⟨G1, W1⟩, ⟨G2, W2⟩, ⟨G3, W3⟩, ⟨G4, W4⟩, ⟨G5, W5⟩, ⟨G6, W6⟩⟩, ⟨⟨H7, Z7⟩, ⟨H8, Z8⟩⟩, ⟨⟨G7, W7⟩, ⟨G8, W8⟩⟩⟩
  isplitl [H1 G1]; · iapply (rSlots_join c mU); iframe
  isplitl [H2 G2]; · iapply (rSlots_join c mI); iframe
  isplitl [H3 G3]; · iapply (rSlots_join c mJ); iframe
  isplitl [H4 G4]; · iapply (wSlots_join c nU); iframe
  isplitl [H5 G5]; · iapply (wSlots_join c nI); iframe
  isplitl [H6 G6]; · iapply (wSlots_join c nJ); iframe
  isplitl [H7 G7]; · iapply (wSlots_join c pI); iframe
  isplitl [H8 G8]; · iapply (wSlots_join c pJ); iframe
  unfold zeros
  isplitl [Z1 Z2 Z3 Z4 Z5 Z6 Z7 Z8] <;> iframe

end Cert.Proof.Dots

end
-- ==== Proof.Region.lean ====
/-
  The dots kernel's call: its two grid points, each taking its half of every array, as a region of @main.
-/
module

public import proofs.«01_k».proof.Proof.Blocks
public import Idealize.ShloMosaic.Lib.Pipeline.RegionsLoop

@[expose] public section

noncomputable section

namespace Cert.Proof.Dots

open Cert.KernelIdeal Cert.KernelIdeal.Gen
open Idealize.ShloMosaic
open Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-- The eight arrays' contents on every core: the inputs', the outputs' before and after. -/
structure Arrays (F : FTy → Type) where
  XU : (c : Dev nD) → Buf (Elt F) (aU.view.loc (c : Thread nD τ))
  XI : (c : Dev nD) → Buf (Elt F) (aI.view.loc (c : Thread nD τ))
  XJ : (c : Dev nD) → Buf (Elt F) (aJ.view.loc (c : Thread nD τ))
  YU : (c : Dev nD) → Buf (Elt F) (sU.view.loc (c : Thread nD τ))
  YI : (c : Dev nD) → Buf (Elt F) (sI.view.loc (c : Thread nD τ))
  YJ : (c : Dev nD) → Buf (Elt F) (sJ.view.loc (c : Thread nD τ))
  ZI : (c : Dev nD) → Buf (Elt F) (oI.view.loc (c : Thread nD τ))
  ZJ : (c : Dev nD) → Buf (Elt F) (oJ.view.loc (c : Thread nD τ))
  OI : (c : Dev nD) → Buf (Elt F) (oI.view.loc (c : Thread nD τ))
  OJ : (c : Dev nD) → Buf (Elt F) (oJ.view.loc (c : Thread nD τ))

/-- The outputs hold the dot products of the inputs' rows. -/
structure Arrays.Ok (V : Arrays F) : Prop where
  hI : ∀ c b, (wBlk oI b).view.read (Elt F) (V.OI c) = dI c (V.XU c) (V.XI c) (V.YU c) (V.YI c) b
  hJ : ∀ c b, (wBlk oJ b).view.read (Elt F) (V.OJ c) = dJ c (V.XU c) (V.XJ c) (V.YU c) (V.YJ c) b

variable (V : Arrays F)

/-- Grid point `t`'s blocks of the inputs; of the outputs, before and after. -/
abbrev insP (c : Dev nD) (t : Fin grid3.N) : sProp 𝕄 := insOf c (V.XU c) (V.XI c) (V.XJ c) (V.YU c) (V.YI c) (V.YJ c) t
abbrev outsZ (c : Dev nD) (t : Fin grid3.N) : sProp 𝕄 := outsOf c (V.ZI c) (V.ZJ c) t
abbrev outsO (c : Dev nD) (t : Fin grid3.N) : sProp 𝕄 := outsOf c (V.OI c) (V.OJ c) t

/-- What the kernel holds before grid point `n`. -/
def inv (c : Dev nD) (n : ℕ) : sProp 𝕄 :=
  iprop(idle (F := F) c ∗ (insP V c t3_0 ∗ insP V c t3_1)
    ∗ ((if 0 < n then outsO V c t3_0 else outsZ V c t3_0) ∗ (if 1 < n then outsO V c t3_1 else outsZ V c t3_1)))

theorem inv_0 (c : Dev nD) : inv V c 0 = iprop(idle (F := F) c ∗ (insP V c t3_0 ∗ insP V c t3_1) ∗ (outsZ V c t3_0 ∗ outsZ V c t3_1)) := by
  unfold inv; rw [if_neg (by decide), if_neg (by decide)]
theorem inv_1 (c : Dev nD) : inv V c 1 = iprop(idle (F := F) c ∗ (insP V c t3_0 ∗ insP V c t3_1) ∗ (outsO V c t3_0 ∗ outsZ V c t3_1)) := by
  unfold inv; rw [if_pos (by decide), if_neg (by decide)]
theorem inv_2 (c : Dev nD) : inv V c 2 = iprop(idle (F := F) c ∗ (insP V c t3_0 ∗ insP V c t3_1) ∗ (outsO V c t3_0 ∗ outsO V c t3_1)) := by
  unfold inv; rw [if_pos (by decide), if_pos (by decide)]

theorem point_run (c : Dev nD) (hV : V.Ok) (t : Fin grid3.N) :
    iprop(inv V c t.val ∗ (∃ W, owes (c : Thread nD τ) 0 W))
      ⊢ wp frame (wpE (defs₀ (F := F)) 𝒱₀ (c : Thread nD τ) none) Set.univ (bodyG (F := F) (grid3.coords t))
          fun _ => iprop(inv V c (t.val + 1) ∗ (∃ W, owes (c : Thread nD τ) 0 W)) := by
  have h := body_run c (grid3.coords t) (V.XU c) (V.XI c) (V.XJ c) (V.YU c) (V.YI c) (V.YJ c) (V.ZI c) (V.ZJ c) (V.OI c) (V.OJ c) (hV.hI c) (hV.hJ c)
    (fun _ => iprop(inv V c (t.val + 1) ∗ (∃ W, owes (c : Thread nD τ) 0 W)))
  refine (?_ : _ ⊢ _).trans h
  unfold rest
  rcases fin_N3 t with rfl | rfl
  · rw [show t3_0.val = 0 from rfl, inv_0, inv_1]
    unfold idle
    iintro ⟨⟨⟨H1, H2, H3, H4⟩, ⟨H5, H6⟩, ⟨H7, H8⟩⟩, HO⟩
    isplitl [HO H1 H2 H3 H4 H5 H7]
    · iframe
    · iintro ⟨HO, H1, H2, H3, H4, H5, H7⟩
      iframe
  · rw [show t3_1.val = 1 from rfl, inv_1, inv_2]
    unfold idle
    iintro ⟨⟨⟨H1, H2, H3, H4⟩, ⟨H5, H6⟩, ⟨H7, H8⟩⟩, HO⟩
    isplitl [HO H1 H2 H3 H4 H6 H8]
    · iframe
    · iintro ⟨HO, H1, H2, H3, H4, H6, H8⟩
      iframe

def dat (c : Dev nD) : Dat τ (Elt F) (HIx 3) ℕ UU ℕ cfg3 c where
  A w := w.elim0
  after w := w.elim0
  Φ n := inv V c n.val
  q _ := fullShare
  owed _ := 0

variable (adm : (p : Fin 1) → (pcfgs (F := F) p).Adm)

def pdats : (p : Fin 1) → (c : Dev nD) → Dat τ (Elt F) (HIx 3) ℕ UU ℕ (Pipeline.pin (pcfgs (F := F)) adm p) c
  | ⟨0, _⟩ => fun c => dat V c

/-- The core's tallies as the pipeline states them are at zero, whatever was waited for. -/
theorem owesAt_eq (c : Dev nD) (n) : (dat V c).owesAt none n ⊣⊢ (iprop(∃ W, owes (c : Thread nD τ) (0 : CellTallies nD τ sig (HIx 3)) W) : sProp 𝕄) := by
  unfold Pipeline.Dat.owesAt Pipeline.owesWithin
  constructor
  · iintro ⟨%W, -, HO⟩; iexists W; iexact HO
  · iintro ⟨%W, HO⟩
    iexists W
    isplitr; · ipureintro; exact fun _ _ => Or.inl trivial
    iexact HO

theorem body_obligation (c : Dev nD) (hV : V.Ok) : BodyObligation (dat V c) (defs₀ (F := F)) 𝒱₀ none Set.univ := fun t => by
  rw [show (Finset.univ : Finset (Fin cfg3.W)) = ∅ from rfl, bigSep_empty]
  rw [show (dat V c).Φ t.castSucc = inv V c t.val from rfl, show (dat V c).Φ t.succ = inv V c (t.val + 1) from rfl]
  iintro ⟨HI, HO, -⟩
  ihave HO := (owesAt_eq V c _).1 $$ HO
  iapply (wp_wand_r frame (wpE (defs₀ (F := F)) 𝒱₀ (c : Thread nD τ) none) Set.univ)
  isplitl [HI HO]
  · iapply (point_run V c hV t)
    iframe
  · iintro %_ ⟨HI, HO⟩
    ihave HO := (owesAt_eq V c t.succ).2 $$ HO
    isplitl [HI]; · iexact HI
    isplitl [HO]; · iexact HO
    iempintro

/-- The arrays whole, the outputs at contents `WI`, `WJ`. -/
def wholes (c : Dev nD) (WI : Buf (Elt F) (oI.view.loc (c : Thread nD τ))) (WJ : Buf (Elt F) (oJ.view.loc (c : Thread nD τ))) : sProp 𝕄 :=
  iprop((held c aU (V.XU c) ∗ held c aI (V.XI c) ∗ held c aJ (V.XJ c) ∗ held c sU (V.YU c) ∗ held c sI (V.YI c) ∗ held c sJ (V.YJ c)) ∗ (held c oI WI ∗ held c oJ WJ))

theorem bufs_eq (c : Dev nD) :
    (Pipeline.scopedRest (Ix := HIx 3) (Name := ℕ) (U := UU) (Lvl := ℕ) (Val := Elt F) (cfg3.spec) c : sProp 𝕄)
      = iprop((∃ f, held (F := F) c mU f) ∗ (∃ f, held (F := F) c mI f) ∗ (∃ f, held (F := F) c mJ f) ∗ (∃ f, held (F := F) c nU f) ∗ (∃ f, held (F := F) c nI f) ∗ (∃ f, held (F := F) c nJ f)
      ∗ (∃ f, held (F := F) c pI f) ∗ (∃ f, held (F := F) c pJ f)) := by
  rw [scopedRest3_eq]
  simp only [held, View.set_whole]

theorem own_facts : Pipeline.OwnSemFacts cfg3.spec ownSem := by decide +kernel

variable (L : GSem nD τ sig → Finset (HIx 3)) (lv : GSem nD τ sig → HIx 3 → ℕ)

set_option backward.isDefEq.respectTransparency.types false in
/-- The call: entered with the arrays whole, left with the outputs at the dot products. -/
def reg (hV : V.Ok) : Pipeline.RegionSeg (pcfgs (F := F)) adm (pdats V adm) none defs₀ 𝒱₀ L lv 0 where
  win := launch3.win.to₀
  block_pos := launch3.block_pos
  stage_whole := launch3.stage_whole
  K := Fin 2 × Fin 8
  osem := ownSem
  ho := own_facts
  hbody c := (body_obligation V c hV).loose
  hwaits := Pipeline.hwaits_of_owed_zero _ _ _ _ L lv 0 fun _ _ => rfl
  pre c := iprop(wholes V c (V.ZI c) (V.ZJ c) ∗ ∃ W, owes (c : Thread nD τ) (0 : CellTallies nD τ sig (HIx 3)) W)
  post c := iprop(wholes V c (V.OI c) (V.OJ c) ∗ ∃ W, owes (c : Thread nD τ) (0 : CellTallies nD τ sig (HIx 3)) W)
  X c := iprop(wholes V c (V.ZI c) (V.ZJ c) ∗ zeros (F := F) c 0 ∗ zeros (F := F) c 1)
  Y c := wholes V c (V.OI c) (V.OJ c)
  Z _ := BI.emp
  hentry c := by
    rw [ownSems_eq]
    iintro ⟨⟨HA, HO⟩, HZ, -⟩
    ihave HO := (owesAt_eq V c 0).2 $$ HO
    imodintro
    isplitr
    · unfold Pipeline.Dat.arrays; rw [show (Finset.univ : Finset (Fin cfg3.W)) = ∅ from rfl, BI.bigSep_empty]; iempintro
    isplitr; · unfold Pipeline.prefHeld; rw [show (Finset.univ : Finset (Fin 0)) = ∅ from rfl, BI.bigSep_empty]; iempintro
    isplitl [HO]; · iexact HO
    isplitl [HA HZ]
    · isplitl [HA]; · iexact HA
      iexact HZ
    · iempintro
  hin c := by
    rw [show (pdats V adm 0 c).Φ 0 = inv V c 0 from rfl, inv_0, ← ins_halves, ← outs_halves]
    iintro ⟨⟨HA, HZ, HZ'⟩, -, HB⟩
    ihave HB := (Entails.of_eq (bufs_eq c)) $$ HB
    icases HB with ⟨H1, H2, H3, H4, H5, H6, H7, H8⟩
    isplitr [HA]
    · iapply (idle_intro c); iframe
    · unfold wholes; iexact HA
  hout c := by
    rw [ownSems_eq, show (pdats V adm 0 c).Φ (Fin.last _) = inv V c 2 from rfl, inv_2, ← ins_halves, ← outs_halves]
    iintro ⟨HI, HA⟩
    ihave HI := (idle_elim c) $$ HI
    icases HI with ⟨H1, H2, H3, H4, H5, H6, H7, H8, HZ⟩
    isplitl [HA]; · unfold wholes; iexact HA
    isplitl [HZ]; · iexact HZ
    iapply (Entails.of_eq (bufs_eq c).symm)
    iframe
  hexit c := by
    iintro ⟨-, HO, HA, -⟩
    unfold Pipeline.Dat.owesAt Pipeline.owesWithin
    icases HO with ⟨%W, -, HO⟩
    imodintro
    isplitl [HA]; · iexact HA
    iexists W; iexact HO

end Cert.Proof.Dots

end
-- ==== Proof.Lines.lean ====
/-
  @main's steps on a valuation of the core's buffers: a host line leaves the buffers it does not write; a gather's call and
  the dots' call change their results' buffers alone.
-/
module

public import proofs.«01_k».proof.Proof.Host
public import proofs.«01_k».proof.Proof.Region
public import Idealize.ShloMosaic.Lib.Pipeline.Frame

@[expose] public section

noncomputable section

namespace Cert.Proof.Host

open Cert.KernelIdeal Cert.KernelIdeal.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)
open Cert.Proof.Rows

variable {F : FTy → Type} [FloatOps F]

local notation "𝕄" => MT nD τ sig (HIx 3) (Elt F) ℕ UU ℕ

/-- A core's valuation, read at a reference. -/
abbrev at' (V : Valuation τ sig (Elt F)) (r : Ref sig .tc) : r.ty.Contents (Elt F) := V (Proc.devRef .tc r)
/-- The core's buffers that are no kernel's own. -/
abbrev All : Finset (DevRef τ sig) := Pipeline.ucRefs τ sig

theorem dev_ne {r r' : Ref sig .tc} (h : r ≠ r') : (Proc.devRef .tc r : DevRef τ sig) ≠ Proc.devRef .tc r' := fun e => h (Proc.devRef_injective _ e)

theorem mem_all {r : Ref sig .tc} (h : r.isScoped = false) : (Proc.devRef .tc r : DevRef τ sig) ∈ All := by
  refine Finset.mem_filter.mpr ⟨Finset.mem_map_of_mem _ (Finset.mem_univ r), ?_⟩
  simpa using h

/-- A buffer taken out of a set held, and put back at contents of its own. -/
theorem take (d : Dev nD) {S : Finset (DevRef τ sig)} (r : Ref sig .tc) (h : Proc.devRef .tc r ∈ S) (V : Valuation τ sig (Elt F)) :
    (held (SparseCore.T d) S V : sProp 𝕄) = iprop((here d r ↦{fullShare} at' V r) ∗ held (SparseCore.T d) (S.erase (Proc.devRef .tc r)) V) :=
  BI.bigSep_erase h
theorem put (d : Dev nD) {S : Finset (DevRef τ sig)} (r : Ref sig .tc) (h : Proc.devRef .tc r ∈ S) (V : Valuation τ sig (Elt F)) (g : Buf (Elt F) (here d r)) :
    (iprop((here d r ↦{fullShare} g) ∗ held (SparseCore.T d) (S.erase (Proc.devRef .tc r)) V) : sProp 𝕄)
      = held (SparseCore.T d) S (Function.update V (Proc.devRef .tc r) g) := by
  rw [take d r h (Function.update V (Proc.devRef .tc r) g)]
  refine congrArg₂ _ ?_ (held_congr _ fun b hb => (Function.update_of_ne (Finset.ne_of_mem_erase hb) _ _).symm)
  unfold at'
  rw [Function.update_self]

/-! ## What the lines leave -/

/-- The buffers @main's steps carry from one to another. -/
def kept : List (Ref sig .tc) := [main_arg0, main_arg1, main_arg2, main_arg3, main_arg4, main_arg5, main_v6, main_v13, main_v20]

/-- Two valuations with the same contents in the buffers carried. -/
def Same (V E : Valuation τ sig (Elt F)) : Prop := ∀ r ∈ kept, at' V r = at' E r

theorem Same.update {V E : Valuation τ sig (Elt F)} (h : Same V E) (o : Ref sig .tc) (g : o.ty.Contents (Elt F)) :
    Same (Function.update V (Proc.devRef .tc o) g) (Function.update E (Proc.devRef .tc o) g) := by
  intro r hr
  unfold at'
  by_cases e : r = o
  · subst e; rw [Function.update_self, Function.update_self]
  · rw [Function.update_of_ne (dev_ne e), Function.update_of_ne (dev_ne e)]; exact h r hr

theorem left {ops : List (Op F)} (W : List (Ref sig .tc)) (hW : ops.map HloOp.writes = W.map fun r => {Proc.devRef .tc r})
    (r : Ref sig .tc) (h : r ∉ W) (V : Valuation τ sig (Elt F)) : at' (after ops V) r = at' V r :=
  after_of_writes_sub ops V (forall_writes_sub_of_map hW) h

theorem left_kept {ops : List (Op F)} (W : List (Ref sig .tc)) (hW : ops.map HloOp.writes = W.map fun r => {Proc.devRef .tc r})
    (h : ∀ r ∈ kept, r ∉ W) {V E : Valuation τ sig (Elt F)} (hV : Same V E) : Same (after ops V) E :=
  fun r hr => (left W hW r (h r hr) V).trans (hV r hr)

/-! ## What the lines need -/

theorem row_sub (a : A) (k : A₀) (φ : fn_floor_divide.Bufs) (c : A₀) (v w : A) (k' : A₀) (φ' : fn_remainder.Bufs) (x : A) (k'' : A₀)
    (φ'' : fn_floor_divide.Bufs) : (rowOps (F := F) a k φ c v w k' φ' x k'' φ'').Forall fun op => op.bufs ⊆ tcRefs τ sig := by
  simp [rowOps, divOps, remOps, List.forall_append, List.forall_cons]

theorem row_fresh (a : A) (k : A₀) (φ : fn_floor_divide.Bufs) (c : A₀) (v w : A) (k' : A₀) (φ' : fn_remainder.Bufs) (x : A) (k'' : A₀)
    (φ'' : fn_floor_divide.Bufs) : (rowOps (F := F) a k φ c v w k' φ' x k'' φ'').Forall fun op => op.fresh = ∅ :=
  forall_fresh_of_map rfl

theorem slot_sub (a : A) (k : A₀) (φ : fn_remainder.Bufs) (c : A₀) (v w : A) (k' : A₀) (φ' : fn_floor_divide.Bufs) (k'' : A₀)
    (φ'' : fn_remainder.Bufs) (x : A) (y : TRef sig ⟨S1x16384, .i32⟩) : (slotOps (F := F) a k φ c v w k' φ' k'' φ'' x y).Forall fun op => op.bufs ⊆ tcRefs τ sig := by
  simp [slotOps, divOps, remOps, List.forall_append, List.forall_cons]

theorem slot_fresh (a : A) (k : A₀) (φ : fn_remainder.Bufs) (c : A₀) (v w : A) (k' : A₀) (φ' : fn_floor_divide.Bufs) (k'' : A₀)
    (φ'' : fn_remainder.Bufs) (x : A) (y : TRef sig ⟨S1x16384, .i32⟩) : (slotOps (F := F) a k φ c v w k' φ' k'' φ'' x y).Forall fun op => op.fresh = ∅ :=
  forall_fresh_of_map rfl

/-- What a list of host operations needs to run on the core's buffers. -/
def Runs (ops : List (Op F)) : Prop := (ops.Forall fun op => op.bufs ⊆ tcRefs τ sig) ∧ ops.Forall fun op => op.fresh = ∅

theorem runs0 : Runs (F := F) ops0 := ⟨row_sub .., row_fresh ..⟩
theorem runs1 : Runs (F := F) ops1 := ⟨row_sub .., row_fresh ..⟩
theorem runs2 : Runs (F := F) ops2 := ⟨row_sub .., row_fresh ..⟩
theorem runs3 : Runs (F := F) ops3 :=
  ⟨List.forall_append.mpr ⟨slot_sub .., List.forall_append.mpr ⟨slot_sub .., slot_sub ..⟩⟩,
    List.forall_append.mpr ⟨slot_fresh .., List.forall_append.mpr ⟨slot_fresh .., slot_fresh ..⟩⟩⟩
theorem runsEnd : Runs (F := F) opsEnd := ⟨by simp [opsEnd], forall_fresh_of_map rfl⟩

/-! ## The steps -/

variable (m : (ℓ : Loc nD τ sig) → Buf (Elt F) ℓ) (X : Fin 3 → Dev nD → S16384.Idx → BitVec 32) (κ : GSem nD τ sig → ℕ) (d : Dev nD)

/-- @main's state before call `n`, the core's buffers at `V`. -/
def state (n : ℕ) (V : Valuation τ sig (Elt F)) (R : sProp 𝕄) : sProp 𝕄 :=
  iprop((K (F := F)).ctx EH (P m X) κ ∗ (K (F := F)).tcSt EH d n ∗ boundary (SparseCore.T d) ∗ held (SparseCore.T d) All V ∗ R)

abbrev wpMain (p : Prog (TpuEff nD τ sig (Elt F) (SparseCore.Sig (ΛP (F := F)) 3) .tc) PUnit) (Φ : PUnit → sProp 𝕄) : sProp 𝕄 :=
  wp frame (wpE ((K (F := F)).defs (D (F := F))) 𝒱 (SparseCore.T d) none) Set.univ p Φ

variable {m X κ d}

theorem line_step {Φ : PUnit → sProp 𝕄} {R : sProp 𝕄} {n : ℕ} {ops : List (Op F)} (h : Runs ops) {V : Valuation τ sig (Elt F)} {k}
    (hk : state m X κ d n (after ops V) R ⊢ wpMain d (k ⟨⟩) Φ) :
    state m X κ d n V R ⊢ wpMain d (seq ops >>= k) Φ := by
  unfold state
  iintro ⟨Hc, Hs, Hb, Hh, HR⟩
  iapply (StableHlo.wp_seq 𝒱 none Set.univ d All k ops (fun op ho => Pipeline.sub_ucRefs op (List.forall_iff_forall_mem.mp h.1 op ho))
    (List.forall_iff_forall_mem.mp h.2) V) $$ [Hb Hh]
  · iframe
  iintro ⟨Hb, Hh⟩
  iapply hk
  unfold state
  iframe

theorem call_step {Φ : PUnit → sProp 𝕄} {R : sProp 𝕄} (q : Fin 3) (o x t : Ref sig .tc) (ho : o.isScoped = false) (hx : x.isScoped = false) (ht : t.isScoped = false)
    (hxo : x ≠ o) (hto : t ≠ o) (htx : t ≠ x)
    (vx : Buf (Elt F) (here d x)) (vt : Buf (Elt F) (here d t)) (vo g : Buf (Elt F) (here d o))
    (hst : (bigSep Finset.univ fun c : Fin ((K (F := F)).nCore q) => (P m X).st q d c) = iprop((here d x ↦{fullShare} vx) ∗ (here d t ↦{fullShare} vt) ∗ (here d o ↦{fullShare} vo)))
    (hdn : (bigSep Finset.univ fun c : Fin ((K (F := F)).nCore q) => (P m X).dn q d c) = iprop((here d x ↦{fullShare} vx) ∗ (here d t ↦{fullShare} vt) ∗ (here d o ↦{fullShare} g)))
    {V : Valuation τ sig (Elt F)} (ex : at' V x = vx) (et : at' V t = vt) (eo : at' V o = vo)
    {k : PUnit → Prog (TpuEff nD τ sig (Elt F) (SparseCore.Sig (ΛP (F := F)) 3) .tc) PUnit}
    (hk : state m X κ d (q.val + 1) (Function.update V (Proc.devRef .tc o) g) R ⊢ wpMain d (k ⟨⟩) Φ) :
    state m X κ d q.val V R ⊢ wpMain d ((K (F := F)).run d q >>= k) Φ := by
  have hmx : (Proc.devRef .tc x : DevRef τ sig) ∈ All.erase (Proc.devRef .tc o) := Finset.mem_erase.mpr ⟨dev_ne hxo, mem_all hx⟩
  have hmt : (Proc.devRef .tc t : DevRef τ sig) ∈ (All.erase (Proc.devRef .tc o)).erase (Proc.devRef .tc x) :=
    Finset.mem_erase.mpr ⟨dev_ne htx, Finset.mem_erase.mpr ⟨dev_ne hto, mem_all ht⟩⟩
  have e := take d o (mem_all ho) V
  rw [take d x hmx V, take d t hmt V, ex, et, eo] at e
  have e' := put d o (mem_all ho) V g
  rw [take d x hmx V, take d t hmt V, ex, et] at e'
  unfold state at hk ⊢
  rw [e]
  rw [← e'] at hk
  simp only [wpMain, wp_bind] at hk ⊢
  iintro ⟨#Hc, Hs, Hb, ⟨Ho, Hx, Ht, Hh⟩, HR⟩
  iapply ((K (F := F)).wp_run (D (F := F)) 𝒱 (EH := EH) (P := P m X) κ d q)
  isplitr; · iexact Hc
  isplitl [Hs]; · iexact Hs
  isplitl [Ho Hx Ht]
  · irw [hst]
    iframe
  iintro ⟨Hs, Hdn⟩
  ihave Hdn := (Entails.of_eq hdn) $$ Hdn
  icases Hdn with ⟨Hx, Ht, Ho⟩
  iapply hk
  iframe
  iexact Hc

end Cert.Proof.Host

end
-- ==== Proof.Steps.lean ====
/-
  The dots' call as a step of @main: it leaves each output's block at the dot products of the blocks of its arrays.
-/
module

public import proofs.«01_k».proof.Proof.Lines

@[expose] public section

noncomputable section

namespace Cert.Proof.Host

open Cert.KernelIdeal Cert.KernelIdeal.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)
open Cert.Proof.Rows

variable {F : FTy → Type} [FloatOps F]

local notation "𝕄" => MT nD τ sig (HIx 3) (Elt F) ℕ UU ℕ

/-- An array of lanes from its eight blocks. -/
def laid (D : Fin 8 → FVec F S1x2048 .f32) : S1x16384.Idx → Elt F .f32 :=
  fun j => D ⟨(j 1).val / 2048, Nat.div_lt_of_lt_mul (show _ < 2048 * 8 from (j 1).isLt)⟩ (fun | 0 => ⟨0, Nat.one_pos⟩ | 1 => ⟨(j 1).val % 2048, Nat.mod_lt _ (by decide)⟩)

theorem laid_read_I (D : Fin 8 → FVec F S1x2048 .f32) (b : Fin 8) : (Dots.wBlk Dots.oI b).view.read (Elt F) (laid D) = D b := by
  funext x
  have h : (x 1).val < 2048 := (x 1).isLt
  have h0 : (x 0).val < 1 := (x 0).isLt
  show D ⟨(2048 * b.val + 1 * (x 1).val) / 2048, _⟩ _ = _
  refine congr (congrArg D (Fin.ext (show (2048 * b.val + 1 * (x 1).val) / 2048 = b.val by omega))) (funext fun a => ?_)
  match a with
  | 0 => exact Fin.ext (show 0 = (x 0).val by omega)
  | 1 => exact Fin.ext (show (2048 * b.val + 1 * (x 1).val) % 2048 = (x 1).val by omega)
theorem laid_read_J (D : Fin 8 → FVec F S1x2048 .f32) (b : Fin 8) : (Dots.wBlk Dots.oJ b).view.read (Elt F) (laid D) = D b := laid_read_I D b

/-- The dots' arrays, at a valuation of the core's buffers. -/
def arrays (V : Valuation τ sig (Elt F)) : Dots.Arrays F where
  XU _ := at' V main_v6
  XI _ := at' V main_v13
  XJ _ := at' V main_v20
  YU _ := at' V main_v27
  YI _ := at' V main_v34
  YJ _ := at' V main_v41
  ZI _ := at' V main_v42_0
  ZJ _ := at' V main_v42_1
  OI c := laid (Dots.dI c (at' V main_v6) (at' V main_v13) (at' V main_v27) (at' V main_v34))
  OJ c := laid (Dots.dJ c (at' V main_v6) (at' V main_v20) (at' V main_v27) (at' V main_v41))

theorem arrays_ok (V : Valuation τ sig (Elt F)) : (arrays V).Ok := ⟨fun c b => laid_read_I (Dots.dI c (at' V main_v6) (at' V main_v13) (at' V main_v27) (at' V main_v34)) b,
    fun c b => laid_read_J (Dots.dJ c (at' V main_v6) (at' V main_v20) (at' V main_v27) (at' V main_v41)) b⟩

theorem wholes_eq (V : Valuation τ sig (Elt F)) (d : Dev nD) (gI : Buf (Elt F) (here d main_v42_0)) (gJ : Buf (Elt F) (here d main_v42_1)) :
    Dots.wholes (arrays V) d gI gJ = iprop(((here d main_v6 ↦{fullShare} at' V main_v6) ∗ (here d main_v13 ↦{fullShare} at' V main_v13) ∗ (here d main_v20 ↦{fullShare} at' V main_v20)
      ∗ (here d main_v27 ↦{fullShare} at' V main_v27) ∗ (here d main_v34 ↦{fullShare} at' V main_v34) ∗ (here d main_v41 ↦{fullShare} at' V main_v41))
      ∗ ((here d main_v42_0 ↦{fullShare} gI) ∗ (here d main_v42_1 ↦{fullShare} gJ))) := by
  unfold Dots.wholes
  simp only [Dots.held, Memref.view_whole, View.set_whole]
  rfl

/-- The dots' arrays. -/
abbrev Arr : Finset (DevRef τ sig) :=
  {Proc.devRef .tc main_v6, Proc.devRef .tc main_v13, Proc.devRef .tc main_v20, Proc.devRef .tc main_v27, Proc.devRef .tc main_v34, Proc.devRef .tc main_v41,
    Proc.devRef .tc main_v42_0, Proc.devRef .tc main_v42_1}

theorem arr_sub : Arr ⊆ All := by
  intro b hb
  simp only [Arr, Finset.mem_insert, Finset.mem_singleton] at hb
  rcases hb with h | h | h | h | h | h | h | h <;> (subst h; exact mem_all (by decide))

theorem regroup {M : Type} [URA M] (A B C D E G H I : sProp M) : (iprop(A ∗ B ∗ C ∗ D ∗ E ∗ G ∗ H ∗ I)) = iprop((A ∗ B ∗ C ∗ D ∗ E ∗ G) ∗ H ∗ I) := by
  have h : (iprop(A ∗ B ∗ C ∗ D ∗ E ∗ G ∗ H ∗ I) : sProp M) ⊢ iprop((A ∗ B ∗ C ∗ D ∗ E ∗ G) ∗ H ∗ I) := by
    iintro ⟨H1, H2, H3, H4, H5, H6, H7, H8⟩
    iframe
  have h' : (iprop((A ∗ B ∗ C ∗ D ∗ E ∗ G) ∗ H ∗ I) : sProp M) ⊢ iprop(A ∗ B ∗ C ∗ D ∗ E ∗ G ∗ H ∗ I) := by
    iintro ⟨⟨H1, H2, H3, H4, H5, H6⟩, H7, H8⟩
    iframe
  exact BI.Entails.antisymm h h'

theorem arr_held (V : Valuation τ sig (Elt F)) (d : Dev nD) :
    (held (SparseCore.T d) Arr V : sProp 𝕄) = Dots.wholes (arrays V) d (at' V main_v42_0) (at' V main_v42_1) := by
  rw [wholes_eq]
  unfold held Arr
  iterate 7 rw [bigSep_insert (by decide +kernel)]
  rw [bigSep_singleton]
  exact regroup ..

/-- The valuation after the dots' call. -/
def dotted (V : Valuation τ sig (Elt F)) (d : Dev nD) : Valuation τ sig (Elt F) :=
  Function.update (Function.update V (Proc.devRef .tc main_v42_1) ((arrays V).OJ d)) (Proc.devRef .tc main_v42_0) ((arrays V).OI d)

theorem dotted_of_ne (V : Valuation τ sig (Elt F)) (d : Dev nD) (r : Ref sig .tc) (h : r ≠ main_v42_0) (h' : r ≠ main_v42_1) : at' (dotted V d) r = at' V r := by
  unfold at' dotted
  rw [Function.update_of_ne (dev_ne h), Function.update_of_ne (dev_ne h')]
theorem dotted_I (V : Valuation τ sig (Elt F)) (d : Dev nD) : at' (dotted V d) main_v42_0 = (arrays V).OI d := by
  unfold at' dotted
  rw [Function.update_self]
theorem dotted_J (V : Valuation τ sig (Elt F)) (d : Dev nD) : at' (dotted V d) main_v42_1 = (arrays V).OJ d := by
  unfold at' dotted
  rw [Function.update_of_ne (dev_ne (by decide)), Function.update_self]

theorem arr_dotted (V : Valuation τ sig (Elt F)) (d : Dev nD) :
    (held (SparseCore.T d) Arr (dotted V d) : sProp 𝕄) = Dots.wholes (arrays V) d ((arrays V).OI d) ((arrays V).OJ d) := by
  rw [arr_held, wholes_eq, wholes_eq, dotted_I, dotted_J, dotted_of_ne V d main_v6 (by decide) (by decide), dotted_of_ne V d main_v13 (by decide) (by decide),
    dotted_of_ne V d main_v20 (by decide) (by decide), dotted_of_ne V d main_v27 (by decide) (by decide), dotted_of_ne V d main_v34 (by decide) (by decide),
    dotted_of_ne V d main_v41 (by decide) (by decide)]

theorem rest_dotted (V : Valuation τ sig (Elt F)) (d : Dev nD) :
    (held (SparseCore.T d) (All \ Arr) V : sProp 𝕄) = held (SparseCore.T d) (All \ Arr) (dotted V d) := by
  refine held_congr _ fun b hb => ?_
  have hb' := (Finset.mem_sdiff.mp hb).2
  simp only [Arr, Finset.mem_insert, Finset.mem_singleton, not_or] at hb'
  unfold dotted
  rw [Function.update_of_ne hb'.2.2.2.2.2.2.1, Function.update_of_ne hb'.2.2.2.2.2.2.2]

/-- The ghost state of the region's own rounds. -/
abbrev EP : Emb (UR sig nD τ) 𝕄 :=
  ((Emb.inl : Emb (UR sig nD τ) (UR sig nD τ × Counters)).trans (Emb.inr : Emb (UR sig nD τ × Counters) UU)).trans
    (uEmb (nD := nD) (sig := sig) (Ix := HIx 3) (Val := Elt F) (Name := ℕ) (U := UU) (Lvl := ℕ)).toEmb

theorem wbelow_all (d : Dev nD) (W) : (K (F := F)).WBelow (SparseCore.T d) W 24 := by
  intro p _
  rcases h : p.2 with _ | q
  · rw [SparseCore.Cfg.lev_none]; omega
  · have := (K (F := F)).lev_some_le (SparseCore.T d, p.1) q; omega

/-- The plan of the dots' pipeline, which no table names. -/
def admits : (p : Fin 1) → (pcfgs (F := F) p).Adm := fun p => (cfgs p).toPCfg_adm

variable {m : (ℓ : Loc nD τ sig) → Buf (Elt F) ℓ} {X : Fin 3 → Dev nD → S16384.Idx → BitVec 32} {κ : GSem nD τ sig → ℕ} {d : Dev nD}

theorem entry_wp (V : Valuation τ sig (Elt F)) (d : Dev nD) (Q : PUnit → sProp 𝕄) :
    iprop((iprop(boundary (SparseCore.T d) ∗ Dots.wholes (arrays V) d ((arrays V).OI d) ((arrays V).OJ d)
          ∗ ∃ W, owes (SparseCore.T d) (0 : CellTallies nD τ sig (HIx 3)) W) -∗ Q ⟨⟩)
        ∗ boundary (SparseCore.T d) ∗ Dots.wholes (arrays V) d (at' V main_v42_0) (at' V main_v42_1)
        ∗ (∃ W, owes (SparseCore.T d) (0 : CellTallies nD τ sig (HIx 3)) W) ∗ levAts (K (F := F)).L (K (F := F)).lev)
      ⊢ wp frame (wpE (D (F := F)) 𝒱 (SparseCore.T d) none) Set.univ (.op (.customCall (Pipeline.entry 0) ()) fun _ => .ret ⟨⟩) Q := by
  have ep : (Dots.reg (arrays V) admits (K (F := F)).L (K (F := F)).lev (arrays_ok V)).pre d
    = iprop(Dots.wholes (arrays V) d (at' V main_v42_0) (at' V main_v42_1) ∗ ∃ W, owes (SparseCore.T d) (0 : CellTallies nD τ sig (HIx 3)) W) := rfl
  have eq : (Dots.reg (arrays V) admits (K (F := F)).L (K (F := F)).lev (arrays_ok V)).post d
    = iprop(Dots.wholes (arrays V) d ((arrays V).OI d) ((arrays V).OJ d) ∗ ∃ W, owes (SparseCore.T d) (0 : CellTallies nD τ sig (HIx 3)) W) := rfl
  have h := Pipeline.RegionSeg.wp (pcfgs (F := F)) admits (Dots.pdats (arrays V) admits) none cellOf_inj EP defs₀ 𝒱₀ (K (F := F)).L (K (F := F)).lev
    (Dots.reg (arrays V) admits (K (F := F)).L (K (F := F)).lev (arrays_ok V)) d none (fun u hu => by cases hu) (fun _ => .ret ⟨⟩) Q
  refine (?_ : _ ⊢ _).trans h
  have e : Pipeline.cellsGhost (Pipeline.pin (pcfgs (F := F)) admits) EP (0 : Fin 1) d = (BI.emp : sProp 𝕄) := by
    unfold Pipeline.cellsGhost; exact BI.bigSep_empty
  have e' : Pipeline.toksInit (Pipeline.pin (pcfgs (F := F)) admits) EP (0 : Fin 1) d = (BI.emp : sProp 𝕄) := by
    unfold Pipeline.toksInit; exact BI.bigSep_empty
  rw [e, e', ep, eq]
  iintro ⟨Hk, Hb, HA, HO, HL⟩
  isplitl [Hk]
  · iintro ⟨Hb, HA, HO⟩
    irw [wp_ret]
    imodintro
    iapply Hk
    iframe
  isplitl [Hb]; · iexact Hb
  isplitl [HA HO]
  · isplitl [HA]; · iexact HA
    iexact HO
  isplitl [HL]; · iexact HL
  isplitr <;> iempintro

theorem entry_lift : (Prog.lift (.customCall (SparseCore.inner (Pipeline.entry 0)) ()) : Prog (TpuEff nD τ sig (Elt F) (SparseCore.Sig (ΛP (F := F)) 3) .tc) PUnit)
    = SparseCore.liftProg (Prog.lift (.customCall (Pipeline.entry 0) ()) : Prog (TpuEff nD τ sig (Elt F) (ΛP (F := F)) .tc) PUnit) := rfl

theorem entry_wp' (V : Valuation τ sig (Elt F)) (d : Dev nD) (Q : PUnit → sProp 𝕄) :
    iprop((iprop(boundary (SparseCore.T d) ∗ Dots.wholes (arrays V) d ((arrays V).OI d) ((arrays V).OJ d)
          ∗ ∃ W, owes (SparseCore.T d) (0 : CellTallies nD τ sig (HIx 3)) W) -∗ Q ⟨⟩)
        ∗ boundary (SparseCore.T d) ∗ Dots.wholes (arrays V) d (at' V main_v42_0) (at' V main_v42_1)
        ∗ (∃ W, owes (SparseCore.T d) (0 : CellTallies nD τ sig (HIx 3)) W) ∗ levAts (K (F := F)).L (K (F := F)).lev)
      ⊢ wpMain d (Prog.lift (.customCall (SparseCore.inner (Pipeline.entry 0)) ())) Q := by
  have h := (K (F := F)).wp_liftProg (D (F := F)) 𝒱 (SparseCore.T d) Set.univ none (Prog.lift (.customCall (Pipeline.entry 0) ())) Q
  unfold wpMain
  rw [entry_lift]
  exact (entry_wp V d Q).trans h

theorem owes_end (d : Dev nD) : (K (F := F)).tcSt EH d 3 ⊢ (iprop((∃ W, owes (SparseCore.T d) (0 : CellTallies nD τ sig (HIx 3)) W)
    ∗ ((∃ W, owes (SparseCore.T d) (0 : CellTallies nD τ sig (HIx 3)) W) -∗ (K (F := F)).tcSt EH d 3)) : sProp 𝕄) := by
  unfold SparseCore.Cfg.tcSt
  rw [(K (F := F)).Otc_end d (le_refl 3)]
  iintro ⟨⟨%W, -, HO⟩, Hs⟩
  isplitl [HO]; · iexists W; iexact HO
  iintro ⟨%W, HO⟩
  isplitl [HO]
  · iexists W
    isplitr; · ipureintro; exact wbelow_all d W
    iexact HO
  iexact Hs

theorem region_step {Φ : PUnit → sProp 𝕄} {R : sProp 𝕄} {V : Valuation τ sig (Elt F)}
    {k : PUnit → Prog (TpuEff nD τ sig (Elt F) (SparseCore.Sig (ΛP (F := F)) 3) .tc) PUnit}
    (hk : state m X κ d 3 (dotted V d) R ⊢ wpMain d (k ⟨⟩) Φ) :
    state m X κ d 3 V R ⊢ wpMain d (Prog.lift (.customCall (SparseCore.inner (Pipeline.entry 0)) ()) >>= k) Φ := by
  unfold state at hk ⊢
  have e : (held (SparseCore.T d) All V : sProp 𝕄) = iprop(Dots.wholes (arrays V) d (at' V main_v42_0) (at' V main_v42_1) ∗ held (SparseCore.T d) (All \ Arr) V) := by
    rw [← arr_held]; exact held_sub_split _ arr_sub V
  have e' : (held (SparseCore.T d) All (dotted V d) : sProp 𝕄)
      = iprop(Dots.wholes (arrays V) d ((arrays V).OI d) ((arrays V).OJ d) ∗ held (SparseCore.T d) (All \ Arr) V) := by
    rw [← arr_dotted, rest_dotted V d]; exact held_sub_split _ arr_sub (dotted V d)
  rw [e]
  rw [e'] at hk
  unfold wpMain at hk ⊢
  rw [wp_bind]
  iintro ⟨#Hc, Hs, Hb, ⟨HA, Hr⟩, HR⟩
  ihave Hs := (owes_end d) $$ Hs
  icases Hs with ⟨HO, Hs⟩
  ihave HL := ((K (F := F)).ctx_levAts (EH := EH) (P := P m X) κ) $$ Hc
  iapply (entry_wp' V d)
  iframe
  isplitl [Hs Hr HR]
  · iintro ⟨Hb, HA, HO⟩
    ihave Hs := Hs $$ HO
    iapply hk
    iframe
    iexact Hc
  · iexact HL

end Cert.Proof.Host

end
-- ==== Proof.Carry.lean ====
/-
  What @main's steps carry: its arguments, the rows gathered, the slots; and what its end shows.
-/
module

public import proofs.«01_k».proof.Proof.Steps

@[expose] public section

noncomputable section

namespace Cert.Proof.Host

open Cert.KernelIdeal Cert.KernelIdeal.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)
open Cert.Proof.Rows

variable {F : FTy → Type} [FloatOps F]

local notation "𝕄" => MT nD τ sig (HIx 3) (Elt F) ℕ UU ℕ

variable (m : (ℓ : Loc nD τ sig) → Buf (Elt F) ℓ) (ρ : Dev nD → PrngReg)

/-! ## What the steps carry -/

/-- The table rows that @main reads, from its arguments. -/
def rowsAt : Fin 3 → Dev nD → S16384.Idx → BitVec 32
  | 0, d => rowNo (m (here d main_arg0))
  | 1, d => rowNo (m (here d main_arg1))
  | 2, d => rowNo (m (here d main_arg2))

def E0 (d : Dev nD) : Valuation τ sig (Elt F) := fun b => m (d, b)
def E1 (d : Dev nD) : Valuation τ sig (Elt F) := Function.update (E0 m d) (Proc.devRef .tc main_v6) (G0 m (rowsAt m) d)
def E2 (d : Dev nD) : Valuation τ sig (Elt F) := Function.update (E1 m d) (Proc.devRef .tc main_v13) (G1 m (rowsAt m) d)
def E3 (d : Dev nD) : Valuation τ sig (Elt F) := Function.update (E2 m d) (Proc.devRef .tc main_v20) (G2 m (rowsAt m) d)

theorem E0_at (d : Dev nD) (r : Ref sig .tc) : at' (E0 m d) r = m (here d r) := rfl
theorem E1_ne (d : Dev nD) (r : Ref sig .tc) (h : r ≠ main_v6) : at' (E1 m d) r = m (here d r) := Function.update_of_ne (dev_ne h) _ _
theorem E2_ne (d : Dev nD) (r : Ref sig .tc) (h : r ≠ main_v6) (h' : r ≠ main_v13) : at' (E2 m d) r = m (here d r) :=
  (Function.update_of_ne (dev_ne h') _ _).trans (E1_ne m d r h)
theorem E3_ne (d : Dev nD) (r : Ref sig .tc) (h : r ≠ main_v6) (h' : r ≠ main_v13) (h'' : r ≠ main_v20) : at' (E3 m d) r = m (here d r) :=
  (Function.update_of_ne (dev_ne h'') _ _).trans (E2_ne m d r h h')
theorem E3_20 (d : Dev nD) : at' (E3 m d) main_v20 = G2 m (rowsAt m) d := Function.update_self _ _ _
theorem E3_13 (d : Dev nD) : at' (E3 m d) main_v13 = G1 m (rowsAt m) d :=
  (Function.update_of_ne (dev_ne (by decide)) _ _).trans (Function.update_self _ _ _)
theorem E3_6 (d : Dev nD) : at' (E3 m d) main_v6 = G0 m (rowsAt m) d :=
  (Function.update_of_ne (dev_ne (by decide)) _ _).trans ((Function.update_of_ne (dev_ne (by decide)) _ _).trans (Function.update_self _ _ _))

/-! ## The lines -/

theorem kept0 {V E : Valuation τ sig (Elt F)} (h : Same V E) : Same (after ops0 V) E := left_kept _ (row_writes ..) (by decide +kernel) h
theorem kept1 {V E : Valuation τ sig (Elt F)} (h : Same V E) : Same (after ops1 V) E := left_kept _ (row_writes ..) (by decide +kernel) h
theorem kept2 {V E : Valuation τ sig (Elt F)} (h : Same V E) : Same (after ops2 V) E := left_kept _ (row_writes ..) (by decide +kernel) h
theorem keptU {V E : Valuation τ sig (Elt F)} (h : Same V E) : Same (after opsU V) E := left_kept _ (slot_writes ..) (by decide +kernel) h
theorem keptI {V E : Valuation τ sig (Elt F)} (h : Same V E) : Same (after opsI V) E := left_kept _ (slot_writes ..) (by decide +kernel) h
theorem keptJ {V E : Valuation τ sig (Elt F)} (h : Same V E) : Same (after opsJ V) E := left_kept _ (slot_writes ..) (by decide +kernel) h

/-- The gathered rows and the slots that the dots' call reads. -/
structure Ready (d : Dev nD) (V : Valuation τ sig (Elt F)) : Prop where
  same : Same V (E3 m d)
  u : at' V main_v27 = slotNo (m (here d main_arg0))
  i : at' V main_v34 = slotNo (m (here d main_arg1))
  j : at' V main_v41 = slotNo (m (here d main_arg2))

theorem same_arg {d : Dev nD} {V : Valuation τ sig (Elt F)} (h : Same V (E3 m d)) (r : Ref sig .tc) (hr : r ∈ kept) (h6 : r ≠ main_v6) (h13 : r ≠ main_v13) (h20 : r ≠ main_v20) :
    at' V r = m (here d r) := (h r hr).trans (E3_ne m d r h6 h13 h20)

theorem ready {d : Dev nD} {V : Valuation τ sig (Elt F)} (h : Same V (E3 m d)) : Ready m d (after ops3 V) := by
  have e : after ops3 V = after opsJ (after opsI (after opsU V)) := by unfold ops3; rw [after_append, after_append]
  have hU := keptU h
  have hI := keptI hU
  rw [e]
  refine ⟨keptJ hI, ?_, ?_, ?_⟩
  · refine (left _ (slot_writes ..) main_v27 (by decide +kernel) _).trans ((left _ (slot_writes ..) main_v27 (by decide +kernel) _).trans ((valU V).trans (congrArg slotNo ?_)))
    exact same_arg m h main_arg0 (by decide) (by decide) (by decide) (by decide)
  · refine (left _ (slot_writes ..) main_v34 (by decide +kernel) _).trans ((valI (after opsU V)).trans (congrArg slotNo ?_))
    exact same_arg m hU main_arg1 (by decide) (by decide) (by decide) (by decide)
  · refine (valJ (after opsI (after opsU V))).trans (congrArg slotNo ?_)
    exact same_arg m hI main_arg2 (by decide) (by decide) (by decide) (by decide)

/-- The results. -/
def outI (d : Dev nD) : S16384.Idx → Elt F .f32 :=
  shapeCast S16384 (laid (Dots.dI d (G0 m (rowsAt m) d) (G1 m (rowsAt m) d) (slotNo (m (here d main_arg0))) (slotNo (m (here d main_arg1))))) shapeCasts_S1x16384_S16384
def outJ (d : Dev nD) : S16384.Idx → Elt F .f32 :=
  shapeCast S16384 (laid (Dots.dJ d (G0 m (rowsAt m) d) (G2 m (rowsAt m) d) (slotNo (m (here d main_arg0))) (slotNo (m (here d main_arg2))))) shapeCasts_S1x16384_S16384

theorem end_I (V : Valuation τ sig (Elt F)) : at' (after opsEnd V) main_v43 = shapeCast S16384 (at' V main_v42_0) shapeCasts_S1x16384_S16384 := by
  unfold at' opsEnd
  simp only [after_cons, after_nil]
  rw [reshape_result_ne' _ _ _ _ _ (by decide), reshape_result']
  rfl
theorem end_J (V : Valuation τ sig (Elt F)) : at' (after opsEnd V) main_v44 = shapeCast S16384 (at' V main_v42_1) shapeCasts_S1x16384_S16384 := by
  unfold at' opsEnd
  simp only [after_cons, after_nil]
  rw [reshape_result', reshape_result_ne' _ _ _ _ _ (by decide)]
  rfl

theorem end_writes : (opsEnd (F := F)).map HloOp.writes = [main_v43, main_v44].map fun r => {Proc.devRef .tc r} := rfl

/-- What @main's end shows. -/
structure Ended (d : Dev nD) (V : Valuation τ sig (Elt F)) : Prop where
  args : ∀ r ∈ [main_arg0, main_arg1, main_arg2, main_arg3, main_arg4, main_arg5], at' V r = m (here d r)
  i : at' V main_v43 = outI m d
  j : at' V main_v44 = outJ m d

theorem ended {d : Dev nD} {V : Valuation τ sig (Elt F)} (h : Ready m d V) : Ended m d (after opsEnd (dotted V d)) := by
  refine ⟨fun r hr => ?_, ?_, ?_⟩
  · have hk : r ∈ kept ∧ r ≠ main_v6 ∧ r ≠ main_v13 ∧ r ≠ main_v20 ∧ r ≠ main_v42_0 ∧ r ≠ main_v42_1 ∧ r ∉ [main_v43, main_v44] := by
      revert hr; revert r; decide +kernel
    obtain ⟨hk, h6, h13, h20, h0, h1, hw⟩ := hk
    exact (left _ end_writes r hw _).trans ((dotted_of_ne V d r h0 h1).trans (same_arg m h.same r hk h6 h13 h20))
  · rw [end_I, dotted_I]
    unfold arrays outI
    dsimp only
    rw [h.u, h.i, (h.same main_v6 (by decide)).trans (E3_6 m d), (h.same main_v13 (by decide)).trans (E3_13 m d)]
  · rw [end_J, dotted_J]
    unfold arrays outJ
    dsimp only
    rw [h.u, h.j, (h.same main_v6 (by decide)).trans (E3_6 m d), (h.same main_v20 (by decide)).trans (E3_20 m d)]

end Cert.Proof.Host

end
-- ==== Proof.Main.lean ====
/-
  @main's run, and the program's: the arguments kept, the results at the dot products of the rows gathered, every semaphore
  at zero.
-/
module

public import proofs.«01_k».proof.Proof.Carry

@[expose] public section

noncomputable section

namespace Cert.Proof.Host

open Cert.KernelIdeal Cert.KernelIdeal.Gen
open Idealize.ShloMosaic Idealize.ShloMosaic.StableHlo
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dots (UH UU 𝒱₀)
open Cert.Proof.Rows

variable {F : FTy → Type} [FloatOps F]

local notation "𝕄" => MT nD τ sig (HIx 3) (Elt F) ℕ UU ℕ

variable (m : (ℓ : Loc nD τ sig) → Buf (Elt F) ℓ) (ρ : Dev nD → PrngReg)

/-! ## @main -/

/-- A line, under a name of its own. -/
theorem line_named {Φ : PUnit → sProp 𝕄} {R : sProp 𝕄} {κ : GSem nD τ sig → ℕ} {d : Dev nD} {X : Fin 3 → Dev nD → S16384.Idx → BitVec 32} {n : ℕ} {ops : List (Op F)}
    {p : Prog (TpuEff nD τ sig (Elt F) (SparseCore.Sig (ΛP (F := F)) 3) .tc) PUnit} (hp : seq ops = p) (h : Runs ops) {V : Valuation τ sig (Elt F)}
    {k : PUnit → Prog (TpuEff nD τ sig (Elt F) (SparseCore.Sig (ΛP (F := F)) 3) .tc) PUnit}
    (hk : state m X κ d n (after ops V) R ⊢ wpMain d (k ⟨⟩) Φ) : state m X κ d n V R ⊢ wpMain d (p >>= k) Φ := by
  subst hp; exact line_step h hk

theorem main_step {Φ : PUnit → sProp 𝕄} {R : sProp 𝕄} (κ : GSem nD τ sig → ℕ) (d : Dev nD)
    (hΦ : ∀ V, Ended m d V → state m (rowsAt m) κ d 3 V R ⊢ wpMain d (pure ⟨⟩) Φ) :
    state m (rowsAt m) κ d 0 (E0 m d) R ⊢ wpMain d (main d) Φ := by
  have s0 : Same (after ops0 (E0 m d)) (E0 m d) := kept0 fun _ _ => rfl
  rw [main_eq]
  generalize hc0 : seq (Val := Elt F) ops0 = c0
  generalize hc1 : seq (Val := Elt F) ops1 = c1
  generalize hc2 : seq (Val := Elt F) ops2 = c2
  generalize hc3 : seq (Val := Elt F) ops3 = c3
  generalize hcE : seq (Val := Elt F) opsEnd = cE
  refine line_named m hc0 runs0 ?_
  refine call_step 0 main_v6 main_v5 main_arg4 (by decide) (by decide) (by decide) (by decide) (by decide) (by decide) (rowsAt m 0 d) (m (here d main_arg4)) (m (here d main_v6))
    (G0 m (rowsAt m) d) (st0 m (rowsAt m) d) (dn0 m (rowsAt m) d) (val0 (E0 m d)) (s0 main_arg4 (by decide)) (s0 main_v6 (by decide)) ?_
  have s1 : Same (Function.update (after ops0 (E0 m d)) (Proc.devRef .tc main_v6) (G0 m (rowsAt m) d)) (E1 m d) := s0.update main_v6 _
  generalize Function.update (after ops0 (E0 m d)) (Proc.devRef .tc main_v6) (G0 m (rowsAt m) d) = V1 at s1 ⊢
  have s1' : Same (after ops1 V1) (E1 m d) := kept1 s1
  refine line_named m hc1 runs1 ?_
  refine call_step 1 main_v13 main_v12 main_arg5 (by decide) (by decide) (by decide) (by decide) (by decide) (by decide) (rowsAt m 1 d) (m (here d main_arg5)) (m (here d main_v13))
    (G1 m (rowsAt m) d) (st1 m (rowsAt m) d) (dn1 m (rowsAt m) d) ((val1 V1).trans (congrArg rowNo ((s1 main_arg1 (by decide)).trans (E1_ne m d _ (by decide)))))
    ((s1' main_arg5 (by decide)).trans (E1_ne m d _ (by decide))) ((s1' main_v13 (by decide)).trans (E1_ne m d _ (by decide))) ?_
  have s2 : Same (Function.update (after ops1 V1) (Proc.devRef .tc main_v13) (G1 m (rowsAt m) d)) (E2 m d) := s1'.update main_v13 _
  generalize Function.update (after ops1 V1) (Proc.devRef .tc main_v13) (G1 m (rowsAt m) d) = V2 at s2 ⊢
  have s2' : Same (after ops2 V2) (E2 m d) := kept2 s2
  refine line_named m hc2 runs2 ?_
  refine call_step 2 main_v20 main_v19 main_arg5 (by decide) (by decide) (by decide) (by decide) (by decide) (by decide) (rowsAt m 2 d) (m (here d main_arg5)) (m (here d main_v20))
    (G2 m (rowsAt m) d) (st2 m (rowsAt m) d) (dn2 m (rowsAt m) d) ((val2 V2).trans (congrArg rowNo ((s2 main_arg2 (by decide)).trans (E2_ne m d _ (by decide) (by decide)))))
    ((s2' main_arg5 (by decide)).trans (E2_ne m d _ (by decide) (by decide))) ((s2' main_v20 (by decide)).trans (E2_ne m d _ (by decide) (by decide))) ?_
  have s3 : Same (Function.update (after ops2 V2) (Proc.devRef .tc main_v20) (G2 m (rowsAt m) d)) (E3 m d) := s2'.update main_v20 _
  generalize Function.update (after ops2 V2) (Proc.devRef .tc main_v20) (G2 m (rowsAt m) d) = V3 at s3 ⊢
  refine line_named m hc3 runs3 ?_
  refine region_step ?_
  refine line_named m hcE runsEnd ?_
  exact hΦ _ (ended m (ready m s3))

/-- @main's end: the core's buffers, with the arguments and the results. -/
def FIN (d : Dev nD) : sProp 𝕄 := iprop(∃ V, ⌜Ended m d V⌝ ∗ held (SparseCore.T d) All V)

theorem hmain (κ : GSem nD τ sig → ℕ) (d : Dev nD) :
    iprop((K (F := F)).ctx EH (P m (rowsAt m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  refine (?_ : _ ⊢ _).trans (main_step m (R := (K (F := F)).tcSems0 d) κ d ?_)
  · unfold state SparseCore.Cfg.tcRes
    iintro ⟨Hc, Hs, ⟨Hb, Hu, Ht, -⟩, -⟩
    have hu : (unscopedBufs d (fun b => m ((SparseCore.T d).loc b)) : sProp 𝕄) = held (SparseCore.T d) All (E0 m d) := Pipeline.unscopedBufs_held d (E0 m d)
    ihave Hu := (Entails.of_eq hu) $$ Hu
    iframe
  · intro V hV
    unfold state wpMain FIN SparseCore.Cfg.tcEnd
    rw [wp_pure]
    iintro ⟨-, Hs, Hb, Hh, Ht⟩
    imodintro
    isplitl [Hs]; · iexact Hs
    isplitl [Hh]
    · iexists V
      isplitr; · ipureintro; exact hV
      iexact Hh
    iframe

/-! ## The program's run -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P m (rowsAt m)).x q thr) := by
  unfold u₀
  iintro Hu
  ihave H := (ownU_pair (initOf (K (F := F)).hsCells (K (F := F)).hsToks) (1 : UR sig nD τ × Counters)) $$ Hu
  icases H with ⟨HH, -⟩
  imodintro
  isplitl [HH]; · iexact HH
  isplitr; · rw [emps]; iempintro
  rw [show (bigSep Finset.univ fun thr : Thread nD τ => bigSep Finset.univ fun q : Fin 3 => (P (F := F) m (rowsAt m)).x q thr) = bigSep Finset.univ fun _ => iprop(emp) from
    bigSep_congr fun _ _ => emps _, emps]
  iempintro

def fq (d : Dev nD) (s' : Phys nD τ sig (Elt F)) : Prop :=
  (∀ r ∈ [main_arg0, main_arg1, main_arg2, main_arg3, main_arg4, main_arg5], s'.mem.mem (here d r) = m (here d r))
    ∧ s'.mem.mem (here d main_v43) = outI m d ∧ s'.mem.mem (here d main_v44) = outJ m d

theorem read_held (d : Dev nD) (s' : Phys nD τ sig (Elt F)) (V : Valuation τ sig (Elt F)) (r : Ref sig .tc) (hr : r.isScoped = false) :
    iprop(held (SparseCore.T d) All V ∗ SI s') ⊢ (⌜s'.mem.mem (here d r) = at' V r⌝ : sProp 𝕄) := by
  rw [take d r (mem_all hr) V]
  iintro ⟨⟨Hr, -⟩, HSI⟩
  ihave H := (SI_pointsTo_agree (st := s') (ℓ := here d r) (I := Finset.univ) (q := fullShare) (f := at' V r)) $$ [HSI Hr]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  have h : ∀ V, iprop(held (SparseCore.T d) All V ∗ SI s') ⊢ (⌜∀ r : {r : Ref sig .tc // r.isScoped = false}, s'.mem.mem (here d r.1) = at' V r.1⌝ : sProp 𝕄) := fun V =>
    (Laws.forall_intro fun r : {r : Ref sig .tc // r.isScoped = false} => read_held d s' V r.1 r.2).trans Laws.pure_forall.2
  unfold FIN
  iintro ⟨⟨%V, %hV, Hh⟩, HSI⟩
  ihave H := (h V) $$ [Hh HSI]
  · isplitl [Hh] <;> iassumption
  icases H with %h
  ipureintro
  refine ⟨fun r hr => ?_, (h ⟨main_v43, by decide⟩).trans hV.i, (h ⟨main_v44, by decide⟩).trans hV.j⟩
  exact (h ⟨r, by revert hr; revert r; decide +kernel⟩).trans (hV.args r hr)

def QC : PUnit × MemSt nD τ sig (Elt F) → Prop := fun r =>
  (∀ d : Dev nD, (∀ b ∈ [main_arg0, main_arg1, main_arg2, main_arg3, main_arg4, main_arg5], r.2.mem (here d b) = m (here d b))
    ∧ r.2.mem (here d main_v43) = outI m d ∧ r.2.mem (here d main_v44) = outJ m d) ∧ r.2.sem = fun _ => 0

theorem run_main [∀ e, Nonempty (Elt F e)] (hX : InRows (rowsAt m)) :
    θ_run (defs (F := F)) (threads (F := F)) ⟨m, fun _ => 0, ρ⟩ (QC m) :=
  SparseCore.Cfg.θ_run_sc_quiescent (K := K (F := F)) (D := D (F := F)) (𝒱 := 𝒱) (EH := EH) (P := P m (rowsAt m)) (A := ∅) facts v₀
    (fun q hq => match q with | 0 => nomatch hq | 1 => nomatch hq | 2 => nomatch hq)
    (fun q _ => tileObl m (rowsAt m) hX q)
    (fun q _ => SparseCore.Cfg.VecSplit.of_plain (vecSplit m (rowsAt m) q))
    m ρ main (fun _ => iprop(emp)) (FIN m) (u₀ (F := F)) (sep_elim_left.trans (hu₀ m)) (hmain m ρ) (fq m) (hfin m) (QC m) (fun _ h hz => ⟨h, hz⟩)

end Cert.Proof.Host

end
-- ==== Proof.Index.lean ====
/-
  The index arithmetic of the host lines on rows below the table's height, and what the precondition says of the index
  arguments.
-/
module

public import proofs.«01_k».proof.Proof.Carry
public import proofs.«01_k».proof.Proof.Gen.Pre_in_range
public import Idealize.ShloMosaic.Lib.ReduceAll
public import Idealize.ShloMosaic.Lib.WordCmp
public import Idealize.ShloMosaic.Lib.Affine
public import Idealize.ShloMosaic.Lib.Routing.Words

@[expose] public section

noncomputable section

namespace Cert.Proof.Host

open Cert.KernelIdeal Cert.KernelIdeal.Gen
open Idealize.ShloMosaic Idealize.ShloMosaic.StableHlo
open Idealize.SL Idealize.SL.Sem
open Cert.Proof.Rows
open WordCmp

variable {F : FTy → Type} [FloatOps F]

/-! ## Division and remainder -/

theorem nat_divsi {v : BitVec 32} (hv : v.toNat < 2 ^ 31) {k : ℕ} (h0 : 0 < k) (hk : k < 2 ^ 31) :
    IntOp.divsi .host v (BitVec.ofNat 32 k) = BitVec.ofNat 32 (v.toNat / k) := by
  have h := Routing.divsi_word .host hv h0 hk
  rwa [BitVec.ofNat_toNat, BitVec.setWidth_eq] at h

theorem nat_remsi {v : BitVec 32} (hv : v.toNat < 2 ^ 31) {k : ℕ} (h0 : 0 < k) (hk : k < 2 ^ 31) :
    IntOp.remsi .host v (BitVec.ofNat 32 k) = BitVec.ofNat 32 (v.toNat % k) := by
  have h := Routing.remsi_word .host hv h0 hk
  rwa [BitVec.ofNat_toNat, BitVec.setWidth_eq] at h

theorem word_ne_zero {k : ℕ} (h0 : 0 < k) (hk : k < 2 ^ 31) : ¬ BitVec.ofNat 32 k = 0 := by
  intro h; have := congrArg BitVec.toNat h; rw [BitVec.toNat_ofNat, show (0 : BitVec 32).toNat = 0 from rfl] at this; omega

theorem word_msb {k : ℕ} (hk : k < 2 ^ 31) : (BitVec.ofNat 32 k).msb = false := by
  rw [BitVec.msb_eq_false_iff_two_mul_lt, BitVec.toNat_ofNat]; omega

theorem cmpi_ne_self {w : ℕ} (x : BitVec w) : IntOp.cmpi .ne x x = 0#1 := by simp [IntOp.cmpi]
theorem andi_zero_left (x : BitVec 1) : IntOp.andi 0#1 x = 0#1 := by revert x; decide
theorem andi_zero_right (x : BitVec 1) : IntOp.andi x 0#1 = 0#1 := by revert x; decide

/-- A nonnegative word divided by a positive one: the floor's correction does not apply. -/
theorem fdiv_at (x : I) {k : ℕ} (h0 : 0 < k) (hk : k < 2 ^ 31) (j : S16384.Idx) (hx : (x j).toNat < 2 ^ 31) :
    fdiv x (constantI S_ 32 (BitVec.ofNat 32 k)) j = BitVec.ofNat 32 ((x j).toNat / k) := by
  show Scalar.select (IntOp.andi
      (IntOp.cmpi .ne (if x j = 0 then 0 else if (x j).msb then -1 else 1)
        (if BitVec.ofNat 32 k = 0 then 0 else if (BitVec.ofNat 32 k).msb then -1 else 1 : BitVec 32))
      (IntOp.cmpi .ne (IntOp.remsi .host (x j) (BitVec.ofNat 32 k)) 0#32))
    (IntOp.subi (IntOp.divsi .host (x j) (BitVec.ofNat 32 k)) 1#32) (IntOp.divsi .host (x j) (BitVec.ofNat 32 k)) = _
  rw [nat_divsi hx h0 hk, nat_remsi hx h0 hk, if_neg (word_ne_zero h0 hk), word_msb hk]
  have hm : (x j).msb = false := by rw [BitVec.msb_eq_false_iff_two_mul_lt]; omega
  rw [hm]
  by_cases hz : x j = 0
  · have hz' : (x j).toNat = 0 := by rw [hz]; rfl
    rw [hz', Nat.zero_mod]
    rw [cmpi_ne_self, andi_zero_right]; rfl
  · rw [if_neg hz, show (if false = true then (-1 : BitVec 32) else 1) = 1 from rfl, cmpi_ne_self, andi_zero_left]; rfl

/-- Its remainder: likewise. -/
theorem frem_at (x : I) {k : ℕ} (h0 : 0 < k) (hk : k < 2 ^ 31) (j : S16384.Idx) (hx : (x j).toNat < 2 ^ 31) :
    frem x (constantI S_ 32 (BitVec.ofNat 32 k)) j = BitVec.ofNat 32 ((x j).toNat % k) := by
  have e : (select (cmpi .eq (constantI S_ 32 (BitVec.ofNat 32 k)) (constantI S_ 32 0#32)) (constantI S_ 32 1#32)
      (constantI S_ 32 (BitVec.ofNat 32 k)) : I₀) = constantI S_ 32 (BitVec.ofNat 32 k) := by
    funext i
    show Scalar.select (IntOp.cmpi .eq (BitVec.ofNat 32 k) 0#32) 1#32 (BitVec.ofNat 32 k) = BitVec.ofNat 32 k
    rw [show IntOp.cmpi .eq (BitVec.ofNat 32 k) 0#32 = 0#1 from congrArg BitVec.ofBool (beq_eq_false_iff_ne.mpr (word_ne_zero h0 hk))]
    rfl
  unfold frem
  rw [e]
  have hr : (x j).toNat % k < 2 ^ 31 := lt_of_le_of_lt (Nat.mod_le _ _) hx
  have hs : ∀ a : ℕ, a < 2 ^ 31 → IntOp.cmpi .slt (BitVec.ofNat 32 a) 0#32 = 0#1 := fun a ha => by
    rw [cmpi_slt_zero, decide_eq_false (by rw [BitVec.toNat_ofNat]; omega)]; rfl
  show Scalar.select (IntOp.andi
      (IntOp.cmpi .ne (IntOp.cmpi .slt (IntOp.remsi .host (x j) (BitVec.ofNat 32 k)) 0#32) (IntOp.cmpi .slt (BitVec.ofNat 32 k) 0#32))
      (IntOp.cmpi .ne (IntOp.remsi .host (x j) (BitVec.ofNat 32 k)) 0#32))
    (IntOp.addi (IntOp.remsi .host (x j) (BitVec.ofNat 32 k)) (BitVec.ofNat 32 k)) (IntOp.remsi .host (x j) (BitVec.ofNat 32 k)) = _
  rw [nat_remsi hx h0 hk, hs _ hr, hs _ hk, cmpi_ne_self, andi_zero_left]; rfl

/-! ## The packed row and the slot in it -/

theorem rowNo_at (x : I) (j : S16384.Idx) (hx : (x j).toNat < 1000000) :
    (rowNo x j).toNat = ((x j).toNat / 32768 * 16384 + (x j).toNat % 16384) / 2 := by
  have e : addi (muli (fdiv x (constantI S_ 32 32768#32)) (spread (constantI S_ 32 16384#32))) (frem x (constantI S_ 32 16384#32)) j
      = BitVec.ofNat 32 ((x j).toNat / 32768 * 16384 + (x j).toNat % 16384) := by
    show fdiv x (constantI S_ 32 (BitVec.ofNat 32 32768)) j * BitVec.ofNat 32 16384 + frem x (constantI S_ 32 (BitVec.ofNat 32 16384)) j = _
    rw [fdiv_at x (by omega) (by omega) j (by omega), frem_at x (by omega) (by omega) j (by omega)]
    apply BitVec.eq_of_toNat_eq
    simp only [BitVec.toNat_add, BitVec.toNat_mul, BitVec.toNat_ofNat]
    omega
  have e' := congrArg BitVec.toNat e
  rw [BitVec.toNat_ofNat, Nat.mod_eq_of_lt (by omega)] at e'
  unfold rowNo
  rw [fdiv_at _ (k := 2) (by omega) (by omega) j (by omega), e', BitVec.toNat_ofNat, Nat.mod_eq_of_lt (by omega)]

theorem slotNo_at (x : I) (i : S1x16384.Idx) (j : S16384.Idx) (hj : (j 0).val = (i 1).val) (hx : (x j).toNat < 1000000) :
    slotNo x i = BitVec.ofNat 32 (2 * ((x j).toNat % 2) + (x j).toNat / 16384 % 2) := by
  unfold slotNo
  rw [broadcastInDim_apply _ bcast_S16384_S1x16384_1 _ i j (fun a => by
    obtain rfl : a = 0 := Subsingleton.elim _ _
    exact hj)]
  have e := fdiv_at x (k := 16384) (by omega) (by omega) j (by omega)
  have e' := congrArg BitVec.toNat e
  rw [BitVec.toNat_ofNat, Nat.mod_eq_of_lt (by omega)] at e'
  show BitVec.ofNat 32 2 * frem x (constantI S_ 32 (BitVec.ofNat 32 2)) j + frem (fdiv x (constantI S_ 32 16384#32)) (constantI S_ 32 (BitVec.ofNat 32 2)) j = _
  rw [frem_at x (by omega) (by omega) j (by omega), frem_at _ (by omega) (by omega) j (by omega), e']
  apply BitVec.eq_of_toNat_eq
  simp only [BitVec.toNat_add, BitVec.toNat_mul, BitVec.toNat_ofNat]
  omega

/-! ## The precondition -/

/-- Every index of the array is a row of the table. -/
def Small (x : S16384.Idx → BitVec 32) : Prop := ∀ j, (x j).toNat < 1000000

theorem small_of (x : S16384.Idx → BitVec 32) (i : S_.Idx)
    (h : Host.reduce IntOp.andi (andi (cmpi .sge x (spread (constantI S_ 32 0#32))) (cmpi .slt x (spread (constantI S_ 32 1000000#32))))
      (constantI S_ 1 1#1) Cert.Pre_in_range.Facts.reducesTo_S16384_S_d0 Cert.Pre_in_range.Facts.h_S_ i = 1#1) : Small x := fun j => by
  haveI : Subsingleton S_.Idx := ⟨fun a b => funext fun k => k.elim0⟩
  have e := Host.reduce_andi_all _ _ _ _ i h j
  have e' : IntOp.andi (IntOp.cmpi .sge (x j) 0#32) (IntOp.cmpi .slt (x j) (BitVec.ofNat 32 1000000)) = 1#1 := e
  rw [andi_sge_zero_slt_ofNat (by decide)] at e'
  by_contra hc
  rw [decide_eq_false hc] at e'
  exact absurd e' (by decide)

theorem small_of_pre (x y z : S16384.Idx → BitVec 32) (u : S16384.Idx → F .f32) (s t : S253952x128.Idx → BitVec 32)
    (h : Cert.Pre_in_range.fn (F := F) x y z u s t = fun _ => 1#1) : Small x ∧ Small y ∧ Small z := by
  have i : S_.Idx := fun k => k.elim0
  have e := congrFun h i
  have e₁ := IntOp.andi_eq_one.mp e
  have e₂ := IntOp.andi_eq_one.mp e₁.1
  exact ⟨small_of x i e₂.1, small_of y i e₂.2, small_of z i e₁.2⟩

theorem rows_in (m : (ℓ : Loc nD τ sig) → Buf (Elt F) ℓ)
    (h : ∀ d, Small (m (here d main_arg0)) ∧ Small (m (here d main_arg1)) ∧ Small (m (here d main_arg2))) : InRows (rowsAt m) := fun q d j => by
  have key : ∀ x : I, Small x → (rowNo x j).toNat < nRows := fun x hx => by
    have := hx j
    rw [rowNo_at x j (hx j), nRows_eq]; omega
  match q with
  | 0 => exact key _ (h d).1
  | 1 => exact key _ (h d).2.1
  | 2 => exact key _ (h d).2.2

end Cert.Proof.Host
-- ==== Proof.Value.lean ====
/-
  What @main's results hold, entry by entry, from the packed tables.
-/
module

public import proofs.«01_k».proof.Proof.Index
public import Idealize.ShloMosaic.Lib.IdealHost
public import Idealize.ShloMosaic.Lib.ValueIdxCore
public import Idealize.ShloMosaic.PureOps.Ideal.Laws

@[expose] public section

noncomputable section

namespace Cert.Proof.Host

open Cert.KernelIdeal Cert.KernelIdeal.Gen
open Idealize.ShloMosaic Idealize.ShloMosaic.StableHlo
open Idealize.SL Idealize.SL.Sem
open Cert.Proof.Rows
open ValueIdx (contrEquiv1 contrEquiv1_symm_val)

/-! ## A packed table's entries -/

/-- One sixteen-bit half of a word, as the bits of a number: the high one or the low one. -/
def halfWord (p : ℕ) (v : BitVec 32) : BitVec 32 := if p = 1 then IntOp.andi v 4294901760#32 else IntOp.shli .host v 16#32

/-- Entry `k` of row `x` of the table that `tab` packs. -/
def cell {F : FTy → Type} [FloatOps F] (tab : S253952x128.Idx → BitVec 32) (x : ℕ) (k : Fin 64) : F .f32 :=
  FloatOps.ofBits .f32 (halfWord (x % 2) (tab (fun
    | 0 => Fin.ofNat 253952 ((x / 32768 * 16384 + x % 16384) / 2)
    | 1 => ⟨64 * (x / 16384 % 2) + k.val, by show _ < 128; omega⟩)))

section Blocks
variable {F : FTy → Type} [FloatOps F]

/-- The scalar the kernel takes a word's parity to be. -/
def parity (w : BitVec 32) : BitVec 1 :=
  IntOp.cmpi .eq (Scalar.select (IntOp.andi
      (IntOp.xori (IntOp.cmpi .slt (IntOp.remsi .vector w (Scalar.select (Scalar.cmpi .eq 2#32 0#32) 1#32 2#32)) 0#32)
        (Scalar.cmpi .slt (Scalar.select (Scalar.cmpi .eq 2#32 0#32) 1#32 2#32) 0#32))
      (IntOp.cmpi .ne (IntOp.remsi .vector w (Scalar.select (Scalar.cmpi .eq 2#32 0#32) 1#32 2#32)) 0#32))
    (IntOp.addi (IntOp.remsi .vector w (Scalar.select (Scalar.cmpi .eq 2#32 0#32) 1#32 2#32)) (Scalar.select (Scalar.cmpi .eq 2#32 0#32) 1#32 2#32))
    (IntOp.remsi .vector w (Scalar.select (Scalar.cmpi .eq 2#32 0#32) 1#32 2#32))) 1#32

theorem parity_slot : ∀ p s : Fin 2, parity (BitVec.ofNat 32 (2 * p.val + s.val)) = BitVec.ofNat 1 s.val := by decide
theorem high_slot : ∀ p s : Fin 2, IntOp.cmpi .sge (BitVec.ofNat 32 (2 * p.val + s.val)) 2#32 = BitVec.ofNat 1 p.val := by decide

/-- The shift's word is the same on either unit. -/
theorem shl_word (v : BitVec 32) : IntOp.shli .vector v 16#32 = IntOp.shli .host v 16#32 := by
  unfold IntOp.shli
  rw [if_pos (by decide), if_pos (by decide)]

/-- A block's value at an entry: the row's word at the slot's side, its half by the slot's second bit. -/
theorem vals_at (R : IVec S2048x128 32) (W : IVec S1x2048 32) (i : S2048x64.Idx) (p s : Fin 2)
    (hw : W (fun | 0 => ⟨0, Nat.one_pos⟩ | 1 => ⟨(i 0).val, (i 0).isLt⟩) = BitVec.ofNat 32 (2 * p.val + s.val)) :
    Dots.vals (F := F) R W i = FloatOps.ofBits .f32 (halfWord p.val (R (fun
      | 0 => ⟨(i 0).val, (i 0).isLt⟩
      | 1 => ⟨64 * s.val + (i 1).val, by have h : (i 1).val < 64 := (i 1).isLt; show _ < 128; omega⟩))) := by
  have h0 : (i 0).val < 2048 := (i 0).isLt
  have h1 : (i 1).val < 64 := (i 1).isLt
  let q : S2048x1.Idx := fun | 0 => ⟨(i 0).val, (i 0).isLt⟩ | 1 => ⟨0, Nat.one_pos⟩
  have hwq : shapeCast S2048x1 (shapeCast S2048 W shapeCasts_S1x2048_S2048) shapeCasts_S2048_S2048x1 q = BitVec.ofNat 32 (2 * p.val + s.val) := by
    rw [shapeCast_apply _ shapeCasts_S2048_S2048x1 q (fun | 0 => ⟨(i 0).val, (i 0).isLt⟩)
      (by rw [Shape.rowMajor_val_one, Shape.rowMajor_val_two]; show (i 0).val = (i 0).val * 1 + 0; omega)]
    rw [shapeCast_apply W shapeCasts_S1x2048_S2048 _ (fun | 0 => ⟨0, Nat.one_pos⟩ | 1 => ⟨(i 0).val, (i 0).isLt⟩)
      (by rw [Shape.rowMajor_val_one, Shape.rowMajor_val_two]; show 0 * 2048 + (i 0).val = (i 0).val; omega)]
    exact hw
  have hb : ∀ x : IVec S2048x1 1, broadcastTo S2048x64 (shapeCast S2048x1 x shapeCasts_S2048x1_S2048x1) broadcasts_S2048x1_S2048x64 i = x q := fun x => by
    rw [broadcastTo_apply _ broadcasts_S2048x1_S2048x64 i q (fun a => match a with
      | ⟨0, _⟩ => by show (i 0).val = if (2048 : ℕ) = 1 then 0 else (i 0).val; rw [if_neg (by decide)]
      | ⟨1, _⟩ => by show 0 = if (1 : ℕ) = 1 then 0 else (i 1).val; rw [if_pos rfl])]
    exact shapeCast_apply x _ q q rfl
  have hl : extractStridedSlice S2048x64 ![0, 0] R slices_S2048x128_o0_0_S2048x64 i
      = R (fun | 0 => ⟨(i 0).val, (i 0).isLt⟩ | 1 => ⟨(i 1).val, by show _ < 128; omega⟩) :=
    extractStridedSlice_apply _ _ _ _ _ (fun a => match a with
      | ⟨0, _⟩ => (Nat.zero_add _).symm
      | ⟨1, _⟩ => (Nat.zero_add _).symm)
  have hr : extractStridedSlice S2048x64 ![0, 64] R slices_S2048x128_o0_64_S2048x64 i
      = R (fun | 0 => ⟨(i 0).val, (i 0).isLt⟩ | 1 => ⟨64 + (i 1).val, by show _ < 128; omega⟩) :=
    extractStridedSlice_apply _ _ _ _ _ (fun a => match a with
      | ⟨0, _⟩ => (Nat.zero_add _).symm
      | ⟨1, _⟩ => rfl)
  unfold Dots.vals
  show Scalar.select (broadcastTo S2048x64 (shapeCast S2048x1 _ shapeCasts_S2048x1_S2048x1) broadcasts_S2048x1_S2048x64 i)
    (FloatOps.ofBits .f32 (IntOp.andi (Scalar.select (broadcastTo S2048x64 (shapeCast S2048x1 _ shapeCasts_S2048x1_S2048x1) broadcasts_S2048x1_S2048x64 i)
      (extractStridedSlice S2048x64 ![0, 64] R slices_S2048x128_o0_64_S2048x64 i) (extractStridedSlice S2048x64 ![0, 0] R slices_S2048x128_o0_0_S2048x64 i)) 4294901760#32))
    (FloatOps.ofBits .f32 (IntOp.shli .vector (Scalar.select (broadcastTo S2048x64 (shapeCast S2048x1 _ shapeCasts_S2048x1_S2048x1) broadcasts_S2048x1_S2048x64 i)
      (extractStridedSlice S2048x64 ![0, 64] R slices_S2048x128_o0_64_S2048x64 i) (extractStridedSlice S2048x64 ![0, 0] R slices_S2048x128_o0_0_S2048x64 i)) 16#32)) = _
  rw [hb, hb, hl, hr, shl_word]
  show Scalar.select (IntOp.cmpi .sge (shapeCast S2048x1 (shapeCast S2048 W shapeCasts_S1x2048_S2048) shapeCasts_S2048_S2048x1 q) 2#32)
    (FloatOps.ofBits .f32 (IntOp.andi (Scalar.select (parity (shapeCast S2048x1 (shapeCast S2048 W shapeCasts_S1x2048_S2048) shapeCasts_S2048_S2048x1 q)) _ _) _))
    (FloatOps.ofBits .f32 (IntOp.shli .host (Scalar.select (parity (shapeCast S2048x1 (shapeCast S2048 W shapeCasts_S1x2048_S2048) shapeCasts_S2048_S2048x1 q)) _ _) _)) = _
  rw [hwq, parity_slot, high_slot]
  have hsel : ∀ (t : Fin 2) (a b : BitVec 32), Scalar.select (BitVec.ofNat 1 t.val) a b = if t.val = 1 then a else b := fun t a b => by
    match t with
    | 0 => rfl
    | 1 => rfl
  have hpick : (if s.val = 1 then R (fun | 0 => ⟨(i 0).val, (i 0).isLt⟩ | 1 => ⟨64 + (i 1).val, by show _ < 128; omega⟩)
      else R (fun | 0 => ⟨(i 0).val, (i 0).isLt⟩ | 1 => ⟨(i 1).val, by show _ < 128; omega⟩))
      = R (fun | 0 => ⟨(i 0).val, (i 0).isLt⟩ | 1 => ⟨64 * s.val + (i 1).val, by show _ < 128; omega⟩) := by
    match s with
    | 0 =>
      rw [if_neg (by decide)]
      exact congrArg R (funext fun a => match a with
        | 0 => rfl
        | 1 => Fin.ext (show (i 1).val = 64 * 0 + (i 1).val by omega))
    | 1 => exact if_pos rfl
  rw [hsel, hpick]
  match p with
  | 0 => rfl
  | 1 => rfl

/-- A block of a table's gathered rows, with the block of their slots, holds the table's rows. -/
theorem block_at (tab : S253952x128.Idx → BitVec 32) (x : I) (hx : Small x) (b : Fin 8) (R : IVec S2048x128 32) (W : IVec S1x2048 32)
    (hR : ∀ y : S2048x128.Idx, R y = gathered tab (rowNo x) (fun
      | 0 => ⟨2048 * b.val + 1 * (y 0).val, by have h : (y 0).val < 2048 := (y 0).isLt; show _ < 16384; omega⟩ | 1 => ⟨0 + 1 * (y 1).val, by have h : (y 1).val < 128 := (y 1).isLt; show _ < 128; omega⟩))
    (hW : ∀ y : S1x2048.Idx, W y = slotNo x (fun
      | 0 => ⟨0 + 1 * (y 0).val, by have h : (y 0).val < 1 := (y 0).isLt; show _ < 1; omega⟩ | 1 => ⟨2048 * b.val + 1 * (y 1).val, by have h : (y 1).val < 2048 := (y 1).isLt; show _ < 16384; omega⟩))
    (j : S16384.Idx) (i : S2048x64.Idx) (hj : (j 0).val = 2048 * b.val + (i 0).val) :
    Dots.vals (F := F) R W i = cell tab (x j).toNat ⟨(i 1).val, (i 1).isLt⟩ := by
  have hp : (x j).toNat % 2 < 2 := Nat.mod_lt _ (by decide)
  have hs : (x j).toNat / 16384 % 2 < 2 := Nat.mod_lt _ (by decide)
  rw [vals_at R W i ⟨_, hp⟩ ⟨_, hs⟩ (by
    rw [hW]
    exact slotNo_at x _ j (show (j 0).val = 2048 * b.val + 1 * (i 0).val by omega) (hx j))]
  rw [hR]
  unfold cell gathered
  refine congrArg _ (congrArg (halfWord _) (congrArg tab (funext fun a => ?_)))
  match a with
  | 0 =>
    refine congrArg (Fin.ofNat 253952) ?_
    rw [← rowNo_at x j (hx j)]
    refine congrArg (fun t => (rowNo x t).toNat) (funext fun c => ?_)
    obtain rfl : c = 0 := Subsingleton.elim _ _
    exact Fin.ext (show 2048 * b.val + 1 * (i 0).val = (j 0).val by omega)
  | 1 => exact Fin.ext (show 0 + 1 * (64 * ((x j).toNat / 16384 % 2) + (i 1).val) = 64 * ((x j).toNat / 16384 % 2) + (i 1).val by omega)

end Blocks

/-! ## The dot products -/

/-- The sums of two blocks' products, at the ideal values. -/
theorem sums_at (u e : FVec Ideal S2048x64 .f32) (y : S1x2048.Idx) :
    Dots.sums u e y = (∑ k : Fin 64, (u (fun | 0 => ⟨(y 1).val, (y 1).isLt⟩ | 1 => k) : EReal) * e (fun | 0 => ⟨(y 1).val, (y 1).isLt⟩ | 1 => k) : EReal) := by
  unfold Dots.sums
  rw [show (matmul (F := Ideal) dot_S1x64_S2048x64_S1x2048_1_1_0_0_n_n none (broadcast S1x64 (Scalar.ofBits .bf16 0x3F80#16))
    (truncf .bf16 (mulf u e) bitsLt_bf16_f32) (constant S1x2048 .f32 0x00000000#32)) y = (_ : EReal) from Ideal.matmul_constant_zero_apply _ _ _ _ _]
  rw [← Equiv.sum_comp (contrEquiv1 dot_S1x64_S2048x64_S1x2048_1_1_0_0_n_n 64 rfl rfl).symm]
  refine Finset.sum_congr rfl fun k _ => ?_
  have hk := contrEquiv1_symm_val dot_S1x64_S2048x64_S1x2048_1_1_0_0_n_n 64 rfl rfl k
  have er : dot_S1x64_S2048x64_S1x2048_1_1_0_0_n_n.rhsIdx y ((contrEquiv1 dot_S1x64_S2048x64_S1x2048_1_1_0_0_n_n 64 rfl rfl).symm k)
      = (fun | 0 => ⟨(y 1).val, (y 1).isLt⟩ | 1 => k : S2048x64.Idx) := funext fun a => Fin.ext (match a with
    | 0 => rfl
    | 1 => hk)
  show Ideal.ofBits .bf16 0x3F80#16 * (u _ * e _ : EReal) = _
  rw [Ideal.ofBits_one_bf16, one_mul, er]

/-- A lane of a row of lanes as the flat array holds it. -/
theorem flat_at (D : Fin 8 → FVec Ideal S1x2048 .f32) (j : S16384.Idx) :
    shapeCast S16384 (laid D) shapeCasts_S1x16384_S16384 j
      = D ⟨(j 0).val / 2048, Nat.div_lt_of_lt_mul (show _ < 2048 * 8 from (j 0).isLt)⟩
        (fun | 0 => ⟨0, Nat.one_pos⟩ | 1 => ⟨(j 0).val % 2048, Nat.mod_lt _ (by decide)⟩) := by
  rw [shapeCast_apply _ shapeCasts_S1x16384_S16384 j (fun | 0 => ⟨0, Nat.one_pos⟩ | 1 => ⟨(j 0).val, (j 0).isLt⟩)
    (by rw [Shape.rowMajor_val_one, Shape.rowMajor_val_two]; show 0 * 16384 + (j 0).val = (j 0).val; omega)]
  rfl

variable (m : (ℓ : Loc nD τ sig) → Buf (Elt Ideal) ℓ) (d : Dev nD)

/-- The dot product of a row of each packed table. -/
def dotAt (s t : S253952x128.Idx → BitVec 32) (x y : ℕ) : EReal := ∑ k : Fin 64, (cell (F := Ideal) s x k : EReal) * cell (F := Ideal) t y k

theorem outI_at (hx : Small (m (here d main_arg0))) (hy : Small (m (here d main_arg1))) (j : S16384.Idx) :
    outI m d j = dotAt (m (here d main_arg4)) (m (here d main_arg5)) (m (here d main_arg0) j).toNat (m (here d main_arg1) j).toNat := by
  unfold outI
  rw [flat_at, show ∀ b y, Dots.dI (F := Ideal) d (G0 m (rowsAt m) d) (G1 m (rowsAt m) d) (slotNo (m (here d main_arg0))) (slotNo (m (here d main_arg1))) b y = _ from
    fun b y => sums_at _ _ y]
  have hj : (j 0).val = 2048 * ((j 0).val / 2048) + (j 0).val % 2048 := (Nat.div_add_mod _ _).symm
  refine Finset.sum_congr rfl fun k _ => ?_
  refine congrArg₂ (· * ·) ?_ ?_
  · exact block_at (F := Ideal) (m (here d main_arg4)) (m (here d main_arg0)) hx _ _ _ (fun _ => congrArg (gathered _ _) (funext fun | 0 => rfl | 1 => rfl)) (fun _ => congrArg (slotNo _) (funext fun | 0 => rfl | 1 => rfl)) j _ hj
  · exact block_at (F := Ideal) (m (here d main_arg5)) (m (here d main_arg1)) hy _ _ _ (fun _ => congrArg (gathered _ _) (funext fun | 0 => rfl | 1 => rfl)) (fun _ => congrArg (slotNo _) (funext fun | 0 => rfl | 1 => rfl)) j _ hj

theorem outJ_at (hx : Small (m (here d main_arg0))) (hy : Small (m (here d main_arg2))) (j : S16384.Idx) :
    outJ m d j = dotAt (m (here d main_arg4)) (m (here d main_arg5)) (m (here d main_arg0) j).toNat (m (here d main_arg2) j).toNat := by
  unfold outJ
  rw [flat_at, show ∀ b y, Dots.dJ (F := Ideal) d (G0 m (rowsAt m) d) (G2 m (rowsAt m) d) (slotNo (m (here d main_arg0))) (slotNo (m (here d main_arg2))) b y = _ from
    fun b y => sums_at _ _ y]
  have hj : (j 0).val = 2048 * ((j 0).val / 2048) + (j 0).val % 2048 := (Nat.div_add_mod _ _).symm
  refine Finset.sum_congr rfl fun k _ => ?_
  refine congrArg₂ (· * ·) ?_ ?_
  · exact block_at (F := Ideal) (m (here d main_arg4)) (m (here d main_arg0)) hx _ _ _ (fun _ => congrArg (gathered _ _) (funext fun | 0 => rfl | 1 => rfl)) (fun _ => congrArg (slotNo _) (funext fun | 0 => rfl | 1 => rfl)) j _ hj
  · exact block_at (F := Ideal) (m (here d main_arg5)) (m (here d main_arg2)) hy _ _ _ (fun _ => congrArg (gathered _ _) (funext fun | 0 => rfl | 1 => rfl)) (fun _ => congrArg (slotNo _) (funext fun | 0 => rfl | 1 => rfl)) j _ hj

end Cert.Proof.Host
-- ==== Proof.RefValue.lean ====
/-
  What the reference's results hold, entry by entry, from the packed tables.
-/
module

public import proofs.«01_k».proof.Proof.Value
public import proofs.«01_k».proof.Proof.Gen.ReferenceIdeal.Read
public import Idealize.ShloMosaic.Lib.Routing.Ops

@[expose] public section

noncomputable section

namespace Cert.Proof.Ref

open Cert.ReferenceIdeal Cert.ReferenceIdeal.Gen Cert.ReferenceIdeal.Read
open Idealize.ShloMosaic Idealize.ShloMosaic.StableHlo
open Idealize.SL Idealize.SL.Sem
open Cert.Proof.Host (Small cell halfWord dotAt)
open WordCmp

variable {F : FTy → Type} [FloatOps F]

/-! ## The unpacked table -/

theorem low_at (t : S253952x128.Idx → BitVec 32) (i : S253952x128.Idx) : val_main_v2 (F := F) t i = FloatOps.ofBits .f32 (halfWord 0 (t i)) := by
  rw [val_main_v2_apply, val_main_v1_apply, val_main_v0_apply, val_main_c_apply]; rfl
theorem high_at (t : S253952x128.Idx → BitVec 32) (i : S253952x128.Idx) : val_main_v5 (F := F) t i = FloatOps.ofBits .f32 (halfWord 1 (t i)) := by
  rw [val_main_v5_apply, val_main_v4_apply, val_main_v3_apply, val_main_c_0_apply]; rfl

/-- An entry's place in either half. -/
def halfIdx (i : S253952x2x128.Idx) : S253952x1x128.Idx := fun | 0 => ⟨(i 0).val, (i 0).isLt⟩ | 1 => (0 : Fin 1) | 2 => ⟨(i 2).val, (i 2).isLt⟩

/-- The two halves side by side: the middle coordinate is the half. -/
theorem halves_at (t : S253952x128.Idx → BitVec 32) (i : S253952x2x128.Idx) :
    val_main_v8 (F := F) t i = FloatOps.ofBits .f32 (halfWord (i 1).val (t (fun | 0 => ⟨(i 0).val, (i 0).isLt⟩ | 1 => ⟨(i 2).val, (i 2).isLt⟩))) := by
  have h1 : (i 1).val < 2 := (i 1).isLt
  unfold val_main_v8
  by_cases h : (i 1).val = 0
  · rw [concatenate_pair_apply_left (1 : Fin 3) (val_main_v6 (F := F) t) (val_main_v7 (F := F) t) _ i rfl (halfIdx i)
      (fun b => match b with | 0 => rfl | 1 => h.symm | 2 => rfl)]
    rw [val_main_v6_apply, low_at, h]
    exact congrArg (fun z => FloatOps.ofBits .f32 (halfWord 0 (t z))) (funext fun a => match a with | 0 => rfl | 1 => rfl)
  · have h' : (i 1).val = 1 := by omega
    rw [concatenate_pair_apply_right (1 : Fin 3) (val_main_v6 (F := F) t) (val_main_v7 (F := F) t) _ i rfl rfl (halfIdx i)
      (fun b => match b with | 0 => fun _ => rfl | 1 => fun hb => absurd rfl hb | 2 => fun _ => rfl) (show 0 + 1 = (i 1).val by omega)]
    rw [val_main_v7_apply, high_at, h']
    exact congrArg (fun z => FloatOps.ofBits .f32 (halfWord 1 (t z))) (funext fun a => match a with | 0 => rfl | 1 => rfl)

/-- Where a row's word lies, as the reshapes lead to it. -/
theorem packed_at (r k : ℕ) (hr : r < 1015808) (hk : k < 64) (n : ℕ)
    (hn : n = (((r * 64 + k) / 2097152 * 16384 + (r * 64 + k) / 64 % 16384) * 2 + (r * 64 + k) / 1048576 % 2) * 64 + (r * 64 + k) % 64) :
    n / 128 % 2 = r % 2 ∧ n / 256 = (r / 32768 * 16384 + r % 16384) / 2 % 253952 ∧ n % 128 = 64 * (r / 16384 % 2) + k := by
  obtain ⟨a, s, p, ha, hs, hp, rfl⟩ : ∃ a s p, a < 31 ∧ s < 2 ∧ p < 16384 ∧ r = 32768 * a + 16384 * s + p :=
    ⟨r / 32768, r / 16384 % 2, r % 16384, by omega, by omega, by omega, by omega⟩
  rw [show ((32768 * a + 16384 * s + p) * 64 + k) / 2097152 = a by omega, show ((32768 * a + 16384 * s + p) * 64 + k) / 64 % 16384 = p by omega,
    show ((32768 * a + 16384 * s + p) * 64 + k) / 1048576 % 2 = s by omega, show ((32768 * a + 16384 * s + p) * 64 + k) % 64 = k by omega] at hn
  rw [show (32768 * a + 16384 * s + p) / 32768 = a by omega, show (32768 * a + 16384 * s + p) % 16384 = p by omega,
    show (32768 * a + 16384 * s + p) / 16384 % 2 = s by omega]
  have e : n / 128 = a * 16384 + p := by omega
  exact ⟨by omega, by omega, by omega⟩

/-- A row of the unpacked table. -/
theorem table_at (t : S253952x128.Idx → BitVec 32) (i : S1015808x64.Idx) :
    val_main_v11 (F := F) t i = cell t (i 0).val ⟨(i 1).val, (i 1).isLt⟩ := by
  obtain ⟨h1, h2, h3⟩ := packed_at (i 0).val (i 1).val (i 0).isLt (i 1).isLt _ rfl
  rw [val_main_v11_apply, val_main_v10_apply, val_main_v9_apply, halves_at]
  unfold cell
  refine congrArg _ (congr (congrArg halfWord ?_) (congrArg t (funext fun a => ?_)))
  · exact h1
  · match a with
    | 0 => exact Fin.ext h2
    | 1 => exact Fin.ext h3

/-! ## The rows taken -/

/-- The row's own index. -/
def rowIdx (i : S16384x1.Idx) : S16384.Idx := fun | 0 => ⟨(i 0).val, (i 0).isLt⟩

/-- An index in the table's height is not moved. -/
theorem taken_index (x : S16384.Idx → BitVec 32) (hx : Small x) (i : S16384x1.Idx) :
    val_main_call0_v5 (F := F) x i = x (rowIdx i) := by
  have e : idx_main_call0_v5 i = rowIdx i := funext fun a => match a with | 0 => rfl
  have h := hx (rowIdx i)
  rw [val_main_call0_v5_apply, val_main_call0_v4_apply, val_main_call0_v1_apply, val_main_call0_v0_apply, val_main_call0_c_apply, e]
  generalize x (rowIdx i) = w at h ⊢
  rw [cmpi_slt_zero, decide_eq_false (by omega)]
  rfl

/-- It is within the bounds. -/
theorem taken_bound (x : S16384.Idx → BitVec 32) (hx : Small x) (j : S16384.Idx) : val_main_call0_v12 (F := F) x j = 1#1 := by
  refine Host.reduce_andi_one _ _ _ _ j rfl fun i => ?_
  have h := hx (rowIdx i)
  rw [val_main_call0_v11_apply, val_main_call0_v7_apply, val_main_call0_v10_apply, taken_index x hx, val_main_call0_v6_apply, val_main_call0_c_2_apply,
    val_main_call0_v9_apply, val_main_call0_v8_apply, val_main_call0_c_1_apply]
  generalize x (rowIdx i) = w at h ⊢
  have h1 : w.toNat < 2 ^ 31 := by omega
  refine IntOp.andi_eq_one.mpr ⟨?_, ?_⟩
  · rw [Predicate.sge_iff_toNat h1 (by decide)]; exact Nat.zero_le _
  · rw [Predicate.sle_iff_toNat h1 (by decide)]; show w.toNat ≤ 1015807; omega

theorem taken_at (x : S16384.Idx → BitVec 32) (t : S253952x128.Idx → BitVec 32) (hx : Small x) (i : S16384x64.Idx) (j : S16384.Idx) (hj : (j 0).val = (i 0).val) :
    val_main_v24 (F := F) x t i = cell t (x j).toNat ⟨(i 1).val, (i 1).isLt⟩ := by
  have hxj := hx j
  have hsel : ∀ a b : F .f32, Scalar.select 1#1 a b = a := fun _ _ => rfl
  rw [val_main_v24_apply, val_main_call0_v14_apply, taken_bound x hx, hsel]
  have ei : i = (ValueIdx.ix2 (n0 := 16384) (n1 := 64) (i 0) (i 1) : S16384x64.Idx) := funext fun a => match a with | 0 => rfl | 1 => rfl
  have er : rowIdx (ValueIdx.ix2 (n0 := 16384) (n1 := 1) (i 0) (0 : Fin 1)) = j := funext fun a => by
    obtain rfl : a = 0 := Subsingleton.elim _ _
    exact Fin.ext hj.symm
  have hg := Routing.gather_row gather_S1015808x64_S16384x1_S16384x64_1_0_n_n_0_1_164 rfl rfl rfl rfl rfl (val_main_v11 (F := F) t) (val_main_call0_v5 (F := F) x)
    (i 0) (i 1) ⟨(x j).toNat, by omega⟩ (by
      refine (taken_index x hx _).trans ?_
      rw [er]
      exact (by rw [BitVec.ofNat_toNat, BitVec.setWidth_eq])) (by decide)
  refine (congrArg (val_main_call0_v13 (F := F) x t) ei).trans (hg.trans ?_)
  exact table_at t _

theorem item_eq (x : S16384.Idx → BitVec 32) (t : S253952x128.Idx → BitVec 32) : val_main_v25 (F := F) x t = val_main_v24 (F := F) x t := rfl
theorem other_eq (x : S16384.Idx → BitVec 32) (t : S253952x128.Idx → BitVec 32) : val_main_v26 (F := F) x t = val_main_v24 (F := F) x t := rfl

/-! ## The results -/

theorem first_at (x y : S16384.Idx → BitVec 32) (s t : S253952x128.Idx → BitVec 32) (hx : Small x) (hy : Small y) (j : S16384.Idx) :
    val_main_v28 (F := Ideal) x y s t j = dotAt s t (x j).toNat (y j).toNat := by
  rw [val_main_v28_apply, show val_main_cst (F := Ideal) (Shape.Idx.first h_S_) = (0 : EReal) from Ideal.ofBits_zero_f32, zero_add]
  refine Finset.sum_congr rfl fun k _ => ?_
  rw [val_main_v27_apply, item_eq, taken_at x s hx _ j rfl, taken_at y t hy _ j rfl]
  rfl

theorem second_at (x z : S16384.Idx → BitVec 32) (s t : S253952x128.Idx → BitVec 32) (hx : Small x) (hz : Small z) (j : S16384.Idx) :
    val_main_v30 (F := Ideal) x z s t j = dotAt s t (x j).toNat (z j).toNat := by
  rw [val_main_v30_apply, show val_main_cst_3 (F := Ideal) (Shape.Idx.first h_S_) = (0 : EReal) from Ideal.ofBits_zero_f32, zero_add]
  refine Finset.sum_congr rfl fun k _ => ?_
  rw [val_main_v29_apply, other_eq, taken_at x s hx _ j rfl, taken_at z t hz _ j rfl]
  rfl

end Cert.Proof.Ref
-- ==== Proof.PackNames.lean ====
/-
  The pack kernel's rings: the blocks of its two arrays in HBM, the slots of its buffers, the slots' semaphores, each under
  one name; the kernel's printed offsets in closed form at the words the loop carries (`wd`), its conditions decided by the
  trip, its checks discharged.
-/
module

public import proofs.«01_k».proof.Defs
public import proofs.«01_k».proof.Proof.Gen.PackIdeal.Launch
public import proofs.«01_k».proof.Proof.Gen.PackIdeal.Skeleton
public import proofs.«01_k».proof.Proof.Gen.PackIdeal.Loops
public import proofs.«01_k».proof.Proof.Gen.PackIdeal.Points
public import Idealize.ShloMosaic.Lib.Ring
public import Idealize.ShloMosaic.Lib.Affine
public import Idealize.ShloMosaic.Lib.Tactic
public import Idealize.ShloMosaic.Lib.Pipeline.Kit

@[expose] public section

noncomputable section

namespace Cert.Proof.Pack

open Cert.PackIdeal Cert.PackIdeal.Gen
open Idealize.ShloMosaic
open Idealize.ShloMosaic.TcCoe
open Idealize.SL Idealize.SL.RA Idealize.SL.BI
open scoped Idealize.SL.BI
open Idealize.SL.BI.BIBase Idealize.SL.Sem

/-! ## Names -/

abbrev slotOff (s : Fin 2) : Fin 3 → Nat := ![s.val, 0, 0]
theorem inSlot_inb : ∀ s : Fin 2, ∀ a, slotOff s a + S1x64x32768.size a ≤ S2x64x32768.size a := by decide
theorem outSlot_inb : ∀ s : Fin 2, ∀ a, slotOff s a + S1x16384x128.size a ≤ S2x16384x128.size a := by decide
abbrev celOff (s : Fin 2) : Fin 1 → Nat := ![s.val]
theorem cel_inb : ∀ s : Fin 2, ∀ a, celOff s a + S1.size a ≤ S2.size a := by decide
abbrev inOff (b : Fin 31) : Fin 2 → Nat := ![0, 32768 * b.val]
theorem inBlk_inb : ∀ b : Fin 31, ∀ a, inOff b a + S64x32768.size a ≤ S64x1015808.size a := by decide +kernel
abbrev outOff (b : Fin 31) : Fin 2 → Nat := ![16384 * b.val, 0]
theorem outBlk_inb : ∀ b : Fin 31, ∀ a, outOff b a + S16384x128.size a ≤ S507904x128.size a := by decide +kernel

instance (s : Fin 2) : ClosedOff (slotOff s) := ⟨slotOff s, rfl⟩
instance (b : Fin 31) : ClosedOff (inOff b) := ⟨inOff b, rfl⟩
instance (b : Fin 31) : ClosedOff (outOff b) := ⟨outOff b, rfl⟩

/-- Slot `s` of the input's buffer; of the output's. -/
def inSlot (M : Memref sig .tc .vmem S2x64x32768 .f32) (s : Fin 2) : Memref sig .tc .vmem S64x32768 .f32 :=
  (M.slice (Rect.unit (s := S2x64x32768) (slotOff s) S1x64x32768.size (inSlot_inb s)) (fun _ => rfl)).squeeze S64x32768 squeezes_S1x64x32768_S64x32768
def outSlot (M : Memref sig .tc .vmem S2x16384x128 .bf16) (s : Fin 2) : Memref sig .tc .vmem S16384x128 .bf16 :=
  (M.slice (Rect.unit (s := S2x16384x128) (slotOff s) S1x16384x128.size (outSlot_inb s)) (fun _ => rfl)).squeeze S16384x128 squeezes_S1x16384x128_S16384x128
/-- Slot `s`'s semaphore. -/
def cel (C : DmaSems sig S2) (s : Fin 2) : DmaSems sig S_ := (C.slice (Rect.unit (s := S2) (celOff s) S1.size (cel_inb s))).squeeze S_ squeezes_S1_S_
/-- Block `b` of the input; of the output. -/
def inBlk (A : Memref sig .tc .hbm S64x1015808 .f32) (b : Fin 31) : Memref sig .tc .hbm S64x32768 .f32 :=
  A.slice (Rect.unit (s := S64x1015808) (inOff b) S64x32768.size (inBlk_inb b)) (fun _ => rfl)
def outBlk (A : Memref sig .tc .hbm S507904x128 .bf16) (b : Fin 31) : Memref sig .tc .hbm S16384x128 .bf16 :=
  A.slice (Rect.unit (s := S507904x128) (outOff b) S16384x128.size (outBlk_inb b)) (fun _ => rfl)

theorem inSlot_congr (M : Memref sig .tc .vmem S2x64x32768 .f32) {off : Fin 3 → Nat} {s : Fin 2} (e : off = slotOff s) (hh hs) :
    (M.slice (Rect.unit (s := S2x64x32768) off S1x64x32768.size hh) hs).squeeze S64x32768 squeezes_S1x64x32768_S64x32768 = inSlot M s :=
  congrArg (fun N : Memref sig .tc .vmem S1x64x32768 .f32 => N.squeeze S64x32768 squeezes_S1x64x32768_S64x32768) (Memref.slice_unit_congr _ e _ _ _ _)
theorem outSlot_congr (M : Memref sig .tc .vmem S2x16384x128 .bf16) {off : Fin 3 → Nat} {s : Fin 2} (e : off = slotOff s) (hh hs) :
    (M.slice (Rect.unit (s := S2x16384x128) off S1x16384x128.size hh) hs).squeeze S16384x128 squeezes_S1x16384x128_S16384x128 = outSlot M s :=
  congrArg (fun N : Memref sig .tc .vmem S1x16384x128 .bf16 => N.squeeze S16384x128 squeezes_S1x16384x128_S16384x128) (Memref.slice_unit_congr _ e _ _ _ _)
theorem cel_congr (C : DmaSems sig S2) {off : Fin 1 → Nat} {s : Fin 2} (e : off = celOff s) (hh) :
    (C.slice (Rect.unit (s := S2) off S1.size hh)).squeeze S_ squeezes_S1_S_ = cel C s :=
  congrArg (fun A : DmaSems sig S1 => A.squeeze S_ squeezes_S1_S_) (SemArray.slice_unit_congr _ e _ _)
theorem inBlk_congr (A : Memref sig .tc .hbm S64x1015808 .f32) {off : Fin 2 → Nat} {b : Fin 31} (e : off = inOff b) (hh hs) :
    A.slice (Rect.unit (s := S64x1015808) off S64x32768.size hh) hs = inBlk A b := by subst e; rfl
theorem outBlk_congr (A : Memref sig .tc .hbm S507904x128 .bf16) {off : Fin 2 → Nat} {b : Fin 31} (e : off = outOff b) (hh hs) :
    A.slice (Rect.unit (s := S507904x128) off S16384x128.size hh) hs = outBlk A b := by subst e; rfl

/-- How many blocks grid point `i` works on: the first sixteen, the second fifteen. -/
def cnt (i : grid0.Coords) : ℕ := 16 - (i 0).val
theorem cnt_bounds : ∀ i : grid0.Coords, 15 ≤ cnt i ∧ cnt i ≤ 16 := by decide +kernel
/-- The loop's trips. -/
abbrev Trip (i : grid0.Coords) : Type := Fin (k0_t1_loop i).trips
theorem trips_eq : ∀ i : grid0.Coords, (k0_t1_loop i).trips = cnt i := by decide +kernel
theorem no_trips : ∀ i : grid0.Coords, (k0_t2_loop i).trips = 0 := by decide +kernel
theorem trip_lt (i : grid0.Coords) (k : Trip i) : k.val < cnt i := trips_eq i ▸ k.isLt
theorem trip_lt16 (i : grid0.Coords) (k : Trip i) : k.val < 16 := lt_of_lt_of_le (trip_lt i k) (cnt_bounds i).2

/-- A count as the loop carries it. -/
abbrev wd (n : ℕ) : BitVec 32 := BitVec.ofNat 32 n

/-- The block that trip `n` of the loop at grid point `i` works on. -/
def bno (i : grid0.Coords) (n : ℕ) : Fin 31 := Fin.ofNat 31 (16 * (i 0).val + n)

/-! ## The printed offsets at the carried words -/

theorem cel_words4 (n : ℕ) (h : n < 17) : k0_off4 (wd n) = celOff (Ring.sl 2 n) :=
  (by decide +kernel : ∀ n : Fin 17, k0_off4 (wd n.val) = celOff (Ring.sl 2 n.val)) ⟨n, h⟩
theorem cel_words7 (n : ℕ) (h : n < 17) : k0_off7 (wd n) = celOff (Ring.sl 2 n) :=
  (by decide +kernel : ∀ n : Fin 17, k0_off7 (wd n.val) = celOff (Ring.sl 2 n.val)) ⟨n, h⟩
theorem cel_words12 (n : ℕ) (h : n < 17) : k0_off12 (wd n) = celOff (Ring.sl 2 n) :=
  (by decide +kernel : ∀ n : Fin 17, k0_off12 (wd n.val) = celOff (Ring.sl 2 n.val)) ⟨n, h⟩
theorem cel_words15 (n : ℕ) (h : n < 17) : k0_off15 (wd n) = celOff (Ring.sl 2 n) :=
  (by decide +kernel : ∀ n : Fin 17, k0_off15 (wd n.val) = celOff (Ring.sl 2 n.val)) ⟨n, h⟩
theorem cel_words32 (n : ℕ) (h : n < 17) : k0_off32 (wd n) = celOff (Ring.sl 2 n) :=
  (by decide +kernel : ∀ n : Fin 17, k0_off32 (wd n.val) = celOff (Ring.sl 2 n.val)) ⟨n, h⟩
theorem slot_words5 (n : ℕ) (h : n < 17) : k0_off5 (wd n) = slotOff (Ring.sl 2 n) :=
  (by decide +kernel : ∀ n : Fin 17, k0_off5 (wd n.val) = slotOff (Ring.sl 2 n.val)) ⟨n, h⟩
theorem slot_words8 (n : ℕ) (h : n < 17) : k0_off8 (wd n) = slotOff (Ring.sl 2 n) :=
  (by decide +kernel : ∀ n : Fin 17, k0_off8 (wd n.val) = slotOff (Ring.sl 2 n.val)) ⟨n, h⟩
theorem slot_words10 (n : ℕ) (h : n < 17) : k0_off10 (wd n) = slotOff (Ring.sl 2 n) :=
  (by decide +kernel : ∀ n : Fin 17, k0_off10 (wd n.val) = slotOff (Ring.sl 2 n.val)) ⟨n, h⟩
theorem slot_words11 (n : ℕ) (h : n < 17) : k0_off11 (wd n) = slotOff (Ring.sl 2 n) :=
  (by decide +kernel : ∀ n : Fin 17, k0_off11 (wd n.val) = slotOff (Ring.sl 2 n.val)) ⟨n, h⟩
theorem slot_words14 (n : ℕ) (h : n < 17) : k0_off14 (wd n) = slotOff (Ring.sl 2 n) :=
  (by decide +kernel : ∀ n : Fin 17, k0_off14 (wd n.val) = slotOff (Ring.sl 2 n.val)) ⟨n, h⟩
theorem slot_words17 (n : ℕ) (h : n < 17) : k0_off17 (wd n) = slotOff (Ring.sl 2 n) :=
  (by decide +kernel : ∀ n : Fin 17, k0_off17 (wd n.val) = slotOff (Ring.sl 2 n.val)) ⟨n, h⟩
theorem slot_words34 (n : ℕ) (h : n < 17) : k0_off34 (wd n) = slotOff (Ring.sl 2 n) :=
  (by decide +kernel : ∀ n : Fin 17, k0_off34 (wd n.val) = slotOff (Ring.sl 2 n.val)) ⟨n, h⟩
theorem in_next : ∀ (i : grid0.Coords) (k : Trip i), k.val + 1 < cnt i → k0_off6 i (wd k.val) = inOff (bno i (k.val + 1)) := by decide +kernel
theorem in_here : ∀ (i : grid0.Coords) (k : Trip i), k0_off9 i (wd k.val) = inOff (bno i k.val) := by decide +kernel
theorem out_here : ∀ (i : grid0.Coords) (k : Trip i), k0_off13 i (wd k.val) = outOff (bno i k.val) := by decide +kernel
theorem out_prev : ∀ (i : grid0.Coords) (k : Trip i), 1 ≤ k.val → k0_off16 i (wd k.val) = outOff (bno i (k.val - 1)) := by decide +kernel
theorem in_first : ∀ (i : grid0.Coords), k0_off3 i = inOff (bno i 0) := by decide +kernel
theorem out_last : ∀ (i : grid0.Coords), k0_off33 i (wd 0) = outOff (bno i (cnt i - 1)) := by decide +kernel

/-! ## The canonical names -/

@[sl_canon] theorem celN4 (C : DmaSems sig S2) (i : grid0.Coords) (k : Trip i) (hh) : (C.slice (Rect.unit (s := S2) (k0_off4 (wd (k.val + 1))) S1.size hh)).squeeze S_ squeezes_S1_S_ = cel C (Ring.sl 2 (k.val + 1)) :=
  cel_congr C (cel_words4 (k.val + 1) (by have := trip_lt16 i k; omega)) _
@[sl_canon] theorem celN7 (C : DmaSems sig S2) (i : grid0.Coords) (k : Trip i) (hh) : (C.slice (Rect.unit (s := S2) (k0_off7 (wd k.val)) S1.size hh)).squeeze S_ squeezes_S1_S_ = cel C (Ring.sl 2 k.val) :=
  cel_congr C (cel_words7 (k.val) (by have := trip_lt16 i k; omega)) _
@[sl_canon] theorem celN12 (C : DmaSems sig S2) (i : grid0.Coords) (k : Trip i) (hh) : (C.slice (Rect.unit (s := S2) (k0_off12 (wd k.val)) S1.size hh)).squeeze S_ squeezes_S1_S_ = cel C (Ring.sl 2 k.val) :=
  cel_congr C (cel_words12 (k.val) (by have := trip_lt16 i k; omega)) _
@[sl_canon] theorem celN15 (C : DmaSems sig S2) (i : grid0.Coords) (k : Trip i) (hh) : (C.slice (Rect.unit (s := S2) (k0_off15 (wd (k.val - 1))) S1.size hh)).squeeze S_ squeezes_S1_S_ = cel C (Ring.sl 2 (k.val - 1)) :=
  cel_congr C (cel_words15 (k.val - 1) (by have := trip_lt16 i k; omega)) _
@[sl_canon] theorem inSlotN5 (M : Memref sig .tc .vmem S2x64x32768 .f32) (i : grid0.Coords) (k : Trip i) (hh hs) :
    (M.slice (Rect.unit (s := S2x64x32768) (k0_off5 (wd (k.val + 1))) S1x64x32768.size hh) hs).squeeze S64x32768 squeezes_S1x64x32768_S64x32768 = inSlot M (Ring.sl 2 (k.val + 1)) :=
  inSlot_congr M (slot_words5 (k.val + 1) (by have := trip_lt16 i k; omega)) _ _
@[sl_canon] theorem inSlotN8 (M : Memref sig .tc .vmem S2x64x32768 .f32) (i : grid0.Coords) (k : Trip i) (hh hs) :
    (M.slice (Rect.unit (s := S2x64x32768) (k0_off8 (wd k.val)) S1x64x32768.size hh) hs).squeeze S64x32768 squeezes_S1x64x32768_S64x32768 = inSlot M (Ring.sl 2 k.val) :=
  inSlot_congr M (slot_words8 (k.val) (by have := trip_lt16 i k; omega)) _ _
@[sl_canon] theorem outSlotN14 (M : Memref sig .tc .vmem S2x16384x128 .bf16) (i : grid0.Coords) (k : Trip i) (hh hs) :
    (M.slice (Rect.unit (s := S2x16384x128) (k0_off14 (wd k.val)) S1x16384x128.size hh) hs).squeeze S16384x128 squeezes_S1x16384x128_S16384x128 = outSlot M (Ring.sl 2 k.val) :=
  outSlot_congr M (slot_words14 (k.val) (by have := trip_lt16 i k; omega)) _ _
@[sl_canon] theorem outSlotN17 (M : Memref sig .tc .vmem S2x16384x128 .bf16) (i : grid0.Coords) (k : Trip i) (hh hs) :
    (M.slice (Rect.unit (s := S2x16384x128) (k0_off17 (wd (k.val - 1))) S1x16384x128.size hh) hs).squeeze S16384x128 squeezes_S1x16384x128_S16384x128 = outSlot M (Ring.sl 2 (k.val - 1)) :=
  outSlot_congr M (slot_words17 (k.val - 1) (by have := trip_lt16 i k; omega)) _ _
@[sl_canon] theorem inBlkN6 (A : Memref sig .tc .hbm S64x1015808 .f32) (i : grid0.Coords) (k : Trip i) (h : k.val + 1 < cnt i) (hh hs) :
    A.slice (Rect.unit (s := S64x1015808) (k0_off6 i (wd k.val)) S64x32768.size hh) hs = inBlk A (bno i (k.val + 1)) := inBlk_congr A (in_next i k h) _ _
@[sl_canon] theorem inBlkN9 (A : Memref sig .tc .hbm S64x1015808 .f32) (i : grid0.Coords) (k : Trip i) (hh hs) :
    A.slice (Rect.unit (s := S64x1015808) (k0_off9 i (wd k.val)) S64x32768.size hh) hs = inBlk A (bno i k.val) := inBlk_congr A (in_here i k) _ _
@[sl_canon] theorem outBlkN13 (A : Memref sig .tc .hbm S507904x128 .bf16) (i : grid0.Coords) (k : Trip i) (hh hs) :
    A.slice (Rect.unit (s := S507904x128) (k0_off13 i (wd k.val)) S16384x128.size hh) hs = outBlk A (bno i k.val) := outBlk_congr A (out_here i k) _ _
@[sl_canon] theorem outBlkN16 (A : Memref sig .tc .hbm S507904x128 .bf16) (i : grid0.Coords) (k : Trip i) (h : 1 ≤ k.val) (hh hs) :
    A.slice (Rect.unit (s := S507904x128) (k0_off16 i (wd k.val)) S16384x128.size hh) hs = outBlk A (bno i (k.val - 1)) := outBlk_congr A (out_prev i k h) _ _

/-! The prologue's slot and cell are slot 0's, the epilogue's the last block's. -/
@[sl_canon] theorem celF (C : DmaSems sig S2) (hh) : (C.slice (Rect.unit (s := S2) k0_off1 S1.size hh)).squeeze S_ squeezes_S1_S_ = cel C 0 := cel_congr C (by decide +kernel) _
@[sl_canon] theorem inSlotF (M : Memref sig .tc .vmem S2x64x32768 .f32) (hh hs) :
    (M.slice (Rect.unit (s := S2x64x32768) k0_off2 S1x64x32768.size hh) hs).squeeze S64x32768 squeezes_S1x64x32768_S64x32768 = inSlot M 0 := inSlot_congr M (by decide +kernel) _ _
@[sl_canon] theorem inBlkF (A : Memref sig .tc .hbm S64x1015808 .f32) (i : grid0.Coords) (hh hs) :
    A.slice (Rect.unit (s := S64x1015808) (k0_off3 i) S64x32768.size hh) hs = inBlk A (bno i 0) := inBlk_congr A (in_first i) _ _
@[sl_canon] theorem celE (C : DmaSems sig S2) (i : grid0.Coords) (hh) : (C.slice (Rect.unit (s := S2) (k0_off32 (wd (cnt i - 1))) S1.size hh)).squeeze S_ squeezes_S1_S_ = cel C (Ring.sl 2 (cnt i - 1)) :=
  cel_congr C (cel_words32 (cnt i - 1) (by have := cnt_bounds i; omega)) _
@[sl_canon] theorem outSlotE (M : Memref sig .tc .vmem S2x16384x128 .bf16) (i : grid0.Coords) (hh hs) :
    (M.slice (Rect.unit (s := S2x16384x128) (k0_off34 (wd (cnt i - 1))) S1x16384x128.size hh) hs).squeeze S16384x128 squeezes_S1x16384x128_S16384x128 = outSlot M (Ring.sl 2 (cnt i - 1)) :=
  outSlot_congr M (slot_words34 (cnt i - 1) (by have := cnt_bounds i; omega)) _ _
@[sl_canon] theorem outBlkE (A : Memref sig .tc .hbm S507904x128 .bf16) (i : grid0.Coords) (hh hs) :
    A.slice (Rect.unit (s := S507904x128) (k0_off33 i (wd 0)) S16384x128.size hh) hs = outBlk A (bno i (cnt i - 1)) := outBlk_congr A (out_last i) _ _

/-! ## The accesses through the whole buffers, in closed form -/

theorem off10_eq (i : grid0.Coords) (k : Trip i) : k0_off10 (wd k.val) = slotOff (Ring.sl 2 k.val) := slot_words10 (k.val) (by have := trip_lt16 i k; omega)
instance (i : grid0.Coords) (k : Trip i) : ClosedOff (k0_off10 (wd k.val)) := ⟨slotOff (Ring.sl 2 k.val), off10_eq i k⟩
theorem off11_eq (i : grid0.Coords) (k : Trip i) : k0_off11 (wd k.val) = slotOff (Ring.sl 2 k.val) := slot_words11 (k.val) (by have := trip_lt16 i k; omega)
instance (i : grid0.Coords) (k : Trip i) : ClosedOff (k0_off11 (wd k.val)) := ⟨slotOff (Ring.sl 2 k.val), off11_eq i k⟩

/-! ## The conditions, by trip -/

theorem cond1_pos : ∀ i : grid0.Coords, k0_cond1 i = 1#1 := by decide +kernel
theorem cond2_pos : ∀ i : grid0.Coords, k0_cond2 i = 1#1 := by decide +kernel
theorem cond3_pos : ∀ (i : grid0.Coords) (k : Trip i), k.val + 1 < cnt i → k0_cond3 i k (wd k.val) = 1#1 := by decide +kernel
theorem cond3_neg : ∀ (i : grid0.Coords) (k : Trip i), ¬k.val + 1 < cnt i → ¬k0_cond3 i k (wd k.val) = 1#1 := by decide +kernel
theorem cond4_pos : ∀ (i : grid0.Coords) (k : Trip i), k0_cond4 i k (wd k.val) = 1#1 := by decide +kernel
theorem cond7_pos : ∀ (i : grid0.Coords) (k : Trip i), k0_cond7 i k (wd k.val) = 1#1 := by decide +kernel
theorem cond9_pos : ∀ (i : grid0.Coords) (k : Trip i), 1 ≤ k.val → k0_cond9 i k (wd k.val) = 1#1 := by decide +kernel
theorem cond9_neg : ∀ (i : grid0.Coords) (k : Trip i), ¬1 ≤ k.val → ¬k0_cond9 i k (wd k.val) = 1#1 := by decide +kernel
theorem cond18_pos : ∀ i : grid0.Coords, k0_cond18 i = 1#1 := by decide +kernel

/-! ## The checks -/

theorem chk1 : ∀ (i : grid0.Coords) (k : Trip i), k0_chk1 i k (wd (k.val + 1)) (wd k.val) (wd k.val) (wd (k.val - 1)) (wd k.val) := by decide +kernel
theorem chk2 : ∀ (i : grid0.Coords) (k : Trip i), k0_chk2 i (wd k.val) := by decide +kernel
theorem chk3 : ∀ (i : grid0.Coords) (k : Trip i), k0_chk3 i (wd k.val) := by decide +kernel
theorem chk7 : ∀ i : grid0.Coords, k0_chk7 i (wd (cnt i - 1)) := by decide +kernel
theorem chk8 : ∀ i : grid0.Coords, k0_chk8 i (wd 0) := by decide +kernel

end Cert.Proof.Pack
-- ==== Proof.PackTrip.lean ====
/-
  One trip of the pack kernel's loop: the next block's copy issued, this block awaited, packed and sent home, the previous
  block's way home awaited.
-/
module

public import proofs.«01_k».proof.Proof.PackNames
public import Idealize.ShloMosaic.Lib.Pipeline.KitQuiescent
public import Idealize.ShloMosaic.Lib.Pipeline.Value
public import Idealize.ShloMosaic.Lib.VecWindow
public import Idealize.ShloMosaic.Lib.ViewIndex

@[expose] public section

noncomputable section

namespace Cert.Proof.Pack

open Cert.PackIdeal Cert.PackIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × Counters
local notation "𝕄" => MT nD τ sig Unit (Elt F) ℕ UU ℕ
abbrev 𝒱₀ : Variants := Variants.none

/-! ## The arrays and the buffers -/

abbrev aT : Memref sig .tc .hbm S64x1015808 .f32 := Memref.whole main_v1
abbrev aP : Memref sig .tc .hbm S507904x128 .bf16 := Memref.whole main_v2
abbrev mT : Memref sig .tc .vmem S2x64x32768 .f32 := Memref.whole cc0_scoped0
abbrev mP : Memref sig .tc .vmem S2x16384x128 .bf16 := Memref.whole cc0_scoped2

/-! ## The pieces -/

section Pieces
variable (c : Dev nD)

/-- A memref's elements held at contents `f`. -/
abbrev held {sp : Space} {S : Shape} {e : EltTy} (M : Memref sig .tc sp S e) (f : Buf (Elt F) (M.view.loc (c : Thread nD τ))) : sProp 𝕄 :=
  M.view.loc (c : Thread nD τ) ↦[M.view.set]{fullShare} f
/-- A semaphore at zero. -/
abbrev zero (C : DmaSems sig S_) : sProp 𝕄 := semVal ((c : Thread nD τ), SemLoc.dma C.sem) 0
/-- What a copy of `M` carries. -/
abbrev pay {sp : Space} {S : Shape} {e : EltTy} (M : Memref sig .tc sp S e) (X : Buf (Elt F) (M.view.loc (c : Thread nD τ))) : S.Idx → Elt F e :=
  ReadAs.same.apply (M.view.read (Elt F) X)
/-- What it leaves in `D` over `f`. -/
abbrev landed {sp sp' : Space} {S : Shape} {e : EltTy} (D : Memref sig .tc sp S e) (M : Memref sig .tc sp' S e)
    (f : Buf (Elt F) (D.view.loc (c : Thread nD τ))) (X : Buf (Elt F) (M.view.loc (c : Thread nD τ))) : Buf (Elt F) (D.view.loc (c : Thread nD τ)) :=
  D.view.writes (Elt F) f [⟨Rect.whole S, pay c M X⟩]
/-- A copy of `M` into `D` in flight on `C`, `n` units of it. -/
abbrev flight {sp sp' : Space} {S : Shape} {e : EltTy} (D : Memref sig .tc sp S e) (M : Memref sig .tc sp' S e) (C : DmaSems sig S_) (n : ℕ)
    (f : Buf (Elt F) (D.view.loc (c : Thread nD τ))) (X : Buf (Elt F) (M.view.loc (c : Thread nD τ))) : sProp 𝕄 :=
  Transfers.Flight countersEmb (c : Thread nD τ) (SemLoc.dma C.sem) () n iprop(held c D (landed c D M f X) ∗ held c M X)

end Pieces

/-! ## What a trip computes -/

/-- A block of the transposed table, packed: row `r` is the table's rows `r` and `16384 + r` side by side. -/
def packBlk (x : FVec F S64x32768 .f32) : FVec F S16384x128 .bf16 :=
  have eye : FVec F S64x64 .bf16 := truncf .bf16 (sitofp .f32 (extui 32 (cmpi .eq (iota .tc S64x64 32 [0] iota_S64x64_d0_w32) (iota .tc S64x64 32 [1] iota_S64x64_d1_w32)) natLt_1_32)) bitsLt_bf16_f32
  have y : FVec F S64x32768 .bf16 := truncf .bf16 x bitsLt_bf16_f32
  truncf .bf16 (concatenate S16384x128 1
    [⟨S16384x64, matmul dot_S64x16384_S64x64_S16384x64_0_0_1_1_n_n none (extractStridedSlice S64x16384 ![0, 0] y slices_S64x32768_o0_0_S64x16384) eye (constant S16384x64 .f32 0x00000000#32)⟩,
     ⟨S16384x64, matmul dot_S64x16384_S64x64_S16384x64_0_0_1_1_n_n none (extractStridedSlice S64x16384 ![0, 16384] y slices_S64x32768_o0_16384_S64x16384) eye (constant S16384x64 .f32 0x00000000#32)⟩]
    concatenates_S16384x64_S16384x64_S16384x128_d1) bitsLt_bf16_f32

section Values
variable (c : Dev nD)

/-- A slot of the output's buffer after a store at the slot's offset reads what was stored. -/
theorem pay_stored (M : Memref sig .tc .vmem S2x16384x128 .bf16) {off : Fin 3 → Nat} {s : Fin 2} (h : off = slotOff s) (inb)
    (g : (M.access (Rect.unit (s := S2x16384x128) off S1x16384x128.size inb)).ty.Contents (Elt F)) (x : FVec F S16384x128 .bf16) :
    View.read (Elt F) (outSlot M s).view ((M.access (Rect.unit (s := S2x16384x128) off S1x16384x128.size inb)).write (Elt F) g
      (shapeCast S1x16384x128 x shapeCasts_S16384x128_S1x16384x128) Finset.univ) = x := by
  subst h
  funext j
  have h1 := congrFun (Memref.read_slice_write M inb rfl (outSlot_inb s) g (shapeCast S1x16384x128 x shapeCasts_S16384x128_S1x16384x128))
    (Shape.reshapeEquiv squeezes_S1x16384x128_S16384x128.numel_eq j)
  refine Eq.trans h1 ?_
  exact congrFun (shapeCast_shapeCast x shapeCasts_S16384x128_S1x16384x128 squeezes_S1x16384x128_S16384x128.numel_eq.symm) j

/-- A load of a slot through its buffer, after a copy has landed in the slot, is what the copy carried. -/
theorem in_loaded (M : Memref sig .tc .vmem S2x64x32768 .f32) {off : Fin 3 → Nat} {s : Fin 2} (h : off = slotOff s) (inb)
    (f : (inSlot M s).view.ty.Contents (Elt F)) (p : S64x32768.Idx → Elt F .f32) :
    shapeCast S64x32768 (View.readAt (Elt F) M.view (Rect.unit (s := S2x64x32768) off S1x64x32768.size inb).toLoadRect
      ((inSlot M s).view.writes (Elt F) f [⟨Rect.whole S64x32768, p⟩])) shapeCasts_S1x64x32768_S64x32768 = p := by
  subst h
  exact View.read_writes_whole (inSlot M s).view f p

theorem pay1_eq (w : Vec F S1x64x32768 .f32) :
    k0_pay1 w = shapeCast S1x16384x128 (packBlk (shapeCast S64x32768 w shapeCasts_S1x64x32768_S64x32768)) shapeCasts_S16384x128_S1x16384x128 := by
  dsimp only [k0_pay1, packBlk]

/-- What a trip stores is the packed block it loaded. -/
theorem stored_eq (P : Memref sig .tc .vmem S2x16384x128 .bf16) (M : Memref sig .tc .vmem S2x64x32768 .f32)
    {off off1 : Fin 3 → Nat} {s : Fin 2} (h : off = slotOff s) (h1 : off1 = slotOff s) (inb inb1)
    (g : (P.access (Rect.unit (s := S2x16384x128) off S1x16384x128.size inb)).ty.Contents (Elt F)) (f1 : (inSlot M s).view.ty.Contents (Elt F))
    (p : S64x32768.Idx → Elt F .f32) :
    View.read (Elt F) (outSlot P s).view ((P.access (Rect.unit (s := S2x16384x128) off S1x16384x128.size inb)).write (Elt F) g
      (k0_pay1 (View.readAt (Elt F) M.view (Rect.unit (s := S2x64x32768) off1 S1x64x32768.size inb1).toLoadRect
          ((inSlot M s).view.writes (Elt F) f1 [⟨Rect.whole S64x32768, p⟩]))) Finset.univ) = packBlk p := by
  rw [pay1_eq, pay_stored P h, in_loaded M h1]

end Values

section Trip
variable (c : Dev nD) (i : grid0.Coords)
  (X : Buf (Elt F) (aT.view.loc (c : Thread nD τ))) (Z O : Buf (Elt F) (aP.view.loc (c : Thread nD τ)))

/-- Block `b` of the input, packed. -/
abbrev dP (b : Fin 31) : FVec F S16384x128 .bf16 := packBlk (pay c (inBlk aT b) X)

/-! ## The pieces by the trip -/

abbrev inFlight (k : ℕ) : sProp 𝕄 :=
  iprop(∃ f, flight c (inSlot mT (Ring.sl 2 k)) (inBlk aT (bno i k)) (cel cc0_scoped1 (Ring.sl 2 k)) 262144 f X)
abbrev inFree (k : ℕ) : sProp 𝕄 :=
  iprop((∃ f, held (F := F) c (inSlot mT (Ring.sl 2 k)) f) ∗ zero (F := F) c (cel cc0_scoped1 (Ring.sl 2 k)))
abbrev inHome (k : ℕ) : sProp 𝕄 := held c (inBlk aT (bno i k)) X
/-- Block `k` of the output on its way home, the slot it is copied from at the packed block. -/
abbrev outFlight (k : ℕ) : sProp 𝕄 :=
  iprop(∃ g, ⌜pay c (outSlot mP (Ring.sl 2 k)) g = dP c X (bno i k)⌝
    ∗ flight c (outBlk aP (bno i k)) (outSlot mP (Ring.sl 2 k)) (cel cc0_scoped3 (Ring.sl 2 k)) 131072 Z g)
abbrev outFree (k : ℕ) : sProp 𝕄 :=
  iprop((∃ f, held (F := F) c (outSlot mP (Ring.sl 2 k)) f) ∗ zero (F := F) c (cel cc0_scoped3 (Ring.sl 2 k)))
abbrev outHome (W : Buf (Elt F) (aP.view.loc (c : Thread nD τ))) (k : ℕ) : sProp 𝕄 := held c (outBlk aP (bno i k)) W

/-- A landed output block is the block of any contents that agree with what landed. -/
theorem landed_home (b : Fin 31) (s : Fin 2) (g) (d : FVec F S16384x128 .bf16) (hg : pay c (outSlot mP s) g = d)
    (hO : (outBlk aP b).view.read (Elt F) O = d) :
    held c (outBlk aP b) (landed c (outBlk aP b) (outSlot mP s) Z g) ⊢ held (F := F) c (outBlk aP b) O := by
  refine Entails.of_eq (pointsTo_congr fun j hj => ?_)
  obtain ⟨x, -, rfl⟩ := Finset.mem_map.mp hj
  refine View.eq_of_read_eq ?_
  have := View.read_writes_whole (outBlk aP b).view Z (pay c (outSlot mP s) g)
  exact (congrFun this x).trans ((congrFun hg x).trans (congrFun hO x).symm)

/-- The loop's words before trip `k`. -/
abbrev accAt (k : ℕ) : BitVec 32 × BitVec 32 × BitVec 32 × BitVec 32 × BitVec 32 :=
  (wd (min (k + 1) (cnt i)), wd k, wd k, wd (k - 1), wd (k % cnt i))

theorem accAt_trip (k : Trip i) : accAt i k.val = (wd (k.val + 1), wd k.val, wd k.val, wd (k.val - 1), wd k.val) := by
  have := trip_lt i k
  simp only [accAt, Nat.min_eq_left (show k.val + 1 ≤ cnt i by omega), Nat.mod_eq_of_lt this]

/-- The loop's region on the kernel's arrays, buffers and semaphores. -/
abbrev tripG (w1 w6 w7 w37 w28 w29 w30 w31 w32 w41 : BitVec 32) (h1 : k0_cond1 i = 1#1) (k : Trip i) (acc) :=
  k0_t1_body (F := F) i aT (Memref.isWhole_whole _) aP (Memref.isWhole_whole _) mT (Memref.isWhole_whole _) cc0_scoped1 mP (Memref.isWhole_whole _) cc0_scoped3
    w1 w6 w7 h1 w37 w28 w29 w30 w31 w32 w41 k acc

/-- The first trip. -/
theorem trip_first (w1 w6 w7 w37 w28 w29 w30 w31 w32 w41 : BitVec 32) (e1 : w1 = wd (cnt i)) (e6 : w6 = wd (16 * (i 0).val)) (e28 : w28 = wd 0) (h1 : k0_cond1 i = 1#1) (k : Trip i) (hk : k.val < 1) (Q) :
    iprop((∃ W, owes (c : Thread nD τ) 0 W) ∗ inFlight c i X k ∗ inFree (F := F) c (k.val + 1) ∗ inHome c i X (k.val + 1) ∗ outFree (F := F) c k ∗ outHome c i Z k
      ∗ (∀ r, (⌜r = accAt i (k.val + 1)⌝ ∗ (∃ W, owes (c : Thread nD τ) 0 W) ∗ inFlight c i X (k.val + 1) ∗ inFree (F := F) c k ∗ inHome c i X k ∗ outFlight c i X Z k) -∗ Q r))
      ⊢ wp frame (wpE (defs₀ (F := F)) 𝒱₀ (c : Thread nD τ) none) Set.univ (tripG i w1 w6 w7 w37 w28 w29 w30 w31 w32 w41 h1 k (accAt i k.val)) Q := by
  rw [accAt_trip]
  subst e1 e6 e28
  have hn := cnt_bounds i
  have c3 := cond3_pos i k (by omega)
  have c9 := cond9_neg i k (by omega)
  have c4 := cond4_pos i k
  have c7 := cond7_pos i k
  have q1 := chk1 i k
  have q2 := chk2 i k
  have q3 := chk3 i k
  iintro ⟨⟨%W, HW⟩, ⟨%f1, A1⟩, ⟨⟨%g1, B1⟩, C1⟩, D1, ⟨⟨%g7, B7⟩, C7⟩, D7, Hk⟩
  dsimp only [tripG]
  sl_unfold [k0_t1_body]
  sl_exec
  have ek : ∀ (i : grid0.Coords) (k : Trip i), (trip_first.sl.v108_r0 i k, trip_first.sl.v178_r0 i k,
      trip_first.sl.v160_r0 i k, trip_first.sl.v174_r0 i k, trip_first.sl.v90_r0 i k)
      = (wd (min (k.val + 2) (cnt i)), wd (k.val + 1), wd (k.val + 1), wd k.val, wd ((k.val + 1) % cnt i)) := by decide +kernel
  have ek' := ek i k
  simp only [Prod.mk.injEq] at ek'
  obtain ⟨k1, k2, k3, k4, k5⟩ := ek'
  have eP : pay c (outSlot mP (Ring.sl 2 k.val)) (trip_first.sl.B7_w1 c i X h1 k q2 q3 g7) = dP c X (bno i k.val) :=
    stored_eq mP mT (off11_eq i k) (off10_eq i k) _ _ _ _ _
  sl_step
  iapply Hk
  isplitr
  · ipureintro
    simp only [accAt, k1, k2, k3, k4, k5, Nat.add_sub_cancel]
  isplitl [HW]; · iexists _; iexact HW
  isplitl [C1]; · iexists _; iexact C1
  isplitl [A1_dst A1]
  · isplitl [A1_dst]; · iexists _; iexact A1_dst
    iexact A1
  isplitl [A1_src]; · iexact A1_src
  iexists _; isplitr
  · ipureintro; exact eP
  iexact C7

/-- A trip between the first and the last. -/
theorem trip_mid (w1 w6 w7 w37 w28 w29 w30 w31 w32 w41 : BitVec 32) (e1 : w1 = wd (cnt i)) (e6 : w6 = wd (16 * (i 0).val)) (e28 : w28 = wd 0) (h1 : k0_cond1 i = 1#1) (k : Trip i) (hO : ∀ b, (outBlk aP b).view.read (Elt F) O = dP c X b) (hk : 1 ≤ k.val) (h3 : k.val + 1 < cnt i) (Q) :
    iprop((∃ W, owes (c : Thread nD τ) 0 W) ∗ inFlight c i X k ∗ inFree (F := F) c (k.val + 1) ∗ inHome c i X (k.val + 1) ∗ outFlight c i X Z (k.val - 1) ∗ outFree (F := F) c k ∗ outHome c i Z k
      ∗ (∀ r, (⌜r = accAt i (k.val + 1)⌝ ∗ (∃ W, owes (c : Thread nD τ) 0 W) ∗ inFlight c i X (k.val + 1) ∗ inFree (F := F) c k ∗ inHome c i X k ∗ outFlight c i X Z k ∗ outFree (F := F) c (k.val - 1) ∗ outHome c i O (k.val - 1)) -∗ Q r))
      ⊢ wp frame (wpE (defs₀ (F := F)) 𝒱₀ (c : Thread nD τ) none) Set.univ (tripG i w1 w6 w7 w37 w28 w29 w30 w31 w32 w41 h1 k (accAt i k.val)) Q := by
  rw [accAt_trip]
  subst e1 e6 e28
  have hn := cnt_bounds i
  have c3 := cond3_pos i k h3
  have c9 := cond9_pos i k hk
  have c4 := cond4_pos i k
  have c7 := cond7_pos i k
  have q1 := chk1 i k
  have q2 := chk2 i k
  have q3 := chk3 i k
  iintro ⟨⟨%W, HW⟩, ⟨%f1, A1⟩, ⟨⟨%g1, B1⟩, C1⟩, D1, ⟨%g8, %e8, A8⟩, ⟨⟨%g7, B7⟩, C7⟩, D7, Hk⟩
  dsimp only [tripG]
  sl_unfold [k0_t1_body]
  sl_exec
  have ek : ∀ (i : grid0.Coords) (k : Trip i), (trip_mid.sl.v108_r0 i k, trip_mid.sl.v178_r0 i k,
      trip_mid.sl.v160_r0 i k, trip_mid.sl.v174_r0 i k, trip_mid.sl.v90_r0 i k)
      = (wd (min (k.val + 2) (cnt i)), wd (k.val + 1), wd (k.val + 1), wd k.val, wd ((k.val + 1) % cnt i)) := by decide +kernel
  have ek' := ek i k
  simp only [Prod.mk.injEq] at ek'
  obtain ⟨k1, k2, k3, k4, k5⟩ := ek'
  have eP : pay c (outSlot mP (Ring.sl 2 k.val)) (trip_mid.sl.B7_w1 c i X h1 k q2 q3 g7) = dP c X (bno i k.val) :=
    stored_eq mP mT (off11_eq i k) (off10_eq i k) _ _ _ _ _
  sl_step
  iapply Hk
  isplitr
  · ipureintro
    simp only [accAt, k1, k2, k3, k4, k5, Nat.add_sub_cancel]
  isplitl [HW]; · iexists _; iexact HW
  isplitl [C1]; · iexists _; iexact C1
  isplitl [A1_dst A1]
  · isplitl [A1_dst]; · iexists _; iexact A1_dst
    iexact A1
  isplitl [A1_src]; · iexact A1_src
  isplitl [C7]
  · iexists _; isplitr
    · ipureintro; exact eP
    iexact C7
  isplitl [A8_src A8]
  · isplitl [A8_src]; · iexists _; iexact A8_src
    iexact A8
  iapply (landed_home c Z O (bno i (k.val - 1)) (Ring.sl 2 (k.val - 1)) g8 _ e8 (hO _)); iexact A8_dst

/-- The last trip. -/
theorem trip_last (w1 w6 w7 w37 w28 w29 w30 w31 w32 w41 : BitVec 32) (e1 : w1 = wd (cnt i)) (e6 : w6 = wd (16 * (i 0).val)) (e28 : w28 = wd 0) (h1 : k0_cond1 i = 1#1) (k : Trip i) (hO : ∀ b, (outBlk aP b).view.read (Elt F) O = dP c X b) (hk : 1 ≤ k.val) (h3 : ¬ k.val + 1 < cnt i) (Q) :
    iprop((∃ W, owes (c : Thread nD τ) 0 W) ∗ inFlight c i X k ∗ outFlight c i X Z (k.val - 1) ∗ outFree (F := F) c k ∗ outHome c i Z k
      ∗ (∀ r, (⌜r = accAt i (k.val + 1)⌝ ∗ (∃ W, owes (c : Thread nD τ) 0 W) ∗ inFree (F := F) c k ∗ inHome c i X k ∗ outFlight c i X Z k ∗ outFree (F := F) c (k.val - 1) ∗ outHome c i O (k.val - 1)) -∗ Q r))
      ⊢ wp frame (wpE (defs₀ (F := F)) 𝒱₀ (c : Thread nD τ) none) Set.univ (tripG i w1 w6 w7 w37 w28 w29 w30 w31 w32 w41 h1 k (accAt i k.val)) Q := by
  rw [accAt_trip]
  subst e1 e6 e28
  have hn := cnt_bounds i
  have c3 := cond3_neg i k h3
  have c9 := cond9_pos i k hk
  have c4 := cond4_pos i k
  have c7 := cond7_pos i k
  have q1 := chk1 i k
  have q2 := chk2 i k
  have q3 := chk3 i k
  iintro ⟨⟨%W, HW⟩, ⟨%f1, A1⟩, ⟨%g8, %e8, A8⟩, ⟨⟨%g7, B7⟩, C7⟩, D7, Hk⟩
  dsimp only [tripG]
  sl_unfold [k0_t1_body]
  sl_exec
  have ek : ∀ (i : grid0.Coords) (k : Trip i), (trip_last.sl.v108_r0 i k, trip_last.sl.v178_r0 i k,
      trip_last.sl.v160_r0 i k, trip_last.sl.v174_r0 i k, trip_last.sl.v90_r0 i k)
      = (wd (min (k.val + 2) (cnt i)), wd (k.val + 1), wd (k.val + 1), wd k.val, wd ((k.val + 1) % cnt i)) := by decide +kernel
  have ek' := ek i k
  simp only [Prod.mk.injEq] at ek'
  obtain ⟨k1, k2, k3, k4, k5⟩ := ek'
  have eP : pay c (outSlot mP (Ring.sl 2 k.val)) (trip_last.sl.B7_w1 c i X h1 k q2 q3 g7) = dP c X (bno i k.val) :=
    stored_eq mP mT (off11_eq i k) (off10_eq i k) _ _ _ _ _
  sl_step
  iapply Hk
  isplitr
  · ipureintro
    simp only [accAt, k1, k2, k3, k4, k5, Nat.add_sub_cancel]
  isplitl [HW]; · iexists _; iexact HW
  isplitl [A1_dst A1]
  · isplitl [A1_dst]; · iexists _; iexact A1_dst
    iexact A1
  isplitl [A1_src]; · iexact A1_src
  isplitl [C7]
  · iexists _; isplitr
    · ipureintro; exact eP
    iexact C7
  isplitl [A8_src A8]
  · isplitl [A8_src]; · iexists _; iexact A8_src
    iexact A8
  iapply (landed_home c Z O (bno i (k.val - 1)) (Ring.sl 2 (k.val - 1)) g8 _ e8 (hO _)); iexact A8_dst

end Trip

end Cert.Proof.Pack
-- ==== Proof.PackLoop.lean ====
/-
  The pack kernel's loop and the kernel at one grid point: before trip `k` block `k` of the table is in flight, packed block
  `k - 1` on its way home, every other block at home.
-/
module

public import proofs.«01_k».proof.Proof.PackTrip

@[expose] public section

noncomputable section

namespace Cert.Proof.Pack

open Cert.PackIdeal Cert.PackIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sets
variable {n : ℕ}

/-- The blocks but the one at `k`; but the one before `k`; but both. -/
abbrev others (n k : ℕ) : Finset (Fin n) := Finset.univ.filter fun b => b.val ≠ k
abbrev behind (n k : ℕ) : Finset (Fin n) := Finset.univ.filter fun b => b.val + 1 ≠ k
abbrev apart (n k : ℕ) : Finset (Fin n) := Finset.univ.filter fun b => b.val + 1 ≠ k ∧ b.val ≠ k

theorem others_erase {k k' : ℕ} (h : k < n) : (others n k').erase ⟨k, h⟩ = Finset.univ.filter fun b => b.val ≠ k ∧ b.val ≠ k' := by
  ext b; simp only [others, Finset.mem_erase, Finset.mem_filter, Finset.mem_univ, true_and, ne_eq, Fin.ext_iff]
theorem others_out {k k' : ℕ} (h : k < n) (hk : k ≠ k') {Φ : Fin n → sProp 𝕄} :
    bigSep (others n k') Φ = iprop(Φ ⟨k, h⟩ ∗ bigSep (Finset.univ.filter fun b => b.val ≠ k ∧ b.val ≠ k') Φ) := by
  rw [bigSep_erase (i := ⟨k, h⟩) (by simp [others, hk]), others_erase]
  rfl
theorem others_back {Φ : Fin n → sProp 𝕄} {k k' : ℕ} (h : k' < n) (hk : k' ≠ k) :
    iprop(Φ ⟨k', h⟩ ∗ bigSep (Finset.univ.filter fun b => b.val ≠ k ∧ b.val ≠ k') Φ) = bigSep (others n k) Φ := by
  rw [others_out h hk, Finset.filter_congr fun b _ => and_comm]
theorem others_last {Φ : Fin n → sProp 𝕄} {k : ℕ} (h : k < n) (h' : ¬ k + 1 < n) : iprop(Φ ⟨k, h⟩ ∗ bigSep (others n k) Φ) = bigSep (others n (k + 1)) Φ := by
  rw [others_out (k' := k + 1) h (by omega)]
  have e : (Finset.univ.filter fun b : Fin n => b.val ≠ k ∧ b.val ≠ k + 1) = others n k := by
    ext b; have := b.isLt; simp only [others, Finset.mem_filter, Finset.mem_univ, true_and]; omega
  rw [e]
theorem others_all : others n n = Finset.univ := by
  ext b; have := b.isLt; simp only [others, Finset.mem_filter, Finset.mem_univ, true_and, iff_true]; omega
theorem behind_zero : behind n 0 = Finset.univ := by
  ext b; simp only [behind, Finset.mem_filter, Finset.mem_univ, true_and, iff_true]; omega
theorem behind_erase {k : ℕ} (h : k < n) : (behind n k).erase ⟨k, h⟩ = apart n k := by
  ext b; simp only [behind, apart, Finset.mem_erase, Finset.mem_filter, Finset.mem_univ, true_and, ne_eq, Fin.ext_iff]; exact and_comm
theorem behind_erase_prev {k : ℕ} (h : k < n) (h1 : 1 ≤ k) : (behind n (k + 1)).erase ⟨k - 1, by omega⟩ = apart n k := by
  ext b; simp only [behind, apart, Finset.mem_erase, Finset.mem_filter, Finset.mem_univ, true_and, ne_eq, Fin.ext_iff]; omega
theorem univ_erase_last (h : 1 ≤ n) : (Finset.univ.erase (⟨n - 1, by omega⟩ : Fin n)) = behind n n := by
  ext b; simp only [behind, Finset.mem_erase, Finset.mem_filter, Finset.mem_univ, true_and, and_true, ne_eq, Fin.ext_iff]; omega
theorem univ_erase_first (h : 0 < n) : (Finset.univ.erase (⟨0, h⟩ : Fin n)) = others n 0 := by
  ext b; simp only [others, Finset.mem_erase, Finset.mem_filter, Finset.mem_univ, true_and, and_true, ne_eq, Fin.ext_iff]

end Sets

section Loop
variable (c : Dev nD) (i : grid0.Coords)
  (X : Buf (Elt F) (aT.view.loc (c : Thread nD τ))) (Z O : Buf (Elt F) (aP.view.loc (c : Thread nD τ)))

theorem inFree_add (k : ℕ) : inFree (F := F) c (k + 2) = inFree c k := by unfold inFree; rw [Ring.sl_add 2 k]
theorem outFree_add (k : ℕ) : outFree (F := F) c (k + 2) = outFree c k := by unfold outFree; rw [Ring.sl_add 2 k]

/-- Block `b` of the output before trip `k`: done or not. -/
abbrev outAt (k : ℕ) (b : Fin (cnt i)) : sProp 𝕄 := outHome c i (if b.val + 1 < k then O else Z) b.val

/-- What the loop holds before trip `k`. -/
def loopAt (k : ℕ) (acc : BitVec 32 × BitVec 32 × BitVec 32 × BitVec 32 × BitVec 32) : sProp 𝕄 :=
  iprop(⌜acc = accAt i k⌝ ∗ (∃ W, owes (c : Thread nD τ) 0 W)
    ∗ (if k < cnt i then inFlight c i X k else inFree (F := F) c k) ∗ inFree (F := F) c (k + 1)
    ∗ bigSep (others (cnt i) k) (fun b => inHome c i X b.val)
    ∗ (if 1 ≤ k then outFlight c i X Z (k - 1) else outFree (F := F) c (k + 1)) ∗ outFree (F := F) c k
    ∗ bigSep (behind (cnt i) k) (outAt c i Z O k))

variable (hO : ∀ b, (outBlk aP b).view.read (Elt F) O = dP c X b)

theorem behind_out {k : ℕ} (h : k < cnt i) :
    bigSep (behind (cnt i) k) (outAt c i Z O k) = iprop(outHome (F := F) c i Z k ∗ bigSep (apart (cnt i) k) (outAt c i Z O k)) := by
  rw [bigSep_erase (i := ⟨k, h⟩) (by simp [behind]), behind_erase]
  simp only [outAt, show ¬ k + 1 < k by omega, if_false]
  rfl
theorem apart_succ {k : ℕ} : bigSep (apart (cnt i) k) (outAt (F := F) c i Z O k) = bigSep (apart (cnt i) k) (outAt c i Z O (k + 1)) :=
  bigSep_congr fun b hb => by
    have hb' : b.val + 1 ≠ k ∧ b.val ≠ k := by simpa [apart] using hb
    have : (b.val + 1 < k) ↔ (b.val + 1 < k + 1) := by omega
    simp only [outAt, this]
theorem behind_in {k : ℕ} (h : k < cnt i) (h1 : 1 ≤ k) :
    iprop(outHome (F := F) c i O (k - 1) ∗ bigSep (apart (cnt i) k) (outAt c i Z O k)) = bigSep (behind (cnt i) (k + 1)) (outAt c i Z O (k + 1)) := by
  rw [apart_succ, bigSep_erase (i := ⟨k - 1, by omega⟩) (s := behind (cnt i) (k + 1)) (by simp [behind]; omega), behind_erase_prev h h1]
  simp only [outAt, show k - 1 + 1 < k + 1 by omega, if_true]
  rfl
theorem behind_one {k : ℕ} (h : k < 1) : bigSep (apart (cnt i) k) (outAt (F := F) c i Z O k) = bigSep (behind (cnt i) (k + 1)) (outAt c i Z O (k + 1)) := by
  rw [apart_succ]
  have e : behind (cnt i) (k + 1) = apart (cnt i) k := by
    ext b; simp only [behind, apart, Finset.mem_filter, Finset.mem_univ, true_and]; omega
  rw [e]

include hO in
/-- One trip. -/
theorem loop_step (w1 w6 w7 w37 w28 w29 w30 w31 w32 w41 : BitVec 32) (e1 : w1 = wd (cnt i)) (e6 : w6 = wd (16 * (i 0).val)) (e28 : w28 = wd 0)
    (h1 : k0_cond1 i = 1#1) (k : Trip i) (acc) :
    loopAt c i X Z O k.val acc
      ⊢ wp frame (wpE (defs₀ (F := F)) 𝒱₀ (c : Thread nD τ) none) Set.univ (tripG i w1 w6 w7 w37 w28 w29 w30 w31 w32 w41 h1 k acc) (loopAt c i X Z O (k.val + 1)) := by
  have hn := cnt_bounds i
  have hk := trip_lt i k
  have s2 : inFree (F := F) c (k.val + 1 + 1) = inFree c k.val := inFree_add c k.val
  unfold loopAt
  rw [if_pos hk, behind_out c i Z O hk]
  rcases Nat.lt_or_ge k.val 1 with h0 | h0
  · rw [if_neg (show ¬ 1 ≤ k.val by omega), others_out (show k.val + 1 < cnt i by omega) (show k.val + 1 ≠ k.val by omega)]
    iintro ⟨%e, HW, HI, HN, ⟨HC, HH⟩, HO, HF, ⟨HZ, HB⟩⟩
    subst e
    iapply (trip_first c i X Z w1 w6 w7 w37 w28 w29 w30 w31 w32 w41 e1 e6 e28 h1 k h0)
    isplitl [HW]; · iexact HW
    isplitl [HI]; · iexact HI
    isplitl [HN]; · iexact HN
    isplitl [HC]; · iexact HC
    isplitl [HF]; · iexact HF
    isplitl [HZ]; · iexact HZ
    iintro %r ⟨%er, HW, HI', HN', HC', HO'⟩
    irw [if_pos (show k.val + 1 < cnt i by omega), if_pos (show 1 ≤ k.val + 1 by omega), Nat.add_sub_cancel]
    isplitr; · ipureintro; exact er
    isplitl [HW]; · iexact HW
    isplitl [HI']; · iexact HI'
    isplitl [HN']; · irw [s2]; iexact HN'
    isplitl [HC' HH]
    · irw [← others_back (Φ := fun b : Fin (cnt i) => inHome (F := F) c i X b.val) hk (show k.val ≠ k.val + 1 by omega)]
      isplitl [HC']; · iexact HC'
      iexact HH
    isplitl [HO']; · iexact HO'
    isplitl [HO]; · iexact HO
    irw [← behind_one c i Z O h0]; iexact HB
  have s0 : outFree (F := F) c (k.val + 1) = outFree c (k.val - 1) :=
    (congrArg (outFree (F := F) c) (show k.val + 1 = k.val - 1 + 2 by omega)).trans (outFree_add c _)
  rw [if_pos h0]
  by_cases h3 : k.val + 1 < cnt i
  · rw [others_out h3 (show k.val + 1 ≠ k.val by omega)]
    iintro ⟨%e, HW, HI, HN, ⟨HC, HH⟩, HO, HF, ⟨HZ, HB⟩⟩
    subst e
    iapply (trip_mid c i X Z O w1 w6 w7 w37 w28 w29 w30 w31 w32 w41 e1 e6 e28 h1 k hO h0 h3)
    isplitl [HW]; · iexact HW
    isplitl [HI]; · iexact HI
    isplitl [HN]; · iexact HN
    isplitl [HC]; · iexact HC
    isplitl [HO]; · iexact HO
    isplitl [HF]; · iexact HF
    isplitl [HZ]; · iexact HZ
    iintro %r ⟨%er, HW, HI', HN', HC', HO', HF', HZ'⟩
    irw [if_pos h3, if_pos (show 1 ≤ k.val + 1 by omega), Nat.add_sub_cancel]
    isplitr; · ipureintro; exact er
    isplitl [HW]; · iexact HW
    isplitl [HI']; · iexact HI'
    isplitl [HN']; · irw [s2]; iexact HN'
    isplitl [HC' HH]
    · irw [← others_back (Φ := fun b : Fin (cnt i) => inHome (F := F) c i X b.val) hk (show k.val ≠ k.val + 1 by omega)]
      isplitl [HC']; · iexact HC'
      iexact HH
    isplitl [HO']; · iexact HO'
    isplitl [HF']; · irw [s0]; iexact HF'
    irw [← behind_in c i Z O hk h0]
    isplitl [HZ']; · iexact HZ'
    iexact HB
  · iintro ⟨%e, HW, HI, HN, HH, HO, HF, ⟨HZ, HB⟩⟩
    subst e
    iapply (trip_last c i X Z O w1 w6 w7 w37 w28 w29 w30 w31 w32 w41 e1 e6 e28 h1 k hO h0 h3)
    isplitl [HW]; · iexact HW
    isplitl [HI]; · iexact HI
    isplitl [HO]; · iexact HO
    isplitl [HF]; · iexact HF
    isplitl [HZ]; · iexact HZ
    iintro %r ⟨%er, HW, HN', HC', HO', HF', HZ'⟩
    irw [if_neg h3, if_pos (show 1 ≤ k.val + 1 by omega), Nat.add_sub_cancel]
    isplitr; · ipureintro; exact er
    isplitl [HW]; · iexact HW
    isplitl [HN]; · iexact HN
    isplitl [HN']; · irw [s2]; iexact HN'
    isplitl [HC' HH]
    · irw [← others_last (Φ := fun b : Fin (cnt i) => inHome (F := F) c i X b.val) hk h3]
      isplitl [HC']; · iexact HC'
      iexact HH
    isplitl [HO']; · iexact HO'
    isplitl [HF']; · irw [s0]; iexact HF'
    irw [← behind_in c i Z O hk h0]
    isplitl [HZ']; · iexact HZ'
    iexact HB

/-! ## The kernel at a grid point -/

/-- The kernel on its arrays, buffers and semaphores. -/
abbrev bodyG : Prog (TpuEff nD τ sig (Elt F) Λ₀ .tc) PUnit :=
  cc0_k i aT (Memref.isWhole_whole _) aP (Memref.isWhole_whole _) mT (Memref.isWhole_whole _) cc0_scoped1 mP (Memref.isWhole_whole _) cc0_scoped3

/-- The buffers and semaphores at rest, the table's blocks and the output's at contents `W`. -/
def rest (W : Buf (Elt F) (aP.view.loc (c : Thread nD τ))) : sProp 𝕄 :=
  iprop((∃ w, owes (c : Thread nD τ) 0 w) ∗ inFree (F := F) c 0 ∗ inFree (F := F) c 1 ∗ outFree (F := F) c 0 ∗ outFree (F := F) c 1
    ∗ bigSep Finset.univ (fun b : Fin (cnt i) => inHome c i X b.val) ∗ bigSep Finset.univ (fun b : Fin (cnt i) => outHome c i W b.val))

theorem in_split : bigSep Finset.univ (fun b : Fin (cnt i) => inHome (F := F) c i X b.val)
    = iprop(inHome c i X 0 ∗ bigSep (others (cnt i) 0) (fun b : Fin (cnt i) => inHome c i X b.val)) := by
  have hn := cnt_bounds i
  rw [bigSep_univ_split (⟨0, by omega⟩ : Fin (cnt i)), univ_erase_first]
  rfl
theorem out_split (W : Buf (Elt F) (aP.view.loc (c : Thread nD τ))) : bigSep Finset.univ (fun b : Fin (cnt i) => outHome (F := F) c i W b.val)
    = iprop(outHome c i W (cnt i - 1) ∗ bigSep (behind (cnt i) (cnt i)) (fun b : Fin (cnt i) => outHome c i W b.val)) := by
  have hn := cnt_bounds i
  rw [bigSep_univ_split (⟨cnt i - 1, by omega⟩ : Fin (cnt i)), univ_erase_last (by omega)]
  rfl
theorem out_start : bigSep Finset.univ (fun b : Fin (cnt i) => outHome (F := F) c i Z b.val) = bigSep (behind (cnt i) 0) (outAt c i Z O 0) := by
  rw [behind_zero]
  exact bigSep_congr fun b _ => by simp only [outAt, Nat.not_lt_zero, if_false]

/-- The two slots, whichever trip comes next. -/
theorem inFree_pair : ∀ k : ℕ, iprop(inFree (F := F) c k ∗ inFree (F := F) c (k + 1)) = iprop(inFree (F := F) c 0 ∗ inFree (F := F) c 1)
  | 0 => rfl
  | k + 1 => by
    rw [show k + 1 + 1 = k + 2 from rfl, inFree_add, ← inFree_pair k]
    exact Entails.antisymm BI.sep_comm BI.sep_comm
theorem outFree_pair : ∀ k : ℕ, iprop(outFree (F := F) c k ∗ outFree (F := F) c (k + 1)) = iprop(outFree (F := F) c 0 ∗ outFree (F := F) c 1)
  | 0 => rfl
  | k + 1 => by
    rw [show k + 1 + 1 = k + 2 from rfl, outFree_add, ← outFree_pair k]
    exact Entails.antisymm BI.sep_comm BI.sep_comm

/-- After the last trip. -/
theorem loopAt_end (acc) : loopAt c i X Z O (k0_t1_loop i).trips acc
    ⊢ iprop(⌜acc = (wd (cnt i), wd (cnt i), wd (cnt i), wd (cnt i - 1), wd 0)⌝ ∗ (∃ W, owes (c : Thread nD τ) 0 W)
      ∗ inFree (F := F) c 0 ∗ inFree (F := F) c 1 ∗ bigSep Finset.univ (fun b : Fin (cnt i) => inHome c i X b.val)
      ∗ outFlight c i X Z (cnt i - 1) ∗ outFree (F := F) c (cnt i) ∗ bigSep (behind (cnt i) (cnt i)) (fun b : Fin (cnt i) => outHome c i O b.val)) := by
  have hn := cnt_bounds i
  rw [trips_eq]
  unfold loopAt
  rw [if_neg (Nat.lt_irrefl _), if_pos (show 1 ≤ cnt i by omega), others_all]
  have e : bigSep (behind (cnt i) (cnt i)) (outAt (F := F) c i Z O (cnt i)) = bigSep (behind (cnt i) (cnt i)) (fun b : Fin (cnt i) => outHome c i O b.val) :=
    bigSep_congr fun b hb => by
      have hb' : b.val + 1 ≠ cnt i := by simpa [behind] using hb
      have : b.val + 1 < cnt i := by have := b.isLt; omega
      simp only [outAt, this, if_true]
  rw [e]
  iintro ⟨%ea, HW, H0, H1, Hr⟩
  isplitr; · ipureintro; rw [ea]; simp only [accAt, Nat.mod_self, Nat.min_eq_right (Nat.le_succ _)]
  isplitl [HW]; · iexact HW
  ihave HP := (Entails.of_eq (inFree_pair (F := F) c (cnt i))) $$ [H0 H1]
  · isplitl [H0]; · iexact H0
    iexact H1
  icases HP with ⟨H0, H1⟩
  isplitl [H0]; · iexact H0
  isplitl [H1]; · iexact H1
  iexact Hr

include hO in
/-- The kernel at a grid point. -/
theorem body_run (Q : PUnit → sProp 𝕄) :
    iprop(rest c i X Z ∗ (rest c i X O -∗ Q ⟨⟩))
      ⊢ wp frame (wpE (defs₀ (F := F)) 𝒱₀ (c : Thread nD τ) none) Set.univ (bodyG i) Q := by
  have hn := cnt_bounds i
  unfold rest
  rw [in_split]
  have c1 := cond1_pos i
  have c2 := cond2_pos i
  iintro ⟨⟨⟨%W, HW⟩, ⟨⟨%f1, Hd1⟩, Hc1⟩, HN, HF, HF', ⟨Hh1, HH⟩, HO⟩, Hk⟩
  sl_exec
  have v1_eq : ∀ i : grid0.Coords, body_run.sl.v1 i = wd (cnt i) := by decide +kernel
  have v6_eq : ∀ i : grid0.Coords, body_run.sl.v6 i = wd (16 * (i 0).val) := by decide +kernel
  have start_eq : ∀ i : grid0.Coords, (body_run.sl.v37_r0 i, 0#32, 0#32, 0#32, 0#32) = accAt i 0 := by decide +kernel
  iapply (Scf.wp_for_bind Idealize.ShloMosaic.frame (wpE (defs₀ (F := F)) 𝒱₀ (c : Thread nD τ) none) Set.univ _ _ _ _ _ _
    (loopAt c i X Z O) (fun k acc => loop_step c i X Z O hO _ _ _ _ _ _ _ _ _ _ (v1_eq i) (v6_eq i) rfl c1 k acc)) $$ [HW Hc1 HN HF HF' HH HO]
  · unfold loopAt
    irw [if_pos (show 0 < cnt i by omega), if_neg (show ¬ 1 ≤ 0 by omega), ← out_start c i Z O]
    isplitr; · ipureintro; exact start_eq i
    isplitl [HW]; · iexists _; iexact HW
    isplitl [Hc1]; · iexists _; iexact Hc1
    isplitl [HN]; · iexact HN
    isplitl [HH]; · iexact HH
    isplitl [HF']; · iexact HF'
    isplitl [HF]; · iexact HF
    iexact HO
  iintro %acc HL
  ihave HL := (loopAt_end c i X Z O acc) $$ HL
  icases HL with ⟨%ea, HW, HN, HN', HH, ⟨%g1, %e1, Hf1⟩, HF, HO⟩
  subst ea
  -- the second loop takes no trip
  iapply (Scf.wp_for_bind Idealize.ShloMosaic.frame (wpE (defs₀ (F := F)) 𝒱₀ (c : Thread nD τ) none) Set.univ _ _ _ _ _ _
    (fun _ acc => iprop(⌜acc = (wd (cnt i), wd (cnt i), wd (cnt i), wd (cnt i - 1), wd 0)⌝)) (fun k _ => absurd (lt_of_lt_of_eq k.isLt (no_trips i)) (Nat.not_lt_zero _))) $$ []
  · ipureintro; rfl
  iintro %acc %ea
  subst ea
  icases HW with ⟨%W', HW⟩
  have c7 := chk7 i
  have c8 := chk8 i
  have c18 := cond18_pos i
  sl_exec
  sl_step
  iapply Hk
  isplitl [HW]; · iexists _; iexact HW
  isplitl [HN]; · iexact HN
  isplitl [HN']; · iexact HN'
  ihave HP := (Entails.of_eq ((congrArg (fun k => iprop(outFree (F := F) c (cnt i - 1) ∗ outFree (F := F) c k)) (show cnt i = cnt i - 1 + 1 by omega)).trans
    (outFree_pair (F := F) c (cnt i - 1)))) $$ [Hf1_src Hf1 HF]
  · isplitl [Hf1_src Hf1]
    · isplitl [Hf1_src]; · iexists _; iexact Hf1_src
      iexact Hf1
    iexact HF
  icases HP with ⟨H0, H1⟩
  isplitl [H0]; · iexact H0
  isplitl [H1]; · iexact H1
  isplitl [HH]; · irw [← in_split c i X]; iexact HH
  irw [out_split c i O]
  isplitl [Hf1_dst]
  · iapply (landed_home c Z O (bno i (cnt i - 1)) (Ring.sl 2 (cnt i - 1)) g1 _ e1 (hO _)); iexact Hf1_dst
  iexact HO

end Loop

end Cert.Proof.Pack
-- ==== Proof.PackRegion.lean ====
/-
  The pack kernel's call: the table and the output block by block, the buffers slot by slot, and the run of @main.
-/
module

public import proofs.«01_k».proof.Proof.PackLoop
public import Idealize.ShloMosaic.Lib.SparseCore.Stream
public import Idealize.ShloMosaic.Lib.Pipeline.Frame

@[expose] public section

noncomputable section

namespace Cert.Proof.Pack

open Cert.PackIdeal Cert.PackIdeal.Gen
open Idealize.ShloMosaic
open Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces cut out of a whole buffer -/

section Cut
variable {S : Shape} {B : Type} [Fintype B] [DecidableEq B] (c : Dev nD)

/-- The sets `J` are disjoint and make up `M`. -/
abbrev Cuts {sp : Space} {e : EltTy} (M : Memref sig .tc sp S e) (J : B → Finset M.view.ty.shape.Idx) : Prop :=
  (∀ b b', b ≠ b' → Disjoint (J b) (J b')) ∧ (Finset.univ.biUnion J) = M.view.set

/-- Disjoint rectangles that cover a shape cut a memref of that shape. -/
theorem cuts_eq {sp : Space} {e : EltTy} (M : Memref sig .tc sp S e) (r : B → Rect S) (hd : ∀ b b', b ≠ b' → Disjoint (r b).set (r b').set)
    (hc : Finset.univ.biUnion (fun b => (r b).set) = Finset.univ) (J : B → Finset M.view.ty.shape.Idx) (hJ : ∀ b, J b = (M.view.slice (r b)).set) :
    Cuts M J := by
  constructor
  · intro b b' h
    rw [hJ, hJ, View.set_slice, View.set_slice]
    exact (Finset.disjoint_map _).mpr (hd b b' h)
  · ext j
    simp only [hJ, View.set_slice, Finset.mem_biUnion, Finset.mem_univ, true_and]
    constructor
    · rintro ⟨b, hb⟩
      obtain ⟨x, -, rfl⟩ := Finset.mem_map.mp hb
      exact Finset.mem_map_of_mem _ (Finset.mem_univ x)
    · intro hj
      obtain ⟨x, -, rfl⟩ := Finset.mem_map.mp hj
      obtain ⟨b, -, hb⟩ := Finset.mem_biUnion.mp (hc.symm ▸ Finset.mem_univ x : x ∈ Finset.univ.biUnion fun b => (r b).set)
      exact ⟨b, Finset.mem_map_of_mem _ hb⟩

end Cut

variable (c : Dev nD)

abbrev inRect (b : Fin 31) : Rect S64x1015808 := Rect.unit (s := S64x1015808) (inOff b) S64x32768.size (inBlk_inb b)
abbrev outRect (b : Fin 31) : Rect S507904x128 := Rect.unit (s := S507904x128) (outOff b) S16384x128.size (outBlk_inb b)
abbrev inPart (s : Fin 2) : Rect S2x64x32768 := Rect.unit (s := S2x64x32768) (slotOff s) S1x64x32768.size (inSlot_inb s)
abbrev outPart (s : Fin 2) : Rect S2x16384x128 := Rect.unit (s := S2x16384x128) (slotOff s) S1x16384x128.size (outSlot_inb s)

theorem in_cut (A : Memref sig .tc .hbm S64x1015808 .f32) : Cuts A (fun b => (inBlk A b).view.set) := cuts_eq A inRect
  (Ring.lead_disjoint (s := S64x1015808) 1 32768 inOff S64x32768.size inBlk_inb (fun _ => rfl) rfl)
  (Ring.lead_cover (s := S64x1015808) 1 32768 inOff S64x32768.size inBlk_inb (fun _ => rfl) (by decide) rfl (by decide) rfl) (fun b => (inBlk A b).view.set) (fun _ => rfl)
theorem out_cut (A : Memref sig .tc .hbm S507904x128 .bf16) : Cuts A (fun b => (outBlk A b).view.set) := cuts_eq A outRect
  (Ring.lead_disjoint (s := S507904x128) 0 16384 outOff S16384x128.size outBlk_inb (fun _ => rfl) rfl)
  (Ring.lead_cover (s := S507904x128) 0 16384 outOff S16384x128.size outBlk_inb (fun _ => rfl) (by decide) rfl (by decide) rfl) (fun b => (outBlk A b).view.set) (fun _ => rfl)
theorem inSlot_cut (M : Memref sig .tc .vmem S2x64x32768 .f32) : Cuts M (fun s => (inSlot M s).view.set) := cuts_eq M inPart
  (Ring.lead_disjoint (s := S2x64x32768) 0 1 slotOff S1x64x32768.size inSlot_inb (fun s => (one_mul s.val).symm) rfl)
  (Ring.lead_cover (s := S2x64x32768) 0 1 slotOff S1x64x32768.size inSlot_inb (fun s => (one_mul s.val).symm) (by decide) rfl (by decide) rfl)
  (fun s => (inSlot M s).view.set) (fun _ => View.set_reshape _ _)
theorem outSlot_cut (M : Memref sig .tc .vmem S2x16384x128 .bf16) : Cuts M (fun s => (outSlot M s).view.set) := cuts_eq M outPart
  (Ring.lead_disjoint (s := S2x16384x128) 0 1 slotOff S1x16384x128.size outSlot_inb (fun s => (one_mul s.val).symm) rfl)
  (Ring.lead_cover (s := S2x16384x128) 0 1 slotOff S1x16384x128.size outSlot_inb (fun s => (one_mul s.val).symm) (by decide) rfl (by decide) rfl)
  (fun s => (outSlot M s).view.set) (fun _ => View.set_reshape _ _)

/-! ## The arrays by grid point -/

theorem cnt_0 : cnt (grid0.coords t0_0) = 16 := by decide +kernel
theorem cnt_1 : cnt (grid0.coords t0_1) = 15 := by decide +kernel

/-- Thirty-one of a kind are the first grid point's sixteen and the second's fifteen. -/
theorem points_eq (Φ : Fin 31 → sProp 𝕄) :
    bigSep Finset.univ Φ = iprop((bigSep Finset.univ fun b : Fin (cnt (grid0.coords t0_0)) => Φ (bno (grid0.coords t0_0) b.val))
      ∗ (bigSep Finset.univ fun b : Fin (cnt (grid0.coords t0_1)) => Φ (bno (grid0.coords t0_1) b.val))) := by
  rw [bigSep_univ_equiv (finSumFinEquiv : Fin 16 ⊕ Fin 15 ≃ Fin (16 + 15)) Φ, bigSep_univ_sum,
    bigSep_univ_equiv (finCongr cnt_0.symm) (fun b : Fin (cnt (grid0.coords t0_0)) => Φ (bno (grid0.coords t0_0) b.val)),
    bigSep_univ_equiv (finCongr cnt_1.symm) (fun b : Fin (cnt (grid0.coords t0_1)) => Φ (bno (grid0.coords t0_1) b.val))]
  refine congrArg₂ _ (bigSep_congr fun b _ => ?_) (bigSep_congr fun b _ => ?_)
  · exact congrArg Φ ((by decide +kernel : ∀ b : Fin 16, (finSumFinEquiv (Sum.inl b : Fin 16 ⊕ Fin 15) : Fin (16 + 15)) = bno (grid0.coords t0_0) b.val) b)
  · exact congrArg Φ ((by decide +kernel : ∀ b : Fin 15, (finSumFinEquiv (Sum.inr b : Fin 16 ⊕ Fin 15) : Fin (16 + 15)) = bno (grid0.coords t0_1) b.val) b)

variable (X : Buf (Elt F) (aT.view.loc (c : Thread nD τ))) (W : Buf (Elt F) (aP.view.loc (c : Thread nD τ)))

/-- Grid point `t`'s blocks of the table; of the output. -/
abbrev insOf (t : Fin grid0.N) : sProp 𝕄 := bigSep Finset.univ fun b : Fin (cnt (grid0.coords t)) => inHome (F := F) c (grid0.coords t) X b.val
abbrev outsOf (t : Fin grid0.N) : sProp 𝕄 := bigSep Finset.univ fun b : Fin (cnt (grid0.coords t)) => outHome (F := F) c (grid0.coords t) W b.val

theorem ins_points : held (F := F) c aT X = iprop(insOf c X t0_0 ∗ insOf c X t0_1) :=
  (Ring.pointsTo_sub_blocks (ℓ := aT.view.loc (c : Thread nD τ)) (fun b : Fin 31 => (inBlk aT b).view.set) (in_cut aT).1 aT.view.set (in_cut aT).2 X).trans
    (points_eq fun b => held (F := F) c (inBlk aT b) X)
theorem outs_points : held (F := F) c aP W = iprop(outsOf c W t0_0 ∗ outsOf c W t0_1) :=
  (Ring.pointsTo_sub_blocks (ℓ := aP.view.loc (c : Thread nD τ)) (fun b : Fin 31 => (outBlk aP b).view.set) (out_cut aP).1 aP.view.set (out_cut aP).2 W).trans
    (points_eq fun b => held (F := F) c (outBlk aP b) W)

/-! ## The buffers and semaphores at rest -/

theorem inSlots_split (f : Buf (Elt F) (mT.view.loc (c : Thread nD τ))) :
    held (F := F) c mT f ⊢ iprop((∃ f, held (F := F) c (inSlot mT 0) f) ∗ (∃ f, held (F := F) c (inSlot mT 1) f)) := by
  refine (Entails.of_eq ((Ring.pointsTo_sub_blocks (ℓ := mT.view.loc (c : Thread nD τ)) (fun s : Fin 2 => (inSlot mT s).view.set) (inSlot_cut mT).1 mT.view.set (inSlot_cut mT).2 f).trans (bigSep_fin_two _))).trans ?_
  exact BI.sep_mono (BI.Laws.exists_intro_trans (Ψ := fun f => held (F := F) c (inSlot mT 0) f) f .rfl) (BI.Laws.exists_intro_trans (Ψ := fun f => held (F := F) c (inSlot mT 1) f) f .rfl)
theorem inSlots_join :
    iprop((∃ f, held (F := F) c (inSlot mT 0) f) ∗ (∃ f, held (F := F) c (inSlot mT 1) f)) ⊢ (iprop(∃ f, held (F := F) c mT f) : sProp 𝕄) :=
  (Entails.of_eq (bigSep_fin_two fun s : Fin 2 => iprop(∃ f, held (F := F) c (inSlot mT s) f)).symm).trans
    (Ring.pointsTo_sub_blocks_join_exists (ℓ := mT.view.loc (c : Thread nD τ)) (fun s : Fin 2 => (inSlot mT s).view.set) (inSlot_cut mT).1 mT.view.set (inSlot_cut mT).2 fun _ => Classical.arbitrary _)
theorem outSlots_split (f : Buf (Elt F) (mP.view.loc (c : Thread nD τ))) :
    held (F := F) c mP f ⊢ iprop((∃ f, held (F := F) c (outSlot mP 0) f) ∗ (∃ f, held (F := F) c (outSlot mP 1) f)) := by
  refine (Entails.of_eq ((Ring.pointsTo_sub_blocks (ℓ := mP.view.loc (c : Thread nD τ)) (fun s : Fin 2 => (outSlot mP s).view.set) (outSlot_cut mP).1 mP.view.set (outSlot_cut mP).2 f).trans (bigSep_fin_two _))).trans ?_
  exact BI.sep_mono (BI.Laws.exists_intro_trans (Ψ := fun f => held (F := F) c (outSlot mP 0) f) f .rfl) (BI.Laws.exists_intro_trans (Ψ := fun f => held (F := F) c (outSlot mP 1) f) f .rfl)
theorem outSlots_join :
    iprop((∃ f, held (F := F) c (outSlot mP 0) f) ∗ (∃ f, held (F := F) c (outSlot mP 1) f)) ⊢ (iprop(∃ f, held (F := F) c mP f) : sProp 𝕄) :=
  (Entails.of_eq (bigSep_fin_two fun s : Fin 2 => iprop(∃ f, held (F := F) c (outSlot mP s) f)).symm).trans
    (Ring.pointsTo_sub_blocks_join_exists (ℓ := mP.view.loc (c : Thread nD τ)) (fun s : Fin 2 => (outSlot mP s).view.set) (outSlot_cut mP).1 mP.view.set (outSlot_cut mP).2 fun _ => Classical.arbitrary _)

/-- The kernel's four semaphores. -/
def ownSem : Fin 2 × Fin 2 → SemLoc sig := fun k => .dma (cel (![cc0_scoped1, cc0_scoped3] k.2) k.1).sem
theorem own_facts : Pipeline.OwnSemFacts cfg0.spec ownSem := by decide +kernel
abbrev zeros (s : Fin 2) : sProp 𝕄 := iprop(zero (F := F) c (cel cc0_scoped1 s) ∗ zero (F := F) c (cel cc0_scoped3 s))
theorem ownSems_eq : (Pipeline.ownSems0 (Ix := Unit) (Val := Elt F) (Name := ℕ) (U := UU) (Lvl := ℕ) (τ := τ) ownSem c : sProp 𝕄) = iprop(zeros (F := F) c 0 ∗ zeros (F := F) c 1) := by
  unfold Pipeline.ownSems0
  rw [bigSep_univ_prod, bigSep_fin_two, bigSep_fin_two, bigSep_fin_two]
  rfl

/-- The buffers' slots and the semaphores at rest. -/
def idle : sProp 𝕄 := iprop(inFree (F := F) c 0 ∗ inFree (F := F) c 1 ∗ outFree (F := F) c 0 ∗ outFree (F := F) c 1)

theorem idle_intro : iprop((∃ f, held (F := F) c mT f) ∗ (∃ f, held (F := F) c mP f) ∗ zeros c 0 ∗ zeros c 1) ⊢ idle (F := F) c := by
  unfold idle
  iintro ⟨⟨%f1, H1⟩, ⟨%f2, H2⟩, ⟨Z1, Z2⟩, ⟨W1, W2⟩⟩
  ihave H1 := (inSlots_split c f1) $$ H1
  ihave H2 := (outSlots_split c f2) $$ H2
  icases H1 with ⟨H1, G1⟩
  icases H2 with ⟨H2, G2⟩
  isplitl [H1 Z1]; · isplitl [H1]; · iexact H1
                     iexact Z1
  isplitl [G1 W1]; · isplitl [G1]; · iexact G1
                     iexact W1
  isplitl [H2 Z2]; · isplitl [H2]; · iexact H2
                     iexact Z2
  isplitl [G2]; · iexact G2
  iexact W2

theorem idle_elim : idle (F := F) c ⊢ iprop((∃ f, held (F := F) c mT f) ∗ (∃ f, held (F := F) c mP f) ∗ zeros c 0 ∗ zeros c 1) := by
  unfold idle
  iintro ⟨⟨H1, Z1⟩, ⟨G1, W1⟩, ⟨H2, Z2⟩, ⟨G2, W2⟩⟩
  isplitl [H1 G1]
  · iapply (inSlots_join c); isplitl [H1]; · iexact H1
    iexact G1
  isplitl [H2 G2]
  · iapply (outSlots_join c); isplitl [H2]; · iexact H2
    iexact G2
  isplitl [Z1 Z2]; · isplitl [Z1]; · iexact Z1
                     iexact Z2
  isplitl [W1]; · iexact W1
  iexact W2

/-! ## The call -/

/-- An array of packed rows from its blocks. -/
def laid (D : Fin 31 → FVec F S16384x128 .bf16) : S507904x128.Idx → Elt F .bf16 :=
  fun j => D ⟨(j 0).val / 16384, Nat.div_lt_of_lt_mul (show _ < 16384 * 31 from (j 0).isLt)⟩ (fun | 0 => ⟨(j 0).val % 16384, Nat.mod_lt _ (by decide)⟩ | 1 => j 1)

theorem laid_read (D : Fin 31 → FVec F S16384x128 .bf16) (b : Fin 31) : (outBlk aP b).view.read (Elt F) (laid D) = D b := by
  funext x
  have h : (x 0).val < 16384 := (x 0).isLt
  show D ⟨(16384 * b.val + 1 * (x 0).val) / 16384, _⟩ _ = _
  refine congr (congrArg D (Fin.ext (show (16384 * b.val + 1 * (x 0).val) / 16384 = b.val by omega))) (funext fun a => ?_)
  match a with
  | 0 => exact Fin.ext (show (16384 * b.val + 1 * (x 0).val) % 16384 = (x 0).val by omega)
  | 1 => exact Fin.ext (show 0 + 1 * (x 1).val = (x 1).val by omega)

/-- The contents of @main's buffers at the call. -/
abbrev lines : List (List (HloOp τ sig (Elt F))) := [hostOps0, hostOps0_1]
variable (m : (ℓ : Loc nD τ sig) → Buf (Elt F) ℓ) (ρ : Dev nD → PrngReg)
def V (c : Dev nD) (b : Ref sig .tc) : Buf (Elt F) ((c : Thread nD τ).loc b) := StableHlo.after lines.flatten (fun b => m (c, b)) b

abbrev tab (c : Dev nD) : Buf (Elt F) (aT.view.loc (c : Thread nD τ)) := V m c main_v1
abbrev old (c : Dev nD) : Buf (Elt F) (aP.view.loc (c : Thread nD τ)) := V m c main_v2
abbrev new (c : Dev nD) : Buf (Elt F) (aP.view.loc (c : Thread nD τ)) := laid (dP c (tab m c))

/-- What the kernel holds before grid point `n`. -/
def inv (c : Dev nD) (n : ℕ) : sProp 𝕄 :=
  iprop(idle (F := F) c ∗ (insOf c (tab m c) t0_0 ∗ insOf c (tab m c) t0_1)
    ∗ (outsOf c (if 0 < n then new m c else old m c) t0_0 ∗ outsOf c (if 1 < n then new m c else old m c) t0_1))

theorem point_run (c : Dev nD) (t : Fin grid0.N) :
    iprop(inv m c t.val ∗ (∃ W, owes (c : Thread nD τ) 0 W))
      ⊢ wp frame (wpE (defs₀ (F := F)) 𝒱₀ (c : Thread nD τ) none) Set.univ (bodyG (F := F) (grid0.coords t))
          fun _ => iprop(inv m c (t.val + 1) ∗ (∃ W, owes (c : Thread nD τ) 0 W)) := by
  refine (?_ : _ ⊢ _).trans (body_run c (grid0.coords t) (tab m c) (old m c) (new m c) (fun b => laid_read _ b) _)
  unfold rest inv idle
  rcases fin_N0 t with rfl | rfl
  · rw [show t0_0.val = 0 from rfl, if_neg (by decide), if_neg (by decide), if_pos (by decide), if_neg (by decide)]
    iintro ⟨⟨⟨H1, H2, H3, H4⟩, ⟨H5, H6⟩, ⟨H7, H8⟩⟩, HO⟩
    isplitl [HO H1 H2 H3 H4 H5 H7]
    · iframe
    · iintro ⟨HO, H1, H2, H3, H4, H5, H7⟩
      iframe
  · rw [show t0_1.val = 1 from rfl, if_pos (by decide), if_neg (by decide), if_pos (by decide), if_pos (by decide)]
    iintro ⟨⟨⟨H1, H2, H3, H4⟩, ⟨H5, H6⟩, ⟨H7, H8⟩⟩, HO⟩
    isplitl [HO H1 H2 H3 H4 H6 H8]
    · iframe
    · iintro ⟨HO, H1, H2, H3, H4, H6, H8⟩
      iframe

def dat (c : Dev nD) : Dat τ (Elt F) Unit ℕ UU ℕ cfg0 c where
  A w := w.elim0
  after w := w.elim0
  Φ n := inv m c n.val
  q _ := fullShare
  owed _ := 0

abbrev dats (p : Fin 1) (c : Dev nD) : Dat τ (Elt F) Unit ℕ UU ℕ (cfgs p) c := dat m c

theorem owesAt_eq (c : Dev nD) (n) : (dat m c).owesAt () n ⊣⊢ (iprop(∃ W, owes (c : Thread nD τ) (0 : CellTallies nD τ sig Unit) W) : sProp 𝕄) := by
  unfold Pipeline.Dat.owesAt Pipeline.owesWithin
  constructor
  · iintro ⟨%W, -, HO⟩; iexists W; iexact HO
  · iintro ⟨%W, HO⟩
    iexists W
    isplitr; · ipureintro; exact fun _ _ => Or.inl trivial
    iexact HO

theorem label_eq (t : Fin cfg0.N) (s) : defs₀ (F := F) Proc.tc cfg0.body (t, s) = bodyG (F := F) (grid0.coords t) := by
  unfold defs₀ Defs.onTc
  dsimp only

theorem point_label (c : Dev nD) (t : Fin cfg0.N) (e : Prog (TpuEff nD τ sig (Elt F) Λ₀ .tc) PUnit) (he : e = bodyG (grid0.coords t)) :
    iprop(inv m c t.val ∗ (∃ W, owes (c : Thread nD τ) 0 W))
      ⊢ wp frame (wpE (defs₀ (F := F)) 𝒱₀ (c : Thread nD τ) none) Set.univ e
          fun _ => iprop(inv m c (t.val + 1) ∗ (∃ W, owes (c : Thread nD τ) 0 W)) := by
  subst he
  convert point_run m c t

theorem body_obligation (c : Dev nD) : BodyObligation (dat m c) (defs₀ (F := F)) 𝒱₀ () Set.univ := fun t => by
  rw [show (Finset.univ : Finset (Fin cfg0.W)) = ∅ from rfl, bigSep_empty]
  rw [show (dat m c).Φ t.castSucc = inv m c t.val from rfl, show (dat m c).Φ t.succ = inv m c (t.val + 1) from rfl]
  have he := label_eq (F := F) t (cfg0.slots t)
  generalize defs₀ (F := F) Proc.tc cfg0.body (cfg0.bodyArgs t (cfg0.slots t)) = e at he ⊢
  iintro ⟨HI, HO, -⟩
  ihave HO := (owesAt_eq m c _).1 $$ HO
  iapply (wp_wand_r frame (wpE (defs₀ (F := F)) 𝒱₀ (c : Thread nD τ) none) Set.univ)
  isplitl [HI HO]
  · iapply (point_label m c t e he)
    iframe
  · iintro %_ ⟨HI, HO⟩
    ihave HO := (owesAt_eq m c t.succ).2 $$ HO
    isplitl [HI]; · iexact HI
    isplitl [HO]; · iexact HO
    iempintro

theorem bufs_eq (c : Dev nD) :
    (Pipeline.scopedRest (Ix := Unit) (Name := ℕ) (U := UU) (Lvl := ℕ) (Val := Elt F) (cfg0.spec) c : sProp 𝕄)
      = iprop((∃ f, held (F := F) c mT f) ∗ (∃ f, held (F := F) c mP f)) := by
  rw [scopedRest0_eq]
  simp only [held, View.set_whole]

/-! ## The run -/

/-- Nothing for each device is nothing. -/
theorem no_share : (BI.emp : sProp 𝕄) ⊢ bigSep Finset.univ (fun _ : Dev nD => (BI.emp : sProp 𝕄)) := by rw [BI.bigSep_emp_const]

abbrev EP : Emb (UR sig nD τ) (MT nD τ sig Unit (Elt F) ℕ UU ℕ) := embL
def u₀ : UU := (initOf (Pipeline.cells cfgs cellOf_inj) (Pipeline.launchToks cfgs cellOf_inj), 1)

/-- What the final memory says: the argument as it was, the output packed. -/
def QY (c : Dev nD) (s : MemSt nD τ sig (Elt F)) : Prop :=
  s.mem ((c : Thread nD τ).loc main_arg0) = V m c main_arg0 ∧ s.mem ((c : Thread nD τ).loc main_v2) = new m c

/-- From `m` and zero counters, @main ends with the table as it was, the output packed, every counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 own_facts EP defs₀ 𝒱₀ m ρ main
    (hbody := fun c => (body_obligation m c).loose) (hshare := fun c w => w.elim0) (howed := fun _ _ => rfl)
    (G := fun _ => BI.emp) (u₀ := u₀)
    (hu₀ := by
      unfold u₀
      iintro Hu
      ihave H := (ownU_pair _ _) $$ Hu
      icases H with ⟨HP, -⟩
      imodintro
      isplitl [HP]; · iexact HP
      iapply no_share
      iempintro)
    (V := V m)
    (hmain := Pipeline.hmainP_prefixes pcfgs 0 defs₀ 𝒱₀ m main lines ⟨hostOps0_sub, hostOps0_1_sub⟩ ⟨⟨rfl, rfl⟩, ⟨rfl, rfl⟩⟩ main_chain)
    (hA := fun c w => w.elim0)
    (X := fun c => iprop((held c aT (tab m c) ∗ held c aP (old m c)) ∗ zeros (F := F) c 0 ∗ zeros (F := F) c 1))
    (Y := fun c => iprop(held c aT (tab m c) ∗ held c aP (new m c)))
    (Z := fun c => ((c : Thread nD τ).loc main_arg0) ↦{fullShare} V m c main_arg0)
    (hX := fun c => by
      rw [unscopedRest0_eq, ownSems_eq]
      iintro ⟨⟨HA, -, -, -, HT, HP⟩, HZ, -⟩; imodintro
      simp only [held, View.set_whole]
      isplitr [HA]
      · isplitl [HT HP]
        · isplitl [HT]; · iexact HT
          iexact HP
        iexact HZ
      iexact HA)
    (hin := fun c => by
      rw [bufs_eq, show (dat m c).Φ 0 = inv m c 0 from rfl]
      unfold inv
      rw [if_neg (by decide), if_neg (by decide), ← ins_points, ← outs_points]
      iintro ⟨⟨HA, HZ, HZ'⟩, H1, H2⟩
      isplitr [HA]
      · iapply (idle_intro c); iframe
      iexact HA)
    (hout := fun c => by
      rw [bufs_eq, ownSems_eq, show (dat m c).Φ (Fin.last cfg0.N) = inv m c 2 from rfl]
      unfold inv
      rw [if_pos (by decide), if_pos (by decide), ← ins_points, ← outs_points]
      iintro ⟨HI, HA⟩
      ihave HI := (idle_elim c) $$ HI
      icases HI with ⟨H1, H2, HZ⟩
      isplitl [HA]; · iexact HA
      isplitl [HZ]; · iexact HZ
      iframe)
    (QY := QY m)
    (hY := fun c s' => by
      simp only [held, View.set_whole]
      iintro ⟨⟨-, HP⟩, HA, HSI⟩
      icombine HSI HA gives %h0
      icombine HSI HP gives %h1
      imodintro
      isplitr; · ipureintro; exact ⟨Buf.eq_of_forall_mem_univ h0, Buf.eq_of_forall_mem_univ h1⟩
      iexact HSI)
    (hQ := fun _ hh hz => ⟨fun c => (hh c).2, hz⟩)

end Cert.Proof.Pack
-- ==== Proof.PackValue.lean ====
/-
  What the pack kernel writes, entry by entry, as extended reals, and that it is what the reference writes.
-/
module

public import proofs.«01_k».proof.Proof.PackRegion
public import proofs.«01_k».proof.Proof.Gen.PackReferenceIdeal.Read
public import Idealize.ShloMosaic.Lib.Pointwise.Contract
public import Idealize.ShloMosaic.Lib.KernelVsHost
public import Idealize.ShloMosaic.Lib.WordCmp
public import Idealize.ShloMosaic.Lib.Pipeline.Value
public import Idealize.ShloMosaic.PureOps.Ideal.Laws
public import Idealize.ShloMosaic.Lib.ValueIdxCore

@[expose] public section

noncomputable section

namespace Cert.Proof.Pack

open Cert.PackIdeal Cert.PackIdeal.Gen
open Idealize.ShloMosaic Idealize.ShloMosaic.StableHlo
open Idealize.ShloMosaic.TcCoe
open Idealize.SL Idealize.SL.Sem

/-! ## The product with the identity -/

/-- The identity matrix as the kernel makes it. -/
abbrev eye : FVec Ideal S64x64 .bf16 :=
  truncf .bf16 (sitofp .f32 (extui 32 (cmpi .eq (iota .tc S64x64 32 [0] iota_S64x64_d0_w32) (iota .tc S64x64 32 [1] iota_S64x64_d1_w32)) natLt_1_32)) bitsLt_bf16_f32

theorem eye_at (i : S64x64.Idx) : eye i = (if (i 0).val = (i 1).val then (1 : EReal) else 0) := by
  have h0 : (i 0).val < 64 := (i 0).isLt
  have h1 : (i 1).val < 64 := (i 1).isLt
  show FloatOps.sitofp (F := Ideal) .f32 ((IntOp.cmpi .eq (BitVec.ofNat 32 (0 * 64 + (i 0).val)) (BitVec.ofNat 32 (0 * 64 + (i 1).val))).setWidth 32) = _
  rw [Nat.zero_mul, Nat.zero_add, Nat.zero_add, WordCmp.cmpi_eq_ofNat (by omega) (by omega)]
  by_cases h : (i 0).val = (i 1).val
  · rw [if_pos h, decide_eq_true h]
    show (((1 : ℤ) : ℝ) : EReal) = 1
    norm_num
  · rw [if_neg h, decide_eq_false h]
    show (((0 : ℤ) : ℝ) : EReal) = 0
    norm_num

/-- A matrix times the identity is its transpose. -/
theorem turned_at (y : FVec Ideal S64x16384 .bf16) (i : S16384x64.Idx) :
    matmul dot_S64x16384_S64x64_S16384x64_0_0_1_1_n_n none y eye (constant S16384x64 .f32 0x00000000#32) i
      = y (fun | 0 => ⟨(i 1).val, (i 1).isLt⟩ | 1 => ⟨(i 0).val, (i 0).isLt⟩) := by
  refine (Ideal.matmul_apply₁_of dot_S64x16384_S64x64_S16384x64_0_0_1_1_n_n (a := 0) rfl (K := 64) rfl y eye _ i
    (fun k => fun | 0 => k | 1 => ⟨(i 0).val, (i 0).isLt⟩) (fun k => fun | 0 => k | 1 => ⟨(i 1).val, (i 1).isLt⟩)
    (fun k => funext fun a => match a with | 0 => rfl | 1 => rfl) (fun k => funext fun a => match a with | 0 => rfl | 1 => rfl)).trans ?_
  rw [show (constant S16384x64 .f32 0x00000000#32 : FVec Ideal S16384x64 .f32) i = (0 : EReal) from Ideal.ofBits_zero_f32, zero_add]
  rw [Finset.sum_eq_single (⟨(i 1).val, (i 1).isLt⟩ : Fin 64)]
  · rw [eye_at]; erw [if_pos rfl]; rw [mul_one]
    exact congrArg y (funext fun a => match a with | 0 => rfl | 1 => rfl)
  · intro k _ hk
    rw [eye_at]
    erw [if_neg (show ¬ k.val = (i 1).val from fun h => hk (Fin.ext h))]
    rw [mul_zero]
  · exact fun h => absurd (Finset.mem_univ _) h

/-- Half `s` of a block, turned. -/
theorem half_at (x : FVec Ideal S64x32768 .f32) (s : Fin 2) (sl : S64x32768.Slices ![0, 16384 * s.val] S64x16384) (i : S16384x64.Idx) (j : S64x32768.Idx)
    (h0 : (j 0).val = (i 1).val) (h1 : (j 1).val = 16384 * s.val + (i 0).val) :
    matmul dot_S64x16384_S64x64_S16384x64_0_0_1_1_n_n none (extractStridedSlice S64x16384 ![0, 16384 * s.val] (truncf .bf16 x bitsLt_bf16_f32 : FVec Ideal S64x32768 .bf16) sl) eye
      (constant S16384x64 .f32 0x00000000#32) i = x j := by
  rw [turned_at]
  refine (extractStridedSlice_apply _ _ _ _ j fun a => ?_).trans rfl
  match a with
  | 0 => exact h0.trans (Nat.zero_add _).symm
  | 1 => exact h1

/-- A packed block: row `r` holds the table's rows `r` and `16384 + r`. -/
theorem packed_at (x : FVec Ideal S64x32768 .f32) (i : S16384x128.Idx) (j : S64x32768.Idx)
    (h0 : (j 0).val = (i 1).val % 64) (h1 : (j 1).val = 16384 * ((i 1).val / 64) + (i 0).val) : packBlk x i = x j := by
  have hi : (i 1).val < 128 := (i 1).isLt
  unfold packBlk
  rw [ValueIdx.truncf_apply]
  by_cases h : (i 1).val < 64
  · refine (concatenate_pair_apply_left (s₁ := S16384x64) (s₂ := S16384x64) (1 : Fin 2) _ _ _ i rfl (fun | 0 => ⟨(i 0).val, (i 0).isLt⟩ | 1 => ⟨(i 1).val, h⟩ : S16384x64.Idx)
      (fun b => match b with | 0 => rfl | 1 => rfl)).trans ?_
    exact half_at x 0 slices_S64x32768_o0_0_S64x16384 _ j (h0.trans (Nat.mod_eq_of_lt h)) (h1.trans (show 16384 * ((i 1).val / 64) + (i 0).val = 16384 * 0 + (i 0).val by omega))
  · refine (concatenate_pair_apply_right (s₁ := S16384x64) (s₂ := S16384x64) (1 : Fin 2) _ _ _ i rfl rfl (fun | 0 => ⟨(i 0).val, (i 0).isLt⟩ | 1 => ⟨(i 1).val - 64, show (i 1).val - 64 < 64 by omega⟩ : S16384x64.Idx)
      (fun b => match b with | 0 => fun _ => rfl | 1 => fun hb => absurd rfl hb) (show (i 1).val - 64 + 64 = (i 1).val by omega)).trans ?_
    exact half_at x 1 slices_S64x32768_o0_16384_S64x16384 _ j (h0.trans (show (i 1).val % 64 = (i 1).val - 64 by omega))
      (h1.trans (show 16384 * ((i 1).val / 64) + (i 0).val = 16384 * 1 + (i 0).val by omega))

/-! ## The padded table -/

/-- Row `n`, column `k` of the table, below its last row the padding. -/
def tabAt (t : S1000000x64.Idx → EReal) (n : ℕ) (k : Fin 64) : EReal :=
  if h : n < 1000000 then t (fun | 0 => ⟨n, h⟩ | 1 => k) else FloatOps.sitofp (F := Ideal) .f32 0#32

/-- The kernel's table: turned, then padded. -/
abbrev padT (t : FVec Ideal S1000000x64 .f32) : FVec Ideal S64x1015808 .f32 :=
  pad S64x1015808 ![0, 0] ![0, 15808] ![0, 0] (transpose S64x1000000 [1, 0] t transposes_S1000000x64_S64x1000000_1_0) (sitofp .f32 (constantI S_ 32 0#32))
    pads_S64x1000000_S64x1015808_000_0158080 h_S_

theorem padT_at (t : FVec Ideal S1000000x64 .f32) (j : S64x1015808.Idx) : padT t j = tabAt t (j 1).val ⟨(j 0).val, (j 0).isLt⟩ := by
  unfold tabAt
  split
  · rename_i h
    refine (pad_apply_of_inside _ _ _ _ _ _ _ j (fun | 0 => ⟨(j 0).val, (j 0).isLt⟩ | 1 => ⟨(j 1).val, h⟩ : S64x1000000.Idx) (fun a => ?_)).trans ?_
    · match a with
      | 0 => show (j 0).val = 0 + (j 0).val * (0 + 1); omega
      | 1 => show (j 1).val = 0 + (j 1).val * (0 + 1); omega
    · exact transpose_apply _ _ _ _ _ fun b => match b with | 0 => rfl | 1 => rfl
  · rename_i h
    refine (pad_apply_of_not_inside _ _ _ _ _ _ _ j (1 : Fin 2) (fun hh => h ?_)).trans rfl
    have := hh.2.2
    have e : ((j 1).val - 0) / (0 + 1) < 1000000 := this
    omega

/-- The reference's table: padded. -/
theorem padded_at (t : FVec Ideal S1000000x64 .f32) (j : Cert.PackReferenceIdeal.S1015808x64.Idx) :
    Cert.PackReferenceIdeal.Read.val_main_v0 (F := Ideal) t j = tabAt t (j 0).val ⟨(j 1).val, (j 1).isLt⟩ := by
  unfold tabAt Cert.PackReferenceIdeal.Read.val_main_v0
  split
  · rename_i h
    refine (pad_apply_of_inside _ _ _ _ _ _ _ j (fun | 0 => ⟨(j 0).val, h⟩ | 1 => ⟨(j 1).val, (j 1).isLt⟩ : S1000000x64.Idx) (fun a => ?_)).trans rfl
    match a with
    | 0 => show (j 0).val = 0 + (j 0).val * (0 + 1); omega
    | 1 => show (j 1).val = 0 + (j 1).val * (0 + 1); omega
  · rename_i h
    refine (pad_apply_of_not_inside _ _ _ _ _ _ _ j (0 : Fin 2) (fun hh => h ?_)).trans rfl
    have := hh.2.2
    have e : ((j 0).val - 0) / (0 + 1) < 1000000 := this
    omega

/-! ## The packed rows -/

/-- Row `n`, column `k` of the packed table. -/
def packAt (t : S1000000x64.Idx → EReal) (n k : ℕ) : EReal :=
  tabAt t (32768 * (n / 16384) + 16384 * (k / 64) + n % 16384) ⟨k % 64, Nat.mod_lt _ (by decide)⟩

theorem ref_at (t : FVec Ideal S1000000x64 .f32) (i : S507904x128.Idx) :
    Cert.PackReferenceIdeal.Read.val_main_v4 (F := Ideal) t i = packAt t (i 0).val (i 1).val := by
  have h0 : (i 0).val < 507904 := (i 0).isLt
  have h1 : (i 1).val < 128 := (i 1).isLt
  rw [Cert.PackReferenceIdeal.Read.val_main_v4_apply, Cert.PackReferenceIdeal.Read.val_main_v3_apply, Cert.PackReferenceIdeal.Read.val_main_v2_apply,
    Cert.PackReferenceIdeal.Read.val_main_v1_apply]
  refine (padded_at t _).trans ?_
  unfold packAt
  refine congr (congrArg (tabAt t) ?_) (Fin.ext ?_)
  · show ((((((i 0).val * 128 + (i 1).val) / 2097152) * 2 + (((i 0).val * 128 + (i 1).val) / 64 % 2)) * 16384 + (((i 0).val * 128 + (i 1).val) / 128 % 16384)) * 64
        + (((i 0).val * 128 + (i 1).val) % 64)) / 64 = 32768 * ((i 0).val / 16384) + 16384 * ((i 1).val / 64) + (i 0).val % 16384
    omega
  · show ((((((i 0).val * 128 + (i 1).val) / 2097152) * 2 + (((i 0).val * 128 + (i 1).val) / 64 % 2)) * 16384 + (((i 0).val * 128 + (i 1).val) / 128 % 16384)) * 64
        + (((i 0).val * 128 + (i 1).val) % 64)) % 64 = (i 1).val % 64
    omega

theorem new_at (m : (ℓ : Loc nD τ sig) → Buf (Elt Ideal) ℓ) (c : Dev nD) (t : FVec Ideal S1000000x64 .f32) (ht : tab m c = padT t) (i : S507904x128.Idx) :
    new m c i = packAt t (i 0).val (i 1).val := by
  have h0 : (i 0).val < 507904 := (i 0).isLt
  have h1 : (i 1).val < 128 := (i 1).isLt
  unfold new laid dP
  rw [packed_at _ _ (fun | 0 => ⟨(i 1).val % 64, Nat.mod_lt _ (by decide)⟩ | 1 => ⟨16384 * ((i 1).val / 64) + (i 0).val % 16384, show 16384 * ((i 1).val / 64) + (i 0).val % 16384 < 32768 by omega⟩ : S64x32768.Idx) rfl rfl, ht]
  refine (padT_at t _).trans ?_
  unfold packAt
  refine congr (congrArg (tabAt t) ?_) (Fin.ext ?_)
  · show 32768 * ((i 0).val / 16384) + 1 * (16384 * ((i 1).val / 64) + (i 0).val % 16384) = 32768 * ((i 0).val / 16384) + 16384 * ((i 1).val / 64) + (i 0).val % 16384
    omega
  · show 0 + 1 * ((i 1).val % 64) = (i 1).val % 64
    omega

/-! ## The host code before the call -/

section
variable {F : FTy → Type} [FloatOps F] (m : (ℓ : Loc nD τ sig) → Buf (Elt F) ℓ)

theorem arg_kept (c : Dev nD) : V m c main_arg0 = m ((c : Thread nD τ).loc main_arg0) := by
  simp only [V, lines, List.flatten_cons, List.flatten_nil, List.append_nil, List.cons_append, List.nil_append, TRef.binary, TRef.unary, TRef.toBuf, TRef.ofBuf, cast_eq]
  after_results <;> rfl

theorem tab_made (c : Dev nD) : tab m c = pad S64x1015808 ![0, 0] ![0, 15808] ![0, 0]
    (transpose S64x1000000 [1, 0] (m ((c : Thread nD τ).loc main_arg0)) transposes_S1000000x64_S64x1000000_1_0) (sitofp .f32 (constantI S_ 32 0#32))
    pads_S64x1000000_S64x1015808_000_0158080 h_S_ := by
  simp only [tab, V, lines, List.flatten_cons, List.flatten_nil, List.append_nil, List.cons_append, List.nil_append, TRef.binary, TRef.unary, TRef.toBuf, TRef.ofBuf, cast_eq]
  after_results <;> rfl

end

/-- What the kernel writes is what the reference writes. -/
theorem new_ref (m : (ℓ : Loc nD τ sig) → Buf (Elt Ideal) ℓ) (c : Dev nD) :
    new m c = Cert.PackReferenceIdeal.Read.val_main_v4 (F := Ideal) (m ((c : Thread nD τ).loc main_arg0)) :=
  funext fun i => (new_at m c _ (tab_made m c) i).trans (ref_at _ i).symm

end Cert.Proof.Pack

end
-- ==== Proof.lean ====
/-
  The certificate: the three gathers and the dot products of the packed tables run, leave their arguments and every semaphore as they found them,
  and give the reference's scores as extended reals; the packing of a table runs likewise and gives the reference's packed rows.
-/
module

public import proofs.«01_k».proof.Defs
public import proofs.«01_k».proof.Proof.Main
public import proofs.«01_k».proof.Proof.RefValue
public import proofs.«01_k».proof.Proof.PackValue
public import proofs.«01_k».proof.Proof.Gen.Kernel
public import proofs.«01_k».proof.Proof.Gen.KernelIdeal
public import proofs.«01_k».proof.Proof.Gen.Pre_in_range
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pack
public import proofs.«01_k».proof.Proof.Gen.PackIdeal
public import proofs.«01_k».proof.Proof.Gen.PackIdeal.Launch
public import proofs.«01_k».proof.Proof.Gen.PackIdeal.Skeleton
public import proofs.«01_k».proof.Proof.Gen.PackIdeal.Loops
public import proofs.«01_k».proof.Proof.Gen.PackIdeal.Points
public import proofs.«01_k».proof.Proof.Gen.PackReferenceIdeal
public import proofs.«01_k».proof.Proof.Gen.PackReferenceIdeal.Run
public import proofs.«01_k».proof.Proof.Gen.PackReferenceIdeal.Read

@[expose] public section

noncomputable section

namespace Cert.Proof

open Idealize.ShloMosaic Idealize.ShloMosaic.StableHlo
open Idealize.SL Idealize.SL.Sem
open Cert.Proof.Rows (here)
open Cert.Kernel.Gen Cert.KernelIdeal.Gen Cert.ReferenceIdeal.Gen Cert.Pre_in_range.Gen Cert.Pack.Gen Cert.PackIdeal.Gen Cert.PackReferenceIdeal.Gen

section

variable {F : FTy → Type} [FloatOps F]

/-- What the precondition says of every device's index arrays. -/
theorem small_all (m : (ℓ : Loc Cert.KernelIdeal.nD Cert.KernelIdeal.τ Cert.KernelIdeal.sig) → Buf (Elt F) ℓ)
    (h : ∀ c : Dev Cert.KernelIdeal.nD, Cert.Pre_in_range.fn (F := F) (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5)) = fun _ => 1#1) (d : Dev Cert.KernelIdeal.nD) :
    Host.Small (m (here d Cert.KernelIdeal.main_arg0)) ∧ Host.Small (m (here d Cert.KernelIdeal.main_arg1)) ∧ Host.Small (m (here d Cert.KernelIdeal.main_arg2)) :=
  Host.small_of_pre _ _ _ _ _ _ (h d)

/-- The run's post read as the frame's. -/
theorem frame_of (m : (ℓ : Loc Cert.KernelIdeal.nD Cert.KernelIdeal.τ Cert.KernelIdeal.sig) → Buf (Elt F) ℓ) (r) (h : Host.QC m r) :
    (∀ c : Dev Cert.KernelIdeal.nD,
      r.2.mem (c.tc.loc Cert.KernelIdeal.main_arg0) = m (c.tc.loc Cert.KernelIdeal.main_arg0) ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2) ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4) ∧ r.2.mem (c.tc.loc Cert.KernelIdeal.main_arg5) = m (c.tc.loc Cert.KernelIdeal.main_arg5))
    ∧ r.2.sem = fun _ => 0 :=
  ⟨fun c => have k := (h.1 c).1
    ⟨k _ (.head _), k _ (.tail _ (.head _)), k _ (.tail _ (.tail _ (.head _))), k _ (.tail _ (.tail _ (.tail _ (.head _)))),
      k _ (.tail _ (.tail _ (.tail _ (.tail _ (.head _))))), k _ (.tail _ (.tail _ (.tail _ (.tail _ (.tail _ (.head _))))))⟩, h.2⟩

end

theorem frame_ideal : Cert.quiescent_KernelIdeal := fun m ρ hp =>
  (θ_run Cert.KernelIdeal.defs _ _).mono (frame_of m) (Host.run_main (F := Ideal) m ρ (Host.rows_in m (small_all m hp)))

set_option maxHeartbeats 2000000 in  -- the two printed programs, 5000 lines each, are compared as one text
theorem frame_kernel : Cert.quiescent_Kernel := fun m ρ hp =>
  (θ_run Cert.KernelIdeal.defs _ _).mono (frame_of m) (Host.run_main (F := Bits) m ρ (Host.rows_in m (small_all m hp)))

theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run (F := Ideal) m ρ)

theorem frame_reference_in_range : Cert.quiescent_ReferenceIdeal_pre_in_range := fun m ρ _ => frame_reference m ρ trivial

theorem algebraic : Cert.algebraic_KernelIdeal_ReferenceIdeal := fun m ρ m' ρ' hp ha => by
  have hs := small_all m hp
  refine ⟨fun d => Host.outI m d, fun d => Host.outJ m d, fun d => m (here d Cert.KernelIdeal.main_arg3),
    (θ_run Cert.KernelIdeal.defs _ _).mono (fun r h c => ?_) (Host.run_main (F := Ideal) m ρ (Host.rows_in m hs)),
    (θ_run Cert.ReferenceIdeal.defs _ _).mono (fun r h c => ?_) (Cert.ReferenceIdeal.Value.run (F := Ideal) m' ρ')⟩
  · have k := (frame_of m r h).1 c
    exact ⟨(h.1 c).2.1, (h.1 c).2.2, k.2.2.2.1, k⟩
  · obtain ⟨a0, a1, a2, a3, a4, a5⟩ := ha c
    obtain ⟨sx, sy, sz⟩ := hs c
    refine ⟨(h c).1.trans ?_, (h c).2.1.trans ?_, (h c).2.2.1.trans a3, (h c).2.2.2⟩
    · rw [Cert.ReferenceIdeal.Read.val_main_v28_eq, a0, a1, a4, a5]
      exact funext fun j => (Ref.first_at _ _ _ _ sx sy j).trans (Host.outI_at m c sx sy j).symm
    · rw [Cert.ReferenceIdeal.Read.val_main_v30_eq, a0, a2, a4, a5]
      exact funext fun j => (Ref.second_at _ _ _ _ sx sz j).trans (Host.outJ_at m c sx sz j).symm

/-- The packing's post read as the frame's. -/
theorem frame_pack_of {F : FTy → Type} [FloatOps F] (m : (ℓ : Loc Cert.PackIdeal.nD Cert.PackIdeal.τ Cert.PackIdeal.sig) → Buf (Elt F) ℓ)
    (r : PUnit × MemSt Cert.PackIdeal.nD Cert.PackIdeal.τ Cert.PackIdeal.sig (Elt F)) (h : (∀ c, Pack.QY m c r.2) ∧ r.2.sem = fun _ => 0) :
    (∀ c : Dev Cert.PackIdeal.nD, r.2.mem (c.tc.loc Cert.PackIdeal.main_arg0) = m (c.tc.loc Cert.PackIdeal.main_arg0)) ∧ r.2.sem = fun _ => 0 :=
  ⟨fun c => (h.1 c).1.trans (Pack.arg_kept m c), h.2⟩

theorem frame_pack_ideal : Cert.quiescent_PackIdeal := fun m ρ _ =>
  (θ_run Cert.PackIdeal.defs _ _).mono (frame_pack_of m) (Pack.run_main (F := Ideal) m ρ)

set_option maxHeartbeats 2000000 in  -- the two printed programs, 2000 lines each, are compared as one text
theorem frame_pack : Cert.quiescent_Pack := fun m ρ _ =>
  (θ_run Cert.PackIdeal.defs _ _).mono (frame_pack_of m) (Pack.run_main (F := Bits) m ρ)

theorem frame_pack_reference : Cert.quiescent_PackReferenceIdeal := fun m ρ _ =>
  (θ_run Cert.PackReferenceIdeal.defs _ _).mono (fun r h => ⟨fun c => (h c).2, sem_eq_zero_of_no_sems (by decide) r.2⟩) (Cert.PackReferenceIdeal.Value.run (F := Ideal) m ρ)

theorem algebraic_pack : Cert.algebraic_PackIdeal_PackReferenceIdeal := fun m ρ m' ρ' _ ha =>
  ⟨fun c => Pack.new m c,
    (θ_run Cert.PackIdeal.defs _ _).mono (fun r h c => ⟨(h.1 c).2, (frame_pack_of m r h).1 c⟩) (Pack.run_main (F := Ideal) m ρ),
    (θ_run Cert.PackReferenceIdeal.defs _ _).mono (fun r h c => ⟨(h c).1.trans (by
      rw [Cert.PackReferenceIdeal.Read.val_main_v4_eq, ha c]
      exact (Pack.new_ref m c).symm), (h c).2⟩) (Cert.PackReferenceIdeal.Value.run (F := Ideal) m' ρ')⟩

theorem claim : Cert.Claim :=
  ⟨Cert.Kernel.Gen.facts, Cert.KernelIdeal.Gen.facts, Cert.ReferenceIdeal.Gen.facts, Cert.Pack.Gen.facts, Cert.PackIdeal.Gen.facts,
    Cert.PackReferenceIdeal.Gen.facts, Cert.Pre_in_range.Gen.facts, frame_kernel, frame_ideal, frame_reference, frame_reference_in_range,
    frame_pack, frame_pack_ideal, frame_pack_reference, trivial, algebraic, trivial, algebraic_pack⟩

end Cert.Proof

end
